-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_qkv_finite [hPre_qkv_finite : Cert.Pre_qkv_finite.Facts] (m : (ℓ : Loc Cert.KernelIdeal.nD Cert.KernelIdeal.τ Cert.KernelIdeal.sig) → Buf (Elt Ideal) ℓ) : Prop :=
  ∀ c : Dev Cert.KernelIdeal.nD,
    (Cert.Pre_qkv_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_qkv_finite [hPre_qkv_finite : Cert.Pre_qkv_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_qkv_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_qkv_finite [hKernelIdeal : Cert.KernelIdeal.Facts] [hPre_qkv_finite : Cert.Pre_qkv_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_qkv_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_qkv_finite [hReferenceIdeal : Cert.ReferenceIdeal.Facts] [hPre_qkv_finite : Cert.Pre_qkv_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_qkv_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def preserves_Kernel_KernelIdeal : Prop :=
  True

def algebraic_KernelIdeal_ReferenceIdeal_pre_qkv_finite [hKernelIdeal : Cert.KernelIdeal.Facts] [hReferenceIdeal : Cert.ReferenceIdeal.Facts] [hPre_qkv_finite : Cert.Pre_qkv_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_qkv_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v59) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hPre_qkv_finite : Cert.Pre_qkv_finite.Facts),
    quiescent_Kernel (hKernel := hKernel)
    ∧ quiescent_KernelIdeal (hKernelIdeal := hKernelIdeal)
    ∧ quiescent_KernelIdeal_pre_qkv_finite (hKernelIdeal := hKernelIdeal) (hPre_qkv_finite := hPre_qkv_finite)
    ∧ quiescent_ReferenceIdeal (hReferenceIdeal := hReferenceIdeal)
    ∧ quiescent_ReferenceIdeal_pre_qkv_finite (hReferenceIdeal := hReferenceIdeal) (hPre_qkv_finite := hPre_qkv_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ preserves_Kernel_KernelIdeal
    ∧ algebraic_KernelIdeal_ReferenceIdeal_pre_qkv_finite (hKernelIdeal := hKernelIdeal) (hReferenceIdeal := hReferenceIdeal) (hPre_qkv_finite := hPre_qkv_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_qkv_finite.lean ====
abbrev S16384x10240 : Shape := ⟨2, ![16384, 10240]⟩
abbrev S16384x128 : Shape := ⟨2, ![16384, 128]⟩
abbrev S4 : Shape := ⟨1, ![4]⟩
abbrev S2048 : Shape := ⟨1, ![2048]⟩
abbrev S16384x4096 : Shape := ⟨2, ![16384, 4096]⟩
abbrev S_ : Shape := ⟨0, ![]⟩

class Facts : Prop where
  slices_S16384x10240_S16384x4096_0_4096 : S16384x10240.Slices ![0, 4096] S16384x4096
  bitsLt_bf16_f32 : FTy.bits .bf16 < FTy.bits .f32
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x10240 .bf16) (main_arg1 : FVec F S16384x128 .f32) (main_arg2 : FVec F S4 .f32) (main_arg3 : FVec F S4 .f32) (main_arg4 : FVec F S2048 .f32) : IVec S_ 1 :=
  let main_v0 : FVec F S16384x4096 .bf16 := (extractStridedSlice S16384x4096 ![0, 4096] · slices_S16384x10240_S16384x4096_0_4096) main_arg0
  let main_v1 : FVec F S16384x4096 .f32 := (extf .f32 · bitsLt_bf16_f32) main_v0
  let main_v2 : FVec F S16384x4096 .f32 := Host.absf main_v1
  let main_cst : FVec F S_ .f32 := constant S_ .f32 0x7F800000#32
  let main_v3 : FVec F S16384x4096 .f32 := broadcastInDim S16384x4096 ![] bcast_S_S16384x4096 main_cst
  let main_v4 : IVec S16384x4096 1 := cmpf .olt main_v2 main_v3
  let main_c : IVec S_ 1 := constantI S_ 1 1#1
  let main_v5 : IVec S_ 1 := (fun x v => Host.reduce IntOp.andi x v reducesTo_S16384x4096_S_d0_1 h_S_) main_v4 main_c
  main_v5
-- ==== Kernel.lean ====
abbrev S16384x10240 : Shape := ⟨2, ![16384, 10240]⟩
abbrev S16384x128 : Shape := ⟨2, ![16384, 128]⟩
abbrev S4 : Shape := ⟨1, ![4]⟩
abbrev S2048 : Shape := ⟨1, ![2048]⟩
abbrev S_ : Shape := ⟨0, ![]⟩
abbrev S120 : Shape := ⟨1, ![120]⟩
abbrev S128 : Shape := ⟨1, ![128]⟩
abbrev S1x128 : Shape := ⟨2, ![1, 128]⟩
abbrev S1x2048 : Shape := ⟨2, ![1, 2048]⟩
abbrev S16384x2048 : Shape := ⟨2, ![16384, 2048]⟩
abbrev S256x1024 : Shape := ⟨2, ![256, 1024]⟩
abbrev S256x2048 : Shape := ⟨2, ![256, 2048]⟩
abbrev S256x128 : Shape := ⟨2, ![256, 128]⟩
abbrev S4x256x512 : Shape := ⟨3, ![4, 256, 512]⟩
abbrev S4x1x256 : Shape := ⟨3, ![4, 1, 256]⟩
abbrev S4x8x128 : Shape := ⟨3, ![4, 8, 128]⟩
abbrev S256x256 : Shape := ⟨2, ![256, 256]⟩
abbrev S128x256 : Shape := ⟨2, ![128, 256]⟩
abbrev S256x1 : Shape := ⟨2, ![256, 1]⟩
abbrev S1x256 : Shape := ⟨2, ![1, 256]⟩
abbrev S1x1x1 : Shape := ⟨3, ![1, 1, 1]⟩
abbrev S1x1 : Shape := ⟨2, ![1, 1]⟩
abbrev S256x512 : Shape := ⟨2, ![256, 512]⟩
abbrev S256 : Shape := ⟨1, ![256]⟩
abbrev S1x256x512 : Shape := ⟨3, ![1, 256, 512]⟩
abbrev S1x1x256 : Shape := ⟨3, ![1, 1, 256]⟩
abbrev S1 : Shape := ⟨1, ![1]⟩
abbrev S8x128 : Shape := ⟨2, ![8, 128]⟩
abbrev S1x8x128 : Shape := ⟨3, ![1, 8, 128]⟩
abbrev S1x512 : Shape := ⟨2, ![1, 512]⟩

abbrev nBuf : Space → Nat
  | .hbm => 11
  | .vmem => 17
  | .smem => 0
  | _ => 0

abbrev bufTy : (tb : Table) → Fin (tcTables nBuf tb) → BufTy
  | .hbm, ⟨0, _⟩ => ⟨S16384x10240, .bf16⟩
  | .hbm, ⟨1, _⟩ => ⟨S16384x128, .f32⟩
  | .hbm, ⟨2, _⟩ => ⟨S4, .f32⟩
  | .hbm, ⟨3, _⟩ => ⟨S4, .f32⟩
  | .hbm, ⟨4, _⟩ => ⟨S2048, .f32⟩
  | .hbm, ⟨5, _⟩ => ⟨S_, .f32⟩
  | .hbm, ⟨6, _⟩ => ⟨S120, .f32⟩
  | .hbm, ⟨7, _⟩ => ⟨S128, .f32⟩
  | .hbm, ⟨8, _⟩ => ⟨S1x128, .f32⟩
  | .hbm, ⟨9, _⟩ => ⟨S1x2048, .f32⟩
  | .hbm, ⟨10, _⟩ => ⟨S16384x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x128, .f32⟩
  | .local _ .vmem, ⟨9, _⟩ => ⟨S256x128, .f32⟩
  | .local _ .vmem, ⟨10, _⟩ => ⟨S1x128, .f32⟩
  | .local _ .vmem, ⟨11, _⟩ => ⟨S1x2048, .f32⟩
  | .local _ .vmem, ⟨12, _⟩ => ⟨S256x2048, .bf16⟩
  | .local _ .vmem, ⟨13, _⟩ => ⟨S256x2048, .bf16⟩
  | .local _ .vmem, ⟨14, _⟩ => ⟨S4x256x512, .f32⟩
  | .local _ .vmem, ⟨15, _⟩ => ⟨S4x1x256, .f32⟩
  | .local _ .vmem, ⟨16, _⟩ => ⟨S4x8x128, .f32⟩
  | _, _ => ⟨S16384x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16384x10240 : Shape := ⟨2, ![16384, 10240]⟩
abbrev S16384x128 : Shape := ⟨2, ![16384, 128]⟩
abbrev S4 : Shape := ⟨1, ![4]⟩
abbrev S2048 : Shape := ⟨1, ![2048]⟩
abbrev S16384x1024 : Shape := ⟨2, ![16384, 1024]⟩
abbrev S4x4096x1024 : Shape := ⟨3, ![4, 4096, 1024]⟩
abbrev S16384x2048 : Shape := ⟨2, ![16384, 2048]⟩
abbrev S4x4096x2048 : Shape := ⟨3, ![4, 4096, 2048]⟩
abbrev S16384x4 : Shape := ⟨2, ![16384, 4]⟩
abbrev S4x4096x4 : Shape := ⟨3, ![4, 4096, 4]⟩
abbrev S4x64x64x4x256 : Shape := ⟨5, ![4, 64, 64, 4, 256]⟩
abbrev S64x4x4x64x256 : Shape := ⟨5, ![64, 4, 4, 64, 256]⟩
abbrev S_ : Shape := ⟨0, ![]⟩
abbrev S4x64x64x4x512 : Shape := ⟨5, ![4, 64, 64, 4, 512]⟩
abbrev S64x4x4x64x512 : Shape := ⟨5, ![64, 4, 4, 64, 512]⟩
abbrev S1x1x4 : Shape := ⟨3, ![1, 1, 4]⟩
abbrev S4x64x64x4 : Shape := ⟨4, ![4, 64, 64, 4]⟩
abbrev S64x4x4x64 : Shape := ⟨4, ![64, 4, 4, 64]⟩
abbrev S64x64 : Shape := ⟨2, ![64, 64]⟩
abbrev S4x4x256x512 : Shape := ⟨4, ![4, 4, 256, 512]⟩
abbrev S4x4x256 : Shape := ⟨3, ![4, 4, 256]⟩
abbrev S4x4 : Shape := ⟨2, ![4, 4]⟩
abbrev S1x4x4x64x256 : Shape := ⟨5, ![1, 4, 4, 64, 256]⟩
abbrev S4x4x64x256 : Shape := ⟨4, ![4, 4, 64, 256]⟩
abbrev S1x4x4x64x512 : Shape := ⟨5, ![1, 4, 4, 64, 512]⟩
abbrev S4x4x64x512 : Shape := ⟨4, ![4, 4, 64, 512]⟩
abbrev S1x4x4x64 : Shape := ⟨4, ![1, 4, 4, 64]⟩
abbrev S4x4x64 : Shape := ⟨3, ![4, 4, 64]⟩
abbrev S4x4x64x1 : Shape := ⟨4, ![4, 4, 64, 1]⟩
abbrev S4x4x1x64 : Shape := ⟨4, ![4, 4, 1, 64]⟩
abbrev S4x4x64x64 : Shape := ⟨4, ![4, 4, 64, 64]⟩
abbrev S4x4x1 : Shape := ⟨3, ![4, 4, 1]⟩
abbrev S4x4x1x1 : Shape := ⟨4, ![4, 4, 1, 1]⟩
abbrev S4x4096x4x512 : Shape := ⟨4, ![4, 4096, 4, 512]⟩
abbrev S4x4096x4x1 : Shape := ⟨4, ![4, 4096, 4, 1]⟩
abbrev S4x512 : Shape := ⟨2, ![4, 512]⟩
abbrev S1x1x4x512 : Shape := ⟨4, ![1, 1, 4, 512]⟩

abbrev nBuf : Space → Nat
  | .hbm => 248
  | .vmem => 0
  | .smem => 0
  | _ => 0

abbrev hbmTy0_0 (i : Nat) : BufTy := match i % 128 with
  | 0 => ⟨S16384x10240, .bf16⟩
  | 1 => ⟨S16384x128, .f32⟩
  | 2 => ⟨S4, .f32⟩
  | 3 => ⟨S4, .f32⟩
  | 4 => ⟨S2048, .f32⟩
  | 5 => ⟨S16384x1024, .bf16⟩
  | 6 => ⟨S16384x1024, .f32⟩
  | 7 => ⟨S4x4096x1024, .f32⟩
  | 8 => ⟨S16384x1024, .bf16⟩
  | 9 => ⟨S16384x1024, .f32⟩
  | 10 => ⟨S4x4096x1024, .f32⟩
  | 11 => ⟨S16384x2048, .bf16⟩
  | 12 => ⟨S16384x2048, .f32⟩
  | 13 => ⟨S4x4096x2048, .f32⟩
  | 14 => ⟨S16384x4, .f32⟩
  | 15 => ⟨S4x4096x4, .f32⟩
  | 16 => ⟨S16384x4, .f32⟩
  | 17 => ⟨S4x4096x4, .f32⟩
  | 18 => ⟨S4x64x64x4x256, .f32⟩
  | 19 => ⟨S64x4x4x64x256, .f32⟩
  | 20 => ⟨S4x64x64x4x256, .f32⟩
  | 21 => ⟨S64x4x4x64x256, .f32⟩
  | 22 => ⟨S_, .f32⟩
  | 23 => ⟨S64x4x4x64x256, .f32⟩
  | 24 => ⟨S64x4x4x64x256, .f32⟩
  | 25 => ⟨S4x64x64x4x512, .f32⟩
  | 26 => ⟨S64x4x4x64x512, .f32⟩
  | 27 => ⟨S1x1x4, .f32⟩
  | 28 => ⟨S4x4096x4, .f32⟩
  | 29 => ⟨S4x4096x4, .f32⟩
  | 30 => ⟨S_, .f32⟩
  | 31 => ⟨S4x4096x4, .f32⟩
  | 32 => ⟨S4x4096x4, .f32⟩
  | 33 => ⟨S4x4096x4, .f32⟩
  | 34 => ⟨S_, .f32⟩
  | 35 => ⟨S4x4096x4, .f32⟩
  | 36 => ⟨S4x4096x4, .f32⟩
  | 37 => ⟨S4x64x64x4, .f32⟩
  | 38 => ⟨S64x4x4x64, .f32⟩
  | 39 => ⟨S1x1x4, .f32⟩
  | 40 => ⟨S4x4096x4, .f32⟩
  | 41 => ⟨S4x4096x4, .f32⟩
  | 42 => ⟨S_, .f32⟩
  | 43 => ⟨S4x4096x4, .f32⟩
  | 44 => ⟨S4x4096x4, .f32⟩
  | 45 => ⟨S4x4096x4, .f32⟩
  | 46 => ⟨S_, .f32⟩
  | 47 => ⟨S4x4096x4, .f32⟩
  | 48 => ⟨S4x4096x4, .f32⟩
  | 49 => ⟨S4x4096x4, .f32⟩
  | 50 => ⟨S_, .f32⟩
  | 51 => ⟨S4x4096x4, .f32⟩
  | 52 => ⟨S4x4096x4, .f32⟩
  | 53 => ⟨S4x4096x4, .f32⟩
  | 54 => ⟨S4x4096x4, .f32⟩
  | 55 => ⟨S4x4096x4, .i1⟩
  | 56 => ⟨S4x4096x4, .f32⟩
  | 57 => ⟨S4x4096x4, .f32⟩
  | 58 => ⟨S4x4096x4, .f32⟩
  | 59 => ⟨S4x4096x4, .f32⟩
  | 60 => ⟨S4x4096x4, .f32⟩
  | 61 => ⟨S4x4096x4, .f32⟩
  | 62 => ⟨S4x4096x4, .f32⟩
  | 63 => ⟨S4x4096x4, .f32⟩
  | 64 => ⟨S4x4096x4, .f32⟩
  | 65 => ⟨S4x64x64x4, .f32⟩
  | 66 => ⟨S64x4x4x64, .f32⟩
  | 67 => ⟨S_, .i1⟩
  | 68 => ⟨S64x64, .i1⟩
  | 69 => ⟨S64x64, .i32⟩
  | 70 => ⟨S_, .i32⟩
  | 71 => ⟨S64x64, .i32⟩
  | 72 => ⟨S64x64, .i32⟩
  | 73 => ⟨S64x64, .i32⟩
  | 74 => ⟨S64x64, .i1⟩
  | 75 => ⟨S_, .i1⟩
  | 76 => ⟨S64x64, .i1⟩
  | 77 => ⟨S64x64, .i1⟩
  | 78 => ⟨S_, .f32⟩
  | 79 => ⟨S4x4x256x512, .f32⟩
  | 80 => ⟨S_, .f32⟩
  | 81 => ⟨S4x4x256, .f32⟩
  | 82 => ⟨S_, .f32⟩
  | 83 => ⟨S4x4, .f32⟩
  | 84 => ⟨S_, .f32⟩
  | 85 => ⟨S64x4x4x64x512, .f32⟩
  | 86 => ⟨S_, .i32⟩
  | 87 => ⟨S64x4x4x64x256, .f32⟩
  | 88 => ⟨S64x4x4x64x256, .f32⟩
  | 89 => ⟨S64x4x4x64x512, .f32⟩
  | 90 => ⟨S64x4x4x64, .f32⟩
  | 91 => ⟨S64x4x4x64, .f32⟩
  | 92 => ⟨S64x64, .i1⟩
  | 93 => ⟨S_, .i32⟩
  | 94 => ⟨S4x4x256x512, .f32⟩
  | 95 => ⟨S4x4x256, .f32⟩
  | 96 => ⟨S4x4, .f32⟩
  | 97 => ⟨S64x4x4x64x512, .f32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S1x4x4x64x256, .f32⟩
  | 105 => ⟨S4x4x64x256, .f32⟩
  | 106 => ⟨S_, .i32⟩
  | 107 => ⟨S_, .i32⟩
  | 108 => ⟨S_, .i32⟩
  | 109 => ⟨S_, .i32⟩
  | 110 => ⟨S1x4x4x64x256, .f32⟩
  | 111 => ⟨S4x4x64x256, .f32⟩
  | 112 => ⟨S_, .i32⟩
  | 113 => ⟨S_, .i32⟩
  | 114 => ⟨S_, .i32⟩
  | 115 => ⟨S_, .i32⟩
  | 116 => ⟨S1x4x4x64x512, .f32⟩
  | 117 => ⟨S4x4x64x512, .f32⟩
  | 118 => ⟨S_, .i32⟩
  | 119 => ⟨S_, .i32⟩
  | 120 => ⟨S_, .i32⟩
  | 121 => ⟨S1x4x4x64, .f32⟩
  | 122 => ⟨S4x4x64, .f32⟩
  | 123 => ⟨S_, .i32⟩
  | 124 => ⟨S_, .i32⟩
  | 125 => ⟨S_, .i32⟩
  | 126 => ⟨S1x4x4x64, .f32⟩
  | 127 => ⟨S4x4x64, .f32⟩
  | _ => ⟨S16384x10240, .bf16⟩

abbrev hbmTy0_1 (i : Nat) : BufTy := match i % 128 with
  | 0 => ⟨S_, .f32⟩
  | 1 => ⟨S_, .f32⟩
  | 2 => ⟨S4x4x64, .f32⟩
  | 3 => ⟨S4x4x64x1, .f32⟩
  | 4 => ⟨S4x4x1x64, .f32⟩
  | 5 => ⟨S4x4x64x64, .f32⟩
  | 6 => ⟨S4x4x64x64, .f32⟩
  | 7 => ⟨S4x4x64x64, .f32⟩
  | 8 => ⟨S4x4x1x64, .f32⟩
  | 9 => ⟨S4x4x64x64, .f32⟩
  | 10 => ⟨S4x4x64x64, .f32⟩
  | 11 => ⟨S_, .f32⟩
  | 12 => ⟨S_, .f32⟩
  | 13 => ⟨S4x4x64x64, .i1⟩
  | 14 => ⟨S4x4x64x64, .f32⟩
  | 15 => ⟨S4x4x64x64, .f32⟩
  | 16 => ⟨S4x4x1, .f32⟩
  | 17 => ⟨S4x4x64, .f32⟩
  | 18 => ⟨S4x4x64, .f32⟩
  | 19 => ⟨S_, .f32⟩
  | 20 => ⟨S4x4x64, .f32⟩
  | 21 => ⟨S4x4x64, .f32⟩
  | 22 => ⟨S4x4x64x1, .f32⟩
  | 23 => ⟨S4x4x64x64, .f32⟩
  | 24 => ⟨S4x4x64x64, .f32⟩
  | 25 => ⟨S4x4x64x64, .f32⟩
  | 26 => ⟨S4x4x64, .f32⟩
  | 27 => ⟨S4x4x64, .f32⟩
  | 28 => ⟨S4x4x64x64, .f32⟩
  | 29 => ⟨S4x4x64x64, .f32⟩
  | 30 => ⟨S4x4x64x1, .f32⟩
  | 31 => ⟨S4x4x64x512, .f32⟩
  | 32 => ⟨S4x4x64x512, .f32⟩
  | 33 => ⟨S4x4x64x512, .f32⟩
  | 34 => ⟨S4x4x64x512, .f32⟩
  | 35 => ⟨S4x4x64x512, .f32⟩
  | 36 => ⟨S4x4x64, .f32⟩
  | 37 => ⟨S4x4x64, .f32⟩
  | 38 => ⟨S_, .f32⟩
  | 39 => ⟨S4x4x64, .f32⟩
  | 40 => ⟨S4x4x64, .f32⟩
  | 41 => ⟨S4x4x64, .f32⟩
  | 42 => ⟨S4x4x64, .f32⟩
  | 43 => ⟨S4x4x64, .f32⟩
  | 44 => ⟨S4x4x64, .f32⟩
  | 45 => ⟨S4x4x64x1, .f32⟩
  | 46 => ⟨S4x4x64x512, .f32⟩
  | 47 => ⟨S4x4x64x512, .f32⟩
  | 48 => ⟨S4x4x1, .f32⟩
  | 49 => ⟨S4x4, .f32⟩
  | 50 => ⟨S4x4x1, .f32⟩
  | 51 => ⟨S4x4x64, .f32⟩
  | 52 => ⟨S4x4x64, .f32⟩
  | 53 => ⟨S4x4x64, .f32⟩
  | 54 => ⟨S4x4, .f32⟩
  | 55 => ⟨S_, .f32⟩
  | 56 => ⟨S4x4, .f32⟩
  | 57 => ⟨S4x4, .f32⟩
  | 58 => ⟨S4x4x1, .f32⟩
  | 59 => ⟨S4x4x64, .f32⟩
  | 60 => ⟨S4x4x64, .f32⟩
  | 61 => ⟨S4x4x64, .f32⟩
  | 62 => ⟨S4x4, .f32⟩
  | 63 => ⟨S4x4, .f32⟩
  | 64 => ⟨S4x4, .f32⟩
  | 65 => ⟨S4x4x1x1, .f32⟩
  | 66 => ⟨S4x4x256x512, .f32⟩
  | 67 => ⟨S4x4x256x512, .f32⟩
  | 68 => ⟨S4x4x64x1, .f32⟩
  | 69 => ⟨S4x4x64x256, .f32⟩
  | 70 => ⟨S4x4x64x256, .f32⟩
  | 71 => ⟨S4x4x256x512, .f32⟩
  | 72 => ⟨S4x4x256x512, .f32⟩
  | 73 => ⟨S4x4x1, .f32⟩
  | 74 => ⟨S4x4x256, .f32⟩
  | 75 => ⟨S4x4x256, .f32⟩
  | 76 => ⟨S4x4x256, .f32⟩
  | 77 => ⟨S4x4x256, .f32⟩
  | 78 => ⟨S1x4x4x64x512, .f32⟩
  | 79 => ⟨S_, .i32⟩
  | 80 => ⟨S_, .i32⟩
  | 81 => ⟨S_, .i32⟩
  | 82 => ⟨S_, .i32⟩
  | 83 => ⟨S64x4x4x64x512, .f32⟩
  | 84 => ⟨S_, .i32⟩
  | 85 => ⟨S_, .i32⟩
  | 86 => ⟨S4x64x64x4x512, .f32⟩
  | 87 => ⟨S4x4096x4x512, .f32⟩
  | 88 => ⟨S4x4096x4x512, .f32⟩
  | 89 => ⟨S_, .f32⟩
  | 90 => ⟨S4x4096x4, .f32⟩
  | 91 => ⟨S4x4096x4x1, .f32⟩
  | 92 => ⟨S_, .f32⟩
  | 93 => ⟨S4x4096x4x1, .f32⟩
  | 94 => ⟨S4x4096x4x1, .f32⟩
  | 95 => ⟨S_, .f32⟩
  | 96 => ⟨S4x4096x4x1, .f32⟩
  | 97 => ⟨S4x4096x4x1, .f32⟩
  | 98 => ⟨S4x4096x4x1, .f32⟩
  | 99 => ⟨S4x4096x4x512, .f32⟩
  | 100 => ⟨S4x4096x4x512, .f32⟩
  | 101 => ⟨S4x512, .f32⟩
  | 102 => ⟨S1x1x4x512, .f32⟩
  | 103 => ⟨S4x4096x4x512, .f32⟩
  | 104 => ⟨S4x4096x4x512, .f32⟩
  | 105 => ⟨S4x4096x2048, .f32⟩
  | 106 => ⟨S16384x2048, .bf16⟩
  | 107 => ⟨S16384x2048, .f32⟩
  | 108 => ⟨S4x4096x2048, .f32⟩
  | 109 => ⟨S4x4096x2048, .f32⟩
  | 110 => ⟨S4x4096x2048, .f32⟩
  | 111 => ⟨S_, .f32⟩
  | 112 => ⟨S4x4096x2048, .f32⟩
  | 113 => ⟨S4x4096x2048, .f32⟩
  | 114 => ⟨S_, .f32⟩
  | 115 => ⟨S4x4096x2048, .f32⟩
  | 116 => ⟨S4x4096x2048, .f32⟩
  | 117 => ⟨S4x4096x2048, .f32⟩
  | 118 => ⟨S4x4096x2048, .bf16⟩
  | 119 => ⟨S16384x2048, .bf16⟩
  | _ => ⟨S16384x10240, .bf16⟩

abbrev hbmTy (i : Nat) : BufTy := match i / 128 with
  | 0 => hbmTy0_0 i
  | 1 => hbmTy0_1 i
  | _ => ⟨S16384x10240, .bf16⟩

abbrev bufTy : (tb : Table) → Fin (tcTables nBuf tb) → BufTy
  | .hbm, ⟨i, _⟩ => hbmTy i
  | _, _ => ⟨S16384x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c : Ref sig .tc := ⟨.hbm, 67, rfl⟩
abbrev main_v44 : Ref sig .tc := ⟨.hbm, 68, rfl⟩
abbrev main_call1_v0 : Ref sig .tc := ⟨.hbm, 69, rfl⟩
abbrev main_call1_c : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_c_0 : Ref sig .tc := ⟨.hbm, 75, rfl⟩
abbrev main_call1_v5 : Ref sig .tc := ⟨.hbm, 76, rfl⟩
abbrev main_v45 : Ref sig .tc := ⟨.hbm, 77, rfl⟩
abbrev main_cst_4 : Ref sig .tc := ⟨.hbm, 78, rfl⟩
abbrev main_v46 : Ref sig .tc := ⟨.hbm, 79, rfl⟩
abbrev main_cst_5 : Ref sig .tc := ⟨.hbm, 80, rfl⟩
abbrev main_v47 : Ref sig .tc := ⟨.hbm, 81, rfl⟩
abbrev main_cst_6 : Ref sig .tc := ⟨.hbm, 82, rfl⟩
abbrev main_v48 : Ref sig .tc := ⟨.hbm, 83, rfl⟩
abbrev main_cst_7 : Ref sig .tc := ⟨.hbm, 84, rfl⟩
abbrev main_v49 : Ref sig .tc := ⟨.hbm, 85, rfl⟩
abbrev main_c_8 : Ref sig .tc := ⟨.hbm, 86, rfl⟩
abbrev main_v50_0 : Ref sig .tc := ⟨.hbm, 87, rfl⟩
abbrev main_v50_1 : Ref sig .tc := ⟨.hbm, 88, rfl⟩
abbrev main_v50_2 : Ref sig .tc := ⟨.hbm, 89, rfl⟩
abbrev main_v50_3 : Ref sig .tc := ⟨.hbm, 90, rfl⟩
abbrev main_v50_4 : Ref sig .tc := ⟨.hbm, 91, rfl⟩
abbrev main_v50_5 : Ref sig .tc := ⟨.hbm, 92, rfl⟩
abbrev main_v50_6 : Ref sig .tc := ⟨.hbm, 93, rfl⟩
abbrev main_v50_7 : Ref sig .tc := ⟨.hbm, 94, rfl⟩
abbrev main_v50_8 : Ref sig .tc := ⟨.hbm, 95, rfl⟩
abbrev main_v50_9 : Ref sig .tc := ⟨.hbm, 96, rfl⟩
abbrev main_v50_10 : Ref sig .tc := ⟨.hbm, 97, rfl⟩
abbrev main_while0c_c_24 : Ref sig .tc := ⟨.hbm, 98, rfl⟩
abbrev main_while0c_v80 : Ref sig .tc := ⟨.hbm, 99, rfl⟩
abbrev main_while0b_call2_c : Ref sig .tc := ⟨.hbm, 100, rfl⟩
abbrev main_while0b_call2_c_0 : Ref sig .tc := ⟨.hbm, 101, rfl⟩
abbrev main_while0b_call2_c_1 : Ref sig .tc := ⟨.hbm, 102, rfl⟩
abbrev main_while0b_call2_c_2 : Ref sig .tc := ⟨.hbm, 103, rfl⟩
abbrev main_while0b_call2_v0 : Ref sig .tc := ⟨.hbm, 104, rfl⟩
abbrev main_while0b_v80 : Ref sig .tc := ⟨.hbm, 105, rfl⟩
abbrev main_while0b_call3_c : Ref sig .tc := ⟨.hbm, 106, rfl⟩
abbrev main_while0b_call3_c_0 : Ref sig .tc := ⟨.hbm, 107, rfl⟩
abbrev main_while0b_call3_c_1 : Ref sig .tc := ⟨.hbm, 108, rfl⟩
abbrev main_while0b_call3_c_2 : Ref sig .tc := ⟨.hbm, 109, rfl⟩
abbrev main_while0b_call3_v0 : Ref sig .tc := ⟨.hbm, 110, rfl⟩
abbrev main_while0b_v81 : Ref sig .tc := ⟨.hbm, 111, rfl⟩
abbrev main_while0b_call4_c : Ref sig .tc := ⟨.hbm, 112, rfl⟩
abbrev main_while0b_call4_c_0 : Ref sig .tc := ⟨.hbm, 113, rfl⟩
abbrev main_while0b_call4_c_1 : Ref sig .tc := ⟨.hbm, 114, rfl⟩
abbrev main_while0b_call4_c_2 : Ref sig .tc := ⟨.hbm, 115, rfl⟩
abbrev main_while0b_call4_v0 : Ref sig .tc := ⟨.hbm, 116, rfl⟩
abbrev main_while0b_v82 : Ref sig .tc := ⟨.hbm, 117, rfl⟩
abbrev main_while0b_call5_c : Ref sig .tc := ⟨.hbm, 118, rfl⟩
abbrev main_while0b_call5_c_0 : Ref sig .tc := ⟨.hbm, 119, rfl⟩
abbrev main_while0b_call5_c_1 : Ref sig .tc := ⟨.hbm, 120, rfl⟩
abbrev main_while0b_call5_v0 : Ref sig .tc := ⟨.hbm, 121, rfl⟩
abbrev main_while0b_v83 : Ref sig .tc := ⟨.hbm, 122, rfl⟩
abbrev main_while0b_call6_c : Ref sig .tc := ⟨.hbm, 123, rfl⟩
abbrev main_while0b_call6_c_0 : Ref sig .tc := ⟨.hbm, 124, rfl⟩
abbrev main_while0b_call6_c_1 : Ref sig .tc := ⟨.hbm, 125, rfl⟩
abbrev main_while0b_call6_v0 : Ref sig .tc := ⟨.hbm, 126, rfl⟩
abbrev main_while0b_v84 : Ref sig .tc := ⟨.hbm, 127, rfl⟩
abbrev main_while0b_call7_call0_cst : Ref sig .tc := ⟨.hbm, 128, rfl⟩
abbrev main_while0b_call7_call0_v0 : Ref sig .tc := ⟨.hbm, 129, rfl⟩
abbrev main_while0b_v85 : Ref sig .tc := ⟨.hbm, 130, rfl⟩
abbrev main_while0b_v86 : Ref sig .tc := ⟨.hbm, 131, rfl⟩
abbrev main_while0b_v87 : Ref sig .tc := ⟨.hbm, 132, rfl⟩
abbrev main_while0b_v88 : Ref sig .tc := ⟨.hbm, 133, rfl⟩
abbrev main_while0b_v89 : Ref sig .tc := ⟨.hbm, 134, rfl⟩
abbrev main_while0b_v90 : Ref sig .tc := ⟨.hbm, 135, rfl⟩
abbrev main_while0b_v91 : Ref sig .tc := ⟨.hbm, 136, rfl⟩
abbrev main_while0b_v92 : Ref sig .tc := ⟨.hbm, 137, rfl⟩
abbrev main_while0b_v93 : Ref sig .tc := ⟨.hbm, 138, rfl⟩
abbrev main_while0b_cst_24 : Ref sig .tc := ⟨.hbm, 139, rfl⟩
abbrev main_while0b_call8_v0 : Ref sig .tc := ⟨.hbm, 140, rfl⟩
abbrev main_while0b_call8_v1 : Ref sig .tc := ⟨.hbm, 141, rfl⟩
abbrev main_while0b_call8_v2 : Ref sig .tc := ⟨.hbm, 142, rfl⟩
abbrev main_while0b_v94 : Ref sig .tc := ⟨.hbm, 143, rfl⟩
abbrev main_while0b_v95 : Ref sig .tc := ⟨.hbm, 144, rfl⟩
abbrev main_while0b_v96 : Ref sig .tc := ⟨.hbm, 145, rfl⟩
abbrev main_while0b_v97 : Ref sig .tc := ⟨.hbm, 146, rfl⟩
abbrev main_while0b_cst_25 : Ref sig .tc := ⟨.hbm, 147, rfl⟩
abbrev main_while0b_v98 : Ref sig .tc := ⟨.hbm, 148, rfl⟩
abbrev main_while0b_v99 : Ref sig .tc := ⟨.hbm, 149, rfl⟩
abbrev main_while0b_v100 : Ref sig .tc := ⟨.hbm, 150, rfl⟩
abbrev main_while0b_v101 : Ref sig .tc := ⟨.hbm, 151, rfl⟩
abbrev main_while0b_v102 : Ref sig .tc := ⟨.hbm, 152, rfl⟩
abbrev main_while0b_v103 : Ref sig .tc := ⟨.hbm, 153, rfl⟩
abbrev main_while0b_v104 : Ref sig .tc := ⟨.hbm, 154, rfl⟩
abbrev main_while0b_v105 : Ref sig .tc := ⟨.hbm, 155, rfl⟩
abbrev main_while0b_v106 : Ref sig .tc := ⟨.hbm, 156, rfl⟩
abbrev main_while0b_v107 : Ref sig .tc := ⟨.hbm, 157, rfl⟩
abbrev main_while0b_v108 : Ref sig .tc := ⟨.hbm, 158, rfl⟩
abbrev main_while0b_v109 : Ref sig .tc := ⟨.hbm, 159, rfl⟩
abbrev main_while0b_v110 : Ref sig .tc := ⟨.hbm, 160, rfl⟩
abbrev main_while0b_v111 : Ref sig .tc := ⟨.hbm, 161, rfl⟩
abbrev main_while0b_v112 : Ref sig .tc := ⟨.hbm, 162, rfl⟩
abbrev main_while0b_v113 : Ref sig .tc := ⟨.hbm, 163, rfl⟩
abbrev main_while0b_v114 : Ref sig .tc := ⟨.hbm, 164, rfl⟩
abbrev main_while0b_v115 : Ref sig .tc := ⟨.hbm, 165, rfl⟩
abbrev main_while0b_cst_26 : Ref sig .tc := ⟨.hbm, 166, rfl⟩
abbrev main_while0b_v116 : Ref sig .tc := ⟨.hbm, 167, rfl⟩
abbrev main_while0b_v117 : Ref sig .tc := ⟨.hbm, 168, rfl⟩
abbrev main_while0b_v118 : Ref sig .tc := ⟨.hbm, 169, rfl⟩
abbrev main_while0b_v119 : Ref sig .tc := ⟨.hbm, 170, rfl⟩
abbrev main_while0b_v120 : Ref sig .tc := ⟨.hbm, 171, rfl⟩
abbrev main_while0b_v121 : Ref sig .tc := ⟨.hbm, 172, rfl⟩
abbrev main_while0b_v122 : Ref sig .tc := ⟨.hbm, 173, rfl⟩
abbrev main_while0b_v123 : Ref sig .tc := ⟨.hbm, 174, rfl⟩
abbrev main_while0b_v124 : Ref sig .tc := ⟨.hbm, 175, rfl⟩
abbrev main_while0b_v125 : Ref sig .tc := ⟨.hbm, 176, rfl⟩
abbrev main_while0b_v126 : Ref sig .tc := ⟨.hbm, 177, rfl⟩
abbrev main_while0b_v127 : Ref sig .tc := ⟨.hbm, 178, rfl⟩
abbrev main_while0b_v128 : Ref sig .tc := ⟨.hbm, 179, rfl⟩
abbrev main_while0b_v129 : Ref sig .tc := ⟨.hbm, 180, rfl⟩
abbrev main_while0b_v130 : Ref sig .tc := ⟨.hbm, 181, rfl⟩
abbrev main_while0b_v131 : Ref sig .tc := ⟨.hbm, 182, rfl⟩
abbrev main_while0b_cst_27 : Ref sig .tc := ⟨.hbm, 183, rfl⟩
abbrev main_while0b_v132 : Ref sig .tc := ⟨.hbm, 184, rfl⟩
abbrev main_while0b_v133 : Ref sig .tc := ⟨.hbm, 185, rfl⟩
abbrev main_while0b_v134 : Ref sig .tc := ⟨.hbm, 186, rfl⟩
abbrev main_while0b_v135 : Ref sig .tc := ⟨.hbm, 187, rfl⟩
abbrev main_while0b_v136 : Ref sig .tc := ⟨.hbm, 188, rfl⟩
abbrev main_while0b_v137 : Ref sig .tc := ⟨.hbm, 189, rfl⟩
abbrev main_while0b_v138 : Ref sig .tc := ⟨.hbm, 190, rfl⟩
abbrev main_while0b_v139 : Ref sig .tc := ⟨.hbm, 191, rfl⟩
abbrev main_while0b_v140 : Ref sig .tc := ⟨.hbm, 192, rfl⟩
abbrev main_while0b_v141 : Ref sig .tc := ⟨.hbm, 193, rfl⟩
abbrev main_while0b_v142 : Ref sig .tc := ⟨.hbm, 194, rfl⟩
abbrev main_while0b_v143 : Ref sig .tc := ⟨.hbm, 195, rfl⟩
abbrev main_while0b_v144 : Ref sig .tc := ⟨.hbm, 196, rfl⟩
abbrev main_while0b_v145 : Ref sig .tc := ⟨.hbm, 197, rfl⟩
abbrev main_while0b_v146 : Ref sig .tc := ⟨.hbm, 198, rfl⟩
abbrev main_while0b_v147 : Ref sig .tc := ⟨.hbm, 199, rfl⟩
abbrev main_while0b_v148 : Ref sig .tc := ⟨.hbm, 200, rfl⟩
abbrev main_while0b_v149 : Ref sig .tc := ⟨.hbm, 201, rfl⟩
abbrev main_while0b_v150 : Ref sig .tc := ⟨.hbm, 202, rfl⟩
abbrev main_while0b_v151 : Ref sig .tc := ⟨.hbm, 203, rfl⟩
abbrev main_while0b_v152 : Ref sig .tc := ⟨.hbm, 204, rfl⟩
abbrev main_while0b_v153 : Ref sig .tc := ⟨.hbm, 205, rfl⟩
abbrev main_while0b_call9_v0 : Ref sig .tc := ⟨.hbm, 206, rfl⟩
abbrev main_while0b_call9_c : Ref sig .tc := ⟨.hbm, 207, rfl⟩
abbrev main_while0b_call9_c_0 : Ref sig .tc := ⟨.hbm, 208, rfl⟩
abbrev main_while0b_call9_c_1 : Ref sig .tc := ⟨.hbm, 209, rfl⟩
abbrev main_while0b_call9_c_2 : Ref sig .tc := ⟨.hbm, 210, rfl⟩
abbrev main_while0b_v154 : Ref sig .tc := ⟨.hbm, 211, rfl⟩
abbrev main_while0b_c_28 : Ref sig .tc := ⟨.hbm, 212, rfl⟩
abbrev main_while0b_v155 : Ref sig .tc := ⟨.hbm, 213, rfl⟩
abbrev main_v51 : Ref sig .tc := ⟨.hbm, 214, rfl⟩
abbrev main_v52 : Ref sig .tc := ⟨.hbm, 215, rfl⟩
abbrev main_v53 : Ref sig .tc := ⟨.hbm, 216, rfl⟩
abbrev main_cst_9 : Ref sig .tc := ⟨.hbm, 217, rfl⟩
abbrev main_v54 : Ref sig .tc := ⟨.hbm, 218, rfl⟩
abbrev main_v55 : Ref sig .tc := ⟨.hbm, 219, rfl⟩
abbrev main_cst_10 : Ref sig .tc := ⟨.hbm, 220, rfl⟩
abbrev main_v56 : Ref sig .tc := ⟨.hbm, 221, rfl⟩
abbrev main_v57 : Ref sig .tc := ⟨.hbm, 222, rfl⟩
abbrev main_cst_11 : Ref sig .tc := ⟨.hbm, 223, rfl⟩
abbrev main_v58 : Ref sig .tc := ⟨.hbm, 224, rfl⟩
abbrev main_v59 : Ref sig .tc := ⟨.hbm, 225, rfl⟩
abbrev main_v60 : Ref sig .tc := ⟨.hbm, 226, rfl⟩
abbrev main_v61 : Ref sig .tc := ⟨.hbm, 227, rfl⟩
abbrev main_v62 : Ref sig .tc := ⟨.hbm, 228, rfl⟩
abbrev main_v63 : Ref sig .tc := ⟨.hbm, 229, rfl⟩
abbrev main_v64 : Ref sig .tc := ⟨.hbm, 230, rfl⟩
abbrev main_v65 : Ref sig .tc := ⟨.hbm, 231, rfl⟩
abbrev main_v66 : Ref sig .tc := ⟨.hbm, 232, rfl⟩
abbrev main_v67 : Ref sig .tc := ⟨.hbm, 233, rfl⟩
abbrev main_v68 : Ref sig .tc := ⟨.hbm, 234, rfl⟩
abbrev main_v69 : Ref sig .tc := ⟨.hbm, 235, rfl⟩
abbrev main_v70 : Ref sig .tc := ⟨.hbm, 236, rfl⟩
abbrev main_v71 : Ref sig .tc := ⟨.hbm, 237, rfl⟩
abbrev main_v72 : Ref sig .tc := ⟨.hbm, 238, rfl⟩
abbrev main_cst_12 : Ref sig .tc := ⟨.hbm, 239, rfl⟩
abbrev main_v73 : Ref sig .tc := ⟨.hbm, 240, rfl⟩
abbrev main_v74 : Ref sig .tc := ⟨.hbm, 241, rfl⟩
abbrev main_cst_13 : Ref sig .tc := ⟨.hbm, 242, rfl⟩
abbrev main_v75 : Ref sig .tc := ⟨.hbm, 243, rfl⟩
abbrev main_v76 : Ref sig .tc := ⟨.hbm, 244, rfl⟩
abbrev main_v77 : Ref sig .tc := ⟨.hbm, 245, rfl⟩
abbrev main_v78 : Ref sig .tc := ⟨.hbm, 246, rfl⟩
abbrev main_v79 : Ref sig .tc := ⟨.hbm, 247, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S16384x2048 : Shape := ⟨2, ![16384, 2048]⟩
abbrev S4096x4096 : Shape := ⟨2, ![4096, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .f32⟩
  | .hbm, ⟨4, _⟩ => ⟨S4096x4096, .bf16⟩
  | .hbm, ⟨5, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S16384x2048 : Shape := ⟨2, ![16384, 2048]⟩
abbrev S4096x4096 : Shape := ⟨2, ![4096, 4096]⟩
abbrev S16384x4096 : Shape := ⟨2, ![16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .f32⟩
  | .hbm, ⟨4, _⟩ => ⟨S16384x4096, .bf16⟩
  | .hbm, ⟨5, _⟩ => ⟨S16384x4096, .f32⟩
  | .hbm, ⟨6, _⟩ => ⟨S16384x4096, .f32⟩
  | .hbm, ⟨7, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel3.lean ====
abbrev S16384x4096 : Shape := ⟨2, ![16384, 4096]⟩
abbrev S4096 : Shape := ⟨1, ![4096]⟩
abbrev S4096x10248 : Shape := ⟨2, ![4096, 10248]⟩
abbrev S1x4096 : Shape := ⟨2, ![1, 4096]⟩
abbrev S10248x4096 : Shape := ⟨2, ![10248, 4096]⟩
abbrev S16384x10240 : Shape := ⟨2, ![16384, 10240]⟩
abbrev S16384x128 : Shape := ⟨2, ![16384, 128]⟩
abbrev S512x4096 : Shape := ⟨2, ![512, 4096]⟩
abbrev S8x4096 : Shape := ⟨2, ![8, 4096]⟩
abbrev S1024x512 : Shape := ⟨2, ![1024, 512]⟩
abbrev S1024x128 : Shape := ⟨2, ![1024, 128]⟩
abbrev S1024x4096 : Shape := ⟨2, ![1024, 4096]⟩
abbrev S_ : Shape := ⟨0, ![]⟩
abbrev S32x4096 : Shape := ⟨2, ![32, 4096]⟩
abbrev S32 : Shape := ⟨1, ![32]⟩
abbrev S32x1 : Shape := ⟨2, ![32, 1]⟩
abbrev S120x4096 : Shape := ⟨2, ![120, 4096]⟩
abbrev S128x4096 : Shape := ⟨2, ![128, 4096]⟩

abbrev nBuf : Space → Nat
  | .hbm => 7
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x10248, .f32⟩
  | .hbm, ⟨3, _⟩ => ⟨S1x4096, .f32⟩
  | .hbm, ⟨4, _⟩ => ⟨S10248x4096, .f32⟩
  | .hbm, ⟨5, _⟩ => ⟨S16384x10240, .bf16⟩
  | .hbm, ⟨6, _⟩ => ⟨S16384x128, .f32⟩
  | .local _ .vmem, ⟨0, _⟩ => ⟨S1x4096, .f32⟩
  | .local _ .vmem, ⟨1, _⟩ => ⟨S512x4096, .f32⟩
  | .local _ .vmem, ⟨2, _⟩ => ⟨S512x4096, .f32⟩
  | .local _ .vmem, ⟨3, _⟩ => ⟨S8x4096, .f32⟩
  | .local _ .vmem, ⟨4, _⟩ => ⟨S1024x512, .bf16⟩
  | .local _ .vmem, ⟨5, _⟩ => ⟨S1024x512, .bf16⟩
  | .local _ .vmem, ⟨6, _⟩ => ⟨S1024x128, .f32⟩
  | .local _ .vmem, ⟨7, _⟩ => ⟨S1024x128, .f32⟩
  | .local _ .vmem, ⟨8, _⟩ => ⟨S1024x4096, .f32⟩
  | .local _ .vmem, ⟨9, _⟩ => ⟨S1024x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 20], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_6 : BitVec 32 := 0#32
  let v10 : BitVec 1 := Scalar.cmpi .eq arg0 c0_i32_6
  let v11 : BitVec 32 := Scalar.extui v10
  let c0_i32_7 : BitVec 32 := 0#32
  let v12 : BitVec 1 := Scalar.cmpi .ne v11 c0_i32_7
  v12

def k0_mult1 : BitVec 32 :=
  let c0_i32_21 : BitVec 32 := 0#32
  c0_i32_21
def k0_mult2 (i : grid0.Coords) : BitVec 32 :=
  let arg0 : BitVec 32 := BitVec.ofNat 32 (i 0).val
  let c1024_i32 : BitVec 32 := 1024#32
  let v13 : BitVec 32 := Scalar.muli arg0 c1024_i32
  v13
def k0_off1 (i : grid0.Coords) : Fin 2 → Nat :=
  let arg0 : BitVec 32 := BitVec.ofNat 32 (i 0).val
  let c1024_i32 : BitVec 32 := 1024#32
  let v13 : BitVec 32 := Scalar.muli arg0 c1024_i32
  let v14 : BitVec 32 := v13
  let c0_i32_8 : BitVec 32 := 0#32
  ![v14.toNat, 0]
@[reducible] def k0_t1_loop : Scf.Loop 32 :=
  let c0_i32_9 : BitVec 32 := 0#32
  let c32_i32 : BitVec 32 := 32#32
  let v16 : BitVec 32 := Scalar.addi c0_i32_9 c32_i32
  let c1_i32 : BitVec 32 := 1#32
  ⟨c0_i32_9, v16, c1_i32⟩
def k0_mult3 (k0_t1 : Fin k0_t1_loop.trips) : BitVec 32 :=
  let c0_i32_9 : BitVec 32 := 0#32
  let c1_i32 : BitVec 32 := 1#32
  let arg11 : BitVec 32 := Scf.iv c0_i32_9 c1_i32 k0_t1
  let c32_i32_21 : BitVec 32 := 32#32
  let v29 : BitVec 32 := Scalar.muli arg11 c32_i32_21
  v29
def k0_off2 (k0_t1 : Fin k0_t1_loop.trips) : Fin 2 → Nat :=
  let c0_i32_9 : BitVec 32 := 0#32
  let c1_i32 : BitVec 32 := 1#32
  let arg11 : BitVec 32 := Scf.iv c0_i32_9 c1_i32 k0_t1
  let c32_i32_21 : BitVec 32 := 32#32
  let v29 : BitVec 32 := Scalar.muli arg11 c32_i32_21
  let v30 : BitVec 32 := v29
  let v31 : Index := Scalar.indexCast v30
  let c0_22 : Index := 0#32
  ![v31.toNat, 0]
def k0_cond3 (i : grid0.Coords) : BitVec 1 :=
  let arg0 : BitVec 32 := BitVec.ofNat 32 (i 0).val
  let c1_i32_11 : BitVec 32 := 1#32
  let v17 : BitVec 32 := Scalar.addi arg0 c1_i32_11
  let c16_i32 : BitVec 32 := 16#32
  let v18 : BitVec 1 := Scalar.cmpi .slt v17 c16_i32
  let v19 : BitVec 32 := Scalar.extui v18
  let c0_i32_12 : BitVec 32 := 0#32
  let v20 : BitVec 1 := Scalar.cmpi .ne v19 c0_i32_12
  v20

def k0_mult4 (i : grid0.Coords) : BitVec 32 :=
  let arg0 : BitVec 32 := BitVec.ofNat 32 (i 0).val
  let c1_i32_21 : BitVec 32 := 1#32
  let v29 : BitVec 32 := Scalar.addi arg0 c1_i32_21
  let c1024_i32_22 : BitVec 32 := 1024#32
  let v30 : BitVec 32 := Scalar.muli v29 c1024_i32_22
  v30
def k0_off3 (i : grid0.Coords) : Fin 2 → Nat :=
  let arg0 : BitVec 32 := BitVec.ofNat 32 (i 0).val
  let c1_i32_21 : BitVec 32 := 1#32
  let v29 : BitVec 32 := Scalar.addi arg0 c1_i32_21
  let c1024_i32_22 : BitVec 32 := 1024#32
  let v30 : BitVec 32 := Scalar.muli v29 c1024_i32_22
  let v31 : BitVec 32 := v30
  let c0_i32_23 : BitVec 32 := 0#32
  ![v31.toNat, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1280_i32 : BitVec 32 := 1280#32
  let c0_i32 : BitVec 32 := 0#32
  let c0_i32_0 : BitVec 32 := 0#32
  ![c1280_i32.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S16384x4096 : Shape := ⟨2, ![16384, 4096]⟩
abbrev S4096 : Shape := ⟨1, ![4096]⟩
abbrev S4096x10248 : Shape := ⟨2, ![4096, 10248]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x10248 : Shape := ⟨2, ![16384, 10248]⟩
abbrev S16384x10240 : Shape := ⟨2, ![16384, 10240]⟩
abbrev S16384x8 : Shape := ⟨2, ![16384, 8]⟩
abbrev S16384x128 : Shape := ⟨2, ![16384, 128]⟩

abbrev nBuf : Space → Nat
  | .hbm => 26
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x10248, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x10248, .f32⟩
  | .hbm, ⟨20, _⟩ => ⟨S16384x10240, .f32⟩
  | .hbm, ⟨21, _⟩ => ⟨S16384x10240, .bf16⟩
  | .hbm, ⟨22, _⟩ => ⟨S16384x8, .f32⟩
  | .hbm, ⟨23, _⟩ => ⟨S_, .i32⟩
  | .hbm, ⟨24, _⟩ => ⟨S_, .f32⟩
  | .hbm, ⟨25, _⟩ => ⟨S16384x128, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel4.lean ====
abbrev S16384x10240 : Shape := ⟨2, ![16384, 10240]⟩
abbrev S2048 : Shape := ⟨1, ![2048]⟩
abbrev S16x128x128 : Shape := ⟨3, ![16, 128, 128]⟩
abbrev S16x128 : Shape := ⟨2, ![16, 128]⟩
abbrev S1x2048 : Shape := ⟨2, ![1, 2048]⟩
abbrev S128x16 : Shape := ⟨2, ![128, 16]⟩
abbrev S16384x2048 : Shape := ⟨2, ![16384, 2048]⟩
abbrev S512x2048 : Shape := ⟨2, ![512, 2048]⟩
abbrev S128x128 : Shape := ⟨2, ![128, 128]⟩
abbrev S1x128x128 : Shape := ⟨3, ![1, 128, 128]⟩
abbrev S128x2048 : Shape := ⟨2, ![128, 2048]⟩
abbrev S128 : Shape := ⟨1, ![128]⟩
abbrev S128x1 : Shape := ⟨2, ![128, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x10240, .bf16⟩
  | .hbm, ⟨1, _⟩ => ⟨S2048, .f32⟩
  | .hbm, ⟨2, _⟩ => ⟨S16x128x128, .f32⟩
  | .hbm, ⟨3, _⟩ => ⟨S16x128, .f32⟩
  | .hbm, ⟨4, _⟩ => ⟨S1x2048, .f32⟩
  | .hbm, ⟨5, _⟩ => ⟨S128x16, .f32⟩
  | .hbm, ⟨6, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S16x128x128, .f32⟩
  | .local _ .vmem, ⟨6, _⟩ => ⟨S128x16, .f32⟩
  | .local _ .vmem, ⟨7, _⟩ => ⟨S512x2048, .bf16⟩
  | .local _ .vmem, ⟨8, _⟩ => ⟨S512x2048, .bf16⟩
  | .local _ .vmem, ⟨9, _⟩ => ⟨S16x128x128, .bf16⟩
  | _, _ => ⟨S16384x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16384x10240 : Shape := ⟨2, ![16384, 10240]⟩
abbrev S2048 : Shape := ⟨1, ![2048]⟩
abbrev S16x128x128 : Shape := ⟨3, ![16, 128, 128]⟩
abbrev S16x128 : Shape := ⟨2, ![16, 128]⟩
abbrev S16384x2048 : Shape := ⟨2, ![16384, 2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x32x128x16x128 : Shape := ⟨5, ![4, 32, 128, 16, 128]⟩
abbrev S128x128 : Shape := ⟨2, ![128, 128]⟩
abbrev S1x128x128 : Shape := ⟨3, ![1, 128, 128]⟩
abbrev S16x4x32x128x128 : Shape := ⟨5, ![16, 4, 32, 128, 128]⟩
abbrev S128x16 : Shape := ⟨2, ![128, 16]⟩
abbrev S1x1x128x16x1 : Shape := ⟨5, ![1, 1, 128, 16, 1]⟩

abbrev nBuf : Space → Nat
  | .hbm => 88
  | .vmem => 0
  | .smem => 0
  | _ => 0

abbrev bufTy : (tb : Table) → Fin (tcTables nBuf tb) → BufTy
  | .hbm, ⟨0, _⟩ => ⟨S16384x10240, .bf16⟩
  | .hbm, ⟨1, _⟩ => ⟨S2048, .f32⟩
  | .hbm, ⟨2, _⟩ => ⟨S16x128x128, .f32⟩
  | .hbm, ⟨3, _⟩ => ⟨S16x128, .f32⟩
  | .hbm, ⟨4, _⟩ => ⟨S16384x2048, .bf16⟩
  | .hbm, ⟨5, _⟩ => ⟨S16384x2048, .f32⟩
  | .hbm, ⟨6, _⟩ => ⟨S4x4096x2048, .f32⟩
  | .hbm, ⟨7, _⟩ => ⟨S4x4096x2048, .f32⟩
  | .hbm, ⟨8, _⟩ => ⟨S4x4096x2048, .f32⟩
  | .hbm, ⟨9, _⟩ => ⟨S_, .f32⟩
  | .hbm, ⟨10, _⟩ => ⟨S4x4096x2048, .f32⟩
  | .hbm, ⟨11, _⟩ => ⟨S4x4096x2048, .f32⟩
  | .hbm, ⟨12, _⟩ => ⟨S4x4096x2048, .f32⟩
  | .hbm, ⟨13, _⟩ => ⟨S_, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S_, .f32⟩
  | .hbm, ⟨18, _⟩ => ⟨S4x4096x2048, .f32⟩
  | .hbm, ⟨19, _⟩ => ⟨S4x4096x2048, .f32⟩
  | .hbm, ⟨20, _⟩ => ⟨S_, .f32⟩
  | .hbm, ⟨21, _⟩ => ⟨S4x4096x2048, .f32⟩
  | .hbm, ⟨22, _⟩ => ⟨S4x4096x2048, .f32⟩
  | .hbm, ⟨23, _⟩ => ⟨S4x4096x2048, .f32⟩
  | .hbm, ⟨24, _⟩ => ⟨S16384x2048, .bf16⟩
  | .hbm, ⟨25, _⟩ => ⟨S16384x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S_, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S_, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S_, .f32⟩
  | .hbm, ⟨38, _⟩ => ⟨S4x4096x2048, .f32⟩
  | .hbm, ⟨39, _⟩ => ⟨S4x4096x2048, .f32⟩
  | .hbm, ⟨40, _⟩ => ⟨S_, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S4x4096x2048, .f32⟩
  | .hbm, ⟨45, _⟩ => ⟨S_, .f32⟩
  | .hbm, ⟨46, _⟩ => ⟨S4x4096, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S_, .f32⟩
  | .hbm, ⟨52, _⟩ => ⟨S4x4096x1, .f32⟩
  | .hbm, ⟨53, _⟩ => ⟨S4x4096x1, .f32⟩
  | .hbm, ⟨54, _⟩ => ⟨S4x4096x1, .f32⟩
  | .hbm, ⟨55, _⟩ => ⟨S4x4096x2048, .f32⟩
  | .hbm, ⟨56, _⟩ => ⟨S4x4096x2048, .f32⟩
  | .hbm, ⟨57, _⟩ => ⟨S1x1x2048, .f32⟩
  | .hbm, ⟨58, _⟩ => ⟨S4x4096x2048, .f32⟩
  | .hbm, ⟨59, _⟩ => ⟨S4x4096x2048, .f32⟩
  | .hbm, ⟨60, _⟩ => ⟨S4x32x128x16x128, .f32⟩
  | .hbm, ⟨61, _⟩ => ⟨S_, .i1⟩
  | .hbm, ⟨62, _⟩ => ⟨S128x128, .i1⟩
  | .hbm, ⟨63, _⟩ => ⟨S128x128, .i32⟩
  | .hbm, ⟨64, _⟩ => ⟨S_, .i32⟩
  | .hbm, ⟨65, _⟩ => ⟨S128x128, .i32⟩
  | .hbm, ⟨66, _⟩ => ⟨S128x128, .i32⟩
  | .hbm, ⟨67, _⟩ => ⟨S128x128, .i32⟩
  | .hbm, ⟨68, _⟩ => ⟨S128x128, .i1⟩
  | .hbm, ⟨69, _⟩ => ⟨S_, .i1⟩
  | .hbm, ⟨70, _⟩ => ⟨S128x128, .i1⟩
  | .hbm, ⟨71, _⟩ => ⟨S128x128, .i1⟩
  | .hbm, ⟨72, _⟩ => ⟨S1x128x128, .i1⟩
  | .hbm, ⟨73, _⟩ => ⟨S_, .i32⟩
  | .hbm, ⟨74, _⟩ => ⟨S_, .f32⟩
  | .hbm, ⟨75, _⟩ => ⟨S16x128x128, .i1⟩
  | .hbm, ⟨76, _⟩ => ⟨S16x128x128, .f32⟩
  | .hbm, ⟨77, _⟩ => ⟨S16x128x128, .f32⟩
  | .hbm, ⟨78, _⟩ => ⟨S16x4x32x128x128, .f32⟩
  | .hbm, ⟨79, _⟩ => ⟨S4x32x128x16x128, .f32⟩
  | .hbm, ⟨80, _⟩ => ⟨S128x16, .f32⟩
  | .hbm, ⟨81, _⟩ => ⟨S1x1x128x16x1, .f32⟩
  | .hbm, ⟨82, _⟩ => ⟨S4x32x128x16x128, .f32⟩
  | .hbm, ⟨83, _⟩ => ⟨S4x32x128x16x128, .f32⟩
  | .hbm, ⟨84, _⟩ => ⟨S4x4096x2048, .f32⟩
  | .hbm, ⟨85, _⟩ => ⟨S4x4096x2048, .f32⟩
  | .hbm, ⟨86, _⟩ => ⟨S4x4096x2048, .bf16⟩
  | .hbm, ⟨87, _⟩ => ⟨S16384x2048, .bf16⟩
  | _, _ => ⟨S16384x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c : Ref sig .tc := ⟨.hbm, 61, rfl⟩
abbrev main_v46 : Ref sig .tc := ⟨.hbm, 62, rfl⟩
abbrev main_call0_v0 : Ref sig .tc := ⟨.hbm, 63, rfl⟩
abbrev main_call0_c : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_c_0 : Ref sig .tc := ⟨.hbm, 69, rfl⟩
abbrev main_call0_v5 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩

abbrev nD : Nat := 1
abbrev τ : Topo := Topo.v7x

variable {F : FTy → Type} [FloatOps F]
-- ==== Kernel5.lean ====
abbrev S16384x4096 : Shape := ⟨2, ![16384, 4096]⟩
abbrev S4096 : Shape := ⟨1, ![4096]⟩
abbrev S4096x8 : Shape := ⟨2, ![4096, 8]⟩
abbrev S8 : Shape := ⟨1, ![8]⟩
abbrev S4096x64 : Shape := ⟨2, ![4096, 64]⟩
abbrev S64 : Shape := ⟨1, ![64]⟩
abbrev S_ : Shape := ⟨0, ![]⟩
abbrev S4096x56 : Shape := ⟨2, ![4096, 56]⟩
abbrev S4096x128 : Shape := ⟨2, ![4096, 128]⟩
abbrev S56 : Shape := ⟨1, ![56]⟩
abbrev S128 : Shape := ⟨1, ![128]⟩
abbrev S1x128 : Shape := ⟨2, ![1, 128]⟩
abbrev S1x4096 : Shape := ⟨2, ![1, 4096]⟩
abbrev S16384x2048 : Shape := ⟨2, ![16384, 2048]⟩
abbrev S16384x128 : Shape := ⟨2, ![16384, 128]⟩
abbrev S8x128 : Shape := ⟨2, ![8, 128]⟩
abbrev S512x4096 : Shape := ⟨2, ![512, 4096]⟩
abbrev S512x2048 : Shape := ⟨2, ![512, 2048]⟩
abbrev S512x128 : Shape := ⟨2, ![512, 128]⟩
abbrev S4096x256 : Shape := ⟨2, ![4096, 256]⟩
abbrev S512 : Shape := ⟨1, ![512]⟩
abbrev S512x1 : Shape := ⟨2, ![512, 1]⟩
abbrev S512x256 : Shape := ⟨2, ![512, 256]⟩
abbrev S512x512 : Shape := ⟨2, ![512, 512]⟩

abbrev nBuf : Space → Nat
  | .hbm => 18
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x8, .f32⟩
  | .hbm, ⟨3, _⟩ => ⟨S8, .f32⟩
  | .hbm, ⟨4, _⟩ => ⟨S4096x64, .f32⟩
  | .hbm, ⟨5, _⟩ => ⟨S64, .f32⟩
  | .hbm, ⟨6, _⟩ => ⟨S_, .f32⟩
  | .hbm, ⟨7, _⟩ => ⟨S4096x56, .f32⟩
  | .hbm, ⟨8, _⟩ => ⟨S4096x128, .f32⟩
  | .hbm, ⟨9, _⟩ => ⟨S_, .f32⟩
  | .hbm, ⟨10, _⟩ => ⟨S56, .f32⟩
  | .hbm, ⟨11, _⟩ => ⟨S128, .f32⟩
  | .hbm, ⟨12, _⟩ => ⟨S1x128, .f32⟩
  | .hbm, ⟨13, _⟩ => ⟨S1x4096, .f32⟩
  | .hbm, ⟨14, _⟩ => ⟨S16384x2048, .i32⟩
  | .hbm, ⟨15, _⟩ => ⟨S16384x128, .i32⟩
  | .hbm, ⟨16, _⟩ => ⟨S16384x128, .f32⟩
  | .hbm, ⟨17, _⟩ => ⟨S8x128, .i32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x128, .f32⟩
  | .local _ .vmem, ⟨4, _⟩ => ⟨S1x128, .f32⟩
  | .local _ .vmem, ⟨5, _⟩ => ⟨S512x2048, .i32⟩
  | .local _ .vmem, ⟨6, _⟩ => ⟨S512x2048, .i32⟩
  | .local _ .vmem, ⟨7, _⟩ => ⟨S512x128, .i32⟩
  | .local _ .vmem, ⟨8, _⟩ => ⟨S512x128, .i32⟩
  | .local _ .vmem, ⟨9, _⟩ => ⟨S512x128, .f32⟩
  | .local _ .vmem, ⟨10, _⟩ => ⟨S512x128, .f32⟩
  | .local _ .vmem, ⟨11, _⟩ => ⟨S8x128, .i32⟩
  | .local _ .vmem, ⟨12, _⟩ => ⟨S8x128, .f32⟩
  | .local _ .vmem, ⟨13, _⟩ => ⟨S4096x256, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Proof.OutProj.lean ====
/- The output projection's value: the kernel's tiled two-part product plus the residual is, element by element, the
   residual plus the product of the two mixers side by side. -/
module

public import proofs.«01_k».proof.Defs
public import proofs.«01_k».proof.Proof.Gen.Kernel2Ideal.Value
public import proofs.«01_k».proof.Proof.Gen.Reference2Ideal.Run
public import Idealize.ShloMosaic.Lib.Pointwise

@[expose] public section

set_option maxRecDepth 16384

noncomputable section

namespace Cert.Proof.OutProj

open Cert.Kernel2Ideal Cert.Kernel2Ideal.Gen Cert.Kernel2Ideal.Value Idealize.ShloMosaic Idealize.ShloMosaic.TcCoe Idealize.SL.Sem

variable (m : (ℓ : Loc nD τ sig) → Buf (Elt Ideal) ℓ)

/-- The result array as one function of the two mixers' rows `a` and `b`, the weight `w` and the residual `x`. -/
def G (a b : FVec Ideal S16384x2048 .bf16) (w : FVec Ideal S4096x4096 .bf16) (x : FVec Ideal S16384x4096 .f32) :
    FVec Ideal S16384x4096 .f32 := fun i =>
  x i + ((∑ k : Fin 2048, a (ix2 (i 0) k) * w (ix2 ⟨k.val, by have := k.isLt; omega⟩ (i 1)))
    + ∑ k : Fin 2048, b (ix2 (i 0) k) * w (ix2 ⟨2048 + k.val, by have := k.isLt; omega⟩ (i 1)))

/-- The offset of a whole store is zero. -/
theorem hz : (![0, 0] : Fin 2 → Nat) = fun _ => 0 := funext fun a => by fin_cases a <;> rfl

/-- What the body stores, at one element of the output's tile. -/
theorem out_apply (x0 x1 : Vec Ideal S1024x2048 .bf16) (x2 x3 : Vec Ideal S2048x1024 .bf16) (x4 : Vec Ideal S1024x1024 .f32)
    (j : S1024x1024.Idx) :
    out0_5 x0 x1 x2 x3 x4 j = x4 j + ((∑ k : Fin 2048, x0 (ix2 (j 0) k) * x2 (ix2 k (j 1)))
      + ∑ k : Fin 2048, x1 (ix2 (j 0) k) * x3 (ix2 k (j 1))) := by
  unfold out0_5
  rw [View.canon_unit_zero hz]
  unfold_payloads
  pointwise

/-- Where each window's tile lies at a grid point. -/
theorem index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = win0_5.index t (1 : Fin 2)
    ∧ win0_3.index t (0 : Fin 2) = 1 ∧ win0_3.index t (1 : Fin 2) = win0_5.index t (1 : Fin 2)
    ∧ win0_4.index t (0 : Fin 2) = win0_5.index t (0 : Fin 2) ∧ win0_4.index t (1 : Fin 2) = win0_5.index t (1 : Fin 2)
    ∧ win0_5.index t (0 : Fin 2) = t.val / 4 ∧ win0_5.index t (1 : Fin 2) = t.val % 4 :=
  (by decide +kernel : ∀ t : Fin grid0.N, _)

/-- The weight as the region finds it: the argument in the narrower format, which over the reals is the argument. -/
theorem V_weight (c : Dev nD) : V m c main_v0 = m ((c : Thread nD τ).loc main_arg2) := by
  have h : @Eq (FVec Ideal S4096x4096 .bf16) (V m c main_v0)
      (truncf (F := Ideal) (s := S4096x4096) .bf16 (m ((c : Thread nD τ).loc main_arg2)) bitsLt_bf16_f32) := by
    simp only [V, hostOps0]; after_results
  exact h

/-- The body's result on tiles read out of whole arrays is `G` of the arrays, where the tiles' elements sit as they should. -/
theorem out_tile (a b : FVec Ideal S16384x2048 .bf16) (w : FVec Ideal S4096x4096 .bf16) (x : FVec Ideal S16384x4096 .f32)
    (ea eb : S1024x2048.Idx → S16384x2048.Idx) (ewa ewb : S2048x1024.Idx → S4096x4096.Idx) (ex : S1024x1024.Idx → S16384x4096.Idx)
    (j : S1024x1024.Idx) (i : S16384x4096.Idx) (hx : ex j = i)
    (ha : ∀ k : Fin 2048, ea (ix2 (j 0) k) = ix2 (i 0) k) (hb : ∀ k : Fin 2048, eb (ix2 (j 0) k) = ix2 (i 0) k)
    (hwa : ∀ k : Fin 2048, ewa (ix2 k (j 1)) = ix2 ⟨k.val, by have := k.isLt; omega⟩ (i 1))
    (hwb : ∀ k : Fin 2048, ewb (ix2 k (j 1)) = ix2 ⟨2048 + k.val, by have := k.isLt; omega⟩ (i 1)) :
    out0_5 (F := Ideal) (fun y => a (ea y)) (fun y => b (eb y)) (fun y => w (ewa y)) (fun y => w (ewb y)) (fun y => x (ex y)) j = G a b w x i := by
  refine (out_apply _ _ _ _ _ j).trans ?_
  unfold G
  simp only [hx, ha, hb, hwa, hwb]
  rfl

/-- What a grid point writes back is its tile of `G` of the arguments. -/
theorem flushed5_eq (c : Dev nD) (t : Fin cfg0.N) :
    (dats m 0 c).flushed 5 t = ((cfg0.win 5).blk t).view.read (Elt Ideal)
      (G (m ((c : Thread nD τ).loc main_arg0)) (m ((c : Thread nD τ).loc main_arg1))
        (m ((c : Thread nD τ).loc main_arg2)) (m ((c : Thread nD τ).loc main_arg3))) := by
  rw [flushed5, ← V_main_arg0 m c, ← V_main_arg1 m c, ← V_main_arg3 m c, ← V_weight m c]
  obtain ⟨e00, e01, e10, e11, e20, e21, e30, e31, e40, e41, e50, e51⟩ := index_facts t
  funext j
  refine out_tile (V m c main_arg0) (V m c main_arg1) (V m c main_v0) (V m c main_arg3)
    ((cfg0.win 0).blk t).view.emb ((cfg0.win 1).blk t).view.emb ((cfg0.win 2).blk t).view.emb ((cfg0.win 3).blk t).view.emb
    ((cfg0.win 4).blk t).view.emb j (((cfg0.win 5).blk t).view.emb j) ?_ (fun k => ?_) (fun k => ?_) (fun k => ?_) (fun k => ?_)
  · funext a; apply Fin.ext
    match a with
    | ⟨0, _⟩ => show win0_4.index t (0 : Fin 2) * 1024 + 1 * (j 0).val = win0_5.index t (0 : Fin 2) * 1024 + 1 * (j 0).val; omega
    | ⟨1, _⟩ => show win0_4.index t (1 : Fin 2) * 1024 + 1 * (j 1).val = win0_5.index t (1 : Fin 2) * 1024 + 1 * (j 1).val; omega
  · funext a; apply Fin.ext
    match a with
    | ⟨0, _⟩ => show win0_0.index t (0 : Fin 2) * 1024 + 1 * (j 0).val = win0_5.index t (0 : Fin 2) * 1024 + 1 * (j 0).val; omega
    | ⟨1, _⟩ => show win0_0.index t (1 : Fin 2) * 2048 + 1 * k.val = k.val; omega
  · funext a; apply Fin.ext
    match a with
    | ⟨0, _⟩ => show win0_1.index t (0 : Fin 2) * 1024 + 1 * (j 0).val = win0_5.index t (0 : Fin 2) * 1024 + 1 * (j 0).val; omega
    | ⟨1, _⟩ => show win0_1.index t (1 : Fin 2) * 2048 + 1 * k.val = k.val; omega
  · funext a; apply Fin.ext
    match a with
    | ⟨0, _⟩ => show win0_2.index t (0 : Fin 2) * 2048 + 1 * k.val = k.val; omega
    | ⟨1, _⟩ => show win0_2.index t (1 : Fin 2) * 1024 + 1 * (j 1).val = win0_5.index t (1 : Fin 2) * 1024 + 1 * (j 1).val; omega
  · funext a; apply Fin.ext
    match a with
    | ⟨0, _⟩ => show win0_3.index t (0 : Fin 2) * 2048 + 1 * k.val = 2048 + k.val; omega
    | ⟨1, _⟩ => show win0_3.index t (1 : Fin 2) * 1024 + 1 * (j 1).val = win0_5.index t (1 : Fin 2) * 1024 + 1 * (j 1).val; omega

/-- Every element of the result lies in some grid point's tile. -/
theorem covered5 (i : S16384x4096.Idx) :
    ∃ t : Fin cfg0.N, (cfg0.win 5).flush t = true ∧ i ∈ ((cfg0.win 5).blk t).view.set := by
  have h0 : (i 0).val < 16384 := (i 0).isLt
  have h1 : (i 1).val < 4096 := (i 1).isLt
  have hN : cfg0.N = 64 := by decide
  let t : Fin cfg0.N := ⟨(i 0).val / 1024 * 4 + (i 1).val / 1024, by omega⟩
  have ht : t.val = (i 0).val / 1024 * 4 + (i 1).val / 1024 := rfl
  refine ⟨t, flush0_5 t, ?_⟩
  obtain ⟨-, -, -, -, -, -, -, -, -, -, e0, e1⟩ := index_facts t
  have h := ((cfg0.win 5).blk t).view.emb_mem_set
    (ix2 (n0 := 1024) (n1 := 1024) ⟨(i 0).val % 1024, Nat.mod_lt _ (by norm_num)⟩ ⟨(i 1).val % 1024, Nat.mod_lt _ (by norm_num)⟩)
  have e : ((cfg0.win 5).blk t).view.emb
      (ix2 (n0 := 1024) (n1 := 1024) ⟨(i 0).val % 1024, Nat.mod_lt _ (by norm_num)⟩ ⟨(i 1).val % 1024, Nat.mod_lt _ (by norm_num)⟩) = i := by
    funext a; apply Fin.ext
    match a with
    | ⟨0, _⟩ => show win0_5.index t (0 : Fin 2) * 1024 + 1 * ((i 0).val % 1024) = (i 0).val; omega
    | ⟨1, _⟩ => show win0_5.index t (1 : Fin 2) * 1024 + 1 * ((i 1).val % 1024) = (i 1).val; omega
  rwa [e] at h

/-- The result array after the run. -/
theorem final5 (c : Dev nD) : (dats m 0 c).arrAt 5 cfg0.N
    = G (m ((c : Thread nD τ).loc main_arg0)) (m ((c : Thread nD τ).loc main_arg1))
        (m ((c : Thread nD τ).loc main_arg2)) (m ((c : Thread nD τ).loc main_arg3)) :=
  (dats m 0 c).arrAt_eq_of_cover 5 _ (fun t _ => flushed5_eq m c t) covered5

/-- The reference's result is the same function: one product over both mixers' columns, cut at the second's first. -/
theorem ref_eq (a b : FVec Ideal S16384x2048 .bf16) (w : FVec Ideal S4096x4096 .f32) (x : FVec Ideal S16384x4096 .f32) :
    addf x (Host.dotGeneral Cert.Reference2Ideal.dot_S16384x4096_S4096x4096_S16384x4096_1_0_0_1_n_n none
      (extf .f32 (concatenate Cert.Reference2Ideal.S16384x4096 1 [⟨Cert.Reference2Ideal.S16384x2048, a⟩, ⟨Cert.Reference2Ideal.S16384x2048, b⟩]
        Cert.Reference2Ideal.Facts₀.concatenates_S16384x2048_S16384x2048_S16384x4096_d1) Cert.Reference2Ideal.Facts₀.bitsLt_bf16_f32) w) = G a b w x := by
  funext i
  pointwise [G]

open Cert in
/-- The kernel's and the reference's runs end with equal results. -/
theorem algebraic (hK : Cert.Kernel2Ideal.Facts) (hR : Cert.Reference2Ideal.Facts) :
    algebraic_Kernel2Ideal_Reference2Ideal (hKernel2Ideal := hK) (hReference2Ideal := hR) := by
  intro m g m' g' _ hagree
  refine ⟨fun c => G (m ((c : Thread nD τ).loc main_arg0)) (m ((c : Thread nD τ).loc main_arg1))
        (m ((c : Thread nD τ).loc main_arg2)) (m ((c : Thread nD τ).loc main_arg3)),
    (θ_run defs _ _).mono (fun r h c => ⟨(h c).1.trans (final5 m c), (h c).2⟩) (run_blocks m g),
    (θ_run Cert.Reference2Ideal.defs _ _).mono (fun r h c => ⟨(h c).1.trans ?_, (h c).2⟩) (Cert.Reference2Ideal.Value.run m' g')⟩
  obtain ⟨h0, h1, h2, h3⟩ := hagree c
  rw [h0, h1, h2, h3]
  exact ref_eq _ _ _ _

end Cert.Proof.OutProj

end
-- ==== Proof.Chunk.lean ====
/- The gated recurrence of one head of the mLSTM over the reals in closed form, and one chunk of the chunkwise algorithm
   over the extended reals: a chunk of any length takes the closed form at its first token to the closed form at its end,
   and its outputs are the closed form's. Two chunkings of one sequence therefore compute the same outputs. -/
module

public import Idealize.ShloMosaic.Lib.Pointwise

@[expose] public section

noncomputable section

namespace Cert.Proof.Chunk

open Idealize.ShloMosaic

/-- The inclusion of the reals in the extended reals carries sums to sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals in the extended reals carries the larger of two to the larger of two. -/
theorem coe_max (a b : ℝ) : ((max a b : ℝ) : EReal) = max (a : EReal) (b : EReal) :=
  EReal.coe_strictMono.monotone.map_max

/-! ## The closed form over the reals -/

/-- One head's streams: the input gate, the logarithm of the forget gate, and the query, key and value rows. -/
structure Streams (D E : ℕ) where
  ig : ℕ → ℝ
  lf : ℕ → ℝ
  q : ℕ → Fin D → ℝ
  k : ℕ → Fin D → ℝ
  v : ℕ → Fin E → ℝ

variable {D E : ℕ} (S : Streams D E)

/-- The forget gates' logarithms summed over the first `t` tokens. -/
def G (t : ℕ) : ℝ := ∑ s ∈ Finset.range t, S.lf s

/-- The stabilizer after `t` tokens. -/
def M : ℕ → ℝ
  | 0 => 0
  | t + 1 => max (M t + S.lf t) (S.ig t)

/-- The weight of token `s` in the state after `t` tokens. -/
def W (t s : ℕ) : ℝ := Real.exp (G S t - G S (s + 1) + S.ig s - M S t)

/-- The matrix memory after `t` tokens. -/
def C (t : ℕ) (d : Fin D) (e : Fin E) : ℝ := ∑ s ∈ Finset.range t, W S t s * S.k s d * S.v s e

/-- The normalizer memory after `t` tokens. -/
def N (t : ℕ) (d : Fin D) : ℝ := ∑ s ∈ Finset.range t, W S t s * S.k s d

/-- The product of the query of token `t` with the key of token `s`. -/
def QK (t s : ℕ) : ℝ := ∑ d, S.q t d * S.k s d

/-- The numerator of token `t`'s output. -/
def num (t : ℕ) (e : Fin E) : ℝ := ∑ s ∈ Finset.range (t + 1), QK S t s * W S (t + 1) s * S.v s e

/-- The denominator of token `t`'s output before it is bounded below. -/
def den (t : ℕ) : ℝ := ∑ s ∈ Finset.range (t + 1), QK S t s * W S (t + 1) s

/-- Token `t`'s output. -/
def out (t : ℕ) (e : Fin E) : ℝ := num S t e / max (max (den S t) (-den S t)) (Real.exp (-M S (t + 1)))

/-- The running sum of the log forget gates takes one more token. -/
theorem G_succ (t : ℕ) : G S (t + 1) = G S t + S.lf t := Finset.sum_range_succ _ _

/-- The stabilizer takes one more token: the larger of the decayed stabilizer and the token's input gate. -/
theorem M_succ (t : ℕ) : M S (t + 1) = max (M S t + S.lf t) (S.ig t) := rfl

/-- The stabilizer `n` tokens on bounds the decayed stabilizer and every decayed input gate since, and is one of them. -/
theorem M_char (T n : ℕ) : (G S (T + n) - G S T + M S T ≤ M S (T + n)) ∧
    (∀ j < n, G S (T + n) - G S (T + j + 1) + S.ig (T + j) ≤ M S (T + n)) ∧
    (M S (T + n) = G S (T + n) - G S T + M S T ∨
      ∃ j < n, M S (T + n) = G S (T + n) - G S (T + j + 1) + S.ig (T + j)) := by
  induction n with
  | zero => simp
  | succ n ih =>
    obtain ⟨h1, h2, h3⟩ := ih
    have hM : M S (T + (n + 1)) = max (M S (T + n) + S.lf (T + n)) (S.ig (T + n)) := M_succ S (T + n)
    have hG : G S (T + (n + 1)) = G S (T + n) + S.lf (T + n) := G_succ S (T + n)
    have l1 := le_max_left (M S (T + n) + S.lf (T + n)) (S.ig (T + n))
    have l2 := le_max_right (M S (T + n) + S.lf (T + n)) (S.ig (T + n))
    have hG' : G S (T + n + 1) = G S (T + n) + S.lf (T + n) := G_succ S (T + n)
    refine ⟨by linarith, fun j hj => ?_, ?_⟩
    · rcases Nat.lt_succ_iff_lt_or_eq.mp hj with hj | rfl
      · have := h2 j hj; linarith
      · linarith
    · rcases le_total (M S (T + n) + S.lf (T + n)) (S.ig (T + n)) with h | h
      · right
        refine ⟨n, Nat.lt_succ_self n, ?_⟩
        rw [hM, max_eq_right h]; linarith
      · rw [hM, max_eq_left h]
        rcases h3 with h3 | ⟨j, hj, h3⟩
        · left; linarith
        · right; exact ⟨j, Nat.lt_succ_of_lt hj, by linarith⟩

/-- A decayed weight is the later weight. -/
theorem W_decay (T t s : ℕ) : Real.exp (G S t - G S T + M S T - M S t) * W S T s = W S t s := by
  unfold W; rw [← Real.exp_add]; congr 1; ring

/-- A sum over the first `T + n` tokens is that over the first `T` and that over the next `n`. -/
theorem sum_range_chunk (T n : ℕ) (f : ℕ → ℝ) :
    ∑ s ∈ Finset.range (T + n), f s = ∑ s ∈ Finset.range T, f s + ∑ j ∈ Finset.range n, f (T + j) :=
  Finset.sum_range_add _ _ _

/-- A sum over a chunk's rows up to `i` is a sum over all of them of the terms up to `i`. -/
theorem sum_fin_le {L : ℕ} (i : Fin L) (f : ℕ → ℝ) :
    ∑ j : Fin L, (if j ≤ i then f j else 0) = ∑ j ∈ Finset.range (i.val + 1), f j := by
  have h := Fin.sum_univ_eq_sum_range (fun j => if j ≤ i.val then f j else 0) L
  refine (Finset.sum_congr rfl fun j _ => ?_).trans (h.trans ?_)
  · simp only [Fin.le_def]
  · rw [← Finset.sum_filter]
    refine Finset.sum_congr ?_ fun _ _ => rfl
    ext j; simp only [Finset.mem_filter, Finset.mem_range]; omega

/-- The matrix memory after a chunk: the decayed memory and the chunk's weighted products. -/
theorem C_chunk (T L : ℕ) (d : Fin D) (e : Fin E) :
    Real.exp (G S (T + L) - G S T + M S T - M S (T + L)) * C S T d e
      + ∑ j : Fin L, W S (T + L) (T + j) * S.k (T + j) d * S.v (T + j) e = C S (T + L) d e := by
  unfold C
  rw [sum_range_chunk, Finset.mul_sum,
    ← Fin.sum_univ_eq_sum_range (fun j => W S (T + L) (T + j) * S.k (T + j) d * S.v (T + j) e)]
  congr 1
  refine Finset.sum_congr rfl fun s _ => ?_
  rw [← W_decay S T (T + L) s]; ring

/-- The normalizer memory after a chunk. -/
theorem N_chunk (T L : ℕ) (d : Fin D) :
    Real.exp (G S (T + L) - G S T + M S T - M S (T + L)) * N S T d
      + ∑ j : Fin L, W S (T + L) (T + j) * S.k (T + j) d = N S (T + L) d := by
  unfold N
  rw [sum_range_chunk, Finset.mul_sum,
    ← Fin.sum_univ_eq_sum_range (fun j => W S (T + L) (T + j) * S.k (T + j) d)]
  congr 1
  refine Finset.sum_congr rfl fun s _ => ?_
  rw [← W_decay S T (T + L) s]; ring

/-- Row `i`'s numerator in a chunk: the memory's part and the chunk's own. -/
theorem num_chunk (T : ℕ) {L : ℕ} (i : Fin L) (e : Fin E) :
    Real.exp (G S (T + i + 1) - G S T + M S T - M S (T + i + 1)) * (∑ d, S.q (T + i) d * C S T d e)
      + ∑ j : Fin L, (QK S (T + i) (T + j) * (if j ≤ i then W S (T + i + 1) (T + j) else 0)) * S.v (T + j) e
      = num S (T + i) e := by
  unfold num
  rw [show T + i.val + 1 = T + (i.val + 1) from rfl, sum_range_chunk]
  congr 1
  · simp only [C, Finset.mul_sum]
    rw [Finset.sum_comm]
    refine Finset.sum_congr rfl fun s _ => ?_
    rw [← W_decay S T (T + (i.val + 1)) s, QK, Finset.sum_mul, Finset.sum_mul]
    refine Finset.sum_congr rfl fun d _ => ?_
    ring
  · rw [← sum_fin_le i (fun j => QK S (T + i) (T + j) * W S (T + (i + 1)) (T + j) * S.v (T + j) e)]
    refine Finset.sum_congr rfl fun j _ => ?_
    split <;> ring

/-- Row `i`'s denominator in a chunk. -/
theorem den_chunk (T : ℕ) {L : ℕ} (i : Fin L) :
    Real.exp (G S (T + i + 1) - G S T + M S T - M S (T + i + 1)) * (∑ d, S.q (T + i) d * N S T d)
      + ∑ j : Fin L, (QK S (T + i) (T + j) * (if j ≤ i then W S (T + i + 1) (T + j) else 0))
      = den S (T + i) := by
  unfold den
  rw [show T + i.val + 1 = T + (i.val + 1) from rfl, sum_range_chunk]
  congr 1
  · simp only [N, Finset.mul_sum]
    rw [Finset.sum_comm]
    refine Finset.sum_congr rfl fun s _ => ?_
    rw [← W_decay S T (T + (i.val + 1)) s, QK, Finset.sum_mul]
    refine Finset.sum_congr rfl fun d _ => ?_
    ring
  · rw [← sum_fin_le i (fun j => QK S (T + i) (T + j) * W S (T + (i + 1)) (T + j))]
    refine Finset.sum_congr rfl fun j _ => ?_
    split <;> ring

/-! ## One chunk over the extended reals -/

section EChunk
variable {L : ℕ}

/-- The masked logarithm of row `j`'s weight at row `i`. -/
def dlog (b ig : Fin L → EReal) (i j : Fin L) : EReal := if j ≤ i then b i - b j + ig j else ⊥

/-- Row `i`'s stabilizer. -/
def mrow (b ig : Fin L → EReal) (m : EReal) (i : Fin L) : EReal :=
  max (b i + m) (Finset.univ.fold max ⊥ fun j => dlog b ig i j)

/-- Row `i`'s weight of the memory. -/
def inter (b ig : Fin L → EReal) (m : EReal) (i : Fin L) : EReal := Ideal.exp (b i + m - mrow b ig m i)

/-- The weighted product of row `i`'s query and row `j`'s key. -/
def sm (b ig : Fin L → EReal) (m : EReal) (qk : Fin L → Fin L → EReal) (i j : Fin L) : EReal :=
  qk i j * Ideal.exp (dlog b ig i j - mrow b ig m i)

/-- Row `i`'s output. -/
def hh (b ig : Fin L → EReal) (m : EReal) (qk : Fin L → Fin L → EReal) (q : Fin L → Fin D → EReal)
    (v : Fin L → Fin E → EReal) (c : Fin D → Fin E → EReal) (n : Fin D → EReal) (i : Fin L) (e : Fin E) : EReal :=
  Ideal.div (inter b ig m i * (∑ d, q i d * c d e) + ∑ j, sm b ig m qk i j * v j e)
    (max (max (inter b ig m i * (∑ d, q i d * n d) + ∑ j, sm b ig m qk i j)
        (-(inter b ig m i * (∑ d, q i d * n d) + ∑ j, sm b ig m qk i j)))
      (Ideal.exp (-(mrow b ig m i))))

/-- The stabilizer after the chunk, of the gates' sum `bl` over it. -/
def mnew (bl : EReal) (b ig : Fin L → EReal) (m : EReal) : EReal :=
  max (bl + m) (Finset.univ.fold max ⊥ fun j => bl - b j + ig j)

/-- Row `j`'s weight in the memory after the chunk. -/
def wtail (bl : EReal) (b ig : Fin L → EReal) (m : EReal) (j : Fin L) : EReal :=
  Ideal.exp (bl - b j + ig j - mnew bl b ig m)

/-- The memory's decay over the chunk. -/
def decay (bl : EReal) (b ig : Fin L → EReal) (m : EReal) : EReal := Ideal.exp (bl + m - mnew bl b ig m)

/-- The matrix memory after the chunk. -/
def cnew (bl : EReal) (b ig : Fin L → EReal) (m : EReal) (k : Fin L → Fin D → EReal)
    (v : Fin L → Fin E → EReal) (c : Fin D → Fin E → EReal) (d : Fin D) (e : Fin E) : EReal :=
  decay bl b ig m * c d e + ∑ j, (k j d * wtail bl b ig m j) * v j e

/-- The normalizer memory after the chunk. -/
def nnew (bl : EReal) (b ig : Fin L → EReal) (m : EReal) (k : Fin L → Fin D → EReal) (n : Fin D → EReal)
    (d : Fin D) : EReal :=
  decay bl b ig m * n d + ∑ j, k j d * wtail bl b ig m j

variable (T : ℕ) {b ig : Fin L → EReal} {m : EReal} {qk : Fin L → Fin L → EReal} {q k : Fin L → Fin D → EReal}
  {v : Fin L → Fin E → EReal} {c : Fin D → Fin E → EReal} {n : Fin D → EReal} {bl : EReal}
  (hb : ∀ i : Fin L, b i = ((G S (T + i + 1) - G S T : ℝ) : EReal))
  (hig : ∀ i : Fin L, ig i = ((S.ig (T + i) : ℝ) : EReal))
  (hm : m = ((M S T : ℝ) : EReal))
  (hqk : ∀ i j : Fin L, qk i j = ((QK S (T + i) (T + j) : ℝ) : EReal))
  (hq : ∀ i d, q i d = ((S.q (T + i.val) d : ℝ) : EReal))
  (hk : ∀ i d, k i d = ((S.k (T + i.val) d : ℝ) : EReal))
  (hv : ∀ i e, v i e = ((S.v (T + i.val) e : ℝ) : EReal))
  (hc : ∀ d e, c d e = ((C S T d e : ℝ) : EReal))
  (hn : ∀ d, n d = ((N S T d : ℝ) : EReal))
  (hbl : bl = ((G S (T + L) - G S T : ℝ) : EReal))

include hb hig in
/-- A row's masked logarithm is real where it is not masked. -/
theorem dlog_eq (i j : Fin L) : dlog b ig i j
    = if j ≤ i then ((G S (T + i + 1) - G S (T + j + 1) + S.ig (T + j) : ℝ) : EReal) else ⊥ := by
  unfold dlog
  rw [hb, hb, hig, ← EReal.coe_sub, ← EReal.coe_add]
  congr 3; ring

include hb hig hm in
/-- A row's stabilizer is the closed form's. -/
theorem mrow_eq (i : Fin L) : mrow b ig m i = ((M S (T + i + 1) : ℝ) : EReal) := by
  obtain ⟨h1, h2, h3⟩ := M_char S T (i.val + 1)
  rw [show T + (i.val + 1) = T + i.val + 1 from rfl] at h1 h2 h3
  unfold mrow
  simp only [dlog_eq S T hb hig]
  rw [hb, hm, ← EReal.coe_add]
  apply le_antisymm
  · refine max_le (EReal.coe_le_coe_iff.mpr h1) ((Finset.fold_max_le _).mpr ⟨bot_le, fun j _ => ?_⟩)
    split
    · rename_i h
      exact EReal.coe_le_coe_iff.mpr (h2 j (Nat.lt_succ_of_le h))
    · exact bot_le
  · rcases h3 with h3 | ⟨j, hj, h3⟩
    · exact le_max_of_le_left (EReal.coe_le_coe_iff.mpr h3.le)
    · refine le_max_of_le_right ((Finset.le_fold_max _).mpr (Or.inr ⟨⟨j, by omega⟩, Finset.mem_univ _, ?_⟩))
      rw [if_pos (by rw [Fin.le_def]; show j ≤ i.val; omega)]
      exact EReal.coe_le_coe_iff.mpr h3.le

include hb hig hm in
/-- The weight of the carried memory at row `i`, in closed form. -/
theorem inter_eq (i : Fin L) : inter b ig m i
    = ((Real.exp (G S (T + i + 1) - G S T + M S T - M S (T + i + 1)) : ℝ) : EReal) := by
  unfold inter
  rw [mrow_eq S T hb hig hm, hb, hm, ← EReal.coe_add, ← EReal.coe_sub, Ideal.exp_coe]

include hb hig hm hqk in
/-- The weighted score of row `i` against row `j`, in closed form: zero above the diagonal. -/
theorem sm_eq (i j : Fin L) : sm b ig m qk i j
    = ((QK S (T + i) (T + j) * (if j ≤ i then W S (T + i + 1) (T + j) else 0) : ℝ) : EReal) := by
  unfold sm
  rw [dlog_eq S T hb hig, mrow_eq S T hb hig hm, hqk]
  split
  · rw [← EReal.coe_sub, Ideal.exp_coe, ← EReal.coe_mul]; rfl
  · rw [EReal.bot_sub, show Ideal.exp ⊥ = 0 from rfl, mul_zero, mul_zero, EReal.coe_zero]

include hb hig hm hqk hq hv hc hn in
/-- A row's output is the closed form's. -/
theorem hh_eq (i : Fin L) (e : Fin E) : hh b ig m qk q v c n i e = ((out S (T + i) e : ℝ) : EReal) := by
  unfold hh
  simp only [inter_eq S T hb hig hm, mrow_eq S T hb hig hm, sm_eq S T hb hig hm hqk, hq, hv, hc, hn,
    ← EReal.coe_mul, ← coe_sum, ← EReal.coe_add, num_chunk, den_chunk, ← EReal.coe_neg, Ideal.exp_coe, ← coe_max]
  rw [Ideal.div_coe (lt_of_lt_of_le (Real.exp_pos _) (le_max_right _ _)).ne', ← EReal.coe_mul, out, mul_one_div]

include hb hig hm hbl in
/-- The stabilizer after the chunk is the closed form's. -/
theorem mnew_eq : mnew bl b ig m = ((M S (T + L) : ℝ) : EReal) := by
  obtain ⟨h1, h2, h3⟩ := M_char S T L
  unfold mnew
  have hd : ∀ j : Fin L, bl - b j + ig j = ((G S (T + L) - G S (T + j + 1) + S.ig (T + j) : ℝ) : EReal) := fun j => by
    rw [hb, hig, hbl, ← EReal.coe_sub, ← EReal.coe_add]; congr 2; ring
  simp only [hd]
  rw [hbl, hm, ← EReal.coe_add]
  apply le_antisymm
  · refine max_le (EReal.coe_le_coe_iff.mpr h1) ((Finset.fold_max_le _).mpr ⟨bot_le, fun j _ => ?_⟩)
    exact EReal.coe_le_coe_iff.mpr (h2 j j.isLt)
  · rcases h3 with h3 | ⟨j, hj, h3⟩
    · exact le_max_of_le_left (EReal.coe_le_coe_iff.mpr h3.le)
    · exact le_max_of_le_right ((Finset.le_fold_max _).mpr
        (Or.inr ⟨⟨j, hj⟩, Finset.mem_univ _, EReal.coe_le_coe_iff.mpr h3.le⟩))

include hb hig hm hbl in
/-- The weight of the carried memory over the whole chunk, in closed form. -/
theorem decay_eq : decay bl b ig m
    = ((Real.exp (G S (T + L) - G S T + M S T - M S (T + L)) : ℝ) : EReal) := by
  unfold decay
  rw [mnew_eq S T hb hig hm hbl, hbl, hm, ← EReal.coe_add, ← EReal.coe_sub, Ideal.exp_coe]

include hb hig hm hbl in
/-- The weight row `j` has in the memory after the chunk, in closed form. -/
theorem wtail_eq (j : Fin L) : wtail bl b ig m j = ((W S (T + L) (T + j) : ℝ) : EReal) := by
  unfold wtail
  rw [mnew_eq S T hb hig hm hbl, hb, hig, hbl, ← EReal.coe_sub, ← EReal.coe_add, ← EReal.coe_sub, Ideal.exp_coe, W]
  congr 3; ring

include hb hig hm hbl hk hv hc in
/-- The matrix memory after the chunk is the closed form's. -/
theorem cnew_eq (d : Fin D) (e : Fin E) : cnew bl b ig m k v c d e = ((C S (T + L) d e : ℝ) : EReal) := by
  unfold cnew
  simp only [decay_eq S T hb hig hm hbl, wtail_eq S T hb hig hm hbl, hk, hv, hc, ← EReal.coe_mul, ← coe_sum,
    ← EReal.coe_add]
  rw [← C_chunk S T L d e]
  simp only [mul_comm (S.k _ _)]

include hb hig hm hbl hk hn in
/-- The normalizer memory after the chunk is the closed form's. -/
theorem nnew_eq (d : Fin D) : nnew bl b ig m k n d = ((N S (T + L) d : ℝ) : EReal) := by
  unfold nnew
  simp only [decay_eq S T hb hig hm hbl, wtail_eq S T hb hig hm hbl, hk, hn, ← EReal.coe_mul, ← coe_sum,
    ← EReal.coe_add]
  rw [← N_chunk S T L d]
  simp only [mul_comm (S.k _ _)]

end EChunk

/-- Before the first token the state is zero. -/
theorem start : M S 0 = 0 ∧ (∀ d e, C S 0 d e = 0) ∧ ∀ d, N S 0 d = 0 := by
  refine ⟨rfl, fun d e => ?_, fun d => ?_⟩ <;> simp [C, N]

end Cert.Proof.Chunk

end
-- ==== Proof.MixerStreams.lean ====
/- The mLSTM mixer's streams: what each head of each sequence reads of the combined projection, the gate columns and the
   gate biases, as reals. -/
module

public import proofs.«01_k».proof.Proof.Chunk

@[expose] public section

set_option maxRecDepth 16384

noncomputable section

namespace Cert.Proof.MixerStreams

open Idealize.ShloMosaic

/-- The combined projection's shape, the gate columns', a gate bias's and the output gain's. -/
abbrev SProj : Shape := ⟨2, ![16384, 10240]⟩
/-- The shape of the gates. -/
abbrev SGate : Shape := ⟨2, ![16384, 128]⟩
/-- The shape of a gate bias. -/
abbrev SBias : Shape := ⟨1, ![4]⟩
/-- The shape of the output norm's gain. -/
abbrev SGain : Shape := ⟨1, ![2048]⟩

/-- Row of token `t` of sequence `B`. -/
def row (B : Fin 4) (t : ℕ) : Fin 16384 := ⟨(B.val * 4096 + t) % 16384, Nat.mod_lt _ (by omega)⟩

/-- The soft cap at 15. -/
def softcap (z : EReal) : EReal :=
  Ideal.ofBits .f32 0x41700000#32 * Ideal.tanh (Ideal.div z (Ideal.ofBits .f32 0x41700000#32))

/-- The logarithm of the logistic function, in its stable form. -/
def logsig (x : EReal) : EReal := -(max (-x) 0 + Ideal.log1p (Ideal.exp (-(max x (-x)))))

/-- The literal 15. -/
theorem lit15 : Ideal.ofBits .f32 0x41700000#32 = ((15 : ℝ) : EReal) := by
  simp [Ideal.ofBits, Ideal.ieee, -EReal.coe_mul]; norm_num

/-- The literal 1/16. -/
theorem lit16 : Ideal.ofBits .f32 0x3D800000#32 = ((1 / 16 : ℝ) : EReal) := by
  simp [Ideal.ofBits, Ideal.ieee, -EReal.coe_mul]; norm_num

/-- A hyperbolic tangent is real. -/
theorem tanh_real (z : EReal) : ∃ r : ℝ, Ideal.tanh z = (r : EReal) := by
  induction z using EReal.rec with
  | bot => exact ⟨-1, by rw [EReal.coe_neg, EReal.coe_one]; rfl⟩
  | coe r => exact ⟨Real.tanh r, rfl⟩
  | top => exact ⟨1, by rw [EReal.coe_one]; rfl⟩

/-- A soft-capped value is real. -/
theorem softcap_real (z : EReal) : softcap z = ((softcap z).toReal : EReal) := by
  obtain ⟨r, hr⟩ := tanh_real (Ideal.div z (Ideal.ofBits .f32 0x41700000#32))
  unfold softcap
  rw [hr, lit15, ← EReal.coe_mul, EReal.toReal_coe]

/-- The logarithm of the logistic function is real at a real. -/
theorem logsig_real (r : ℝ) : logsig r = ((logsig r).toReal : EReal) := by
  unfold logsig Ideal.log1p
  rw [← EReal.coe_neg, ← Chunk.coe_max, ← EReal.coe_neg, Ideal.exp_coe, ← EReal.coe_one, ← EReal.coe_add, Ideal.log_coe,
    if_neg (not_le.mpr (by positivity)), ← EReal.coe_zero, ← Chunk.coe_max, ← EReal.coe_add, ← EReal.coe_neg,
    EReal.toReal_coe]

/-- The streams of head `hd` of sequence `B`. -/
def S (proj : SProj.Idx → EReal) (gate : SGate.Idx → EReal) (ib fb : SBias.Idx → EReal) (B hd : Fin 4) :
    Chunk.Streams 256 512 where
  ig t := (softcap (gate (ix2 (row B t) ⟨hd, by omega⟩) + ib (ix1 hd))).toReal
  lf t := (logsig (softcap (gate (ix2 (row B t) ⟨4 + hd, by omega⟩) + fb (ix1 hd)))).toReal
  q t d := (proj (ix2 (row B t) ⟨4096 + (hd * 256 + d), by omega⟩)).toReal
  k t d := (proj (ix2 (row B t) ⟨5120 + (hd * 256 + d), by omega⟩)).toReal * (1 / 16)
  v t e := (proj (ix2 (row B t) ⟨6144 + (hd * 512 + e), by omega⟩)).toReal

/-- The queries, keys and values are real. -/
def Finite (proj : SProj.Idx → EReal) : Prop :=
  ∀ (r : Fin 16384) (c : Fin 10240), 4096 ≤ c.val → c.val < 8192 → proj (ix2 r c) = ((proj (ix2 r c)).toReal : EReal)

/-- The head's output at a row. -/
def hval (proj : SProj.Idx → EReal) (gate : SGate.Idx → EReal) (ib fb : SBias.Idx → EReal) (r : Fin 16384) (hd : Fin 4)
    (e : Fin 512) : EReal :=
  ((Chunk.out (S proj gate ib fb ⟨r.val / 4096, by omega⟩ hd) (r.val % 4096) e : ℝ) : EReal)

/-- The head's output after its normalisation, its weight `g` and the output gate `o`. -/
def tail (h : Fin 512 → EReal) (e : Fin 512) (g o : EReal) : EReal :=
  h e * Ideal.rsqrt (Ideal.div (∑ x, h x * h x) (Ideal.ofBits .f32 1140850688#32) + Ideal.ofBits .f32 897988541#32) * g
    * Ideal.div 1 (1 + Ideal.exp (-o))

/-- The mixer's result at a row and a column. -/
def mix (proj : SProj.Idx → EReal) (gate : SGate.Idx → EReal) (ib fb : SBias.Idx → EReal) (og : SGain.Idx → EReal)
    (r : Fin 16384) (l : Fin 2048) : EReal :=
  tail (hval proj gate ib fb r ⟨l.val / 512, by omega⟩) ⟨l.val % 512, Nat.mod_lt _ (by omega)⟩ (og (ix1 l))
    (proj (ix2 r ⟨8192 + l, by omega⟩))

/-- A masked sum of a chunk's forget gates is the difference of the sums to its end and to its start. -/
theorem bcum_eq {D E : ℕ} (S : Chunk.Streams D E) (T : ℕ) {L : ℕ} (lf : Fin L → EReal)
    (h : ∀ i : Fin L, lf i = ((S.lf (T + i) : ℝ) : EReal)) (i : Fin L) :
    (∑ k : Fin L, if k ≤ i then lf k else 0) = ((Chunk.G S (T + i + 1) - Chunk.G S T : ℝ) : EReal) := by
  have h1 : (∑ k : Fin L, if k ≤ i then lf k else 0) = ∑ k : Fin L, (((if k ≤ i then S.lf (T + k) else 0 : ℝ)) : EReal) :=
    Finset.sum_congr rfl fun k _ => by split <;> simp [h]
  rw [h1, ← Chunk.coe_sum, Chunk.sum_fin_le i (fun k => S.lf (T + k))]
  congr 1
  unfold Chunk.G
  have h2 := Chunk.sum_range_chunk T (i.val + 1) S.lf
  rw [show T + i.val + 1 = T + (i.val + 1) from rfl, h2, add_sub_cancel_left]

end Cert.Proof.MixerStreams

end
-- ==== Proof.Head.lean ====
/- One head's share of the mLSTM kernel's body, as functions of what it loads, and what each is at an index. -/
module

public import proofs.«01_k».proof.Proof.Gen.KernelIdeal.Skeleton
public import proofs.«01_k».proof.Proof.MixerStreams
public import Idealize.ShloMosaic.Lib.Pointwise

@[expose] public section

set_option maxRecDepth 16384

noncomputable section

namespace Cert.Proof.Head

open Idealize Idealize.ShloMosaic Cert.KernelIdeal Cert.KernelIdeal.Gen MixerStreams

section defs
variable {F : FTy → Type} [FloatOps F]
variable (bc igc : FVec F S256x1 .f32) (br igr : FVec F S1x256 .f32) (m : Vec F S1x1x1 .f32) (q k : Vec F S256x256 .bf16)
  (v : Vec F S256x512 .bf16) (c : Vec F S1x256x512 .f32) (n : Vec F S1x1x256 .f32) (g : Vec F S1x512 .f32) (o : Vec F S256x512 .bf16)

/-- The stabilizer before the chunk. -/
def mold : FVec F S1x1 .f32 := shapeCast S1x1 m shapeCasts_S1x1x1_S1x1
/-- The masked logarithms of the chunk's weights. -/
def dlog : FVec F S256x256 .f32 :=
  select k0_pay7 (addf (subf (broadcastTo S256x256 bc broadcasts_S256x1_S256x256) (broadcastTo S256x256 br broadcasts_S1x256_S256x256))
    (broadcastTo S256x256 igr broadcasts_S1x256_S256x256)) (broadcast S256x256 (Scalar.ofBits .f32 0xFF800000#32))
/-- The logarithm of the memory's weight. -/
def inter : FVec F S256x1 .f32 := addf bc (broadcastTo S256x1 (mold m) broadcasts_S1x1_S256x1)
/-- The stabilizer of a row. -/
def mrow : FVec F S256x1 .f32 :=
  maximumf (inter bc m) (shapeCast S256x1 (multiReduction .maximumf [1] S256 (dlog bc br igr) 0xFF800000#32 reduces_S256x256_S256 (.inl rfl) rfl)
    shapeCasts_S256_S256x1)
/-- The memory's weight. -/
def winter : FVec F S256x1 .f32 := exp (subf (inter bc m) (mrow bc br igr m))
/-- The weighted products of queries and keys. -/
def sm : FVec F S256x256 .f32 :=
  mulf (mulf (matmul dot_S256x256_S256x256_S256x256_1_1_0_0_n_n none q k (constant S256x256 .f32 0x00000000#32))
    (broadcast S256x256 (Scalar.ofBits .f32 0x3D800000#32)))
    (exp (subf (dlog bc br igr) (broadcastTo S256x256 (mrow bc br igr m) broadcasts_S256x1_S256x256)))
/-- The memory before the chunk. -/
def cold : FVec F S256x512 .f32 := shapeCast S256x512 c shapeCasts_S1x256x512_S256x512
/-- The normalizer before the chunk. -/
def nold : FVec F S1x256 .f32 := shapeCast S1x256 n shapeCasts_S1x1x256_S1x256
/-- The rows' normalizers, before the absolute value. -/
def den : FVec F S256x1 .f32 :=
  addf (mulf (winter bc br igr m) (shapeCast S256x1 (multiReduction .add [1] S256 (mulf (extf .f32 q bitsLt_bf16_f32)
    (broadcastTo S256x256 (nold n) broadcasts_S1x256_S256x256)) 0x00000000#32 reduces_S256x256_S256 (.inl rfl) rfl) shapeCasts_S256_S256x1))
    (shapeCast S256x1 (multiReduction .add [1] S256 (sm bc br igr m q k) 0x00000000#32 reduces_S256x256_S256 (.inl rfl) rfl)
      shapeCasts_S256_S256x1)
/-- The rows' outputs before their normalisation. -/
def hh : FVec F S256x512 .f32 :=
  divf (addf (mulf (broadcastTo S256x512 (winter bc br igr m) broadcasts_S256x1_S256x512)
      (matmul dot_S256x256_S256x512_S256x512_1_0_0_1_n_n none q (truncf .bf16 (cold c) bitsLt_bf16_f32) (constant S256x512 .f32 0x00000000#32)))
      (matmul dot_S256x256_S256x512_S256x512_1_0_0_1_n_n none (truncf .bf16 (sm bc br igr m q k) bitsLt_bf16_f32) v
        (constant S256x512 .f32 0x00000000#32)))
    (broadcastTo S256x512 (maximumf (absf (den bc br igr m q k n))
      (exp (subf (broadcast S256x1 (Scalar.ofBits .f32 0x00000000#32)) (mrow bc br igr m)))) broadcasts_S256x1_S256x512)
/-- The chunk's whole decay. -/
def blast : FVec F S1x1 .f32 := extractStridedSlice S1x1 ![0, 255] br slices_S1x256_o0_255_S1x1
/-- The logarithms of the rows' weights in the new memory. -/
def wlog : FVec F S256x1 .f32 := addf (subf (broadcastTo S256x1 (blast br) broadcasts_S1x1_S256x1) bc) igc
/-- The stabilizer after the chunk. -/
def mnew : FVec F S1x1 .f32 :=
  maximumf (addf (blast br) (mold m)) (shapeCast S1x1 (multiReduction .maximumf [0] S1 (wlog bc igc br) 0xFF800000#32 reduces_S256x1_S1 (.inl rfl) rfl)
    shapeCasts_S1_S1x1)
/-- The memory's decay. -/
def decay : FVec F S1x1 .f32 := exp (subf (addf (blast br) (mold m)) (mnew bc igc br m))
/-- The weighted keys. -/
def kw : FVec F S256x256 .f32 :=
  mulf (mulf (extf .f32 k bitsLt_bf16_f32) (broadcast S256x256 (Scalar.ofBits .f32 0x3D800000#32)))
    (broadcastTo S256x256 (exp (subf (wlog bc igc br) (broadcastTo S256x1 (mnew bc igc br m) broadcasts_S1x1_S256x1))) broadcasts_S256x1_S256x256)
/-- The memory after the chunk. -/
def cnew : FVec F S1x256x512 .f32 :=
  shapeCast S1x256x512 (addf (mulf (broadcastTo S256x512 (decay bc igc br m) broadcasts_S1x1_S256x512) (cold c))
    (matmul dot_S256x256_S256x512_S256x512_0_0_1_1_n_n none (truncf .bf16 (kw bc igc br m k) bitsLt_bf16_f32) v (constant S256x512 .f32 0x00000000#32)))
    shapeCasts_S256x512_S1x256x512
/-- The normalizer after the chunk. -/
def nnew : FVec F S1x1x256 .f32 :=
  shapeCast S1x1x256 (addf (mulf (broadcastTo S1x256 (decay bc igc br m) broadcasts_S1x1_S1x256) (nold n))
    (shapeCast S1x256 (multiReduction .add [0] S256 (kw bc igc br m k) 0x00000000#32 reduces_S256x256_S256_2 (.inl rfl) rfl) shapeCasts_S256_S1x256))
    shapeCasts_S1x256_S1x1x256
/-- The stabilizer after the chunk, as it is stored. -/
def mstored : FVec F S1x8x128 .f32 :=
  shapeCast S1x8x128 (broadcastTo S8x128 (shapeCast S1x1 (mnew bc igc br m) shapeCasts_S1x1_S1x1) broadcasts_S1x1_S8x128) shapeCasts_S8x128_S1x8x128
/-- The rows' outputs. -/
def y : FVec F S256x512 .bf16 :=
  truncf .bf16 (mulf (mulf (mulf (hh bc br igr m q k v c n)
      (broadcastTo S256x512 (rsqrt (addf (divf (shapeCast S256x1 (multiReduction .add [1] S256 (mulf (hh bc br igr m q k v c n) (hh bc br igr m q k v c n))
        0x00000000#32 reduces_S256x512_S256 (.inl rfl) rfl) shapeCasts_S256_S256x1) (broadcast S256x1 (Scalar.ofBits .f32 0x44000000#32)))
        (broadcast S256x1 (Scalar.ofBits .f32 0x358637BD#32)))) broadcasts_S256x1_S256x512))
      (broadcastTo S256x512 (shapeCast S1x512 g shapeCasts_S1x512_S1x512) broadcasts_S1x512_S256x512))
    (logistic (extf .f32 o bitsLt_bf16_f32))) bitsLt_bf16_f32
end defs

variable (bc igc : FVec Ideal S256x1 .f32) (br igr : FVec Ideal S1x256 .f32) (m : FVec Ideal S1x1x1 .f32) (q k : FVec Ideal S256x256 .bf16)
  (v : FVec Ideal S256x512 .bf16) (c : FVec Ideal S1x256x512 .f32) (n : FVec Ideal S1x1x256 .f32) (g : FVec Ideal S1x512 .f32) (o : FVec Ideal S256x512 .bf16)

/-- The mask's comparison is of the two numbers. -/
theorem le_apply : ∀ i j : Fin 256, IntOp.cmpi .sle (BitVec.ofNat 32 j.val) (BitVec.ofNat 32 i.val) = if j ≤ i then 1#1 else 0#1 := by
  have h : ∀ i : Fin 256, (BitVec.ofNat 32 i.val).toInt = (i.val : ℤ) := by decide +kernel
  intro i j
  show BitVec.ofBool (BitVec.sle _ _) = _
  rw [BitVec.sle_eq_decide, h, h]
  by_cases hij : j ≤ i
  · rw [if_pos hij, decide_eq_true (by exact_mod_cast hij)]; rfl
  · rw [if_neg hij, decide_eq_false (by exact_mod_cast hij)]; rfl

/-- The word of minus infinity reads as the least value. -/
theorem neg_inf : Ideal.ofBits .f32 0xFF800000#32 = ⊥ := by simp [Ideal.ofBits, Ideal.ieee]

/-- The log weight of row `j` at row `i`, at one element. -/
theorem dlog_apply (i j : Fin 256) : dlog (F := Ideal) bc br igr (ix2 i j) = if j ≤ i then bc (ix2 i 0) - br (ix2 0 j) + igr (ix2 0 j) else ⊥ := by
  pointwise [dlog, k0_pay7]
  rw [le_apply, neg_inf]
  split <;> rfl
/-- The stabilizer of a row, as a maximum over the chunk and the carried one. -/
theorem mrow_apply (i : Fin 256) : mrow (F := Ideal) bc br igr m (ix2 i 0)
    = max (bc (ix2 i 0) + m (ix3 0 0 0)) (Finset.univ.fold max ⊥ fun j => dlog (F := Ideal) bc br igr (ix2 i j)) := by
  pointwise [mrow, inter, mold]
  rw [neg_inf]
/-- The weight of the carried memory at a row. -/
theorem winter_apply (i : Fin 256) : winter (F := Ideal) bc br igr m (ix2 i 0)
    = Ideal.exp (bc (ix2 i 0) + m (ix3 0 0 0) - mrow (F := Ideal) bc br igr m (ix2 i 0)) := by
  pointwise [winter, inter, mold]
/-- The weighted score of two rows, at one element. -/
theorem sm_apply (i j : Fin 256) : sm (F := Ideal) bc br igr m q k (ix2 i j)
    = (∑ d, q (ix2 i d) * k (ix2 j d)) * Ideal.ofBits .f32 0x3D800000#32
      * Ideal.exp (dlog (F := Ideal) bc br igr (ix2 i j) - mrow (F := Ideal) bc br igr m (ix2 i 0)) := by
  pointwise [sm]
/-- The denominator of a row, as sums over the key's lanes and the chunk's rows. -/
theorem den_apply (i : Fin 256) : den (F := Ideal) bc br igr m q k n (ix2 i 0)
    = winter (F := Ideal) bc br igr m (ix2 i 0) * (∑ d, q (ix2 i d) * n (ix3 0 0 d)) + ∑ j, sm (F := Ideal) bc br igr m q k (ix2 i j) := by
  pointwise [den, nold]
/-- The quotient of a row before the output norm, at one element. -/
theorem hh_apply (i : Fin 256) (e : Fin 512) : hh (F := Ideal) bc br igr m q k v c n (ix2 i e)
    = Ideal.div (winter (F := Ideal) bc br igr m (ix2 i 0) * (∑ d, q (ix2 i d) * c (ix3 0 d e)) + ∑ j, sm (F := Ideal) bc br igr m q k (ix2 i j) * v (ix2 j e))
      (max (max (den (F := Ideal) bc br igr m q k n (ix2 i 0)) (- den (F := Ideal) bc br igr m q k n (ix2 i 0)))
        (Ideal.exp (- mrow (F := Ideal) bc br igr m (ix2 i 0)))) := by
  pointwise [hh, cold]
  rw [zero_sub]
  rfl
/-- The log weight a row has in the memory after the chunk. -/
theorem wlog_apply (j : Fin 256) : wlog (F := Ideal) bc igc br (ix2 j 0) = br (ix2 0 255) - bc (ix2 j 0) + igc (ix2 j 0) := by
  pointwise [wlog, blast]
/-- The stabilizer after the chunk. -/
theorem mnew_apply : mnew (F := Ideal) bc igc br m (ix2 0 0)
    = max (br (ix2 0 255) + m (ix3 0 0 0)) (Finset.univ.fold max ⊥ fun j => wlog (F := Ideal) bc igc br (ix2 j 0)) := by
  pointwise [mnew, blast, mold]
  rw [neg_inf]
/-- The weight of the carried memory over the whole chunk. -/
theorem decay_apply : decay (F := Ideal) bc igc br m (ix2 0 0)
    = Ideal.exp (br (ix2 0 255) + m (ix3 0 0 0) - mnew (F := Ideal) bc igc br m (ix2 0 0)) := by
  pointwise [decay, blast, mold]
/-- The weighted key of a row, at one element. -/
theorem kw_apply (j d : Fin 256) : kw (F := Ideal) bc igc br m k (ix2 j d)
    = k (ix2 j d) * Ideal.ofBits .f32 0x3D800000#32
      * Ideal.exp (wlog (F := Ideal) bc igc br (ix2 j 0) - mnew (F := Ideal) bc igc br m (ix2 0 0)) := by
  pointwise [kw]
/-- The memory after the chunk, at one element. -/
theorem cnew_apply (d : Fin 256) (e : Fin 512) : cnew (F := Ideal) bc igc br m k v c (ix3 0 d e)
    = decay (F := Ideal) bc igc br m (ix2 0 0) * c (ix3 0 d e) + ∑ j, kw (F := Ideal) bc igc br m k (ix2 j d) * v (ix2 j e) := by
  pointwise [cnew, cold]
/-- The normalizer after the chunk, at one lane. -/
theorem nnew_apply (d : Fin 256) : nnew (F := Ideal) bc igc br m k n (ix3 0 0 d)
    = decay (F := Ideal) bc igc br m (ix2 0 0) * n (ix3 0 0 d) + ∑ j, kw (F := Ideal) bc igc br m k (ix2 j d) := by
  pointwise [nnew, nold]
/-- The stored stabilizer holds the new stabilizer in every lane. -/
theorem mstored_apply (a : Fin 8) (b : Fin 128) : mstored (F := Ideal) bc igc br m (ix3 0 a b) = mnew (F := Ideal) bc igc br m (ix2 0 0) := by
  pointwise [mstored]
/-- The result of a head, at one element: the output norm and gate of the row's quotients. -/
theorem y_apply (i : Fin 256) (e : Fin 512) : y (F := Ideal) bc br igr m q k v c n g o (ix2 i e)
    = tail (fun x => hh (F := Ideal) bc br igr m q k v c n (ix2 i x)) e (g (ix2 0 e)) (o (ix2 i e)) := by
  pointwise [y]
  rfl

/-- What one head loads at a chunk that starts at token `T`, in terms of its streams. -/
structure Loads (S : Chunk.Streams 256 512) (T : ℕ) : Prop where
  hb : ∀ i : Fin 256, bc (ix2 i 0) = ((Chunk.G S (T + i + 1) - Chunk.G S T : ℝ) : EReal)
  hbr : ∀ i : Fin 256, br (ix2 0 i) = bc (ix2 i 0)
  hig : ∀ i : Fin 256, igc (ix2 i 0) = ((S.ig (T + i) : ℝ) : EReal)
  hir : ∀ i : Fin 256, igr (ix2 0 i) = igc (ix2 i 0)
  hm : m (ix3 0 0 0) = ((Chunk.M S T : ℝ) : EReal)
  hq : ∀ (i d : Fin 256), q (ix2 i d) = ((S.q (T + i) d : ℝ) : EReal)
  hk : ∀ (i d : Fin 256), ∃ r : ℝ, k (ix2 i d) = (r : EReal) ∧ S.k (T + i) d = r * (1 / 16)
  hv : ∀ (i : Fin 256) (e : Fin 512), v (ix2 i e) = ((S.v (T + i) e : ℝ) : EReal)
  hc : ∀ (d : Fin 256) (e : Fin 512), c (ix3 0 d e) = ((Chunk.C S T d e : ℝ) : EReal)
  hn : ∀ d : Fin 256, n (ix3 0 0 d) = ((Chunk.N S T d : ℝ) : EReal)

variable {bc igc br igr m q k v c n} {S : Chunk.Streams 256 512} {T : ℕ} (h : Loads bc igc br igr m q k v c n S T)

include h in
/-- Under the loads, the log weights are the chunk's. -/
theorem Loads.dlog_eq (i j : Fin 256) : dlog (F := Ideal) bc br igr (ix2 i j)
    = Chunk.dlog (fun i => bc (ix2 i 0)) (fun i => igc (ix2 i 0)) i j := by
  rw [dlog_apply, h.hbr, h.hir]; rfl

include h in
/-- Under the loads, the stabilizer of a row is the chunk's. -/
theorem Loads.mrow_eq (i : Fin 256) : mrow (F := Ideal) bc br igr m (ix2 i 0)
    = Chunk.mrow (fun i => bc (ix2 i 0)) (fun i => igc (ix2 i 0)) (m (ix3 0 0 0)) i := by
  rw [mrow_apply]; simp only [h.dlog_eq]; rfl

include h in
/-- Under the loads, the weight of the carried memory is the chunk's. -/
theorem Loads.winter_eq (i : Fin 256) : winter (F := Ideal) bc br igr m (ix2 i 0)
    = Chunk.inter (fun i => bc (ix2 i 0)) (fun i => igc (ix2 i 0)) (m (ix3 0 0 0)) i := by
  rw [winter_apply, h.mrow_eq]; rfl

include h in
/-- The rows' outputs before their normalisation are the closed form's. -/
theorem Loads.hh_eq (i : Fin 256) (e : Fin 512) : hh (F := Ideal) bc br igr m q k v c n (ix2 i e) = ((Chunk.out S (T + i) e : ℝ) : EReal) := by
  rw [hh_apply, den_apply]
  simp only [h.winter_eq, sm_apply, h.mrow_eq, h.dlog_eq]
  refine Chunk.hh_eq S T h.hb h.hig h.hm (qk := fun i j => (∑ d, q (ix2 i d) * k (ix2 j d)) * Ideal.ofBits .f32 0x3D800000#32)
    (fun i j => ?_) h.hq h.hv h.hc h.hn i e
  choose r hr using h.hk
  simp only [h.hq, (hr _ _).1, lit16, ← EReal.coe_mul, ← Chunk.coe_sum]
  congr 1
  rw [Finset.sum_mul]
  exact Finset.sum_congr rfl fun d _ => by rw [(hr _ _).2]; ring

include h in
/-- The rows' outputs are the closed form's, normalised and gated. -/
theorem Loads.y_eq (i : Fin 256) (e : Fin 512) : y (F := Ideal) bc br igr m q k v c n g o (ix2 i e)
    = tail (fun x => ((Chunk.out S (T + i) x : ℝ) : EReal)) e (g (ix2 0 e)) (o (ix2 i e)) := by
  rw [y_apply]; simp only [h.hh_eq]

include h in
/-- The last running gate sum is the sum of the chunk's log forget gates. -/
theorem Loads.bl : br (ix2 0 255) = ((Chunk.G S (T + 256) - Chunk.G S T : ℝ) : EReal) := by
  rw [h.hbr, h.hb]; rfl

include h in
/-- Under the loads, the stabilizer after the chunk is the chunk's. -/
theorem Loads.mnew_eq' : mnew (F := Ideal) bc igc br m (ix2 0 0)
    = Chunk.mnew (br (ix2 0 255)) (fun i => bc (ix2 i 0)) (fun i => igc (ix2 i 0)) (m (ix3 0 0 0)) := by
  rw [mnew_apply]; simp only [wlog_apply]; rfl

include h in
/-- The stabilizer after the chunk is the closed form's. -/
theorem Loads.m_eq (a : Fin 8) (b : Fin 128) : mstored (F := Ideal) bc igc br m (ix3 0 a b) = ((Chunk.M S (T + 256) : ℝ) : EReal) := by
  rw [mstored_apply, h.mnew_eq']
  exact Chunk.mnew_eq S T h.hb h.hig h.hm h.bl

include h in
/-- A loaded key times the scale is the stream's scaled key. -/
theorem Loads.hk' (j : Fin 256) (d : Fin 256) : k (ix2 j d) * Ideal.ofBits .f32 0x3D800000#32 = ((S.k (T + j) d : ℝ) : EReal) := by
  obtain ⟨r, h1, h2⟩ := h.hk j d
  rw [h1, h2, lit16, ← EReal.coe_mul]

include h in
/-- The memory after the chunk is the closed form's. -/
theorem Loads.c_eq (d : Fin 256) (e : Fin 512) : cnew (F := Ideal) bc igc br m k v c (ix3 0 d e) = ((Chunk.C S (T + 256) d e : ℝ) : EReal) := by
  rw [cnew_apply, decay_apply]
  simp only [kw_apply, wlog_apply, h.mnew_eq']
  exact Chunk.cnew_eq S T h.hb h.hig h.hm (k := fun j d => k (ix2 j d) * Ideal.ofBits .f32 0x3D800000#32) h.hk' h.hv h.hc h.bl d e

include h in
/-- The normalizer after the chunk is the closed form's. -/
theorem Loads.n_eq (d : Fin 256) : nnew (F := Ideal) bc igc br m k n (ix3 0 0 d) = ((Chunk.N S (T + 256) d : ℝ) : EReal) := by
  rw [nnew_apply, decay_apply]
  simp only [kw_apply, wlog_apply, h.mnew_eq']
  exact Chunk.nnew_eq S T h.hb h.hig h.hm (k := fun j d => k (ix2 j d) * Ideal.ofBits .f32 0x3D800000#32) h.hk' h.hn h.bl d

end Cert.Proof.Head
end
-- ==== Proof.KernelPieces.lean ====
/- The mLSTM kernel's stores at a grid point, head by head. -/
module

public import proofs.«01_k».proof.Proof.Gen.KernelIdeal.Value
public import proofs.«01_k».proof.Proof.Head

@[expose] public section

set_option maxRecDepth 16384

noncomputable section

namespace Cert.Proof.KernelPieces

open Idealize Idealize.ShloMosaic Cert.KernelIdeal Cert.KernelIdeal.Gen

variable {F : FTy → Type} [FloatOps F]

/-- The gate columns: input gates in the first four lanes, the running sums of the forget gates after them. -/
def gcol (x4 : Vec F S256x128 .f32) (x5 : Vec F S1x128 .f32) : FVec F S256x128 .f32 :=
  k0_pay15 (iota .tc S256x128 32 [1] iota_S256x128_d1_w32) (k0_pay5 x4 x5) k0_pay8 (k0_pay11 x4 x5) (k0_pay13 x4 x5) (k0_pay14 x4 x5)

/-- The gate columns, transposed. -/
def grow (x4 : Vec F S256x128 .f32) (x5 : Vec F S1x128 .f32) : FVec F S128x256 .f32 :=
  transpose S128x256 [1, 0] (gcol x4 x5) transposes_S256x128_p1_0_S128x256

/-- The stores into the result at a point that is not a sequence's first. -/
theorem yB (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x8x128 .f32) (harg12 : arg12.IsWhole) (hc0 : ¬cond0_0 i)
    (x0 : Vec F S256x1024 .bf16) (x1 : Vec F S256x1024 .bf16) (x2 : Vec F S256x2048 .bf16) (x3 : Vec F S256x2048 .bf16) (x4 : Vec F S256x128 .f32) (x5 : Vec F S1x128 .f32) (x6 : Vec F S1x2048 .f32) (xs0 : Vec F S4x256x512 .f32) (xs1 : Vec F S4x1x256 .f32) (xs2 : Vec F S4x8x128 .f32) :
    (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2).1 =
      [⟨Rect.unit ![0, 1536] ![256, 512] inb_S256x2048_S256x512_0_1536,
        Head.y (extractStridedSlice S256x1 ![0, 7] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_7_S256x1) (extractStridedSlice S1x256 ![7, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o7_0_S1x256) (extractStridedSlice S1x256 ![3, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o3_0_S1x256) (View.readAt (Elt F) arg12.view (Rect.unit (s := S4x8x128) ![3, 0, 0] S1x1x1.size inb_S4x8x128_S1x1x1_3_0_0).toLoadRect (harg12.unread xs2)) (View.readAt (Elt F) arg2.view (Rect.unit (s := S256x1024) ![0, 768] S256x256.size inb_S256x1024_S256x256_0_768).toLoadRect (harg2.unread x0)) (View.readAt (Elt F) arg3.view (Rect.unit (s := S256x1024) ![0, 768] S256x256.size inb_S256x1024_S256x256_0_768).toLoadRect (harg3.unread x1)) (View.readAt (Elt F) arg4.view (Rect.unit (s := S256x2048) ![0, 1536] S256x512.size inb_S256x2048_S256x512_0_1536).toLoadRect (harg4.unread x2)) (View.readAt (Elt F) arg10.view (Rect.unit (s := S4x256x512) ![3, 0, 0] S1x256x512.size inb_S4x256x512_S1x256x512_3_0_0).toLoadRect (harg10.unread xs0)) (View.readAt (Elt F) arg11.view (Rect.unit (s := S4x1x256) ![3, 0, 0] S1x1x256.size inb_S4x1x256_S1x1x256_3_0_0).toLoadRect (harg11.unread xs1)) (View.readAt (Elt F) arg8.view (Rect.unit (s := S1x2048) ![0, 1536] S1x512.size inb_S1x2048_S1x512_0_1536).toLoadRect (harg8.unread x6)) (View.readAt (Elt F) arg5.view (Rect.unit (s := S256x2048) ![0, 1536] S256x512.size inb_S256x2048_S256x512_0_1536).toLoadRect (harg5.unread x3))⟩,
       ⟨Rect.unit ![0, 1024] ![256, 512] inb_S256x2048_S256x512_0_1024,
        Head.y (extractStridedSlice S256x1 ![0, 6] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_6_S256x1) (extractStridedSlice S1x256 ![6, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o6_0_S1x256) (extractStridedSlice S1x256 ![2, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o2_0_S1x256) (View.readAt (Elt F) arg12.view (Rect.unit (s := S4x8x128) ![2, 0, 0] S1x1x1.size inb_S4x8x128_S1x1x1_2_0_0).toLoadRect (harg12.unread xs2)) (View.readAt (Elt F) arg2.view (Rect.unit (s := S256x1024) ![0, 512] S256x256.size inb_S256x1024_S256x256_0_512).toLoadRect (harg2.unread x0)) (View.readAt (Elt F) arg3.view (Rect.unit (s := S256x1024) ![0, 512] S256x256.size inb_S256x1024_S256x256_0_512).toLoadRect (harg3.unread x1)) (View.readAt (Elt F) arg4.view (Rect.unit (s := S256x2048) ![0, 1024] S256x512.size inb_S256x2048_S256x512_0_1024).toLoadRect (harg4.unread x2)) (View.readAt (Elt F) arg10.view (Rect.unit (s := S4x256x512) ![2, 0, 0] S1x256x512.size inb_S4x256x512_S1x256x512_2_0_0).toLoadRect (harg10.unread xs0)) (View.readAt (Elt F) arg11.view (Rect.unit (s := S4x1x256) ![2, 0, 0] S1x1x256.size inb_S4x1x256_S1x1x256_2_0_0).toLoadRect (harg11.unread xs1)) (View.readAt (Elt F) arg8.view (Rect.unit (s := S1x2048) ![0, 1024] S1x512.size inb_S1x2048_S1x512_0_1024).toLoadRect (harg8.unread x6)) (View.readAt (Elt F) arg5.view (Rect.unit (s := S256x2048) ![0, 1024] S256x512.size inb_S256x2048_S256x512_0_1024).toLoadRect (harg5.unread x3))⟩,
       ⟨Rect.unit ![0, 512] ![256, 512] inb_S256x2048_S256x512_0_512,
        Head.y (extractStridedSlice S256x1 ![0, 5] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_5_S256x1) (extractStridedSlice S1x256 ![5, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o5_0_S1x256) (extractStridedSlice S1x256 ![1, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o1_0_S1x256) (View.readAt (Elt F) arg12.view (Rect.unit (s := S4x8x128) ![1, 0, 0] S1x1x1.size inb_S4x8x128_S1x1x1_1_0_0).toLoadRect (harg12.unread xs2)) (View.readAt (Elt F) arg2.view (Rect.unit (s := S256x1024) ![0, 256] S256x256.size inb_S256x1024_S256x256_0_256).toLoadRect (harg2.unread x0)) (View.readAt (Elt F) arg3.view (Rect.unit (s := S256x1024) ![0, 256] S256x256.size inb_S256x1024_S256x256_0_256).toLoadRect (harg3.unread x1)) (View.readAt (Elt F) arg4.view (Rect.unit (s := S256x2048) ![0, 512] S256x512.size inb_S256x2048_S256x512_0_512).toLoadRect (harg4.unread x2)) (View.readAt (Elt F) arg10.view (Rect.unit (s := S4x256x512) ![1, 0, 0] S1x256x512.size inb_S4x256x512_S1x256x512_1_0_0).toLoadRect (harg10.unread xs0)) (View.readAt (Elt F) arg11.view (Rect.unit (s := S4x1x256) ![1, 0, 0] S1x1x256.size inb_S4x1x256_S1x1x256_1_0_0).toLoadRect (harg11.unread xs1)) (View.readAt (Elt F) arg8.view (Rect.unit (s := S1x2048) ![0, 512] S1x512.size inb_S1x2048_S1x512_0_512).toLoadRect (harg8.unread x6)) (View.readAt (Elt F) arg5.view (Rect.unit (s := S256x2048) ![0, 512] S256x512.size inb_S256x2048_S256x512_0_512).toLoadRect (harg5.unread x3))⟩,
       ⟨Rect.unit ![0, 0] ![256, 512] inb_S256x2048_S256x512_0_0,
        Head.y (extractStridedSlice S256x1 ![0, 4] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_4_S256x1) (extractStridedSlice S1x256 ![4, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o4_0_S1x256) (extractStridedSlice S1x256 ![0, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o0_0_S1x256) (View.readAt (Elt F) arg12.view (Rect.unit (s := S4x8x128) ![0, 0, 0] S1x1x1.size inb_S4x8x128_S1x1x1_0_0_0).toLoadRect (harg12.unread xs2)) (View.readAt (Elt F) arg2.view (Rect.unit (s := S256x1024) ![0, 0] S256x256.size inb_S256x1024_S256x256_0_0).toLoadRect (harg2.unread x0)) (View.readAt (Elt F) arg3.view (Rect.unit (s := S256x1024) ![0, 0] S256x256.size inb_S256x1024_S256x256_0_0).toLoadRect (harg3.unread x1)) (View.readAt (Elt F) arg4.view (Rect.unit (s := S256x2048) ![0, 0] S256x512.size inb_S256x2048_S256x512_0_0).toLoadRect (harg4.unread x2)) (View.readAt (Elt F) arg10.view (Rect.unit (s := S4x256x512) ![0, 0, 0] S1x256x512.size inb_S4x256x512_S1x256x512_0_0_0).toLoadRect (harg10.unread xs0)) (View.readAt (Elt F) arg11.view (Rect.unit (s := S4x1x256) ![0, 0, 0] S1x1x256.size inb_S4x1x256_S1x1x256_0_0_0).toLoadRect (harg11.unread xs1)) (View.readAt (Elt F) arg8.view (Rect.unit (s := S1x2048) ![0, 0] S1x512.size inb_S1x2048_S1x512_0_0).toLoadRect (harg8.unread x6)) (View.readAt (Elt F) arg5.view (Rect.unit (s := S256x2048) ![0, 0] S256x512.size inb_S256x2048_S256x512_0_0).toLoadRect (harg5.unread x3))⟩] := by
  rfl

/-- The stores into the memory at a point that is not a sequence's first. -/
theorem cB (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x8x128 .f32) (harg12 : arg12.IsWhole) (hc0 : ¬cond0_0 i)
    (x0 : Vec F S256x1024 .bf16) (x1 : Vec F S256x1024 .bf16) (x2 : Vec F S256x2048 .bf16) (x3 : Vec F S256x2048 .bf16) (x4 : Vec F S256x128 .f32) (x5 : Vec F S1x128 .f32) (x6 : Vec F S1x2048 .f32) (xs0 : Vec F S4x256x512 .f32) (xs1 : Vec F S4x1x256 .f32) (xs2 : Vec F S4x8x128 .f32) :
    (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2).2.1 =
      [⟨Rect.unit ![3, 0, 0] ![1, 256, 512] inb_S4x256x512_S1x256x512_3_0_0,
        Head.cnew (extractStridedSlice S256x1 ![0, 7] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_7_S256x1) (extractStridedSlice S256x1 ![0, 3] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_3_S256x1) (extractStridedSlice S1x256 ![7, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o7_0_S1x256) (View.readAt (Elt F) arg12.view (Rect.unit (s := S4x8x128) ![3, 0, 0] S1x1x1.size inb_S4x8x128_S1x1x1_3_0_0).toLoadRect (harg12.unread xs2)) (View.readAt (Elt F) arg3.view (Rect.unit (s := S256x1024) ![0, 768] S256x256.size inb_S256x1024_S256x256_0_768).toLoadRect (harg3.unread x1)) (View.readAt (Elt F) arg4.view (Rect.unit (s := S256x2048) ![0, 1536] S256x512.size inb_S256x2048_S256x512_0_1536).toLoadRect (harg4.unread x2)) (View.readAt (Elt F) arg10.view (Rect.unit (s := S4x256x512) ![3, 0, 0] S1x256x512.size inb_S4x256x512_S1x256x512_3_0_0).toLoadRect (harg10.unread xs0))⟩,
       ⟨Rect.unit ![2, 0, 0] ![1, 256, 512] inb_S4x256x512_S1x256x512_2_0_0,
        Head.cnew (extractStridedSlice S256x1 ![0, 6] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_6_S256x1) (extractStridedSlice S256x1 ![0, 2] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_2_S256x1) (extractStridedSlice S1x256 ![6, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o6_0_S1x256) (View.readAt (Elt F) arg12.view (Rect.unit (s := S4x8x128) ![2, 0, 0] S1x1x1.size inb_S4x8x128_S1x1x1_2_0_0).toLoadRect (harg12.unread xs2)) (View.readAt (Elt F) arg3.view (Rect.unit (s := S256x1024) ![0, 512] S256x256.size inb_S256x1024_S256x256_0_512).toLoadRect (harg3.unread x1)) (View.readAt (Elt F) arg4.view (Rect.unit (s := S256x2048) ![0, 1024] S256x512.size inb_S256x2048_S256x512_0_1024).toLoadRect (harg4.unread x2)) (View.readAt (Elt F) arg10.view (Rect.unit (s := S4x256x512) ![2, 0, 0] S1x256x512.size inb_S4x256x512_S1x256x512_2_0_0).toLoadRect (harg10.unread xs0))⟩,
       ⟨Rect.unit ![1, 0, 0] ![1, 256, 512] inb_S4x256x512_S1x256x512_1_0_0,
        Head.cnew (extractStridedSlice S256x1 ![0, 5] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_5_S256x1) (extractStridedSlice S256x1 ![0, 1] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_1_S256x1) (extractStridedSlice S1x256 ![5, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o5_0_S1x256) (View.readAt (Elt F) arg12.view (Rect.unit (s := S4x8x128) ![1, 0, 0] S1x1x1.size inb_S4x8x128_S1x1x1_1_0_0).toLoadRect (harg12.unread xs2)) (View.readAt (Elt F) arg3.view (Rect.unit (s := S256x1024) ![0, 256] S256x256.size inb_S256x1024_S256x256_0_256).toLoadRect (harg3.unread x1)) (View.readAt (Elt F) arg4.view (Rect.unit (s := S256x2048) ![0, 512] S256x512.size inb_S256x2048_S256x512_0_512).toLoadRect (harg4.unread x2)) (View.readAt (Elt F) arg10.view (Rect.unit (s := S4x256x512) ![1, 0, 0] S1x256x512.size inb_S4x256x512_S1x256x512_1_0_0).toLoadRect (harg10.unread xs0))⟩,
       ⟨Rect.unit ![0, 0, 0] ![1, 256, 512] inb_S4x256x512_S1x256x512_0_0_0,
        Head.cnew (extractStridedSlice S256x1 ![0, 4] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_4_S256x1) (extractStridedSlice S256x1 ![0, 0] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_0_S256x1) (extractStridedSlice S1x256 ![4, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o4_0_S1x256) (View.readAt (Elt F) arg12.view (Rect.unit (s := S4x8x128) ![0, 0, 0] S1x1x1.size inb_S4x8x128_S1x1x1_0_0_0).toLoadRect (harg12.unread xs2)) (View.readAt (Elt F) arg3.view (Rect.unit (s := S256x1024) ![0, 0] S256x256.size inb_S256x1024_S256x256_0_0).toLoadRect (harg3.unread x1)) (View.readAt (Elt F) arg4.view (Rect.unit (s := S256x2048) ![0, 0] S256x512.size inb_S256x2048_S256x512_0_0).toLoadRect (harg4.unread x2)) (View.readAt (Elt F) arg10.view (Rect.unit (s := S4x256x512) ![0, 0, 0] S1x256x512.size inb_S4x256x512_S1x256x512_0_0_0).toLoadRect (harg10.unread xs0))⟩] := by
  rfl

/-- The stores into the normalizer at a point that is not a sequence's first. -/
theorem nB (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x8x128 .f32) (harg12 : arg12.IsWhole) (hc0 : ¬cond0_0 i)
    (x0 : Vec F S256x1024 .bf16) (x1 : Vec F S256x1024 .bf16) (x2 : Vec F S256x2048 .bf16) (x3 : Vec F S256x2048 .bf16) (x4 : Vec F S256x128 .f32) (x5 : Vec F S1x128 .f32) (x6 : Vec F S1x2048 .f32) (xs0 : Vec F S4x256x512 .f32) (xs1 : Vec F S4x1x256 .f32) (xs2 : Vec F S4x8x128 .f32) :
    (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2).2.2.1 =
      [⟨Rect.unit ![3, 0, 0] ![1, 1, 256] inb_S4x1x256_S1x1x256_3_0_0,
        Head.nnew (extractStridedSlice S256x1 ![0, 7] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_7_S256x1) (extractStridedSlice S256x1 ![0, 3] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_3_S256x1) (extractStridedSlice S1x256 ![7, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o7_0_S1x256) (View.readAt (Elt F) arg12.view (Rect.unit (s := S4x8x128) ![3, 0, 0] S1x1x1.size inb_S4x8x128_S1x1x1_3_0_0).toLoadRect (harg12.unread xs2)) (View.readAt (Elt F) arg3.view (Rect.unit (s := S256x1024) ![0, 768] S256x256.size inb_S256x1024_S256x256_0_768).toLoadRect (harg3.unread x1)) (View.readAt (Elt F) arg11.view (Rect.unit (s := S4x1x256) ![3, 0, 0] S1x1x256.size inb_S4x1x256_S1x1x256_3_0_0).toLoadRect (harg11.unread xs1))⟩,
       ⟨Rect.unit ![2, 0, 0] ![1, 1, 256] inb_S4x1x256_S1x1x256_2_0_0,
        Head.nnew (extractStridedSlice S256x1 ![0, 6] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_6_S256x1) (extractStridedSlice S256x1 ![0, 2] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_2_S256x1) (extractStridedSlice S1x256 ![6, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o6_0_S1x256) (View.readAt (Elt F) arg12.view (Rect.unit (s := S4x8x128) ![2, 0, 0] S1x1x1.size inb_S4x8x128_S1x1x1_2_0_0).toLoadRect (harg12.unread xs2)) (View.readAt (Elt F) arg3.view (Rect.unit (s := S256x1024) ![0, 512] S256x256.size inb_S256x1024_S256x256_0_512).toLoadRect (harg3.unread x1)) (View.readAt (Elt F) arg11.view (Rect.unit (s := S4x1x256) ![2, 0, 0] S1x1x256.size inb_S4x1x256_S1x1x256_2_0_0).toLoadRect (harg11.unread xs1))⟩,
       ⟨Rect.unit ![1, 0, 0] ![1, 1, 256] inb_S4x1x256_S1x1x256_1_0_0,
        Head.nnew (extractStridedSlice S256x1 ![0, 5] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_5_S256x1) (extractStridedSlice S256x1 ![0, 1] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_1_S256x1) (extractStridedSlice S1x256 ![5, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o5_0_S1x256) (View.readAt (Elt F) arg12.view (Rect.unit (s := S4x8x128) ![1, 0, 0] S1x1x1.size inb_S4x8x128_S1x1x1_1_0_0).toLoadRect (harg12.unread xs2)) (View.readAt (Elt F) arg3.view (Rect.unit (s := S256x1024) ![0, 256] S256x256.size inb_S256x1024_S256x256_0_256).toLoadRect (harg3.unread x1)) (View.readAt (Elt F) arg11.view (Rect.unit (s := S4x1x256) ![1, 0, 0] S1x1x256.size inb_S4x1x256_S1x1x256_1_0_0).toLoadRect (harg11.unread xs1))⟩,
       ⟨Rect.unit ![0, 0, 0] ![1, 1, 256] inb_S4x1x256_S1x1x256_0_0_0,
        Head.nnew (extractStridedSlice S256x1 ![0, 4] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_4_S256x1) (extractStridedSlice S256x1 ![0, 0] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_0_S256x1) (extractStridedSlice S1x256 ![4, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o4_0_S1x256) (View.readAt (Elt F) arg12.view (Rect.unit (s := S4x8x128) ![0, 0, 0] S1x1x1.size inb_S4x8x128_S1x1x1_0_0_0).toLoadRect (harg12.unread xs2)) (View.readAt (Elt F) arg3.view (Rect.unit (s := S256x1024) ![0, 0] S256x256.size inb_S256x1024_S256x256_0_0).toLoadRect (harg3.unread x1)) (View.readAt (Elt F) arg11.view (Rect.unit (s := S4x1x256) ![0, 0, 0] S1x1x256.size inb_S4x1x256_S1x1x256_0_0_0).toLoadRect (harg11.unread xs1))⟩] := by
  rfl

/-- The stores into the stabilizer at a point that is not a sequence's first. -/
theorem mB (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x8x128 .f32) (harg12 : arg12.IsWhole) (hc0 : ¬cond0_0 i)
    (x0 : Vec F S256x1024 .bf16) (x1 : Vec F S256x1024 .bf16) (x2 : Vec F S256x2048 .bf16) (x3 : Vec F S256x2048 .bf16) (x4 : Vec F S256x128 .f32) (x5 : Vec F S1x128 .f32) (x6 : Vec F S1x2048 .f32) (xs0 : Vec F S4x256x512 .f32) (xs1 : Vec F S4x1x256 .f32) (xs2 : Vec F S4x8x128 .f32) :
    (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2).2.2.2.1 =
      [⟨Rect.unit ![3, 0, 0] ![1, 8, 128] inb_S4x8x128_S1x8x128_3_0_0,
        Head.mstored (extractStridedSlice S256x1 ![0, 7] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_7_S256x1) (extractStridedSlice S256x1 ![0, 3] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_3_S256x1) (extractStridedSlice S1x256 ![7, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o7_0_S1x256) (View.readAt (Elt F) arg12.view (Rect.unit (s := S4x8x128) ![3, 0, 0] S1x1x1.size inb_S4x8x128_S1x1x1_3_0_0).toLoadRect (harg12.unread xs2))⟩,
       ⟨Rect.unit ![2, 0, 0] ![1, 8, 128] inb_S4x8x128_S1x8x128_2_0_0,
        Head.mstored (extractStridedSlice S256x1 ![0, 6] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_6_S256x1) (extractStridedSlice S256x1 ![0, 2] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_2_S256x1) (extractStridedSlice S1x256 ![6, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o6_0_S1x256) (View.readAt (Elt F) arg12.view (Rect.unit (s := S4x8x128) ![2, 0, 0] S1x1x1.size inb_S4x8x128_S1x1x1_2_0_0).toLoadRect (harg12.unread xs2))⟩,
       ⟨Rect.unit ![1, 0, 0] ![1, 8, 128] inb_S4x8x128_S1x8x128_1_0_0,
        Head.mstored (extractStridedSlice S256x1 ![0, 5] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_5_S256x1) (extractStridedSlice S256x1 ![0, 1] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_1_S256x1) (extractStridedSlice S1x256 ![5, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o5_0_S1x256) (View.readAt (Elt F) arg12.view (Rect.unit (s := S4x8x128) ![1, 0, 0] S1x1x1.size inb_S4x8x128_S1x1x1_1_0_0).toLoadRect (harg12.unread xs2))⟩,
       ⟨Rect.unit ![0, 0, 0] ![1, 8, 128] inb_S4x8x128_S1x8x128_0_0_0,
        Head.mstored (extractStridedSlice S256x1 ![0, 4] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_4_S256x1) (extractStridedSlice S256x1 ![0, 0] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_0_S256x1) (extractStridedSlice S1x256 ![4, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o4_0_S1x256) (View.readAt (Elt F) arg12.view (Rect.unit (s := S4x8x128) ![0, 0, 0] S1x1x1.size inb_S4x8x128_S1x1x1_0_0_0).toLoadRect (harg12.unread xs2))⟩] := by
  rfl

/-- The stores into the result at a point that is a sequence's first. -/
theorem yA (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x8x128 .f32) (harg12 : arg12.IsWhole) (hc0 : cond0_0 i)
    (x0 : Vec F S256x1024 .bf16) (x1 : Vec F S256x1024 .bf16) (x2 : Vec F S256x2048 .bf16) (x3 : Vec F S256x2048 .bf16) (x4 : Vec F S256x128 .f32) (x5 : Vec F S1x128 .f32) (x6 : Vec F S1x2048 .f32) :
    (kernelRun0_A c i arg2 harg2 arg3 harg3 arg4 harg4 arg5 harg5 arg6 harg6 arg7 harg7 arg8 harg8 arg9 harg9 arg10 harg10 arg11 harg11 arg12 harg12 hc0 x0 x1 x2 x3 x4 x5 x6).1 =
      [⟨Rect.unit ![0, 1536] ![256, 512] inb_S256x2048_S256x512_0_1536,
        Head.y (extractStridedSlice S256x1 ![0, 7] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_7_S256x1) (extractStridedSlice S1x256 ![7, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o7_0_S1x256) (extractStridedSlice S1x256 ![3, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o3_0_S1x256) (kernelRun0_A.sl.v404 c arg6 harg6 arg7 harg7 arg12 x4 x5) (View.readAt (Elt F) arg2.view (Rect.unit (s := S256x1024) ![0, 768] S256x256.size inb_S256x1024_S256x256_0_768).toLoadRect (harg2.unread x0)) (View.readAt (Elt F) arg3.view (Rect.unit (s := S256x1024) ![0, 768] S256x256.size inb_S256x1024_S256x256_0_768).toLoadRect (harg3.unread x1)) (View.readAt (Elt F) arg4.view (Rect.unit (s := S256x2048) ![0, 1536] S256x512.size inb_S256x2048_S256x512_0_1536).toLoadRect (harg4.unread x2)) (kernelRun0_A.sl.v430 c arg3 harg3 arg4 harg4 arg6 harg6 arg7 harg7 arg10 arg12 x1 x2 x4 x5) (kernelRun0_A.sl.v432 c arg3 harg3 arg6 harg6 arg7 harg7 arg11 arg12 x1 x4 x5) (View.readAt (Elt F) arg8.view (Rect.unit (s := S1x2048) ![0, 1536] S1x512.size inb_S1x2048_S1x512_0_1536).toLoadRect (harg8.unread x6)) (View.readAt (Elt F) arg5.view (Rect.unit (s := S256x2048) ![0, 1536] S256x512.size inb_S256x2048_S256x512_0_1536).toLoadRect (harg5.unread x3))⟩,
       ⟨Rect.unit ![0, 1024] ![256, 512] inb_S256x2048_S256x512_0_1024,
        Head.y (extractStridedSlice S256x1 ![0, 6] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_6_S256x1) (extractStridedSlice S1x256 ![6, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o6_0_S1x256) (extractStridedSlice S1x256 ![2, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o2_0_S1x256) (kernelRun0_A.sl.v287 c arg6 harg6 arg7 harg7 arg12 x4 x5) (View.readAt (Elt F) arg2.view (Rect.unit (s := S256x1024) ![0, 512] S256x256.size inb_S256x1024_S256x256_0_512).toLoadRect (harg2.unread x0)) (View.readAt (Elt F) arg3.view (Rect.unit (s := S256x1024) ![0, 512] S256x256.size inb_S256x1024_S256x256_0_512).toLoadRect (harg3.unread x1)) (View.readAt (Elt F) arg4.view (Rect.unit (s := S256x2048) ![0, 1024] S256x512.size inb_S256x2048_S256x512_0_1024).toLoadRect (harg4.unread x2)) (kernelRun0_A.sl.v313 c arg3 harg3 arg4 harg4 arg6 harg6 arg7 harg7 arg10 arg12 x1 x2 x4 x5) (kernelRun0_A.sl.v315 c arg3 harg3 arg6 harg6 arg7 harg7 arg11 arg12 x1 x4 x5) (View.readAt (Elt F) arg8.view (Rect.unit (s := S1x2048) ![0, 1024] S1x512.size inb_S1x2048_S1x512_0_1024).toLoadRect (harg8.unread x6)) (View.readAt (Elt F) arg5.view (Rect.unit (s := S256x2048) ![0, 1024] S256x512.size inb_S256x2048_S256x512_0_1024).toLoadRect (harg5.unread x3))⟩,
       ⟨Rect.unit ![0, 512] ![256, 512] inb_S256x2048_S256x512_0_512,
        Head.y (extractStridedSlice S256x1 ![0, 5] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_5_S256x1) (extractStridedSlice S1x256 ![5, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o5_0_S1x256) (extractStridedSlice S1x256 ![1, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o1_0_S1x256) (kernelRun0_A.sl.v170 c arg6 harg6 arg7 harg7 arg12 x4 x5) (View.readAt (Elt F) arg2.view (Rect.unit (s := S256x1024) ![0, 256] S256x256.size inb_S256x1024_S256x256_0_256).toLoadRect (harg2.unread x0)) (View.readAt (Elt F) arg3.view (Rect.unit (s := S256x1024) ![0, 256] S256x256.size inb_S256x1024_S256x256_0_256).toLoadRect (harg3.unread x1)) (View.readAt (Elt F) arg4.view (Rect.unit (s := S256x2048) ![0, 512] S256x512.size inb_S256x2048_S256x512_0_512).toLoadRect (harg4.unread x2)) (kernelRun0_A.sl.v196 c arg3 harg3 arg4 harg4 arg6 harg6 arg7 harg7 arg10 arg12 x1 x2 x4 x5) (kernelRun0_A.sl.v198 c arg3 harg3 arg6 harg6 arg7 harg7 arg11 arg12 x1 x4 x5) (View.readAt (Elt F) arg8.view (Rect.unit (s := S1x2048) ![0, 512] S1x512.size inb_S1x2048_S1x512_0_512).toLoadRect (harg8.unread x6)) (View.readAt (Elt F) arg5.view (Rect.unit (s := S256x2048) ![0, 512] S256x512.size inb_S256x2048_S256x512_0_512).toLoadRect (harg5.unread x3))⟩,
       ⟨Rect.unit ![0, 0] ![256, 512] inb_S256x2048_S256x512_0_0,
        Head.y (extractStridedSlice S256x1 ![0, 4] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_4_S256x1) (extractStridedSlice S1x256 ![4, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o4_0_S1x256) (extractStridedSlice S1x256 ![0, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o0_0_S1x256) (kernelRun0_A.sl.v53 c arg12) (View.readAt (Elt F) arg2.view (Rect.unit (s := S256x1024) ![0, 0] S256x256.size inb_S256x1024_S256x256_0_0).toLoadRect (harg2.unread x0)) (View.readAt (Elt F) arg3.view (Rect.unit (s := S256x1024) ![0, 0] S256x256.size inb_S256x1024_S256x256_0_0).toLoadRect (harg3.unread x1)) (View.readAt (Elt F) arg4.view (Rect.unit (s := S256x2048) ![0, 0] S256x512.size inb_S256x2048_S256x512_0_0).toLoadRect (harg4.unread x2)) (kernelRun0_A.sl.v79 c arg10) (kernelRun0_A.sl.v81 c arg11) (View.readAt (Elt F) arg8.view (Rect.unit (s := S1x2048) ![0, 0] S1x512.size inb_S1x2048_S1x512_0_0).toLoadRect (harg8.unread x6)) (View.readAt (Elt F) arg5.view (Rect.unit (s := S256x2048) ![0, 0] S256x512.size inb_S256x2048_S256x512_0_0).toLoadRect (harg5.unread x3))⟩] := by
  rfl

/-- The stores into the memory at a point that is a sequence's first. -/
theorem cA (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x8x128 .f32) (harg12 : arg12.IsWhole) (hc0 : cond0_0 i)
    (x0 : Vec F S256x1024 .bf16) (x1 : Vec F S256x1024 .bf16) (x2 : Vec F S256x2048 .bf16) (x3 : Vec F S256x2048 .bf16) (x4 : Vec F S256x128 .f32) (x5 : Vec F S1x128 .f32) (x6 : Vec F S1x2048 .f32) :
    (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.1 =
      [⟨Rect.unit ![3, 0, 0] ![1, 256, 512] inb_S4x256x512_S1x256x512_3_0_0,
        Head.cnew (extractStridedSlice S256x1 ![0, 7] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_7_S256x1) (extractStridedSlice S256x1 ![0, 3] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_3_S256x1) (extractStridedSlice S1x256 ![7, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o7_0_S1x256) (kernelRun0_A.sl.v404 c arg6 harg6 arg7 harg7 arg12 x4 x5) (View.readAt (Elt F) arg3.view (Rect.unit (s := S256x1024) ![0, 768] S256x256.size inb_S256x1024_S256x256_0_768).toLoadRect (harg3.unread x1)) (View.readAt (Elt F) arg4.view (Rect.unit (s := S256x2048) ![0, 1536] S256x512.size inb_S256x2048_S256x512_0_1536).toLoadRect (harg4.unread x2)) (kernelRun0_A.sl.v430 c arg3 harg3 arg4 harg4 arg6 harg6 arg7 harg7 arg10 arg12 x1 x2 x4 x5)⟩,
       ⟨Rect.unit ![2, 0, 0] ![1, 256, 512] inb_S4x256x512_S1x256x512_2_0_0,
        Head.cnew (extractStridedSlice S256x1 ![0, 6] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_6_S256x1) (extractStridedSlice S256x1 ![0, 2] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_2_S256x1) (extractStridedSlice S1x256 ![6, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o6_0_S1x256) (kernelRun0_A.sl.v287 c arg6 harg6 arg7 harg7 arg12 x4 x5) (View.readAt (Elt F) arg3.view (Rect.unit (s := S256x1024) ![0, 512] S256x256.size inb_S256x1024_S256x256_0_512).toLoadRect (harg3.unread x1)) (View.readAt (Elt F) arg4.view (Rect.unit (s := S256x2048) ![0, 1024] S256x512.size inb_S256x2048_S256x512_0_1024).toLoadRect (harg4.unread x2)) (kernelRun0_A.sl.v313 c arg3 harg3 arg4 harg4 arg6 harg6 arg7 harg7 arg10 arg12 x1 x2 x4 x5)⟩,
       ⟨Rect.unit ![1, 0, 0] ![1, 256, 512] inb_S4x256x512_S1x256x512_1_0_0,
        Head.cnew (extractStridedSlice S256x1 ![0, 5] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_5_S256x1) (extractStridedSlice S256x1 ![0, 1] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_1_S256x1) (extractStridedSlice S1x256 ![5, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o5_0_S1x256) (kernelRun0_A.sl.v170 c arg6 harg6 arg7 harg7 arg12 x4 x5) (View.readAt (Elt F) arg3.view (Rect.unit (s := S256x1024) ![0, 256] S256x256.size inb_S256x1024_S256x256_0_256).toLoadRect (harg3.unread x1)) (View.readAt (Elt F) arg4.view (Rect.unit (s := S256x2048) ![0, 512] S256x512.size inb_S256x2048_S256x512_0_512).toLoadRect (harg4.unread x2)) (kernelRun0_A.sl.v196 c arg3 harg3 arg4 harg4 arg6 harg6 arg7 harg7 arg10 arg12 x1 x2 x4 x5)⟩,
       ⟨Rect.unit ![0, 0, 0] ![1, 256, 512] inb_S4x256x512_S1x256x512_0_0_0,
        Head.cnew (extractStridedSlice S256x1 ![0, 4] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_4_S256x1) (extractStridedSlice S256x1 ![0, 0] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_0_S256x1) (extractStridedSlice S1x256 ![4, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o4_0_S1x256) (kernelRun0_A.sl.v53 c arg12) (View.readAt (Elt F) arg3.view (Rect.unit (s := S256x1024) ![0, 0] S256x256.size inb_S256x1024_S256x256_0_0).toLoadRect (harg3.unread x1)) (View.readAt (Elt F) arg4.view (Rect.unit (s := S256x2048) ![0, 0] S256x512.size inb_S256x2048_S256x512_0_0).toLoadRect (harg4.unread x2)) (kernelRun0_A.sl.v79 c arg10)⟩,
       ⟨Rect.unit ![0, 0, 0] S4x256x512.size inb_S4x256x512_S4x256x512_0_0_0, k0_pay2⟩] := by
  rfl

/-- The stores into the normalizer at a point that is a sequence's first. -/
theorem nA (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x8x128 .f32) (harg12 : arg12.IsWhole) (hc0 : cond0_0 i)
    (x0 : Vec F S256x1024 .bf16) (x1 : Vec F S256x1024 .bf16) (x2 : Vec F S256x2048 .bf16) (x3 : Vec F S256x2048 .bf16) (x4 : Vec F S256x128 .f32) (x5 : Vec F S1x128 .f32) (x6 : Vec F S1x2048 .f32) :
    (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.2.1 =
      [⟨Rect.unit ![3, 0, 0] ![1, 1, 256] inb_S4x1x256_S1x1x256_3_0_0,
        Head.nnew (extractStridedSlice S256x1 ![0, 7] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_7_S256x1) (extractStridedSlice S256x1 ![0, 3] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_3_S256x1) (extractStridedSlice S1x256 ![7, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o7_0_S1x256) (kernelRun0_A.sl.v404 c arg6 harg6 arg7 harg7 arg12 x4 x5) (View.readAt (Elt F) arg3.view (Rect.unit (s := S256x1024) ![0, 768] S256x256.size inb_S256x1024_S256x256_0_768).toLoadRect (harg3.unread x1)) (kernelRun0_A.sl.v432 c arg3 harg3 arg6 harg6 arg7 harg7 arg11 arg12 x1 x4 x5)⟩,
       ⟨Rect.unit ![2, 0, 0] ![1, 1, 256] inb_S4x1x256_S1x1x256_2_0_0,
        Head.nnew (extractStridedSlice S256x1 ![0, 6] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_6_S256x1) (extractStridedSlice S256x1 ![0, 2] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_2_S256x1) (extractStridedSlice S1x256 ![6, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o6_0_S1x256) (kernelRun0_A.sl.v287 c arg6 harg6 arg7 harg7 arg12 x4 x5) (View.readAt (Elt F) arg3.view (Rect.unit (s := S256x1024) ![0, 512] S256x256.size inb_S256x1024_S256x256_0_512).toLoadRect (harg3.unread x1)) (kernelRun0_A.sl.v315 c arg3 harg3 arg6 harg6 arg7 harg7 arg11 arg12 x1 x4 x5)⟩,
       ⟨Rect.unit ![1, 0, 0] ![1, 1, 256] inb_S4x1x256_S1x1x256_1_0_0,
        Head.nnew (extractStridedSlice S256x1 ![0, 5] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_5_S256x1) (extractStridedSlice S256x1 ![0, 1] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_1_S256x1) (extractStridedSlice S1x256 ![5, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o5_0_S1x256) (kernelRun0_A.sl.v170 c arg6 harg6 arg7 harg7 arg12 x4 x5) (View.readAt (Elt F) arg3.view (Rect.unit (s := S256x1024) ![0, 256] S256x256.size inb_S256x1024_S256x256_0_256).toLoadRect (harg3.unread x1)) (kernelRun0_A.sl.v198 c arg3 harg3 arg6 harg6 arg7 harg7 arg11 arg12 x1 x4 x5)⟩,
       ⟨Rect.unit ![0, 0, 0] ![1, 1, 256] inb_S4x1x256_S1x1x256_0_0_0,
        Head.nnew (extractStridedSlice S256x1 ![0, 4] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_4_S256x1) (extractStridedSlice S256x1 ![0, 0] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_0_S256x1) (extractStridedSlice S1x256 ![4, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o4_0_S1x256) (kernelRun0_A.sl.v53 c arg12) (View.readAt (Elt F) arg3.view (Rect.unit (s := S256x1024) ![0, 0] S256x256.size inb_S256x1024_S256x256_0_0).toLoadRect (harg3.unread x1)) (kernelRun0_A.sl.v81 c arg11)⟩,
       ⟨Rect.unit ![0, 0, 0] S4x1x256.size inb_S4x1x256_S4x1x256_0_0_0, k0_pay3⟩] := by
  rfl

/-- The stores into the stabilizer at a point that is a sequence's first. -/
theorem mA (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x8x128 .f32) (harg12 : arg12.IsWhole) (hc0 : cond0_0 i)
    (x0 : Vec F S256x1024 .bf16) (x1 : Vec F S256x1024 .bf16) (x2 : Vec F S256x2048 .bf16) (x3 : Vec F S256x2048 .bf16) (x4 : Vec F S256x128 .f32) (x5 : Vec F S1x128 .f32) (x6 : Vec F S1x2048 .f32) :
    (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.2.2.1 =
      [⟨Rect.unit ![3, 0, 0] ![1, 8, 128] inb_S4x8x128_S1x8x128_3_0_0,
        Head.mstored (extractStridedSlice S256x1 ![0, 7] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_7_S256x1) (extractStridedSlice S256x1 ![0, 3] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_3_S256x1) (extractStridedSlice S1x256 ![7, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o7_0_S1x256) (kernelRun0_A.sl.v404 c arg6 harg6 arg7 harg7 arg12 x4 x5)⟩,
       ⟨Rect.unit ![2, 0, 0] ![1, 8, 128] inb_S4x8x128_S1x8x128_2_0_0,
        Head.mstored (extractStridedSlice S256x1 ![0, 6] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_6_S256x1) (extractStridedSlice S256x1 ![0, 2] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_2_S256x1) (extractStridedSlice S1x256 ![6, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o6_0_S1x256) (kernelRun0_A.sl.v287 c arg6 harg6 arg7 harg7 arg12 x4 x5)⟩,
       ⟨Rect.unit ![1, 0, 0] ![1, 8, 128] inb_S4x8x128_S1x8x128_1_0_0,
        Head.mstored (extractStridedSlice S256x1 ![0, 5] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_5_S256x1) (extractStridedSlice S256x1 ![0, 1] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_1_S256x1) (extractStridedSlice S1x256 ![5, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o5_0_S1x256) (kernelRun0_A.sl.v170 c arg6 harg6 arg7 harg7 arg12 x4 x5)⟩,
       ⟨Rect.unit ![0, 0, 0] ![1, 8, 128] inb_S4x8x128_S1x8x128_0_0_0,
        Head.mstored (extractStridedSlice S256x1 ![0, 4] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_4_S256x1) (extractStridedSlice S256x1 ![0, 0] (gcol (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S256x128_o0_0_S256x1) (extractStridedSlice S1x256 ![4, 0] (grow (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5))) slices_S128x256_o4_0_S1x256) (kernelRun0_A.sl.v53 c arg12)⟩,
       ⟨Rect.unit ![0, 0, 0] S4x8x128.size inb_S4x8x128_S4x8x128_0_0_0, k0_pay4⟩] := by
  rfl

end Cert.Proof.KernelPieces
end
-- ==== Proof.Gates.lean ====
/- The mLSTM kernel's gate columns at a chunk, in terms of the heads' streams. -/
module

public import proofs.«01_k».proof.Proof.KernelPieces

@[expose] public section

set_option maxRecDepth 16384

noncomputable section

namespace Cert.Proof.KernelPieces

open Idealize Idealize.ShloMosaic Cert.KernelIdeal Cert.KernelIdeal.Gen MixerStreams

/-- A gate's value before the logarithm. -/
abbrev gate (x4 : FVec Ideal S256x128 .f32) (x5 : FVec Ideal S1x128 .f32) (i : Fin 256) (l : Fin 128) : EReal :=
  softcap (x4 (ix2 i l) + x5 (ix2 0 l))

variable (x4 : FVec Ideal S256x128 .f32) (x5 : FVec Ideal S1x128 .f32)

/-- The first gate payload, at one element: the gate with its bias. -/
theorem pay5_apply (i : Fin 256) (l : Fin 128) : k0_pay5 (F := Ideal) x4 x5 (ix2 i l) = gate x4 x5 i l := by
  pointwise [k0_pay5]
  rfl

/-- The logarithm of a forget gate. -/
theorem pay6_apply (i : Fin 256) (l : Fin 128) : k0_pay6 (F := Ideal) x4 x5 (ix2 i l) = logsig (gate x4 x5 i l) := by
  rw [← pay5_apply]
  generalize hx : k0_pay5 (F := Ideal) x4 x5 (ix2 i l) = x
  have : k0_pay6 (F := Ideal) x4 x5 (ix2 i l) = 0 - (max (0 - x) 0 + Ideal.log1p (Ideal.exp (0 - max x (-x)))) := by
    rw [← hx]
    pointwise [k0_pay6, k0_pay5]
    rfl
  rw [this]
  simp only [zero_sub]
  rfl

/-- The kernel's triangle of ones, at one element: one on and below the diagonal. -/
theorem tri_apply (i j : Fin 256) : k0_pay8 (F := Ideal) (ix2 i j) = if j ≤ i then 1 else 0 := by
  pointwise [k0_pay8, k0_pay7]
  rw [Head.le_apply]
  split <;> rfl

/-- A finite value less itself is zero. -/
theorem self_sub {x : EReal} {r : ℝ} (h : x = (r : EReal)) : x - x = 0 := by
  rw [h, ← EReal.coe_sub, sub_self, EReal.coe_zero]

/-- The lanes of the input gates. -/
theorem gcol_ig (i : Fin 256) (l : Fin 128) (h : l.val < 4) : gcol (F := Ideal) x4 x5 (ix2 i l) = gate x4 x5 i l := by
  have hl : IntOp.cmpi .slt (BitVec.ofNat 32 l.val) 4#32 = 1#1 := by
    obtain ⟨l, _⟩ := l
    change l < 4 at h
    interval_cases l <;> rfl
  rw [← pay5_apply]
  pointwise [gcol, k0_pay15]
  rw [hl]
  rfl

/-- The lanes of the forget gates: the sums so far. -/
theorem gcol_b (i : Fin 256) (l : Fin 128) (h : 4 ≤ l.val) (h8 : l.val < 8) (hr : ∀ j : Fin 256, ∃ r : ℝ, logsig (gate x4 x5 j l) = (r : EReal)) :
    gcol (F := Ideal) x4 x5 (ix2 i l) = ∑ j : Fin 256, if j ≤ i then logsig (gate x4 x5 j l) else 0 := by
  have hl : IntOp.cmpi .slt (BitVec.ofNat 32 l.val) 4#32 = 0#1 := by
    obtain ⟨l, _⟩ := l
    change l < 8 at h8
    change 4 ≤ l at h
    interval_cases l <;> rfl
  have h10 : ∀ j : Fin 256, k0_pay10 (F := Ideal) x4 x5 (ix2 j l) = 0 := fun j => by
    obtain ⟨r, hr⟩ := hr j
    rw [← pay6_apply] at hr
    exact self_sub hr
  have h13 : ∀ j : Fin 256, k0_pay13 (F := Ideal) x4 x5 (ix2 j l) = 0 := fun j => by
    show k0_pay10 (F := Ideal) x4 x5 (ix2 j l) - k0_pay10 (F := Ideal) x4 x5 (ix2 j l) = 0
    rw [h10, sub_zero]
  have h11 : k0_pay11 (F := Ideal) x4 x5 (ix2 i l) = ∑ j : Fin 256, if j ≤ i then logsig (gate x4 x5 j l) else 0 := by
    pointwise [k0_pay11, k0_pay9]
    simp only [pay6_apply, tri_apply, ite_mul, one_mul, zero_mul]
  have h14 : k0_pay14 (F := Ideal) x4 x5 (ix2 i l) = 0 := by
    pointwise [k0_pay14, k0_pay12]
    simp only [h10, mul_zero, Finset.sum_const_zero]
  pointwise [gcol, k0_pay15]
  rw [hl]
  simp only [h11, h13, h14, mul_zero, Finset.sum_const_zero, add_zero]
  rfl

end Cert.Proof.KernelPieces
end
-- ==== Proof.KernelLoads.lean ====
/- The mLSTM kernel's grid points: what a point leaves in the result's window and in the memory it carries. -/
module

public import Idealize.ShloMosaic.Lib.WholeRead
public import Idealize.ShloMosaic.Lib.Pipeline.ReadBack
public import proofs.«01_k».proof.Proof.Gates

@[expose] public section

set_option maxRecDepth 16384

set_option maxHeartbeats 400000

noncomputable section

namespace Cert.Proof.KernelPieces

open Idealize Idealize.ShloMosaic Cert.KernelIdeal Cert.KernelIdeal.Gen MixerStreams

/-- A chunk's windows hold the rows `T … T + 255` of four heads' streams. -/
structure Block (Ss : Fin 4 → Chunk.Streams 256 512) (T : ℕ) (x0 x1 : FVec Ideal S256x1024 .bf16) (x2 : FVec Ideal S256x2048 .bf16)
    (x4 : FVec Ideal S256x128 .f32) (x5 : FVec Ideal S1x128 .f32) : Prop where
  hig : ∀ (i : Fin 256) (h : Fin 4), gate x4 x5 i ⟨h.val, by omega⟩ = (((Ss h).ig (T + i) : ℝ) : EReal)
  hlf : ∀ (i : Fin 256) (h : Fin 4), logsig (gate x4 x5 i ⟨4 + h.val, by omega⟩) = (((Ss h).lf (T + i) : ℝ) : EReal)
  hq : ∀ (i : Fin 256) (h : Fin 4) (d : Fin 256), x0 (ix2 i ⟨256 * h.val + d.val, by omega⟩) = (((Ss h).q (T + i) d : ℝ) : EReal)
  hk : ∀ (i : Fin 256) (h : Fin 4) (d : Fin 256), ∃ r : ℝ, x1 (ix2 i ⟨256 * h.val + d.val, by omega⟩) = (r : EReal) ∧
    (Ss h).k (T + i) d = r * (1 / 16)
  hv : ∀ (i : Fin 256) (h : Fin 4) (e : Fin 512), x2 (ix2 i ⟨512 * h.val + e.val, by omega⟩) = (((Ss h).v (T + i) e : ℝ) : EReal)

/-- The carried buffers hold the heads' memories, normalizers and stabilizers before row `T`. -/
structure Mem (Ss : Fin 4 → Chunk.Streams 256 512) (T : ℕ) (xs0 : FVec Ideal S4x256x512 .f32) (xs1 : FVec Ideal S4x1x256 .f32)
    (xs2 : FVec Ideal S4x8x128 .f32) : Prop where
  hc : ∀ (h : Fin 4) (d : Fin 256) (e : Fin 512), xs0 (ix3 h d e) = ((Chunk.C (Ss h) T d e : ℝ) : EReal)
  hn : ∀ (h : Fin 4) (d : Fin 256), xs1 (ix3 h 0 d) = ((Chunk.N (Ss h) T d : ℝ) : EReal)
  hm : ∀ (h : Fin 4) (a : Fin 8) (b : Fin 128), xs2 (ix3 h a b) = ((Chunk.M (Ss h) T : ℝ) : EReal)

section gates

variable {Ss : Fin 4 → Chunk.Streams 256 512} {T : ℕ} {x0 x1 : FVec Ideal S256x1024 .bf16} {x2 : FVec Ideal S256x2048 .bf16}
  {x4 : FVec Ideal S256x128 .f32} {x5 : FVec Ideal S1x128 .f32} (H : Block Ss T x0 x1 x2 x4 x5)

include H in
/-- A forget-gate lane of the gate columns holds the head's log-decay so far in the chunk. -/
theorem Block.b_eq (h : Fin 4) (i : Fin 256) : gcol (F := Ideal) x4 x5 (ix2 i ⟨4 + h.val, by omega⟩)
    = ((Chunk.G (Ss h) (T + i + 1) - Chunk.G (Ss h) T : ℝ) : EReal) := by
  rw [gcol_b x4 x5 i _ (Nat.le_add_right _ _) (by show 4 + h.val < 8; omega) (fun j => ⟨_, H.hlf j h⟩)]
  simp only [H.hlf]
  exact bcum_eq (Ss h) T (fun k => (((Ss h).lf (T + k) : ℝ) : EReal)) (fun _ => rfl) i

include H in
/-- An input-gate lane of the gate columns holds the head's input gates. -/
theorem Block.ig_eq (h : Fin 4) (i : Fin 256) : gcol (F := Ideal) x4 x5 (ix2 i ⟨h.val, by omega⟩)
    = (((Ss h).ig (T + i) : ℝ) : EReal) := by
  rw [gcol_ig x4 x5 i _ h.isLt, H.hig]

end gates

/-- A load of the whole gate window is the window. -/
theorem whole6 (arg6 : Memref sig .tc .vmem S256x128 .f32) (harg6 : arg6.IsWhole) (x4 : Vec Ideal S256x128 .f32) :
    (View.readAt (Elt Ideal) arg6.view (Rect.unit (s := S256x128) ![0, 0] S256x128.size inb_S256x128_S256x128_0_0).toLoadRect (harg6.unread x4)) = x4 := by
  funext x
  refine (harg6.readAt_unread x4 _ x).trans (congrArg x4 ?_)
  funext a
  fin_cases a <;> (apply Fin.ext; simp [LoadRect.idx, Rect.toLoadRect, Rect.unit, Rect.emb])

/-- A load of the whole bias window is the window. -/
theorem whole7 (arg7 : Memref sig .tc .vmem S1x128 .f32) (harg7 : arg7.IsWhole) (x5 : Vec Ideal S1x128 .f32) :
    (View.readAt (Elt Ideal) arg7.view (Rect.unit (s := S1x128) ![0, 0] S1x128.size inb_S1x128_S1x128_0_0).toLoadRect (harg7.unread x5)) = x5 := by
  funext x
  refine (harg7.readAt_unread x5 _ x).trans (congrArg x5 ?_)
  funext a
  fin_cases a <;> (apply Fin.ext; simp [LoadRect.idx, Rect.toLoadRect, Rect.unit, Rect.emb])

/-- The stabilizer before the first row. -/
theorem zero_M (S : Chunk.Streams 256 512) : ((Chunk.M S 0 : ℝ) : EReal) = 0 := by rw [(Chunk.start S).1, EReal.coe_zero]

/-- The memory before the first row. -/
theorem zero_C (S : Chunk.Streams 256 512) (d : Fin 256) (e : Fin 512) : ((Chunk.C S 0 d e : ℝ) : EReal) = 0 := by
  rw [(Chunk.start S).2.1, EReal.coe_zero]

/-- The normalizer before the first row. -/
theorem zero_N (S : Chunk.Streams 256 512) (d : Fin 256) : ((Chunk.N S 0 d : ℝ) : EReal) = 0 := by
  rw [(Chunk.start S).2.2, EReal.coe_zero]

/-- The stabilizer head 0 loads at a sequence's first point is the zero fill. -/
theorem zm0 (c : Dev nD) (arg12 : Memref sig .tc .vmem S4x8x128 .f32) (x) :
    kernelRun0_A.sl.v53 (F := Ideal) c arg12 x = 0 := by
  have e : kernelRun0_A.sl.v53 (F := Ideal) c arg12 = View.ld (k0_pay4 (F := Ideal)) _ := by
    unfold kernelRun0_A.sl.v53 kernelRun0_A.sl.HS2_1
    exact View.readCov_fill _ _ _ _ _ (fun a => by fin_cases a <;> rfl)
  rw [e]
  show k0_pay4 (F := Ideal) _ = 0
  pointwise [k0_pay4]

/-- The memory head 0 loads at a sequence's first point is the zero fill. -/
theorem zc0 (c : Dev nD) (arg10 : Memref sig .tc .vmem S4x256x512 .f32) (x) :
    kernelRun0_A.sl.v79 (F := Ideal) c arg10 x = 0 := by
  have e : kernelRun0_A.sl.v79 (F := Ideal) c arg10 = View.ld (k0_pay2 (F := Ideal)) _ := by
    unfold kernelRun0_A.sl.v79 kernelRun0_A.sl.HS0_1
    exact View.readCov_fill _ _ _ _ _ (fun a => by fin_cases a <;> rfl)
  rw [e]
  show k0_pay2 (F := Ideal) _ = 0
  pointwise [k0_pay2]

/-- The normalizer head 0 loads at a sequence's first point is the zero fill. -/
theorem zn0 (c : Dev nD) (arg11 : Memref sig .tc .vmem S4x1x256 .f32) (x) :
    kernelRun0_A.sl.v81 (F := Ideal) c arg11 x = 0 := by
  have e : kernelRun0_A.sl.v81 (F := Ideal) c arg11 = View.ld (k0_pay3 (F := Ideal)) _ := by
    unfold kernelRun0_A.sl.v81 kernelRun0_A.sl.HS1_1
    exact View.readCov_fill _ _ _ _ _ (fun a => by fin_cases a <;> rfl)
  rw [e]
  show k0_pay3 (F := Ideal) _ = 0
  pointwise [k0_pay3]

/-- The stabilizer head 1 loads at a sequence's first point is the zero fill. -/
theorem zm1 (c : Dev nD) (arg6 : Memref sig .tc .vmem S256x128 .f32) (harg6 : arg6.IsWhole) (arg7 : Memref sig .tc .vmem S1x128 .f32) (harg7 : arg7.IsWhole) (arg12 : Memref sig .tc .vmem S4x8x128 .f32) (x4 : Vec Ideal S256x128 .f32) (x5 : Vec Ideal S1x128 .f32) (x) :
    kernelRun0_A.sl.v170 (F := Ideal) c arg6 harg6 arg7 harg7 arg12 x4 x5 x = 0 := by
  have e : kernelRun0_A.sl.v170 (F := Ideal) c arg6 harg6 arg7 harg7 arg12 x4 x5 = View.ld (k0_pay4 (F := Ideal)) _ := by
    unfold kernelRun0_A.sl.v170 kernelRun0_A.sl.HS2_2 kernelRun0_A.sl.HS2_1
    rw [View.readCov_skip _ _ _ _ _ (by decide)]
    exact View.readCov_fill _ _ _ _ _ (fun a => by fin_cases a <;> rfl)
  rw [e]
  show k0_pay4 (F := Ideal) _ = 0
  pointwise [k0_pay4]

/-- The memory head 1 loads at a sequence's first point is the zero fill. -/
theorem zc1 (c : Dev nD) (arg3 : Memref sig .tc .vmem S256x1024 .bf16) (harg3 : arg3.IsWhole) (arg4 : Memref sig .tc .vmem S256x2048 .bf16) (harg4 : arg4.IsWhole) (arg6 : Memref sig .tc .vmem S256x128 .f32) (harg6 : arg6.IsWhole) (arg7 : Memref sig .tc .vmem S1x128 .f32) (harg7 : arg7.IsWhole) (arg10 : Memref sig .tc .vmem S4x256x512 .f32) (arg12 : Memref sig .tc .vmem S4x8x128 .f32) (x1 : Vec Ideal S256x1024 .bf16) (x2 : Vec Ideal S256x2048 .bf16) (x4 : Vec Ideal S256x128 .f32) (x5 : Vec Ideal S1x128 .f32) (x) :
    kernelRun0_A.sl.v196 (F := Ideal) c arg3 harg3 arg4 harg4 arg6 harg6 arg7 harg7 arg10 arg12 x1 x2 x4 x5 x = 0 := by
  have e : kernelRun0_A.sl.v196 (F := Ideal) c arg3 harg3 arg4 harg4 arg6 harg6 arg7 harg7 arg10 arg12 x1 x2 x4 x5 = View.ld (k0_pay2 (F := Ideal)) _ := by
    unfold kernelRun0_A.sl.v196 kernelRun0_A.sl.HS0_2 kernelRun0_A.sl.HS0_1
    rw [View.readCov_skip _ _ _ _ _ (by decide)]
    exact View.readCov_fill _ _ _ _ _ (fun a => by fin_cases a <;> rfl)
  rw [e]
  show k0_pay2 (F := Ideal) _ = 0
  pointwise [k0_pay2]

/-- The normalizer head 1 loads at a sequence's first point is the zero fill. -/
theorem zn1 (c : Dev nD) (arg3 : Memref sig .tc .vmem S256x1024 .bf16) (harg3 : arg3.IsWhole) (arg6 : Memref sig .tc .vmem S256x128 .f32) (harg6 : arg6.IsWhole) (arg7 : Memref sig .tc .vmem S1x128 .f32) (harg7 : arg7.IsWhole) (arg11 : Memref sig .tc .vmem S4x1x256 .f32) (arg12 : Memref sig .tc .vmem S4x8x128 .f32) (x1 : Vec Ideal S256x1024 .bf16) (x4 : Vec Ideal S256x128 .f32) (x5 : Vec Ideal S1x128 .f32) (x) :
    kernelRun0_A.sl.v198 (F := Ideal) c arg3 harg3 arg6 harg6 arg7 harg7 arg11 arg12 x1 x4 x5 x = 0 := by
  have e : kernelRun0_A.sl.v198 (F := Ideal) c arg3 harg3 arg6 harg6 arg7 harg7 arg11 arg12 x1 x4 x5 = View.ld (k0_pay3 (F := Ideal)) _ := by
    unfold kernelRun0_A.sl.v198 kernelRun0_A.sl.HS1_2 kernelRun0_A.sl.HS1_1
    rw [View.readCov_skip _ _ _ _ _ (by decide)]
    exact View.readCov_fill _ _ _ _ _ (fun a => by fin_cases a <;> rfl)
  rw [e]
  show k0_pay3 (F := Ideal) _ = 0
  pointwise [k0_pay3]

/-- The stabilizer head 2 loads at a sequence's first point is the zero fill. -/
theorem zm2 (c : Dev nD) (arg6 : Memref sig .tc .vmem S256x128 .f32) (harg6 : arg6.IsWhole) (arg7 : Memref sig .tc .vmem S1x128 .f32) (harg7 : arg7.IsWhole) (arg12 : Memref sig .tc .vmem S4x8x128 .f32) (x4 : Vec Ideal S256x128 .f32) (x5 : Vec Ideal S1x128 .f32) (x) :
    kernelRun0_A.sl.v287 (F := Ideal) c arg6 harg6 arg7 harg7 arg12 x4 x5 x = 0 := by
  have e : kernelRun0_A.sl.v287 (F := Ideal) c arg6 harg6 arg7 harg7 arg12 x4 x5 = View.ld (k0_pay4 (F := Ideal)) _ := by
    unfold kernelRun0_A.sl.v287 kernelRun0_A.sl.HS2_3 kernelRun0_A.sl.HS2_2 kernelRun0_A.sl.HS2_1
    rw [View.readCov_skip _ _ _ _ _ (by decide), View.readCov_skip _ _ _ _ _ (by decide)]
    exact View.readCov_fill _ _ _ _ _ (fun a => by fin_cases a <;> rfl)
  rw [e]
  show k0_pay4 (F := Ideal) _ = 0
  pointwise [k0_pay4]

/-- The memory head 2 loads at a sequence's first point is the zero fill. -/
theorem zc2 (c : Dev nD) (arg3 : Memref sig .tc .vmem S256x1024 .bf16) (harg3 : arg3.IsWhole) (arg4 : Memref sig .tc .vmem S256x2048 .bf16) (harg4 : arg4.IsWhole) (arg6 : Memref sig .tc .vmem S256x128 .f32) (harg6 : arg6.IsWhole) (arg7 : Memref sig .tc .vmem S1x128 .f32) (harg7 : arg7.IsWhole) (arg10 : Memref sig .tc .vmem S4x256x512 .f32) (arg12 : Memref sig .tc .vmem S4x8x128 .f32) (x1 : Vec Ideal S256x1024 .bf16) (x2 : Vec Ideal S256x2048 .bf16) (x4 : Vec Ideal S256x128 .f32) (x5 : Vec Ideal S1x128 .f32) (x) :
    kernelRun0_A.sl.v313 (F := Ideal) c arg3 harg3 arg4 harg4 arg6 harg6 arg7 harg7 arg10 arg12 x1 x2 x4 x5 x = 0 := by
  have e : kernelRun0_A.sl.v313 (F := Ideal) c arg3 harg3 arg4 harg4 arg6 harg6 arg7 harg7 arg10 arg12 x1 x2 x4 x5 = View.ld (k0_pay2 (F := Ideal)) _ := by
    unfold kernelRun0_A.sl.v313 kernelRun0_A.sl.HS0_3 kernelRun0_A.sl.HS0_2 kernelRun0_A.sl.HS0_1
    rw [View.readCov_skip _ _ _ _ _ (by decide), View.readCov_skip _ _ _ _ _ (by decide)]
    exact View.readCov_fill _ _ _ _ _ (fun a => by fin_cases a <;> rfl)
  rw [e]
  show k0_pay2 (F := Ideal) _ = 0
  pointwise [k0_pay2]

/-- The normalizer head 2 loads at a sequence's first point is the zero fill. -/
theorem zn2 (c : Dev nD) (arg3 : Memref sig .tc .vmem S256x1024 .bf16) (harg3 : arg3.IsWhole) (arg6 : Memref sig .tc .vmem S256x128 .f32) (harg6 : arg6.IsWhole) (arg7 : Memref sig .tc .vmem S1x128 .f32) (harg7 : arg7.IsWhole) (arg11 : Memref sig .tc .vmem S4x1x256 .f32) (arg12 : Memref sig .tc .vmem S4x8x128 .f32) (x1 : Vec Ideal S256x1024 .bf16) (x4 : Vec Ideal S256x128 .f32) (x5 : Vec Ideal S1x128 .f32) (x) :
    kernelRun0_A.sl.v315 (F := Ideal) c arg3 harg3 arg6 harg6 arg7 harg7 arg11 arg12 x1 x4 x5 x = 0 := by
  have e : kernelRun0_A.sl.v315 (F := Ideal) c arg3 harg3 arg6 harg6 arg7 harg7 arg11 arg12 x1 x4 x5 = View.ld (k0_pay3 (F := Ideal)) _ := by
    unfold kernelRun0_A.sl.v315 kernelRun0_A.sl.HS1_3 kernelRun0_A.sl.HS1_2 kernelRun0_A.sl.HS1_1
    rw [View.readCov_skip _ _ _ _ _ (by decide), View.readCov_skip _ _ _ _ _ (by decide)]
    exact View.readCov_fill _ _ _ _ _ (fun a => by fin_cases a <;> rfl)
  rw [e]
  show k0_pay3 (F := Ideal) _ = 0
  pointwise [k0_pay3]

/-- The stabilizer head 3 loads at a sequence's first point is the zero fill. -/
theorem zm3 (c : Dev nD) (arg6 : Memref sig .tc .vmem S256x128 .f32) (harg6 : arg6.IsWhole) (arg7 : Memref sig .tc .vmem S1x128 .f32) (harg7 : arg7.IsWhole) (arg12 : Memref sig .tc .vmem S4x8x128 .f32) (x4 : Vec Ideal S256x128 .f32) (x5 : Vec Ideal S1x128 .f32) (x) :
    kernelRun0_A.sl.v404 (F := Ideal) c arg6 harg6 arg7 harg7 arg12 x4 x5 x = 0 := by
  have e : kernelRun0_A.sl.v404 (F := Ideal) c arg6 harg6 arg7 harg7 arg12 x4 x5 = View.ld (k0_pay4 (F := Ideal)) _ := by
    unfold kernelRun0_A.sl.v404 kernelRun0_A.sl.HS2_4 kernelRun0_A.sl.HS2_3 kernelRun0_A.sl.HS2_2 kernelRun0_A.sl.HS2_1
    rw [View.readCov_skip _ _ _ _ _ (by decide), View.readCov_skip _ _ _ _ _ (by decide), View.readCov_skip _ _ _ _ _ (by decide)]
    exact View.readCov_fill _ _ _ _ _ (fun a => by fin_cases a <;> rfl)
  rw [e]
  show k0_pay4 (F := Ideal) _ = 0
  pointwise [k0_pay4]

/-- The memory head 3 loads at a sequence's first point is the zero fill. -/
theorem zc3 (c : Dev nD) (arg3 : Memref sig .tc .vmem S256x1024 .bf16) (harg3 : arg3.IsWhole) (arg4 : Memref sig .tc .vmem S256x2048 .bf16) (harg4 : arg4.IsWhole) (arg6 : Memref sig .tc .vmem S256x128 .f32) (harg6 : arg6.IsWhole) (arg7 : Memref sig .tc .vmem S1x128 .f32) (harg7 : arg7.IsWhole) (arg10 : Memref sig .tc .vmem S4x256x512 .f32) (arg12 : Memref sig .tc .vmem S4x8x128 .f32) (x1 : Vec Ideal S256x1024 .bf16) (x2 : Vec Ideal S256x2048 .bf16) (x4 : Vec Ideal S256x128 .f32) (x5 : Vec Ideal S1x128 .f32) (x) :
    kernelRun0_A.sl.v430 (F := Ideal) c arg3 harg3 arg4 harg4 arg6 harg6 arg7 harg7 arg10 arg12 x1 x2 x4 x5 x = 0 := by
  have e : kernelRun0_A.sl.v430 (F := Ideal) c arg3 harg3 arg4 harg4 arg6 harg6 arg7 harg7 arg10 arg12 x1 x2 x4 x5 = View.ld (k0_pay2 (F := Ideal)) _ := by
    unfold kernelRun0_A.sl.v430 kernelRun0_A.sl.HS0_4 kernelRun0_A.sl.HS0_3 kernelRun0_A.sl.HS0_2 kernelRun0_A.sl.HS0_1
    rw [View.readCov_skip _ _ _ _ _ (by decide), View.readCov_skip _ _ _ _ _ (by decide), View.readCov_skip _ _ _ _ _ (by decide)]
    exact View.readCov_fill _ _ _ _ _ (fun a => by fin_cases a <;> rfl)
  rw [e]
  show k0_pay2 (F := Ideal) _ = 0
  pointwise [k0_pay2]

/-- The normalizer head 3 loads at a sequence's first point is the zero fill. -/
theorem zn3 (c : Dev nD) (arg3 : Memref sig .tc .vmem S256x1024 .bf16) (harg3 : arg3.IsWhole) (arg6 : Memref sig .tc .vmem S256x128 .f32) (harg6 : arg6.IsWhole) (arg7 : Memref sig .tc .vmem S1x128 .f32) (harg7 : arg7.IsWhole) (arg11 : Memref sig .tc .vmem S4x1x256 .f32) (arg12 : Memref sig .tc .vmem S4x8x128 .f32) (x1 : Vec Ideal S256x1024 .bf16) (x4 : Vec Ideal S256x128 .f32) (x5 : Vec Ideal S1x128 .f32) (x) :
    kernelRun0_A.sl.v432 (F := Ideal) c arg3 harg3 arg6 harg6 arg7 harg7 arg11 arg12 x1 x4 x5 x = 0 := by
  have e : kernelRun0_A.sl.v432 (F := Ideal) c arg3 harg3 arg6 harg6 arg7 harg7 arg11 arg12 x1 x4 x5 = View.ld (k0_pay3 (F := Ideal)) _ := by
    unfold kernelRun0_A.sl.v432 kernelRun0_A.sl.HS1_4 kernelRun0_A.sl.HS1_3 kernelRun0_A.sl.HS1_2 kernelRun0_A.sl.HS1_1
    rw [View.readCov_skip _ _ _ _ _ (by decide), View.readCov_skip _ _ _ _ _ (by decide), View.readCov_skip _ _ _ _ _ (by decide)]
    exact View.readCov_fill _ _ _ _ _ (fun a => by fin_cases a <;> rfl)
  rw [e]
  show k0_pay3 (F := Ideal) _ = 0
  pointwise [k0_pay3]

/-- What head 0 loads at a point that is not a sequence's first. -/
theorem loadsB0 (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x8x128 .f32) (harg12 : arg12.IsWhole) (hc0 : ¬cond0_0 i)
    (x0 : Vec Ideal S256x1024 .bf16) (x1 : Vec Ideal S256x1024 .bf16) (x2 : Vec Ideal S256x2048 .bf16) (x3 : Vec Ideal S256x2048 .bf16) (x4 : Vec Ideal S256x128 .f32) (x5 : Vec Ideal S1x128 .f32) (x6 : Vec Ideal S1x2048 .f32) (xs0 : Vec Ideal S4x256x512 .f32) (xs1 : Vec Ideal S4x1x256 .f32) (xs2 : Vec Ideal S4x8x128 .f32)
    {Ss : Fin 4 → Chunk.Streams 256 512} {T : ℕ} (H : Block Ss T x0 x1 x2 x4 x5) (HM : Mem Ss T xs0 xs1 xs2) :
    Head.Loads (extractStridedSlice S256x1 ![0, 4] (gcol (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S256x128_o0_4_S256x1) (extractStridedSlice S256x1 ![0, 0] (gcol (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S256x128_o0_0_S256x1) (extractStridedSlice S1x256 ![4, 0] (grow (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S128x256_o4_0_S1x256) (extractStridedSlice S1x256 ![0, 0] (grow (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S128x256_o0_0_S1x256) (View.readAt (Elt Ideal) arg12.view (Rect.unit (s := S4x8x128) ![0, 0, 0] S1x1x1.size inb_S4x8x128_S1x1x1_0_0_0).toLoadRect (harg12.unread xs2)) (View.readAt (Elt Ideal) arg2.view (Rect.unit (s := S256x1024) ![0, 0] S256x256.size inb_S256x1024_S256x256_0_0).toLoadRect (harg2.unread x0)) (View.readAt (Elt Ideal) arg3.view (Rect.unit (s := S256x1024) ![0, 0] S256x256.size inb_S256x1024_S256x256_0_0).toLoadRect (harg3.unread x1)) (View.readAt (Elt Ideal) arg4.view (Rect.unit (s := S256x2048) ![0, 0] S256x512.size inb_S256x2048_S256x512_0_0).toLoadRect (harg4.unread x2)) (View.readAt (Elt Ideal) arg10.view (Rect.unit (s := S4x256x512) ![0, 0, 0] S1x256x512.size inb_S4x256x512_S1x256x512_0_0_0).toLoadRect (harg10.unread xs0)) (View.readAt (Elt Ideal) arg11.view (Rect.unit (s := S4x1x256) ![0, 0, 0] S1x1x256.size inb_S4x1x256_S1x1x256_0_0_0).toLoadRect (harg11.unread xs1)) (Ss 0) T := by
  rw [whole6, whole7]
  exact {
    hb := fun i => (show _ = gcol (F := Ideal) x4 x5 (ix2 i 4) by pointwise []).trans (H.b_eq 0 i)
    hbr := fun i => by pointwise [grow]
    hig := fun i => (show _ = gcol (F := Ideal) x4 x5 (ix2 i 0) by pointwise []).trans (H.ig_eq 0 i)
    hir := fun i => by pointwise [grow]
    hm := (harg12.readAt_unread xs2 _ _).trans ((congrArg xs2 (by funext a; fin_cases a <;> (apply Fin.ext; simp [LoadRect.idx, Rect.toLoadRect, Rect.unit, Rect.emb]))).trans (HM.hm 0 0 0))
    hq := fun i d => (harg2.readAt_unread x0 _ _).trans ((congrArg x0 (by funext a; fin_cases a <;> (apply Fin.ext; simp [LoadRect.idx, Rect.toLoadRect, Rect.unit, Rect.emb]))).trans (H.hq i 0 d))
    hk := fun i d => (H.hk i 0 d).imp fun r hr => ⟨(harg3.readAt_unread x1 _ _).trans ((congrArg x1 (by funext a; fin_cases a <;> (apply Fin.ext; simp [LoadRect.idx, Rect.toLoadRect, Rect.unit, Rect.emb]))).trans hr.1), hr.2⟩
    hv := fun i e => (harg4.readAt_unread x2 _ _).trans ((congrArg x2 (by funext a; fin_cases a <;> (apply Fin.ext; simp [LoadRect.idx, Rect.toLoadRect, Rect.unit, Rect.emb]))).trans (H.hv i 0 e))
    hc := fun d e => (harg10.readAt_unread xs0 _ _).trans ((congrArg xs0 (by funext a; fin_cases a <;> (apply Fin.ext; simp [LoadRect.idx, Rect.toLoadRect, Rect.unit, Rect.emb]))).trans (HM.hc 0 d e))
    hn := fun d => (harg11.readAt_unread xs1 _ _).trans ((congrArg xs1 (by funext a; fin_cases a <;> (apply Fin.ext; simp [LoadRect.idx, Rect.toLoadRect, Rect.unit, Rect.emb]))).trans (HM.hn 0 d)) }

/-- What head 1 loads at a point that is not a sequence's first. -/
theorem loadsB1 (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x8x128 .f32) (harg12 : arg12.IsWhole) (hc0 : ¬cond0_0 i)
    (x0 : Vec Ideal S256x1024 .bf16) (x1 : Vec Ideal S256x1024 .bf16) (x2 : Vec Ideal S256x2048 .bf16) (x3 : Vec Ideal S256x2048 .bf16) (x4 : Vec Ideal S256x128 .f32) (x5 : Vec Ideal S1x128 .f32) (x6 : Vec Ideal S1x2048 .f32) (xs0 : Vec Ideal S4x256x512 .f32) (xs1 : Vec Ideal S4x1x256 .f32) (xs2 : Vec Ideal S4x8x128 .f32)
    {Ss : Fin 4 → Chunk.Streams 256 512} {T : ℕ} (H : Block Ss T x0 x1 x2 x4 x5) (HM : Mem Ss T xs0 xs1 xs2) :
    Head.Loads (extractStridedSlice S256x1 ![0, 5] (gcol (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S256x128_o0_5_S256x1) (extractStridedSlice S256x1 ![0, 1] (gcol (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S256x128_o0_1_S256x1) (extractStridedSlice S1x256 ![5, 0] (grow (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S128x256_o5_0_S1x256) (extractStridedSlice S1x256 ![1, 0] (grow (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S128x256_o1_0_S1x256) (View.readAt (Elt Ideal) arg12.view (Rect.unit (s := S4x8x128) ![1, 0, 0] S1x1x1.size inb_S4x8x128_S1x1x1_1_0_0).toLoadRect (harg12.unread xs2)) (View.readAt (Elt Ideal) arg2.view (Rect.unit (s := S256x1024) ![0, 256] S256x256.size inb_S256x1024_S256x256_0_256).toLoadRect (harg2.unread x0)) (View.readAt (Elt Ideal) arg3.view (Rect.unit (s := S256x1024) ![0, 256] S256x256.size inb_S256x1024_S256x256_0_256).toLoadRect (harg3.unread x1)) (View.readAt (Elt Ideal) arg4.view (Rect.unit (s := S256x2048) ![0, 512] S256x512.size inb_S256x2048_S256x512_0_512).toLoadRect (harg4.unread x2)) (View.readAt (Elt Ideal) arg10.view (Rect.unit (s := S4x256x512) ![1, 0, 0] S1x256x512.size inb_S4x256x512_S1x256x512_1_0_0).toLoadRect (harg10.unread xs0)) (View.readAt (Elt Ideal) arg11.view (Rect.unit (s := S4x1x256) ![1, 0, 0] S1x1x256.size inb_S4x1x256_S1x1x256_1_0_0).toLoadRect (harg11.unread xs1)) (Ss 1) T := by
  rw [whole6, whole7]
  exact {
    hb := fun i => (show _ = gcol (F := Ideal) x4 x5 (ix2 i 5) by pointwise []).trans (H.b_eq 1 i)
    hbr := fun i => by pointwise [grow]
    hig := fun i => (show _ = gcol (F := Ideal) x4 x5 (ix2 i 1) by pointwise []).trans (H.ig_eq 1 i)
    hir := fun i => by pointwise [grow]
    hm := (harg12.readAt_unread xs2 _ _).trans ((congrArg xs2 (by funext a; fin_cases a <;> (apply Fin.ext; simp [LoadRect.idx, Rect.toLoadRect, Rect.unit, Rect.emb]))).trans (HM.hm 1 0 0))
    hq := fun i d => (harg2.readAt_unread x0 _ _).trans ((congrArg x0 (by funext a; fin_cases a <;> (apply Fin.ext; simp [LoadRect.idx, Rect.toLoadRect, Rect.unit, Rect.emb]))).trans (H.hq i 1 d))
    hk := fun i d => (H.hk i 1 d).imp fun r hr => ⟨(harg3.readAt_unread x1 _ _).trans ((congrArg x1 (by funext a; fin_cases a <;> (apply Fin.ext; simp [LoadRect.idx, Rect.toLoadRect, Rect.unit, Rect.emb]))).trans hr.1), hr.2⟩
    hv := fun i e => (harg4.readAt_unread x2 _ _).trans ((congrArg x2 (by funext a; fin_cases a <;> (apply Fin.ext; simp [LoadRect.idx, Rect.toLoadRect, Rect.unit, Rect.emb]))).trans (H.hv i 1 e))
    hc := fun d e => (harg10.readAt_unread xs0 _ _).trans ((congrArg xs0 (by funext a; fin_cases a <;> (apply Fin.ext; simp [LoadRect.idx, Rect.toLoadRect, Rect.unit, Rect.emb]))).trans (HM.hc 1 d e))
    hn := fun d => (harg11.readAt_unread xs1 _ _).trans ((congrArg xs1 (by funext a; fin_cases a <;> (apply Fin.ext; simp [LoadRect.idx, Rect.toLoadRect, Rect.unit, Rect.emb]))).trans (HM.hn 1 d)) }

/-- What head 2 loads at a point that is not a sequence's first. -/
theorem loadsB2 (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x8x128 .f32) (harg12 : arg12.IsWhole) (hc0 : ¬cond0_0 i)
    (x0 : Vec Ideal S256x1024 .bf16) (x1 : Vec Ideal S256x1024 .bf16) (x2 : Vec Ideal S256x2048 .bf16) (x3 : Vec Ideal S256x2048 .bf16) (x4 : Vec Ideal S256x128 .f32) (x5 : Vec Ideal S1x128 .f32) (x6 : Vec Ideal S1x2048 .f32) (xs0 : Vec Ideal S4x256x512 .f32) (xs1 : Vec Ideal S4x1x256 .f32) (xs2 : Vec Ideal S4x8x128 .f32)
    {Ss : Fin 4 → Chunk.Streams 256 512} {T : ℕ} (H : Block Ss T x0 x1 x2 x4 x5) (HM : Mem Ss T xs0 xs1 xs2) :
    Head.Loads (extractStridedSlice S256x1 ![0, 6] (gcol (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S256x128_o0_6_S256x1) (extractStridedSlice S256x1 ![0, 2] (gcol (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S256x128_o0_2_S256x1) (extractStridedSlice S1x256 ![6, 0] (grow (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S128x256_o6_0_S1x256) (extractStridedSlice S1x256 ![2, 0] (grow (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S128x256_o2_0_S1x256) (View.readAt (Elt Ideal) arg12.view (Rect.unit (s := S4x8x128) ![2, 0, 0] S1x1x1.size inb_S4x8x128_S1x1x1_2_0_0).toLoadRect (harg12.unread xs2)) (View.readAt (Elt Ideal) arg2.view (Rect.unit (s := S256x1024) ![0, 512] S256x256.size inb_S256x1024_S256x256_0_512).toLoadRect (harg2.unread x0)) (View.readAt (Elt Ideal) arg3.view (Rect.unit (s := S256x1024) ![0, 512] S256x256.size inb_S256x1024_S256x256_0_512).toLoadRect (harg3.unread x1)) (View.readAt (Elt Ideal) arg4.view (Rect.unit (s := S256x2048) ![0, 1024] S256x512.size inb_S256x2048_S256x512_0_1024).toLoadRect (harg4.unread x2)) (View.readAt (Elt Ideal) arg10.view (Rect.unit (s := S4x256x512) ![2, 0, 0] S1x256x512.size inb_S4x256x512_S1x256x512_2_0_0).toLoadRect (harg10.unread xs0)) (View.readAt (Elt Ideal) arg11.view (Rect.unit (s := S4x1x256) ![2, 0, 0] S1x1x256.size inb_S4x1x256_S1x1x256_2_0_0).toLoadRect (harg11.unread xs1)) (Ss 2) T := by
  rw [whole6, whole7]
  exact {
    hb := fun i => (show _ = gcol (F := Ideal) x4 x5 (ix2 i 6) by pointwise []).trans (H.b_eq 2 i)
    hbr := fun i => by pointwise [grow]
    hig := fun i => (show _ = gcol (F := Ideal) x4 x5 (ix2 i 2) by pointwise []).trans (H.ig_eq 2 i)
    hir := fun i => by pointwise [grow]
    hm := (harg12.readAt_unread xs2 _ _).trans ((congrArg xs2 (by funext a; fin_cases a <;> (apply Fin.ext; simp [LoadRect.idx, Rect.toLoadRect, Rect.unit, Rect.emb]))).trans (HM.hm 2 0 0))
    hq := fun i d => (harg2.readAt_unread x0 _ _).trans ((congrArg x0 (by funext a; fin_cases a <;> (apply Fin.ext; simp [LoadRect.idx, Rect.toLoadRect, Rect.unit, Rect.emb]))).trans (H.hq i 2 d))
    hk := fun i d => (H.hk i 2 d).imp fun r hr => ⟨(harg3.readAt_unread x1 _ _).trans ((congrArg x1 (by funext a; fin_cases a <;> (apply Fin.ext; simp [LoadRect.idx, Rect.toLoadRect, Rect.unit, Rect.emb]))).trans hr.1), hr.2⟩
    hv := fun i e => (harg4.readAt_unread x2 _ _).trans ((congrArg x2 (by funext a; fin_cases a <;> (apply Fin.ext; simp [LoadRect.idx, Rect.toLoadRect, Rect.unit, Rect.emb]))).trans (H.hv i 2 e))
    hc := fun d e => (harg10.readAt_unread xs0 _ _).trans ((congrArg xs0 (by funext a; fin_cases a <;> (apply Fin.ext; simp [LoadRect.idx, Rect.toLoadRect, Rect.unit, Rect.emb]))).trans (HM.hc 2 d e))
    hn := fun d => (harg11.readAt_unread xs1 _ _).trans ((congrArg xs1 (by funext a; fin_cases a <;> (apply Fin.ext; simp [LoadRect.idx, Rect.toLoadRect, Rect.unit, Rect.emb]))).trans (HM.hn 2 d)) }

/-- What head 3 loads at a point that is not a sequence's first. -/
theorem loadsB3 (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x8x128 .f32) (harg12 : arg12.IsWhole) (hc0 : ¬cond0_0 i)
    (x0 : Vec Ideal S256x1024 .bf16) (x1 : Vec Ideal S256x1024 .bf16) (x2 : Vec Ideal S256x2048 .bf16) (x3 : Vec Ideal S256x2048 .bf16) (x4 : Vec Ideal S256x128 .f32) (x5 : Vec Ideal S1x128 .f32) (x6 : Vec Ideal S1x2048 .f32) (xs0 : Vec Ideal S4x256x512 .f32) (xs1 : Vec Ideal S4x1x256 .f32) (xs2 : Vec Ideal S4x8x128 .f32)
    {Ss : Fin 4 → Chunk.Streams 256 512} {T : ℕ} (H : Block Ss T x0 x1 x2 x4 x5) (HM : Mem Ss T xs0 xs1 xs2) :
    Head.Loads (extractStridedSlice S256x1 ![0, 7] (gcol (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S256x128_o0_7_S256x1) (extractStridedSlice S256x1 ![0, 3] (gcol (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S256x128_o0_3_S256x1) (extractStridedSlice S1x256 ![7, 0] (grow (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S128x256_o7_0_S1x256) (extractStridedSlice S1x256 ![3, 0] (grow (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S128x256_o3_0_S1x256) (View.readAt (Elt Ideal) arg12.view (Rect.unit (s := S4x8x128) ![3, 0, 0] S1x1x1.size inb_S4x8x128_S1x1x1_3_0_0).toLoadRect (harg12.unread xs2)) (View.readAt (Elt Ideal) arg2.view (Rect.unit (s := S256x1024) ![0, 768] S256x256.size inb_S256x1024_S256x256_0_768).toLoadRect (harg2.unread x0)) (View.readAt (Elt Ideal) arg3.view (Rect.unit (s := S256x1024) ![0, 768] S256x256.size inb_S256x1024_S256x256_0_768).toLoadRect (harg3.unread x1)) (View.readAt (Elt Ideal) arg4.view (Rect.unit (s := S256x2048) ![0, 1536] S256x512.size inb_S256x2048_S256x512_0_1536).toLoadRect (harg4.unread x2)) (View.readAt (Elt Ideal) arg10.view (Rect.unit (s := S4x256x512) ![3, 0, 0] S1x256x512.size inb_S4x256x512_S1x256x512_3_0_0).toLoadRect (harg10.unread xs0)) (View.readAt (Elt Ideal) arg11.view (Rect.unit (s := S4x1x256) ![3, 0, 0] S1x1x256.size inb_S4x1x256_S1x1x256_3_0_0).toLoadRect (harg11.unread xs1)) (Ss 3) T := by
  rw [whole6, whole7]
  exact {
    hb := fun i => (show _ = gcol (F := Ideal) x4 x5 (ix2 i 7) by pointwise []).trans (H.b_eq 3 i)
    hbr := fun i => by pointwise [grow]
    hig := fun i => (show _ = gcol (F := Ideal) x4 x5 (ix2 i 3) by pointwise []).trans (H.ig_eq 3 i)
    hir := fun i => by pointwise [grow]
    hm := (harg12.readAt_unread xs2 _ _).trans ((congrArg xs2 (by funext a; fin_cases a <;> (apply Fin.ext; simp [LoadRect.idx, Rect.toLoadRect, Rect.unit, Rect.emb]))).trans (HM.hm 3 0 0))
    hq := fun i d => (harg2.readAt_unread x0 _ _).trans ((congrArg x0 (by funext a; fin_cases a <;> (apply Fin.ext; simp [LoadRect.idx, Rect.toLoadRect, Rect.unit, Rect.emb]))).trans (H.hq i 3 d))
    hk := fun i d => (H.hk i 3 d).imp fun r hr => ⟨(harg3.readAt_unread x1 _ _).trans ((congrArg x1 (by funext a; fin_cases a <;> (apply Fin.ext; simp [LoadRect.idx, Rect.toLoadRect, Rect.unit, Rect.emb]))).trans hr.1), hr.2⟩
    hv := fun i e => (harg4.readAt_unread x2 _ _).trans ((congrArg x2 (by funext a; fin_cases a <;> (apply Fin.ext; simp [LoadRect.idx, Rect.toLoadRect, Rect.unit, Rect.emb]))).trans (H.hv i 3 e))
    hc := fun d e => (harg10.readAt_unread xs0 _ _).trans ((congrArg xs0 (by funext a; fin_cases a <;> (apply Fin.ext; simp [LoadRect.idx, Rect.toLoadRect, Rect.unit, Rect.emb]))).trans (HM.hc 3 d e))
    hn := fun d => (harg11.readAt_unread xs1 _ _).trans ((congrArg xs1 (by funext a; fin_cases a <;> (apply Fin.ext; simp [LoadRect.idx, Rect.toLoadRect, Rect.unit, Rect.emb]))).trans (HM.hn 3 d)) }

/-- What head 0 loads at a point that is a sequence's first. -/
theorem loadsA0 (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x8x128 .f32) (harg12 : arg12.IsWhole) (hc0 : cond0_0 i)
    (x0 : Vec Ideal S256x1024 .bf16) (x1 : Vec Ideal S256x1024 .bf16) (x2 : Vec Ideal S256x2048 .bf16) (x3 : Vec Ideal S256x2048 .bf16) (x4 : Vec Ideal S256x128 .f32) (x5 : Vec Ideal S1x128 .f32) (x6 : Vec Ideal S1x2048 .f32)
    {Ss : Fin 4 → Chunk.Streams 256 512} (H : Block Ss 0 x0 x1 x2 x4 x5)  :
    Head.Loads (extractStridedSlice S256x1 ![0, 4] (gcol (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S256x128_o0_4_S256x1) (extractStridedSlice S256x1 ![0, 0] (gcol (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S256x128_o0_0_S256x1) (extractStridedSlice S1x256 ![4, 0] (grow (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S128x256_o4_0_S1x256) (extractStridedSlice S1x256 ![0, 0] (grow (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S128x256_o0_0_S1x256) (kernelRun0_A.sl.v53 (F := Ideal) c arg12) (View.readAt (Elt Ideal) arg2.view (Rect.unit (s := S256x1024) ![0, 0] S256x256.size inb_S256x1024_S256x256_0_0).toLoadRect (harg2.unread x0)) (View.readAt (Elt Ideal) arg3.view (Rect.unit (s := S256x1024) ![0, 0] S256x256.size inb_S256x1024_S256x256_0_0).toLoadRect (harg3.unread x1)) (View.readAt (Elt Ideal) arg4.view (Rect.unit (s := S256x2048) ![0, 0] S256x512.size inb_S256x2048_S256x512_0_0).toLoadRect (harg4.unread x2)) (kernelRun0_A.sl.v79 (F := Ideal) c arg10) (kernelRun0_A.sl.v81 (F := Ideal) c arg11) (Ss 0) 0 := by
  rw [whole6, whole7]
  exact {
    hb := fun i => (show _ = gcol (F := Ideal) x4 x5 (ix2 i 4) by pointwise []).trans (H.b_eq 0 i)
    hbr := fun i => by pointwise [grow]
    hig := fun i => (show _ = gcol (F := Ideal) x4 x5 (ix2 i 0) by pointwise []).trans (H.ig_eq 0 i)
    hir := fun i => by pointwise [grow]
    hm := (zm0 _ _ _).trans (by rw [zero_M])
    hq := fun i d => (harg2.readAt_unread x0 _ _).trans ((congrArg x0 (by funext a; fin_cases a <;> (apply Fin.ext; simp [LoadRect.idx, Rect.toLoadRect, Rect.unit, Rect.emb]))).trans (H.hq i 0 d))
    hk := fun i d => (H.hk i 0 d).imp fun r hr => ⟨(harg3.readAt_unread x1 _ _).trans ((congrArg x1 (by funext a; fin_cases a <;> (apply Fin.ext; simp [LoadRect.idx, Rect.toLoadRect, Rect.unit, Rect.emb]))).trans hr.1), hr.2⟩
    hv := fun i e => (harg4.readAt_unread x2 _ _).trans ((congrArg x2 (by funext a; fin_cases a <;> (apply Fin.ext; simp [LoadRect.idx, Rect.toLoadRect, Rect.unit, Rect.emb]))).trans (H.hv i 0 e))
    hc := fun d e => (zc0 _ _ _ ).trans (by rw [zero_C])
    hn := fun d => (zn0 _ _ _ ).trans (by rw [zero_N]) }

/-- What head 1 loads at a point that is a sequence's first. -/
theorem loadsA1 (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x8x128 .f32) (harg12 : arg12.IsWhole) (hc0 : cond0_0 i)
    (x0 : Vec Ideal S256x1024 .bf16) (x1 : Vec Ideal S256x1024 .bf16) (x2 : Vec Ideal S256x2048 .bf16) (x3 : Vec Ideal S256x2048 .bf16) (x4 : Vec Ideal S256x128 .f32) (x5 : Vec Ideal S1x128 .f32) (x6 : Vec Ideal S1x2048 .f32)
    {Ss : Fin 4 → Chunk.Streams 256 512} (H : Block Ss 0 x0 x1 x2 x4 x5)  :
    Head.Loads (extractStridedSlice S256x1 ![0, 5] (gcol (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S256x128_o0_5_S256x1) (extractStridedSlice S256x1 ![0, 1] (gcol (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S256x128_o0_1_S256x1) (extractStridedSlice S1x256 ![5, 0] (grow (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S128x256_o5_0_S1x256) (extractStridedSlice S1x256 ![1, 0] (grow (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S128x256_o1_0_S1x256) (kernelRun0_A.sl.v170 (F := Ideal) c arg6 harg6 arg7 harg7 arg12 x4 x5) (View.readAt (Elt Ideal) arg2.view (Rect.unit (s := S256x1024) ![0, 256] S256x256.size inb_S256x1024_S256x256_0_256).toLoadRect (harg2.unread x0)) (View.readAt (Elt Ideal) arg3.view (Rect.unit (s := S256x1024) ![0, 256] S256x256.size inb_S256x1024_S256x256_0_256).toLoadRect (harg3.unread x1)) (View.readAt (Elt Ideal) arg4.view (Rect.unit (s := S256x2048) ![0, 512] S256x512.size inb_S256x2048_S256x512_0_512).toLoadRect (harg4.unread x2)) (kernelRun0_A.sl.v196 (F := Ideal) c arg3 harg3 arg4 harg4 arg6 harg6 arg7 harg7 arg10 arg12 x1 x2 x4 x5) (kernelRun0_A.sl.v198 (F := Ideal) c arg3 harg3 arg6 harg6 arg7 harg7 arg11 arg12 x1 x4 x5) (Ss 1) 0 := by
  rw [whole6, whole7]
  exact {
    hb := fun i => (show _ = gcol (F := Ideal) x4 x5 (ix2 i 5) by pointwise []).trans (H.b_eq 1 i)
    hbr := fun i => by pointwise [grow]
    hig := fun i => (show _ = gcol (F := Ideal) x4 x5 (ix2 i 1) by pointwise []).trans (H.ig_eq 1 i)
    hir := fun i => by pointwise [grow]
    hm := (zm1 _ _ _ _ _ _ _ _ _).trans (by rw [zero_M])
    hq := fun i d => (harg2.readAt_unread x0 _ _).trans ((congrArg x0 (by funext a; fin_cases a <;> (apply Fin.ext; simp [LoadRect.idx, Rect.toLoadRect, Rect.unit, Rect.emb]))).trans (H.hq i 1 d))
    hk := fun i d => (H.hk i 1 d).imp fun r hr => ⟨(harg3.readAt_unread x1 _ _).trans ((congrArg x1 (by funext a; fin_cases a <;> (apply Fin.ext; simp [LoadRect.idx, Rect.toLoadRect, Rect.unit, Rect.emb]))).trans hr.1), hr.2⟩
    hv := fun i e => (harg4.readAt_unread x2 _ _).trans ((congrArg x2 (by funext a; fin_cases a <;> (apply Fin.ext; simp [LoadRect.idx, Rect.toLoadRect, Rect.unit, Rect.emb]))).trans (H.hv i 1 e))
    hc := fun d e => (zc1 _ _ _ _ _ _ _ _ _ _ _ _ _ _ _ _ ).trans (by rw [zero_C])
    hn := fun d => (zn1 _ _ _ _ _ _ _ _ _ _ _ _ _ ).trans (by rw [zero_N]) }

/-- What head 2 loads at a point that is a sequence's first. -/
theorem loadsA2 (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x8x128 .f32) (harg12 : arg12.IsWhole) (hc0 : cond0_0 i)
    (x0 : Vec Ideal S256x1024 .bf16) (x1 : Vec Ideal S256x1024 .bf16) (x2 : Vec Ideal S256x2048 .bf16) (x3 : Vec Ideal S256x2048 .bf16) (x4 : Vec Ideal S256x128 .f32) (x5 : Vec Ideal S1x128 .f32) (x6 : Vec Ideal S1x2048 .f32)
    {Ss : Fin 4 → Chunk.Streams 256 512} (H : Block Ss 0 x0 x1 x2 x4 x5)  :
    Head.Loads (extractStridedSlice S256x1 ![0, 6] (gcol (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S256x128_o0_6_S256x1) (extractStridedSlice S256x1 ![0, 2] (gcol (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S256x128_o0_2_S256x1) (extractStridedSlice S1x256 ![6, 0] (grow (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S128x256_o6_0_S1x256) (extractStridedSlice S1x256 ![2, 0] (grow (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S128x256_o2_0_S1x256) (kernelRun0_A.sl.v287 (F := Ideal) c arg6 harg6 arg7 harg7 arg12 x4 x5) (View.readAt (Elt Ideal) arg2.view (Rect.unit (s := S256x1024) ![0, 512] S256x256.size inb_S256x1024_S256x256_0_512).toLoadRect (harg2.unread x0)) (View.readAt (Elt Ideal) arg3.view (Rect.unit (s := S256x1024) ![0, 512] S256x256.size inb_S256x1024_S256x256_0_512).toLoadRect (harg3.unread x1)) (View.readAt (Elt Ideal) arg4.view (Rect.unit (s := S256x2048) ![0, 1024] S256x512.size inb_S256x2048_S256x512_0_1024).toLoadRect (harg4.unread x2)) (kernelRun0_A.sl.v313 (F := Ideal) c arg3 harg3 arg4 harg4 arg6 harg6 arg7 harg7 arg10 arg12 x1 x2 x4 x5) (kernelRun0_A.sl.v315 (F := Ideal) c arg3 harg3 arg6 harg6 arg7 harg7 arg11 arg12 x1 x4 x5) (Ss 2) 0 := by
  rw [whole6, whole7]
  exact {
    hb := fun i => (show _ = gcol (F := Ideal) x4 x5 (ix2 i 6) by pointwise []).trans (H.b_eq 2 i)
    hbr := fun i => by pointwise [grow]
    hig := fun i => (show _ = gcol (F := Ideal) x4 x5 (ix2 i 2) by pointwise []).trans (H.ig_eq 2 i)
    hir := fun i => by pointwise [grow]
    hm := (zm2 _ _ _ _ _ _ _ _ _).trans (by rw [zero_M])
    hq := fun i d => (harg2.readAt_unread x0 _ _).trans ((congrArg x0 (by funext a; fin_cases a <;> (apply Fin.ext; simp [LoadRect.idx, Rect.toLoadRect, Rect.unit, Rect.emb]))).trans (H.hq i 2 d))
    hk := fun i d => (H.hk i 2 d).imp fun r hr => ⟨(harg3.readAt_unread x1 _ _).trans ((congrArg x1 (by funext a; fin_cases a <;> (apply Fin.ext; simp [LoadRect.idx, Rect.toLoadRect, Rect.unit, Rect.emb]))).trans hr.1), hr.2⟩
    hv := fun i e => (harg4.readAt_unread x2 _ _).trans ((congrArg x2 (by funext a; fin_cases a <;> (apply Fin.ext; simp [LoadRect.idx, Rect.toLoadRect, Rect.unit, Rect.emb]))).trans (H.hv i 2 e))
    hc := fun d e => (zc2 _ _ _ _ _ _ _ _ _ _ _ _ _ _ _ _ ).trans (by rw [zero_C])
    hn := fun d => (zn2 _ _ _ _ _ _ _ _ _ _ _ _ _ ).trans (by rw [zero_N]) }

/-- What head 3 loads at a point that is a sequence's first. -/
theorem loadsA3 (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x8x128 .f32) (harg12 : arg12.IsWhole) (hc0 : cond0_0 i)
    (x0 : Vec Ideal S256x1024 .bf16) (x1 : Vec Ideal S256x1024 .bf16) (x2 : Vec Ideal S256x2048 .bf16) (x3 : Vec Ideal S256x2048 .bf16) (x4 : Vec Ideal S256x128 .f32) (x5 : Vec Ideal S1x128 .f32) (x6 : Vec Ideal S1x2048 .f32)
    {Ss : Fin 4 → Chunk.Streams 256 512} (H : Block Ss 0 x0 x1 x2 x4 x5)  :
    Head.Loads (extractStridedSlice S256x1 ![0, 7] (gcol (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S256x128_o0_7_S256x1) (extractStridedSlice S256x1 ![0, 3] (gcol (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S256x128_o0_3_S256x1) (extractStridedSlice S1x256 ![7, 0] (grow (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S128x256_o7_0_S1x256) (extractStridedSlice S1x256 ![3, 0] (grow (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5))) slices_S128x256_o3_0_S1x256) (kernelRun0_A.sl.v404 (F := Ideal) c arg6 harg6 arg7 harg7 arg12 x4 x5) (View.readAt (Elt Ideal) arg2.view (Rect.unit (s := S256x1024) ![0, 768] S256x256.size inb_S256x1024_S256x256_0_768).toLoadRect (harg2.unread x0)) (View.readAt (Elt Ideal) arg3.view (Rect.unit (s := S256x1024) ![0, 768] S256x256.size inb_S256x1024_S256x256_0_768).toLoadRect (harg3.unread x1)) (View.readAt (Elt Ideal) arg4.view (Rect.unit (s := S256x2048) ![0, 1536] S256x512.size inb_S256x2048_S256x512_0_1536).toLoadRect (harg4.unread x2)) (kernelRun0_A.sl.v430 (F := Ideal) c arg3 harg3 arg4 harg4 arg6 harg6 arg7 harg7 arg10 arg12 x1 x2 x4 x5) (kernelRun0_A.sl.v432 (F := Ideal) c arg3 harg3 arg6 harg6 arg7 harg7 arg11 arg12 x1 x4 x5) (Ss 3) 0 := by
  rw [whole6, whole7]
  exact {
    hb := fun i => (show _ = gcol (F := Ideal) x4 x5 (ix2 i 7) by pointwise []).trans (H.b_eq 3 i)
    hbr := fun i => by pointwise [grow]
    hig := fun i => (show _ = gcol (F := Ideal) x4 x5 (ix2 i 3) by pointwise []).trans (H.ig_eq 3 i)
    hir := fun i => by pointwise [grow]
    hm := (zm3 _ _ _ _ _ _ _ _ _).trans (by rw [zero_M])
    hq := fun i d => (harg2.readAt_unread x0 _ _).trans ((congrArg x0 (by funext a; fin_cases a <;> (apply Fin.ext; simp [LoadRect.idx, Rect.toLoadRect, Rect.unit, Rect.emb]))).trans (H.hq i 3 d))
    hk := fun i d => (H.hk i 3 d).imp fun r hr => ⟨(harg3.readAt_unread x1 _ _).trans ((congrArg x1 (by funext a; fin_cases a <;> (apply Fin.ext; simp [LoadRect.idx, Rect.toLoadRect, Rect.unit, Rect.emb]))).trans hr.1), hr.2⟩
    hv := fun i e => (harg4.readAt_unread x2 _ _).trans ((congrArg x2 (by funext a; fin_cases a <;> (apply Fin.ext; simp [LoadRect.idx, Rect.toLoadRect, Rect.unit, Rect.emb]))).trans (H.hv i 3 e))
    hc := fun d e => (zc3 _ _ _ _ _ _ _ _ _ _ _ _ _ _ _ _ ).trans (by rw [zero_C])
    hn := fun d => (zn3 _ _ _ _ _ _ _ _ _ _ _ _ _ ).trans (by rw [zero_N]) }

end Cert.Proof.KernelPieces
end
-- ==== Proof.KernelPoint.lean ====
/- What a grid point of the mLSTM kernel leaves in the result's tile and in the memory it carries, as the recurrence's closed form. -/
module

public import proofs.«01_k».proof.Proof.KernelLoads

@[expose] public section

set_option maxRecDepth 16384

set_option maxHeartbeats 400000

noncomputable section

namespace Cert.Proof.KernelPieces

open Idealize Idealize.ShloMosaic Cert.KernelIdeal Cert.KernelIdeal.Gen MixerStreams

/-- The result's tile: the rows' normalised and gated outputs. -/
def Gy (Ss : Fin 4 → Chunk.Streams 256 512) (T : ℕ) (x3 : FVec Ideal S256x2048 .bf16) (x6 : FVec Ideal S1x2048 .f32) : FVec Ideal S256x2048 .bf16 :=
  fun y => tail (fun x => ((Chunk.out (Ss ⟨(y 1).val / 512, by have : (y 1).val < 2048 := (y 1).isLt; omega⟩) (T + (y 0).val) x : ℝ) : EReal))
    ⟨(y 1).val % 512, Nat.mod_lt _ (by norm_num)⟩ (x6 (ix2 0 (y 1))) (x3 y)

/-- The tile's columns of one head. -/
theorem Gy_head (Ss : Fin 4 → Chunk.Streams 256 512) (T : ℕ) (x3 : FVec Ideal S256x2048 .bf16) (x6 : FVec Ideal S1x2048 .f32)
    (h : Fin 4) (a : Fin 256) (b : Fin 512) : Gy Ss T x3 x6 (ix2 a ⟨512 * h.val + b.val, by omega⟩)
      = tail (fun x => ((Chunk.out (Ss h) (T + a) x : ℝ) : EReal)) b (x6 (ix2 0 ⟨512 * h.val + b.val, by omega⟩))
          (x3 (ix2 a ⟨512 * h.val + b.val, by omega⟩)) := by
  have h1 : (⟨(512 * h.val + b.val) / 512, by omega⟩ : Fin 4) = h := Fin.ext (by show (512 * h.val + b.val) / 512 = h.val; omega)
  have h2 : (⟨(512 * h.val + b.val) % 512, Nat.mod_lt _ (by norm_num)⟩ : Fin 512) = b := Fin.ext (by show (512 * h.val + b.val) % 512 = b.val; omega)
  show tail (fun x => ((Chunk.out (Ss ⟨(512 * h.val + b.val) / 512, _⟩) (T + a) x : ℝ) : EReal)) ⟨(512 * h.val + b.val) % 512, _⟩ _ _ = _
  rw [h1, h2]
  rfl

/-- The memories as a buffer. -/
def Gc (Ss : Fin 4 → Chunk.Streams 256 512) (T : ℕ) : FVec Ideal S4x256x512 .f32 :=
  fun y => ((Chunk.C (Ss (y 0)) T (y 1) (y 2) : ℝ) : EReal)

/-- The normalizers as a buffer. -/
def Gn (Ss : Fin 4 → Chunk.Streams 256 512) (T : ℕ) : FVec Ideal S4x1x256 .f32 :=
  fun y => ((Chunk.N (Ss (y 0)) T (y 2) : ℝ) : EReal)

/-- The stabilizers as a buffer. -/
def Gm (Ss : Fin 4 → Chunk.Streams 256 512) (T : ℕ) : FVec Ideal S4x8x128 .f32 :=
  fun y => ((Chunk.M (Ss (y 0)) T : ℝ) : EReal)

/-- The memory of one head. -/
theorem Gc_head (Ss : Fin 4 → Chunk.Streams 256 512) (T : ℕ) (h : Fin 4) (p : Fin 256) (q : Fin 512) :
    Gc Ss T (ix3 h p q) = ((Chunk.C (Ss h) T p q : ℝ) : EReal) := rfl

/-- The normalizer of one head. -/
theorem Gn_head (Ss : Fin 4 → Chunk.Streams 256 512) (T : ℕ) (h : Fin 4) (p : Fin 256) :
    Gn Ss T (ix3 h 0 p) = ((Chunk.N (Ss h) T p : ℝ) : EReal) := rfl

/-- The stabilizer of one head. -/
theorem Gm_head (Ss : Fin 4 → Chunk.Streams 256 512) (T : ℕ) (h : Fin 4) (p : Fin 8) (q : Fin 128) :
    Gm Ss T (ix3 h p q) = ((Chunk.M (Ss h) T : ℝ) : EReal) := rfl

/-- The result's tile after a point that is not a sequence's first. -/
theorem yvalB (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x8x128 .f32) (harg12 : arg12.IsWhole) (hc0 : ¬cond0_0 i)
    (x0 : Vec Ideal S256x1024 .bf16) (x1 : Vec Ideal S256x1024 .bf16) (x2 : Vec Ideal S256x2048 .bf16) (x3 : Vec Ideal S256x2048 .bf16) (x4 : Vec Ideal S256x128 .f32) (x5 : Vec Ideal S1x128 .f32) (x6 : Vec Ideal S1x2048 .f32) (xs0 : Vec Ideal S4x256x512 .f32) (xs1 : Vec Ideal S4x1x256 .f32) (xs2 : Vec Ideal S4x8x128 .f32)
    {Ss : Fin 4 → Chunk.Streams 256 512} {T : ℕ} (H : Block Ss T x0 x1 x2 x4 x5) (HM : Mem Ss T xs0 xs1 xs2) :
    out0_B_7 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 = Gy Ss T x3 x6 := by
  funext y
  refine View.read_writes_apply_of_pieces _ _ (Gy Ss T x3 x6) _ (View.PiecesOf.mem ?_) y (cover0_B_7 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 y)
  rw [yB]
  exact ⟨fun x => by
      obtain ⟨p, q, rfl⟩ : ∃ (p : Fin 256) (q : Fin 512), x = ix2 p q := ⟨x 0, x 1, by funext a; fin_cases a <;> rfl⟩
      refine ((loadsB3 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 H HM).y_eq _ _ p q).trans (Eq.trans ?_ ((congrArg (Gy Ss T x3 x6) (by funext a; fin_cases a <;> (apply Fin.ext; simp [LoadRect.idx, Rect.toLoadRect, Rect.unit, Rect.emb]))).trans (Gy_head Ss T x3 x6 3 p q)).symm)
      exact congrArg₂ (tail _ q) ((harg8.readAt_unread x6 _ _).trans (congrArg x6 (by funext a; fin_cases a <;> (apply Fin.ext; simp [LoadRect.idx, Rect.toLoadRect, Rect.unit, Rect.emb])))) ((harg5.readAt_unread x3 _ _).trans (congrArg x3 (by funext a; fin_cases a <;> (apply Fin.ext; simp [LoadRect.idx, Rect.toLoadRect, Rect.unit, Rect.emb])))),
    fun x => by
      obtain ⟨p, q, rfl⟩ : ∃ (p : Fin 256) (q : Fin 512), x = ix2 p q := ⟨x 0, x 1, by funext a; fin_cases a <;> rfl⟩
      refine ((loadsB2 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 H HM).y_eq _ _ p q).trans (Eq.trans ?_ ((congrArg (Gy Ss T x3 x6) (by funext a; fin_cases a <;> (apply Fin.ext; simp [LoadRect.idx, Rect.toLoadRect, Rect.unit, Rect.emb]))).trans (Gy_head Ss T x3 x6 2 p q)).symm)
      exact congrArg₂ (tail _ q) ((harg8.readAt_unread x6 _ _).trans (congrArg x6 (by funext a; fin_cases a <;> (apply Fin.ext; simp [LoadRect.idx, Rect.toLoadRect, Rect.unit, Rect.emb])))) ((harg5.readAt_unread x3 _ _).trans (congrArg x3 (by funext a; fin_cases a <;> (apply Fin.ext; simp [LoadRect.idx, Rect.toLoadRect, Rect.unit, Rect.emb])))),
    fun x => by
      obtain ⟨p, q, rfl⟩ : ∃ (p : Fin 256) (q : Fin 512), x = ix2 p q := ⟨x 0, x 1, by funext a; fin_cases a <;> rfl⟩
      refine ((loadsB1 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 H HM).y_eq _ _ p q).trans (Eq.trans ?_ ((congrArg (Gy Ss T x3 x6) (by funext a; fin_cases a <;> (apply Fin.ext; simp [LoadRect.idx, Rect.toLoadRect, Rect.unit, Rect.emb]))).trans (Gy_head Ss T x3 x6 1 p q)).symm)
      exact congrArg₂ (tail _ q) ((harg8.readAt_unread x6 _ _).trans (congrArg x6 (by funext a; fin_cases a <;> (apply Fin.ext; simp [LoadRect.idx, Rect.toLoadRect, Rect.unit, Rect.emb])))) ((harg5.readAt_unread x3 _ _).trans (congrArg x3 (by funext a; fin_cases a <;> (apply Fin.ext; simp [LoadRect.idx, Rect.toLoadRect, Rect.unit, Rect.emb])))),
    fun x => by
      obtain ⟨p, q, rfl⟩ : ∃ (p : Fin 256) (q : Fin 512), x = ix2 p q := ⟨x 0, x 1, by funext a; fin_cases a <;> rfl⟩
      refine ((loadsB0 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 H HM).y_eq _ _ p q).trans (Eq.trans ?_ ((congrArg (Gy Ss T x3 x6) (by funext a; fin_cases a <;> (apply Fin.ext; simp [LoadRect.idx, Rect.toLoadRect, Rect.unit, Rect.emb]))).trans (Gy_head Ss T x3 x6 0 p q)).symm)
      exact congrArg₂ (tail _ q) ((harg8.readAt_unread x6 _ _).trans (congrArg x6 (by funext a; fin_cases a <;> (apply Fin.ext; simp [LoadRect.idx, Rect.toLoadRect, Rect.unit, Rect.emb])))) ((harg5.readAt_unread x3 _ _).trans (congrArg x3 (by funext a; fin_cases a <;> (apply Fin.ext; simp [LoadRect.idx, Rect.toLoadRect, Rect.unit, Rect.emb])))), trivial⟩

/-- The memory after a point that is not a sequence's first. -/
theorem cvalB (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x8x128 .f32) (harg12 : arg12.IsWhole) (hc0 : ¬cond0_0 i)
    (x0 : Vec Ideal S256x1024 .bf16) (x1 : Vec Ideal S256x1024 .bf16) (x2 : Vec Ideal S256x2048 .bf16) (x3 : Vec Ideal S256x2048 .bf16) (x4 : Vec Ideal S256x128 .f32) (x5 : Vec Ideal S1x128 .f32) (x6 : Vec Ideal S1x2048 .f32) (xs0 : Vec Ideal S4x256x512 .f32) (xs1 : Vec Ideal S4x1x256 .f32) (xs2 : Vec Ideal S4x8x128 .f32)
    {Ss : Fin 4 → Chunk.Streams 256 512} {T : ℕ} (H : Block Ss T x0 x1 x2 x4 x5) (HM : Mem Ss T xs0 xs1 xs2) :
    sout0_B_0 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 = Gc Ss (T + 256) := by
  funext y
  refine View.read_writes_apply_of_pieces _ _ (Gc Ss (T + 256)) _ (View.PiecesOf.mem ?_) y (scover0_B_0 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 y)
  rw [cB]
  exact ⟨fun x => by
      obtain ⟨z, p, q, rfl⟩ : ∃ (z : Fin 1) (p : Fin 256) (q : Fin 512), x = ix3 z p q := ⟨x 0, x 1, x 2, by funext a; fin_cases a <;> rfl⟩
      obtain rfl := Subsingleton.elim z 0
      exact ((loadsB3 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 H HM).c_eq p q).trans ((congrArg (Gc Ss (T + 256)) (by funext a; fin_cases a <;> (apply Fin.ext; simp [LoadRect.idx, Rect.toLoadRect, Rect.unit, Rect.emb]))).trans (Gc_head Ss (T + 256) 3 p q)).symm,
    fun x => by
      obtain ⟨z, p, q, rfl⟩ : ∃ (z : Fin 1) (p : Fin 256) (q : Fin 512), x = ix3 z p q := ⟨x 0, x 1, x 2, by funext a; fin_cases a <;> rfl⟩
      obtain rfl := Subsingleton.elim z 0
      exact ((loadsB2 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 H HM).c_eq p q).trans ((congrArg (Gc Ss (T + 256)) (by funext a; fin_cases a <;> (apply Fin.ext; simp [LoadRect.idx, Rect.toLoadRect, Rect.unit, Rect.emb]))).trans (Gc_head Ss (T + 256) 2 p q)).symm,
    fun x => by
      obtain ⟨z, p, q, rfl⟩ : ∃ (z : Fin 1) (p : Fin 256) (q : Fin 512), x = ix3 z p q := ⟨x 0, x 1, x 2, by funext a; fin_cases a <;> rfl⟩
      obtain rfl := Subsingleton.elim z 0
      exact ((loadsB1 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 H HM).c_eq p q).trans ((congrArg (Gc Ss (T + 256)) (by funext a; fin_cases a <;> (apply Fin.ext; simp [LoadRect.idx, Rect.toLoadRect, Rect.unit, Rect.emb]))).trans (Gc_head Ss (T + 256) 1 p q)).symm,
    fun x => by
      obtain ⟨z, p, q, rfl⟩ : ∃ (z : Fin 1) (p : Fin 256) (q : Fin 512), x = ix3 z p q := ⟨x 0, x 1, x 2, by funext a; fin_cases a <;> rfl⟩
      obtain rfl := Subsingleton.elim z 0
      exact ((loadsB0 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 H HM).c_eq p q).trans ((congrArg (Gc Ss (T + 256)) (by funext a; fin_cases a <;> (apply Fin.ext; simp [LoadRect.idx, Rect.toLoadRect, Rect.unit, Rect.emb]))).trans (Gc_head Ss (T + 256) 0 p q)).symm, trivial⟩

/-- The normalizer after a point that is not a sequence's first. -/
theorem nvalB (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x8x128 .f32) (harg12 : arg12.IsWhole) (hc0 : ¬cond0_0 i)
    (x0 : Vec Ideal S256x1024 .bf16) (x1 : Vec Ideal S256x1024 .bf16) (x2 : Vec Ideal S256x2048 .bf16) (x3 : Vec Ideal S256x2048 .bf16) (x4 : Vec Ideal S256x128 .f32) (x5 : Vec Ideal S1x128 .f32) (x6 : Vec Ideal S1x2048 .f32) (xs0 : Vec Ideal S4x256x512 .f32) (xs1 : Vec Ideal S4x1x256 .f32) (xs2 : Vec Ideal S4x8x128 .f32)
    {Ss : Fin 4 → Chunk.Streams 256 512} {T : ℕ} (H : Block Ss T x0 x1 x2 x4 x5) (HM : Mem Ss T xs0 xs1 xs2) :
    sout0_B_1 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 = Gn Ss (T + 256) := by
  funext y
  refine View.read_writes_apply_of_pieces _ _ (Gn Ss (T + 256)) _ (View.PiecesOf.mem ?_) y (scover0_B_1 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 y)
  rw [nB]
  exact ⟨fun x => by
      obtain ⟨z, w, p, rfl⟩ : ∃ (z : Fin 1) (w : Fin 1) (p : Fin 256), x = ix3 z w p := ⟨x 0, x 1, x 2, by funext a; fin_cases a <;> rfl⟩
      obtain rfl := Subsingleton.elim z 0
      obtain rfl := Subsingleton.elim w 0
      exact ((loadsB3 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 H HM).n_eq p).trans ((congrArg (Gn Ss (T + 256)) (by funext a; fin_cases a <;> (apply Fin.ext; simp [LoadRect.idx, Rect.toLoadRect, Rect.unit, Rect.emb]))).trans (Gn_head Ss (T + 256) 3 p)).symm,
    fun x => by
      obtain ⟨z, w, p, rfl⟩ : ∃ (z : Fin 1) (w : Fin 1) (p : Fin 256), x = ix3 z w p := ⟨x 0, x 1, x 2, by funext a; fin_cases a <;> rfl⟩
      obtain rfl := Subsingleton.elim z 0
      obtain rfl := Subsingleton.elim w 0
      exact ((loadsB2 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 H HM).n_eq p).trans ((congrArg (Gn Ss (T + 256)) (by funext a; fin_cases a <;> (apply Fin.ext; simp [LoadRect.idx, Rect.toLoadRect, Rect.unit, Rect.emb]))).trans (Gn_head Ss (T + 256) 2 p)).symm,
    fun x => by
      obtain ⟨z, w, p, rfl⟩ : ∃ (z : Fin 1) (w : Fin 1) (p : Fin 256), x = ix3 z w p := ⟨x 0, x 1, x 2, by funext a; fin_cases a <;> rfl⟩
      obtain rfl := Subsingleton.elim z 0
      obtain rfl := Subsingleton.elim w 0
      exact ((loadsB1 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 H HM).n_eq p).trans ((congrArg (Gn Ss (T + 256)) (by funext a; fin_cases a <;> (apply Fin.ext; simp [LoadRect.idx, Rect.toLoadRect, Rect.unit, Rect.emb]))).trans (Gn_head Ss (T + 256) 1 p)).symm,
    fun x => by
      obtain ⟨z, w, p, rfl⟩ : ∃ (z : Fin 1) (w : Fin 1) (p : Fin 256), x = ix3 z w p := ⟨x 0, x 1, x 2, by funext a; fin_cases a <;> rfl⟩
      obtain rfl := Subsingleton.elim z 0
      obtain rfl := Subsingleton.elim w 0
      exact ((loadsB0 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 H HM).n_eq p).trans ((congrArg (Gn Ss (T + 256)) (by funext a; fin_cases a <;> (apply Fin.ext; simp [LoadRect.idx, Rect.toLoadRect, Rect.unit, Rect.emb]))).trans (Gn_head Ss (T + 256) 0 p)).symm, trivial⟩

/-- The stabilizer after a point that is not a sequence's first. -/
theorem mvalB (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x8x128 .f32) (harg12 : arg12.IsWhole) (hc0 : ¬cond0_0 i)
    (x0 : Vec Ideal S256x1024 .bf16) (x1 : Vec Ideal S256x1024 .bf16) (x2 : Vec Ideal S256x2048 .bf16) (x3 : Vec Ideal S256x2048 .bf16) (x4 : Vec Ideal S256x128 .f32) (x5 : Vec Ideal S1x128 .f32) (x6 : Vec Ideal S1x2048 .f32) (xs0 : Vec Ideal S4x256x512 .f32) (xs1 : Vec Ideal S4x1x256 .f32) (xs2 : Vec Ideal S4x8x128 .f32)
    {Ss : Fin 4 → Chunk.Streams 256 512} {T : ℕ} (H : Block Ss T x0 x1 x2 x4 x5) (HM : Mem Ss T xs0 xs1 xs2) :
    sout0_B_2 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 = Gm Ss (T + 256) := by
  funext y
  refine View.read_writes_apply_of_pieces _ _ (Gm Ss (T + 256)) _ (View.PiecesOf.mem ?_) y (scover0_B_2 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 y)
  rw [mB]
  exact ⟨fun x => by
      obtain ⟨z, p, q, rfl⟩ : ∃ (z : Fin 1) (p : Fin 8) (q : Fin 128), x = ix3 z p q := ⟨x 0, x 1, x 2, by funext a; fin_cases a <;> rfl⟩
      obtain rfl := Subsingleton.elim z 0
      exact ((loadsB3 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 H HM).m_eq p q).trans ((congrArg (Gm Ss (T + 256)) (by funext a; fin_cases a <;> (apply Fin.ext; simp [LoadRect.idx, Rect.toLoadRect, Rect.unit, Rect.emb]))).trans (Gm_head Ss (T + 256) 3 p q)).symm,
    fun x => by
      obtain ⟨z, p, q, rfl⟩ : ∃ (z : Fin 1) (p : Fin 8) (q : Fin 128), x = ix3 z p q := ⟨x 0, x 1, x 2, by funext a; fin_cases a <;> rfl⟩
      obtain rfl := Subsingleton.elim z 0
      exact ((loadsB2 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 H HM).m_eq p q).trans ((congrArg (Gm Ss (T + 256)) (by funext a; fin_cases a <;> (apply Fin.ext; simp [LoadRect.idx, Rect.toLoadRect, Rect.unit, Rect.emb]))).trans (Gm_head Ss (T + 256) 2 p q)).symm,
    fun x => by
      obtain ⟨z, p, q, rfl⟩ : ∃ (z : Fin 1) (p : Fin 8) (q : Fin 128), x = ix3 z p q := ⟨x 0, x 1, x 2, by funext a; fin_cases a <;> rfl⟩
      obtain rfl := Subsingleton.elim z 0
      exact ((loadsB1 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 H HM).m_eq p q).trans ((congrArg (Gm Ss (T + 256)) (by funext a; fin_cases a <;> (apply Fin.ext; simp [LoadRect.idx, Rect.toLoadRect, Rect.unit, Rect.emb]))).trans (Gm_head Ss (T + 256) 1 p q)).symm,
    fun x => by
      obtain ⟨z, p, q, rfl⟩ : ∃ (z : Fin 1) (p : Fin 8) (q : Fin 128), x = ix3 z p q := ⟨x 0, x 1, x 2, by funext a; fin_cases a <;> rfl⟩
      obtain rfl := Subsingleton.elim z 0
      exact ((loadsB0 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 H HM).m_eq p q).trans ((congrArg (Gm Ss (T + 256)) (by funext a; fin_cases a <;> (apply Fin.ext; simp [LoadRect.idx, Rect.toLoadRect, Rect.unit, Rect.emb]))).trans (Gm_head Ss (T + 256) 0 p q)).symm, trivial⟩

/-- The result's tile after a point that is a sequence's first. -/
theorem yvalA (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x8x128 .f32) (harg12 : arg12.IsWhole) (hc0 : cond0_0 i)
    (x0 : Vec Ideal S256x1024 .bf16) (x1 : Vec Ideal S256x1024 .bf16) (x2 : Vec Ideal S256x2048 .bf16) (x3 : Vec Ideal S256x2048 .bf16) (x4 : Vec Ideal S256x128 .f32) (x5 : Vec Ideal S1x128 .f32) (x6 : Vec Ideal S1x2048 .f32)
    {Ss : Fin 4 → Chunk.Streams 256 512} (H : Block Ss 0 x0 x1 x2 x4 x5) :
    out0_A_7 c i arg2 harg2 arg3 harg3 arg4 harg4 arg5 harg5 arg6 harg6 arg7 harg7 arg8 harg8 arg9 harg9 arg10 harg10 arg11 harg11 arg12 harg12 hc0 x0 x1 x2 x3 x4 x5 x6 = Gy Ss 0 x3 x6 := by
  funext y
  refine View.read_writes_apply_of_pieces _ _ (Gy Ss 0 x3 x6) _ (View.PiecesOf.mem ?_) y (cover0_A_7 c i arg2 harg2 arg3 harg3 arg4 harg4 arg5 harg5 arg6 harg6 arg7 harg7 arg8 harg8 arg9 harg9 arg10 harg10 arg11 harg11 arg12 harg12 hc0 x0 x1 x2 x3 x4 x5 x6 y)
  rw [yA]
  exact ⟨fun x => by
      obtain ⟨p, q, rfl⟩ : ∃ (p : Fin 256) (q : Fin 512), x = ix2 p q := ⟨x 0, x 1, by funext a; fin_cases a <;> rfl⟩
      refine ((loadsA3 c i arg2 harg2 arg3 harg3 arg4 harg4 arg5 harg5 arg6 harg6 arg7 harg7 arg8 harg8 arg9 harg9 arg10 harg10 arg11 harg11 arg12 harg12 hc0 x0 x1 x2 x3 x4 x5 x6 H).y_eq _ _ p q).trans (Eq.trans ?_ ((congrArg (Gy Ss 0 x3 x6) (by funext a; fin_cases a <;> (apply Fin.ext; simp [LoadRect.idx, Rect.toLoadRect, Rect.unit, Rect.emb]))).trans (Gy_head Ss 0 x3 x6 3 p q)).symm)
      exact congrArg₂ (tail _ q) ((harg8.readAt_unread x6 _ _).trans (congrArg x6 (by funext a; fin_cases a <;> (apply Fin.ext; simp [LoadRect.idx, Rect.toLoadRect, Rect.unit, Rect.emb])))) ((harg5.readAt_unread x3 _ _).trans (congrArg x3 (by funext a; fin_cases a <;> (apply Fin.ext; simp [LoadRect.idx, Rect.toLoadRect, Rect.unit, Rect.emb])))),
    fun x => by
      obtain ⟨p, q, rfl⟩ : ∃ (p : Fin 256) (q : Fin 512), x = ix2 p q := ⟨x 0, x 1, by funext a; fin_cases a <;> rfl⟩
      refine ((loadsA2 c i arg2 harg2 arg3 harg3 arg4 harg4 arg5 harg5 arg6 harg6 arg7 harg7 arg8 harg8 arg9 harg9 arg10 harg10 arg11 harg11 arg12 harg12 hc0 x0 x1 x2 x3 x4 x5 x6 H).y_eq _ _ p q).trans (Eq.trans ?_ ((congrArg (Gy Ss 0 x3 x6) (by funext a; fin_cases a <;> (apply Fin.ext; simp [LoadRect.idx, Rect.toLoadRect, Rect.unit, Rect.emb]))).trans (Gy_head Ss 0 x3 x6 2 p q)).symm)
      exact congrArg₂ (tail _ q) ((harg8.readAt_unread x6 _ _).trans (congrArg x6 (by funext a; fin_cases a <;> (apply Fin.ext; simp [LoadRect.idx, Rect.toLoadRect, Rect.unit, Rect.emb])))) ((harg5.readAt_unread x3 _ _).trans (congrArg x3 (by funext a; fin_cases a <;> (apply Fin.ext; simp [LoadRect.idx, Rect.toLoadRect, Rect.unit, Rect.emb])))),
    fun x => by
      obtain ⟨p, q, rfl⟩ : ∃ (p : Fin 256) (q : Fin 512), x = ix2 p q := ⟨x 0, x 1, by funext a; fin_cases a <;> rfl⟩
      refine ((loadsA1 c i arg2 harg2 arg3 harg3 arg4 harg4 arg5 harg5 arg6 harg6 arg7 harg7 arg8 harg8 arg9 harg9 arg10 harg10 arg11 harg11 arg12 harg12 hc0 x0 x1 x2 x3 x4 x5 x6 H).y_eq _ _ p q).trans (Eq.trans ?_ ((congrArg (Gy Ss 0 x3 x6) (by funext a; fin_cases a <;> (apply Fin.ext; simp [LoadRect.idx, Rect.toLoadRect, Rect.unit, Rect.emb]))).trans (Gy_head Ss 0 x3 x6 1 p q)).symm)
      exact congrArg₂ (tail _ q) ((harg8.readAt_unread x6 _ _).trans (congrArg x6 (by funext a; fin_cases a <;> (apply Fin.ext; simp [LoadRect.idx, Rect.toLoadRect, Rect.unit, Rect.emb])))) ((harg5.readAt_unread x3 _ _).trans (congrArg x3 (by funext a; fin_cases a <;> (apply Fin.ext; simp [LoadRect.idx, Rect.toLoadRect, Rect.unit, Rect.emb])))),
    fun x => by
      obtain ⟨p, q, rfl⟩ : ∃ (p : Fin 256) (q : Fin 512), x = ix2 p q := ⟨x 0, x 1, by funext a; fin_cases a <;> rfl⟩
      refine ((loadsA0 c i arg2 harg2 arg3 harg3 arg4 harg4 arg5 harg5 arg6 harg6 arg7 harg7 arg8 harg8 arg9 harg9 arg10 harg10 arg11 harg11 arg12 harg12 hc0 x0 x1 x2 x3 x4 x5 x6 H).y_eq _ _ p q).trans (Eq.trans ?_ ((congrArg (Gy Ss 0 x3 x6) (by funext a; fin_cases a <;> (apply Fin.ext; simp [LoadRect.idx, Rect.toLoadRect, Rect.unit, Rect.emb]))).trans (Gy_head Ss 0 x3 x6 0 p q)).symm)
      exact congrArg₂ (tail _ q) ((harg8.readAt_unread x6 _ _).trans (congrArg x6 (by funext a; fin_cases a <;> (apply Fin.ext; simp [LoadRect.idx, Rect.toLoadRect, Rect.unit, Rect.emb])))) ((harg5.readAt_unread x3 _ _).trans (congrArg x3 (by funext a; fin_cases a <;> (apply Fin.ext; simp [LoadRect.idx, Rect.toLoadRect, Rect.unit, Rect.emb])))), trivial⟩

/-- The memory after a point that is a sequence's first. -/
theorem cvalA (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x8x128 .f32) (harg12 : arg12.IsWhole) (hc0 : cond0_0 i)
    (x0 : Vec Ideal S256x1024 .bf16) (x1 : Vec Ideal S256x1024 .bf16) (x2 : Vec Ideal S256x2048 .bf16) (x3 : Vec Ideal S256x2048 .bf16) (x4 : Vec Ideal S256x128 .f32) (x5 : Vec Ideal S1x128 .f32) (x6 : Vec Ideal S1x2048 .f32)
    {Ss : Fin 4 → Chunk.Streams 256 512} (H : Block Ss 0 x0 x1 x2 x4 x5) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 = Gc Ss (0 + 256) := by
  funext y
  refine (View.read_writes_apply_eq_canon _ _ y _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6 y)).trans ?_
  rw [cA]
  refine View.canon_append_of_piecesOf (Gc Ss (0 + 256)) ([_] : List (View.Piece (Elt Ideal) S4x256x512 .f32)) ([_, _, _, _] : List (View.Piece (Elt Ideal) S4x256x512 .f32)) ?_ y
    (View.cover_of_tiledL (s := S4x256x512) _ S1x256x512.size (by sl_kernel_rfl) y)
  exact ⟨fun x => by
      obtain ⟨z, p, q, rfl⟩ : ∃ (z : Fin 1) (p : Fin 256) (q : Fin 512), x = ix3 z p q := ⟨x 0, x 1, x 2, by funext a; fin_cases a <;> rfl⟩
      obtain rfl := Subsingleton.elim z 0
      exact ((loadsA3 c i arg2 harg2 arg3 harg3 arg4 harg4 arg5 harg5 arg6 harg6 arg7 harg7 arg8 harg8 arg9 harg9 arg10 harg10 arg11 harg11 arg12 harg12 hc0 x0 x1 x2 x3 x4 x5 x6 H).c_eq p q).trans ((congrArg (Gc Ss (0 + 256)) (by funext a; fin_cases a <;> (apply Fin.ext; simp [LoadRect.idx, Rect.toLoadRect, Rect.unit, Rect.emb]))).trans (Gc_head Ss (0 + 256) 3 p q)).symm,
    fun x => by
      obtain ⟨z, p, q, rfl⟩ : ∃ (z : Fin 1) (p : Fin 256) (q : Fin 512), x = ix3 z p q := ⟨x 0, x 1, x 2, by funext a; fin_cases a <;> rfl⟩
      obtain rfl := Subsingleton.elim z 0
      exact ((loadsA2 c i arg2 harg2 arg3 harg3 arg4 harg4 arg5 harg5 arg6 harg6 arg7 harg7 arg8 harg8 arg9 harg9 arg10 harg10 arg11 harg11 arg12 harg12 hc0 x0 x1 x2 x3 x4 x5 x6 H).c_eq p q).trans ((congrArg (Gc Ss (0 + 256)) (by funext a; fin_cases a <;> (apply Fin.ext; simp [LoadRect.idx, Rect.toLoadRect, Rect.unit, Rect.emb]))).trans (Gc_head Ss (0 + 256) 2 p q)).symm,
    fun x => by
      obtain ⟨z, p, q, rfl⟩ : ∃ (z : Fin 1) (p : Fin 256) (q : Fin 512), x = ix3 z p q := ⟨x 0, x 1, x 2, by funext a; fin_cases a <;> rfl⟩
      obtain rfl := Subsingleton.elim z 0
      exact ((loadsA1 c i arg2 harg2 arg3 harg3 arg4 harg4 arg5 harg5 arg6 harg6 arg7 harg7 arg8 harg8 arg9 harg9 arg10 harg10 arg11 harg11 arg12 harg12 hc0 x0 x1 x2 x3 x4 x5 x6 H).c_eq p q).trans ((congrArg (Gc Ss (0 + 256)) (by funext a; fin_cases a <;> (apply Fin.ext; simp [LoadRect.idx, Rect.toLoadRect, Rect.unit, Rect.emb]))).trans (Gc_head Ss (0 + 256) 1 p q)).symm,
    fun x => by
      obtain ⟨z, p, q, rfl⟩ : ∃ (z : Fin 1) (p : Fin 256) (q : Fin 512), x = ix3 z p q := ⟨x 0, x 1, x 2, by funext a; fin_cases a <;> rfl⟩
      obtain rfl := Subsingleton.elim z 0
      exact ((loadsA0 c i arg2 harg2 arg3 harg3 arg4 harg4 arg5 harg5 arg6 harg6 arg7 harg7 arg8 harg8 arg9 harg9 arg10 harg10 arg11 harg11 arg12 harg12 hc0 x0 x1 x2 x3 x4 x5 x6 H).c_eq p q).trans ((congrArg (Gc Ss (0 + 256)) (by funext a; fin_cases a <;> (apply Fin.ext; simp [LoadRect.idx, Rect.toLoadRect, Rect.unit, Rect.emb]))).trans (Gc_head Ss (0 + 256) 0 p q)).symm, trivial⟩

/-- The normalizer after a point that is a sequence's first. -/
theorem nvalA (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x8x128 .f32) (harg12 : arg12.IsWhole) (hc0 : cond0_0 i)
    (x0 : Vec Ideal S256x1024 .bf16) (x1 : Vec Ideal S256x1024 .bf16) (x2 : Vec Ideal S256x2048 .bf16) (x3 : Vec Ideal S256x2048 .bf16) (x4 : Vec Ideal S256x128 .f32) (x5 : Vec Ideal S1x128 .f32) (x6 : Vec Ideal S1x2048 .f32)
    {Ss : Fin 4 → Chunk.Streams 256 512} (H : Block Ss 0 x0 x1 x2 x4 x5) :
    sout0_A_1 c i arg2 harg2 arg3 harg3 arg4 harg4 arg5 harg5 arg6 harg6 arg7 harg7 arg8 harg8 arg9 harg9 arg10 harg10 arg11 harg11 arg12 harg12 hc0 x0 x1 x2 x3 x4 x5 x6 = Gn Ss (0 + 256) := by
  funext y
  refine (View.read_writes_apply_eq_canon _ _ y _ (scover0_A_1 c i arg2 harg2 arg3 harg3 arg4 harg4 arg5 harg5 arg6 harg6 arg7 harg7 arg8 harg8 arg9 harg9 arg10 harg10 arg11 harg11 arg12 harg12 hc0 x0 x1 x2 x3 x4 x5 x6 y)).trans ?_
  rw [nA]
  refine View.canon_append_of_piecesOf (Gn Ss (0 + 256)) ([_] : List (View.Piece (Elt Ideal) S4x1x256 .f32)) ([_, _, _, _] : List (View.Piece (Elt Ideal) S4x1x256 .f32)) ?_ y
    (View.cover_of_tiledL (s := S4x1x256) _ S1x1x256.size (by sl_kernel_rfl) y)
  exact ⟨fun x => by
      obtain ⟨z, w, p, rfl⟩ : ∃ (z : Fin 1) (w : Fin 1) (p : Fin 256), x = ix3 z w p := ⟨x 0, x 1, x 2, by funext a; fin_cases a <;> rfl⟩
      obtain rfl := Subsingleton.elim z 0
      obtain rfl := Subsingleton.elim w 0
      exact ((loadsA3 c i arg2 harg2 arg3 harg3 arg4 harg4 arg5 harg5 arg6 harg6 arg7 harg7 arg8 harg8 arg9 harg9 arg10 harg10 arg11 harg11 arg12 harg12 hc0 x0 x1 x2 x3 x4 x5 x6 H).n_eq p).trans ((congrArg (Gn Ss (0 + 256)) (by funext a; fin_cases a <;> (apply Fin.ext; simp [LoadRect.idx, Rect.toLoadRect, Rect.unit, Rect.emb]))).trans (Gn_head Ss (0 + 256) 3 p)).symm,
    fun x => by
      obtain ⟨z, w, p, rfl⟩ : ∃ (z : Fin 1) (w : Fin 1) (p : Fin 256), x = ix3 z w p := ⟨x 0, x 1, x 2, by funext a; fin_cases a <;> rfl⟩
      obtain rfl := Subsingleton.elim z 0
      obtain rfl := Subsingleton.elim w 0
      exact ((loadsA2 c i arg2 harg2 arg3 harg3 arg4 harg4 arg5 harg5 arg6 harg6 arg7 harg7 arg8 harg8 arg9 harg9 arg10 harg10 arg11 harg11 arg12 harg12 hc0 x0 x1 x2 x3 x4 x5 x6 H).n_eq p).trans ((congrArg (Gn Ss (0 + 256)) (by funext a; fin_cases a <;> (apply Fin.ext; simp [LoadRect.idx, Rect.toLoadRect, Rect.unit, Rect.emb]))).trans (Gn_head Ss (0 + 256) 2 p)).symm,
    fun x => by
      obtain ⟨z, w, p, rfl⟩ : ∃ (z : Fin 1) (w : Fin 1) (p : Fin 256), x = ix3 z w p := ⟨x 0, x 1, x 2, by funext a; fin_cases a <;> rfl⟩
      obtain rfl := Subsingleton.elim z 0
      obtain rfl := Subsingleton.elim w 0
      exact ((loadsA1 c i arg2 harg2 arg3 harg3 arg4 harg4 arg5 harg5 arg6 harg6 arg7 harg7 arg8 harg8 arg9 harg9 arg10 harg10 arg11 harg11 arg12 harg12 hc0 x0 x1 x2 x3 x4 x5 x6 H).n_eq p).trans ((congrArg (Gn Ss (0 + 256)) (by funext a; fin_cases a <;> (apply Fin.ext; simp [LoadRect.idx, Rect.toLoadRect, Rect.unit, Rect.emb]))).trans (Gn_head Ss (0 + 256) 1 p)).symm,
    fun x => by
      obtain ⟨z, w, p, rfl⟩ : ∃ (z : Fin 1) (w : Fin 1) (p : Fin 256), x = ix3 z w p := ⟨x 0, x 1, x 2, by funext a; fin_cases a <;> rfl⟩
      obtain rfl := Subsingleton.elim z 0
      obtain rfl := Subsingleton.elim w 0
      exact ((loadsA0 c i arg2 harg2 arg3 harg3 arg4 harg4 arg5 harg5 arg6 harg6 arg7 harg7 arg8 harg8 arg9 harg9 arg10 harg10 arg11 harg11 arg12 harg12 hc0 x0 x1 x2 x3 x4 x5 x6 H).n_eq p).trans ((congrArg (Gn Ss (0 + 256)) (by funext a; fin_cases a <;> (apply Fin.ext; simp [LoadRect.idx, Rect.toLoadRect, Rect.unit, Rect.emb]))).trans (Gn_head Ss (0 + 256) 0 p)).symm, trivial⟩

/-- The stabilizer after a point that is a sequence's first. -/
theorem mvalA (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x8x128 .f32) (harg12 : arg12.IsWhole) (hc0 : cond0_0 i)
    (x0 : Vec Ideal S256x1024 .bf16) (x1 : Vec Ideal S256x1024 .bf16) (x2 : Vec Ideal S256x2048 .bf16) (x3 : Vec Ideal S256x2048 .bf16) (x4 : Vec Ideal S256x128 .f32) (x5 : Vec Ideal S1x128 .f32) (x6 : Vec Ideal S1x2048 .f32)
    {Ss : Fin 4 → Chunk.Streams 256 512} (H : Block Ss 0 x0 x1 x2 x4 x5) :
    sout0_A_2 c i arg2 harg2 arg3 harg3 arg4 harg4 arg5 harg5 arg6 harg6 arg7 harg7 arg8 harg8 arg9 harg9 arg10 harg10 arg11 harg11 arg12 harg12 hc0 x0 x1 x2 x3 x4 x5 x6 = Gm Ss (0 + 256) := by
  funext y
  refine (View.read_writes_apply_eq_canon _ _ y _ (scover0_A_2 c i arg2 harg2 arg3 harg3 arg4 harg4 arg5 harg5 arg6 harg6 arg7 harg7 arg8 harg8 arg9 harg9 arg10 harg10 arg11 harg11 arg12 harg12 hc0 x0 x1 x2 x3 x4 x5 x6 y)).trans ?_
  rw [mA]
  refine View.canon_append_of_piecesOf (Gm Ss (0 + 256)) ([_] : List (View.Piece (Elt Ideal) S4x8x128 .f32)) ([_, _, _, _] : List (View.Piece (Elt Ideal) S4x8x128 .f32)) ?_ y
    (View.cover_of_tiledL (s := S4x8x128) _ S1x8x128.size (by sl_kernel_rfl) y)
  exact ⟨fun x => by
      obtain ⟨z, p, q, rfl⟩ : ∃ (z : Fin 1) (p : Fin 8) (q : Fin 128), x = ix3 z p q := ⟨x 0, x 1, x 2, by funext a; fin_cases a <;> rfl⟩
      obtain rfl := Subsingleton.elim z 0
      exact ((loadsA3 c i arg2 harg2 arg3 harg3 arg4 harg4 arg5 harg5 arg6 harg6 arg7 harg7 arg8 harg8 arg9 harg9 arg10 harg10 arg11 harg11 arg12 harg12 hc0 x0 x1 x2 x3 x4 x5 x6 H).m_eq p q).trans ((congrArg (Gm Ss (0 + 256)) (by funext a; fin_cases a <;> (apply Fin.ext; simp [LoadRect.idx, Rect.toLoadRect, Rect.unit, Rect.emb]))).trans (Gm_head Ss (0 + 256) 3 p q)).symm,
    fun x => by
      obtain ⟨z, p, q, rfl⟩ : ∃ (z : Fin 1) (p : Fin 8) (q : Fin 128), x = ix3 z p q := ⟨x 0, x 1, x 2, by funext a; fin_cases a <;> rfl⟩
      obtain rfl := Subsingleton.elim z 0
      exact ((loadsA2 c i arg2 harg2 arg3 harg3 arg4 harg4 arg5 harg5 arg6 harg6 arg7 harg7 arg8 harg8 arg9 harg9 arg10 harg10 arg11 harg11 arg12 harg12 hc0 x0 x1 x2 x3 x4 x5 x6 H).m_eq p q).trans ((congrArg (Gm Ss (0 + 256)) (by funext a; fin_cases a <;> (apply Fin.ext; simp [LoadRect.idx, Rect.toLoadRect, Rect.unit, Rect.emb]))).trans (Gm_head Ss (0 + 256) 2 p q)).symm,
    fun x => by
      obtain ⟨z, p, q, rfl⟩ : ∃ (z : Fin 1) (p : Fin 8) (q : Fin 128), x = ix3 z p q := ⟨x 0, x 1, x 2, by funext a; fin_cases a <;> rfl⟩
      obtain rfl := Subsingleton.elim z 0
      exact ((loadsA1 c i arg2 harg2 arg3 harg3 arg4 harg4 arg5 harg5 arg6 harg6 arg7 harg7 arg8 harg8 arg9 harg9 arg10 harg10 arg11 harg11 arg12 harg12 hc0 x0 x1 x2 x3 x4 x5 x6 H).m_eq p q).trans ((congrArg (Gm Ss (0 + 256)) (by funext a; fin_cases a <;> (apply Fin.ext; simp [LoadRect.idx, Rect.toLoadRect, Rect.unit, Rect.emb]))).trans (Gm_head Ss (0 + 256) 1 p q)).symm,
    fun x => by
      obtain ⟨z, p, q, rfl⟩ : ∃ (z : Fin 1) (p : Fin 8) (q : Fin 128), x = ix3 z p q := ⟨x 0, x 1, x 2, by funext a; fin_cases a <;> rfl⟩
      obtain rfl := Subsingleton.elim z 0
      exact ((loadsA0 c i arg2 harg2 arg3 harg3 arg4 harg4 arg5 harg5 arg6 harg6 arg7 harg7 arg8 harg8 arg9 harg9 arg10 harg10 arg11 harg11 arg12 harg12 hc0 x0 x1 x2 x3 x4 x5 x6 H).m_eq p q).trans ((congrArg (Gm Ss (0 + 256)) (by funext a; fin_cases a <;> (apply Fin.ext; simp [LoadRect.idx, Rect.toLoadRect, Rect.unit, Rect.emb]))).trans (Gm_head Ss (0 + 256) 0 p q)).symm, trivial⟩

end Cert.Proof.KernelPieces
end
-- ==== Proof.TripRun.lean ====
/- The run of the looped reference of the mLSTM mixer, trip by trip: after `j` trips of its loop the buffers of the
   program hold the state `step` makes of the first one in `j` steps (`Holds`), so that the result ends at
   `R_main_v79` of the state after the sixty-four trips, with every argument unchanged (`run_iter`). Each trip is
   followed operation by operation. -/
module

public import proofs.«01_k».proof.Proof.Gen.ReferenceIdeal.Run
public import proofs.«01_k».proof.Proof.Gen.ReferenceIdeal.Step

@[expose] public section

noncomputable section

namespace Cert.ReferenceIdeal.TripRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v50_7) = s.main_v50_7
  f_8 : V0 (Proc.devRef .tc main_v50_8) = s.main_v50_8
  f_9 : V0 (Proc.devRef .tc main_v50_9) = s.main_v50_9
  f_10 : V0 (Proc.devRef .tc main_v50_10) = s.main_v50_10
  f_0 : V0 (Proc.devRef .tc main_v50_0) = s.main_v50_0
  f_1 : V0 (Proc.devRef .tc main_v50_1) = s.main_v50_1
  f_2 : V0 (Proc.devRef .tc main_v50_2) = s.main_v50_2
  f_3 : V0 (Proc.devRef .tc main_v50_3) = s.main_v50_3
  f_4 : V0 (Proc.devRef .tc main_v50_4) = s.main_v50_4
  n_6 : V0 (Proc.devRef .tc main_v50_6) = constantI S_ 32 (BitVec.ofNat 32 j)
  k_5 : V0 (Proc.devRef .tc main_v50_5) = Cert.ReferenceIdeal.Step.K_main_v45 (F := F)

variable {V0 s j}

set_option maxRecDepth 8192 in
/-- Value 0 of a trip, computed from a held state, is the step's. -/
theorem al_0 (h : Holds V0 s j) : (constantI S_ 32 0#32 : (Proc.devRef .tc main_while0b_call2_c : DevRef τ sig).ty.Contents (Elt F)) = Cert.ReferenceIdeal.Step.b0 j s := by
  unfold Cert.ReferenceIdeal.Step.b0
  rfl
set_option maxRecDepth 8192 in
/-- Value 1 of a trip, computed from a held state, is the step's. -/
theorem al_1 (h : Holds V0 s j) : (constantI S_ 32 0#32 : (Proc.devRef .tc main_while0b_call2_c_0 : DevRef τ sig).ty.Contents (Elt F)) = Cert.ReferenceIdeal.Step.b1 j s := by
  unfold Cert.ReferenceIdeal.Step.b1
  rfl
set_option maxRecDepth 8192 in
/-- Value 2 of a trip, computed from a held state, is the step's. -/
theorem al_2 (h : Holds V0 s j) : (constantI S_ 32 0#32 : (Proc.devRef .tc main_while0b_call2_c_1 : DevRef τ sig).ty.Contents (Elt F)) = Cert.ReferenceIdeal.Step.b2 j s := by
  unfold Cert.ReferenceIdeal.Step.b2
  rfl
set_option maxRecDepth 8192 in
/-- Value 3 of a trip, computed from a held state, is the step's. -/
theorem al_3 (h : Holds V0 s j) : (constantI S_ 32 0#32 : (Proc.devRef .tc main_while0b_call2_c_2 : DevRef τ sig).ty.Contents (Elt F)) = Cert.ReferenceIdeal.Step.b3 j s := by
  unfold Cert.ReferenceIdeal.Step.b3
  rfl
set_option maxRecDepth 8192 in
/-- Value 4 of a trip, computed from a held state, is the step's. -/
theorem al_4 (h : Holds V0 s j) : (Host.dynamicSlice S1x4x4x64x256 (V0 (Proc.devRef .tc main_v50_0)) (fun k => (((![V0 (Proc.devRef .tc main_v50_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x256_S1x4x4x64x256 : (Proc.devRef .tc main_while0b_call2_v0 : DevRef τ sig).ty.Contents (Elt F)) = Cert.ReferenceIdeal.Step.b4 j s := by
  unfold Cert.ReferenceIdeal.Step.b4
  rw [← al_0 h, ← al_1 h, ← al_2 h, ← al_3 h, h.f_0, h.n_6]
  try rfl
set_option maxRecDepth 8192 in
/-- Value 5 of a trip, computed from a held state, is the step's. -/
theorem al_5 (h : Holds V0 s j) : (res_main_while0b_v80 V0 : (Proc.devRef .tc main_while0b_v80 : DevRef τ sig).ty.Contents (Elt F)) = Cert.ReferenceIdeal.Step.b5 j s := by
  unfold res_main_while0b_v80 Cert.ReferenceIdeal.Step.b5
  rw [← al_4 h]
  try rfl
set_option maxRecDepth 8192 in
/-- Value 6 of a trip, computed from a held state, is the step's. -/
theorem al_6 (h : Holds V0 s j) : (constantI S_ 32 0#32 : (Proc.devRef .tc main_while0b_call3_c : DevRef τ sig).ty.Contents (Elt F)) = Cert.ReferenceIdeal.Step.b6 j s := by
  unfold Cert.ReferenceIdeal.Step.b6
  rfl
set_option maxRecDepth 8192 in
/-- Value 7 of a trip, computed from a held state, is the step's. -/
theorem al_7 (h : Holds V0 s j) : (constantI S_ 32 0#32 : (Proc.devRef .tc main_while0b_call3_c_0 : DevRef τ sig).ty.Contents (Elt F)) = Cert.ReferenceIdeal.Step.b7 j s := by
  unfold Cert.ReferenceIdeal.Step.b7
  rfl
set_option maxRecDepth 8192 in
/-- Value 8 of a trip, computed from a held state, is the step's. -/
theorem al_8 (h : Holds V0 s j) : (constantI S_ 32 0#32 : (Proc.devRef .tc main_while0b_call3_c_1 : DevRef τ sig).ty.Contents (Elt F)) = Cert.ReferenceIdeal.Step.b8 j s := by
  unfold Cert.ReferenceIdeal.Step.b8
  rfl
set_option maxRecDepth 8192 in
/-- Value 9 of a trip, computed from a held state, is the step's. -/
theorem al_9 (h : Holds V0 s j) : (constantI S_ 32 0#32 : (Proc.devRef .tc main_while0b_call3_c_2 : DevRef τ sig).ty.Contents (Elt F)) = Cert.ReferenceIdeal.Step.b9 j s := by
  unfold Cert.ReferenceIdeal.Step.b9
  rfl
set_option maxRecDepth 8192 in
/-- Value 10 of a trip, computed from a held state, is the step's. -/
theorem al_10 (h : Holds V0 s j) : (Host.dynamicSlice S1x4x4x64x256 (V0 (Proc.devRef .tc main_v50_1)) (fun k => (((![V0 (Proc.devRef .tc main_v50_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x256_S1x4x4x64x256 : (Proc.devRef .tc main_while0b_call3_v0 : DevRef τ sig).ty.Contents (Elt F)) = Cert.ReferenceIdeal.Step.b10 j s := by
  unfold Cert.ReferenceIdeal.Step.b10
  rw [← al_6 h, ← al_7 h, ← al_8 h, ← al_9 h, h.f_1, h.n_6]
  try rfl
set_option maxRecDepth 8192 in
/-- Value 11 of a trip, computed from a held state, is the step's. -/
theorem al_11 (h : Holds V0 s j) : (res_main_while0b_v81 V0 : (Proc.devRef .tc main_while0b_v81 : DevRef τ sig).ty.Contents (Elt F)) = Cert.ReferenceIdeal.Step.b11 j s := by
  unfold res_main_while0b_v81 Cert.ReferenceIdeal.Step.b11
  rw [← al_10 h]
  try rfl
set_option maxRecDepth 8192 in
/-- Value 12 of a trip, computed from a held state, is the step's. -/
theorem al_12 (h : Holds V0 s j) : (constantI S_ 32 0#32 : (Proc.devRef .tc main_while0b_call4_c : DevRef τ sig).ty.Contents (Elt F)) = Cert.ReferenceIdeal.Step.b12 j s := by
  unfold Cert.ReferenceIdeal.Step.b12
  rfl
set_option maxRecDepth 8192 in
/-- Value 13 of a trip, computed from a held state, is the step's. -/
theorem al_13 (h : Holds V0 s j) : (constantI S_ 32 0#32 : (Proc.devRef .tc main_while0b_call4_c_0 : DevRef τ sig).ty.Contents (Elt F)) = Cert.ReferenceIdeal.Step.b13 j s := by
  unfold Cert.ReferenceIdeal.Step.b13
  rfl
set_option maxRecDepth 8192 in
/-- Value 14 of a trip, computed from a held state, is the step's. -/
theorem al_14 (h : Holds V0 s j) : (constantI S_ 32 0#32 : (Proc.devRef .tc main_while0b_call4_c_1 : DevRef τ sig).ty.Contents (Elt F)) = Cert.ReferenceIdeal.Step.b14 j s := by
  unfold Cert.ReferenceIdeal.Step.b14
  rfl
set_option maxRecDepth 8192 in
/-- Value 15 of a trip, computed from a held state, is the step's. -/
theorem al_15 (h : Holds V0 s j) : (constantI S_ 32 0#32 : (Proc.devRef .tc main_while0b_call4_c_2 : DevRef τ sig).ty.Contents (Elt F)) = Cert.ReferenceIdeal.Step.b15 j s := by
  unfold Cert.ReferenceIdeal.Step.b15
  rfl
set_option maxRecDepth 8192 in
/-- Value 16 of a trip, computed from a held state, is the step's. -/
theorem al_16 (h : Holds V0 s j) : (Host.dynamicSlice S1x4x4x64x512 (V0 (Proc.devRef .tc main_v50_2)) (fun k => (((![V0 (Proc.devRef .tc main_v50_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x512_S1x4x4x64x512 : (Proc.devRef .tc main_while0b_call4_v0 : DevRef τ sig).ty.Contents (Elt F)) = Cert.ReferenceIdeal.Step.b16 j s := by
  unfold Cert.ReferenceIdeal.Step.b16
  rw [← al_12 h, ← al_13 h, ← al_14 h, ← al_15 h, h.f_2, h.n_6]
  try rfl
set_option maxRecDepth 8192 in
/-- Value 17 of a trip, computed from a held state, is the step's. -/
theorem al_17 (h : Holds V0 s j) : (res_main_while0b_v82 V0 : (Proc.devRef .tc main_while0b_v82 : DevRef τ sig).ty.Contents (Elt F)) = Cert.ReferenceIdeal.Step.b17 j s := by
  unfold res_main_while0b_v82 Cert.ReferenceIdeal.Step.b17
  rw [← al_16 h]
  try rfl
set_option maxRecDepth 8192 in
/-- Value 18 of a trip, computed from a held state, is the step's. -/
theorem al_18 (h : Holds V0 s j) : (constantI S_ 32 0#32 : (Proc.devRef .tc main_while0b_call5_c : DevRef τ sig).ty.Contents (Elt F)) = Cert.ReferenceIdeal.Step.b18 j s := by
  unfold Cert.ReferenceIdeal.Step.b18
  rfl
set_option maxRecDepth 8192 in
/-- Value 19 of a trip, computed from a held state, is the step's. -/
theorem al_19 (h : Holds V0 s j) : (constantI S_ 32 0#32 : (Proc.devRef .tc main_while0b_call5_c_0 : DevRef τ sig).ty.Contents (Elt F)) = Cert.ReferenceIdeal.Step.b19 j s := by
  unfold Cert.ReferenceIdeal.Step.b19
  rfl
set_option maxRecDepth 8192 in
/-- Value 20 of a trip, computed from a held state, is the step's. -/
theorem al_20 (h : Holds V0 s j) : (constantI S_ 32 0#32 : (Proc.devRef .tc main_while0b_call5_c_1 : DevRef τ sig).ty.Contents (Elt F)) = Cert.ReferenceIdeal.Step.b20 j s := by
  unfold Cert.ReferenceIdeal.Step.b20
  rfl
set_option maxRecDepth 8192 in
/-- Value 21 of a trip, computed from a held state, is the step's. -/
theorem al_21 (h : Holds V0 s j) : (Host.dynamicSlice S1x4x4x64 (V0 (Proc.devRef .tc main_v50_3)) (fun k => (((![V0 (Proc.devRef .tc main_v50_6), constantI S_ 32 0#32, constantI S_ 32 0#32, constantI S_ 32 0#32] : Fin 4 → (⟨S_, .i32⟩ : BufTy).Contents (Elt F))) k (Shape.Idx.first h_S_)).toInt) sliceFits_S64x4x4x64_S1x4x4x64 : (Proc.devRef .tc main_while0b_call5_v0 : DevRef τ sig).ty.Contents (Elt F)) = Cert.ReferenceIdeal.Step.b21 j s := by
  unfold Cert.ReferenceIdeal.Step.b21
  rw [← al_18 h, ← al_19 h, ← al_20 h, h.f_3, h.n_6]
  try rfl
set_option maxRecDepth 8192 in
/-- Value 22 of a trip, computed from a held state, is the step's. -/
theorem al_22 (h : Holds V0 s j) : (res_main_while0b_v83 V0 : (Proc.devRef .tc main_while0b_v83 : DevRef τ sig).ty.Contents (Elt F)) = Cert.ReferenceIdeal.Step.b22 j s := by
  unfold res_main_while0b_v83 Cert.ReferenceIdeal.Step.b22
  rw [← al_21 h]
  try rfl
set_option maxRecDepth 8192 in
/-- Value 23 of a trip, computed from a held state, is the step's. -/
theorem al_23 (h : Holds V0 s j) : (constantI S_ 32 0#32 : (Proc.devRef .tc main_while0b_call6_c : DevRef τ sig).ty.Contents (Elt F)) = Cert.ReferenceIdeal.Step.b23 j s := by
  unfold Cert.ReferenceIdeal.Step.b23
  rfl
set_option maxRecDepth 8192 in
/-- Value 24 of a trip, computed from a held state, is the step's. -/
theorem al_24 (h : Holds V0 s j) : (constantI S_ 32 0#32 : (Proc.devRef .tc main_while0b_call6_c_0 : DevRef τ sig).ty.Contents (Elt F)) = Cert.ReferenceIdeal.Step.b24 j s := by
  unfold Cert.ReferenceIdeal.Step.b24
  rfl
set_option maxRecDepth 8192 in
/-- Value 25 of a trip, computed from a held state, is the step's. -/
theorem al_25 (h : Holds V0 s j) : (constantI S_ 32 0#32 : (Proc.devRef .tc main_while0b_call6_c_1 : DevRef τ sig).ty.Contents (Elt F)) = Cert.ReferenceIdeal.Step.b25 j s := by
  unfold Cert.ReferenceIdeal.Step.b25
  rfl
set_option maxRecDepth 8192 in
/-- Value 26 of a trip, computed from a held state, is the step's. -/
theorem al_26 (h : Holds V0 s j) : (Host.dynamicSlice S1x4x4x64 (V0 (Proc.devRef .tc main_v50_4)) (fun k => (((![V0 (Proc.devRef .tc main_v50_6), constantI S_ 32 0#32, constantI S_ 32 0#32, constantI S_ 32 0#32] : Fin 4 → (⟨S_, .i32⟩ : BufTy).Contents (Elt F))) k (Shape.Idx.first h_S_)).toInt) sliceFits_S64x4x4x64_S1x4x4x64 : (Proc.devRef .tc main_while0b_call6_v0 : DevRef τ sig).ty.Contents (Elt F)) = Cert.ReferenceIdeal.Step.b26 j s := by
  unfold Cert.ReferenceIdeal.Step.b26
  rw [← al_23 h, ← al_24 h, ← al_25 h, h.f_4, h.n_6]
  try rfl
set_option maxRecDepth 8192 in
/-- Value 27 of a trip, computed from a held state, is the step's. -/
theorem al_27 (h : Holds V0 s j) : (shapeCast S4x4x64 (Host.dynamicSlice S1x4x4x64 (V0 (Proc.devRef .tc main_v50_4)) (fun k => (((![V0 (Proc.devRef .tc main_v50_6), constantI S_ 32 0#32, constantI S_ 32 0#32, constantI S_ 32 0#32] : Fin 4 → (⟨S_, .i32⟩ : BufTy).Contents (Elt F))) k (Shape.Idx.first h_S_)).toInt) sliceFits_S64x4x4x64_S1x4x4x64) shapeCasts_S1x4x4x64_S4x4x64 : (Proc.devRef .tc main_while0b_v84 : DevRef τ sig).ty.Contents (Elt F)) = Cert.ReferenceIdeal.Step.b27 j s := by
  unfold Cert.ReferenceIdeal.Step.b27
  rw [← al_26 h]
  try rfl
set_option maxRecDepth 8192 in
/-- Value 28 of a trip, computed from a held state, is the step's. -/
theorem al_28 (h : Holds V0 s j) : (constant S_ .f32 0x00000000#32 : (Proc.devRef .tc main_while0b_call7_call0_cst : DevRef τ sig).ty.Contents (Elt F)) = Cert.ReferenceIdeal.Step.b28 j s := by
  unfold Cert.ReferenceIdeal.Step.b28
  rfl
set_option maxRecDepth 8192 in
/-- Value 29 of a trip, computed from a held state, is the step's. -/
theorem al_29 (h : Holds V0 s j) : (broadcastInDim S_ ![] bcast_S_S_ (constant S_ .f32 0x00000000#32) : (Proc.devRef .tc main_while0b_call7_call0_v0 : DevRef τ sig).ty.Contents (Elt F)) = Cert.ReferenceIdeal.Step.b29 j s := by
  unfold Cert.ReferenceIdeal.Step.b29
  rw [← al_28 h]
  try rfl
set_option maxRecDepth 8192 in
/-- Value 30 of a trip, computed from a held state, is the step's. -/
theorem al_30 (h : Holds V0 s j) : (res_main_while0b_v85 V0 : (Proc.devRef .tc main_while0b_v85 : DevRef τ sig).ty.Contents (Elt F)) = Cert.ReferenceIdeal.Step.b30 j s := by
  unfold res_main_while0b_v85 Cert.ReferenceIdeal.Step.b30
  rw [← al_27 h, ← al_29 h]
  try rfl
set_option maxRecDepth 8192 in
/-- Value 31 of a trip, computed from a held state, is the step's. -/
theorem al_31 (h : Holds V0 s j) : (broadcastInDim S4x4x64x1 ![0, 1, 2] bcast_S4x4x64_S4x4x64x1_0_1_2 (res_main_while0b_v85 V0) : (Proc.devRef .tc main_while0b_v86 : DevRef τ sig).ty.Contents (Elt F)) = Cert.ReferenceIdeal.Step.b31 j s := by
  unfold Cert.ReferenceIdeal.Step.b31
  rw [← al_30 h]
  try rfl
set_option maxRecDepth 8192 in
/-- Value 32 of a trip, computed from a held state, is the step's. -/
theorem al_32 (h : Holds V0 s j) : (broadcastInDim S4x4x1x64 ![0, 1, 3] bcast_S4x4x64_S4x4x1x64_0_1_3 (res_main_while0b_v85 V0) : (Proc.devRef .tc main_while0b_v87 : DevRef τ sig).ty.Contents (Elt F)) = Cert.ReferenceIdeal.Step.b32 j s := by
  unfold Cert.ReferenceIdeal.Step.b32
  rw [← al_30 h]
  try rfl
set_option maxRecDepth 8192 in
/-- Value 33 of a trip, computed from a held state, is the step's. -/
theorem al_33 (h : Holds V0 s j) : (broadcastInDim S4x4x64x64 ![0, 1, 2, 3] bcast_S4x4x64x1_S4x4x64x64_0_1_2_3 (broadcastInDim S4x4x64x1 ![0, 1, 2] bcast_S4x4x64_S4x4x64x1_0_1_2 (res_main_while0b_v85 V0)) : (Proc.devRef .tc main_while0b_v88 : DevRef τ sig).ty.Contents (Elt F)) = Cert.ReferenceIdeal.Step.b33 j s := by
  unfold Cert.ReferenceIdeal.Step.b33
  rw [← al_31 h]
  try rfl
set_option maxRecDepth 8192 in
/-- Value 34 of a trip, computed from a held state, is the step's. -/
theorem al_34 (h : Holds V0 s j) : (broadcastInDim S4x4x64x64 ![0, 1, 2, 3] bcast_S4x4x1x64_S4x4x64x64_0_1_2_3 (broadcastInDim S4x4x1x64 ![0, 1, 3] bcast_S4x4x64_S4x4x1x64_0_1_3 (res_main_while0b_v85 V0)) : (Proc.devRef .tc main_while0b_v89 : DevRef τ sig).ty.Contents (Elt F)) = Cert.ReferenceIdeal.Step.b34 j s := by
  unfold Cert.ReferenceIdeal.Step.b34
  rw [← al_32 h]
  try rfl
set_option maxRecDepth 8192 in
/-- Value 35 of a trip, computed from a held state, is the step's. -/
theorem al_35 (h : Holds V0 s j) : (subf (broadcastInDim S4x4x64x64 ![0, 1, 2, 3] bcast_S4x4x64x1_S4x4x64x64_0_1_2_3 (broadcastInDim S4x4x64x1 ![0, 1, 2] bcast_S4x4x64_S4x4x64x1_0_1_2 (res_main_while0b_v85 V0))) (broadcastInDim S4x4x64x64 ![0, 1, 2, 3] bcast_S4x4x1x64_S4x4x64x64_0_1_2_3 (broadcastInDim S4x4x1x64 ![0, 1, 3] bcast_S4x4x64_S4x4x1x64_0_1_3 (res_main_while0b_v85 V0))) : (Proc.devRef .tc main_while0b_v90 : DevRef τ sig).ty.Contents (Elt F)) = Cert.ReferenceIdeal.Step.b35 j s := by
  unfold Cert.ReferenceIdeal.Step.b35
  rw [← al_33 h, ← al_34 h]
  try rfl
set_option maxRecDepth 8192 in
/-- Value 36 of a trip, computed from a held state, is the step's. -/
theorem al_36 (h : Holds V0 s j) : (broadcastInDim S4x4x1x64 ![0, 1, 3] bcast_S4x4x64_S4x4x1x64_0_1_3 (res_main_while0b_v83 V0) : (Proc.devRef .tc main_while0b_v91 : DevRef τ sig).ty.Contents (Elt F)) = Cert.ReferenceIdeal.Step.b36 j s := by
  unfold Cert.ReferenceIdeal.Step.b36
  rw [← al_22 h]
  try rfl
set_option maxRecDepth 8192 in
/-- Value 37 of a trip, computed from a held state, is the step's. -/
theorem al_37 (h : Holds V0 s j) : (broadcastInDim S4x4x64x64 ![0, 1, 2, 3] bcast_S4x4x1x64_S4x4x64x64_0_1_2_3 (broadcastInDim S4x4x1x64 ![0, 1, 3] bcast_S4x4x64_S4x4x1x64_0_1_3 (res_main_while0b_v83 V0)) : (Proc.devRef .tc main_while0b_v92 : DevRef τ sig).ty.Contents (Elt F)) = Cert.ReferenceIdeal.Step.b37 j s := by
  unfold Cert.ReferenceIdeal.Step.b37
  rw [← al_36 h]
  try rfl
set_option maxRecDepth 8192 in
/-- Value 38 of a trip, computed from a held state, is the step's. -/
theorem al_38 (h : Holds V0 s j) : (addf (subf (broadcastInDim S4x4x64x64 ![0, 1, 2, 3] bcast_S4x4x64x1_S4x4x64x64_0_1_2_3 (broadcastInDim S4x4x64x1 ![0, 1, 2] bcast_S4x4x64_S4x4x64x1_0_1_2 (res_main_while0b_v85 V0))) (broadcastInDim S4x4x64x64 ![0, 1, 2, 3] bcast_S4x4x1x64_S4x4x64x64_0_1_2_3 (broadcastInDim S4x4x1x64 ![0, 1, 3] bcast_S4x4x64_S4x4x1x64_0_1_3 (res_main_while0b_v85 V0)))) (broadcastInDim S4x4x64x64 ![0, 1, 2, 3] bcast_S4x4x1x64_S4x4x64x64_0_1_2_3 (broadcastInDim S4x4x1x64 ![0, 1, 3] bcast_S4x4x64_S4x4x1x64_0_1_3 (res_main_while0b_v83 V0))) : (Proc.devRef .tc main_while0b_v93 : DevRef τ sig).ty.Contents (Elt F)) = Cert.ReferenceIdeal.Step.b38 j s := by
  unfold Cert.ReferenceIdeal.Step.b38
  rw [← al_35 h, ← al_37 h]
  try rfl
set_option maxRecDepth 8192 in
/-- Value 39 of a trip, computed from a held state, is the step's. -/
theorem al_39 (h : Holds V0 s j) : (constant S_ .f32 0xFF800000#32 : (Proc.devRef .tc main_while0b_cst_24 : DevRef τ sig).ty.Contents (Elt F)) = Cert.ReferenceIdeal.Step.b39 j s := by
  unfold Cert.ReferenceIdeal.Step.b39
  rfl
set_option maxRecDepth 8192 in
/-- Value 40 of a trip, computed from a held state, is the step's. -/
theorem al_40 (h : Holds V0 s j) : (id (constant S_ .f32 0xFF800000#32) : (Proc.devRef .tc main_while0b_call8_v0 : DevRef τ sig).ty.Contents (Elt F)) = Cert.ReferenceIdeal.Step.b40 j s := by
  unfold Cert.ReferenceIdeal.Step.b40
  rw [← al_39 h]
  try rfl
set_option maxRecDepth 8192 in
/-- Value 41 of a trip, computed from a held state, is the step's. -/
theorem al_41 (h : Holds V0 s j) : (broadcastInDim S4x4x64x64 ![2, 3] bcast_S64x64_S4x4x64x64_2_3 (V0 (Proc.devRef .tc main_v50_5)) : (Proc.devRef .tc main_while0b_call8_v1 : DevRef τ sig).ty.Contents (Elt F)) = Cert.ReferenceIdeal.Step.b41 j s := by
  unfold Cert.ReferenceIdeal.Step.b41
  rw [h.k_5]
  try rfl
set_option maxRecDepth 8192 in
/-- Value 42 of a trip, computed from a held state, is the step's. -/
theorem al_42 (h : Holds V0 s j) : (broadcastInDim S4x4x64x64 ![] bcast_S_S4x4x64x64 (id (constant S_ .f32 0xFF800000#32)) : (Proc.devRef .tc main_while0b_call8_v2 : DevRef τ sig).ty.Contents (Elt F)) = Cert.ReferenceIdeal.Step.b42 j s := by
  unfold Cert.ReferenceIdeal.Step.b42
  rw [← al_40 h]
  try rfl
set_option maxRecDepth 8192 in
/-- Value 43 of a trip, computed from a held state, is the step's. -/
theorem al_43 (h : Holds V0 s j) : (res_main_while0b_v94 V0 : (Proc.devRef .tc main_while0b_v94 : DevRef τ sig).ty.Contents (Elt F)) = Cert.ReferenceIdeal.Step.b43 j s := by
  unfold res_main_while0b_v94 Cert.ReferenceIdeal.Step.b43
  rw [← al_41 h, ← al_38 h, ← al_42 h]
  try rfl
set_option maxRecDepth 8192 in
/-- Value 44 of a trip, computed from a held state, is the step's. -/
theorem al_44 (h : Holds V0 s j) : (broadcastInDim S4x4x1 ![0, 1] bcast_S4x4_S4x4x1_0_1 (V0 (Proc.devRef .tc main_v50_9)) : (Proc.devRef .tc main_while0b_v95 : DevRef τ sig).ty.Contents (Elt F)) = Cert.ReferenceIdeal.Step.b44 j s := by
  unfold Cert.ReferenceIdeal.Step.b44
  rw [h.f_9]
  try rfl
set_option maxRecDepth 8192 in
/-- Value 45 of a trip, computed from a held state, is the step's. -/
theorem al_45 (h : Holds V0 s j) : (broadcastInDim S4x4x64 ![0, 1, 2] bcast_S4x4x1_S4x4x64_0_1_2 (broadcastInDim S4x4x1 ![0, 1] bcast_S4x4_S4x4x1_0_1 (V0 (Proc.devRef .tc main_v50_9))) : (Proc.devRef .tc main_while0b_v96 : DevRef τ sig).ty.Contents (Elt F)) = Cert.ReferenceIdeal.Step.b45 j s := by
  unfold Cert.ReferenceIdeal.Step.b45
  rw [← al_44 h]
  try rfl
set_option maxRecDepth 8192 in
/-- Value 46 of a trip, computed from a held state, is the step's. -/
theorem al_46 (h : Holds V0 s j) : (res_main_while0b_v97 V0 : (Proc.devRef .tc main_while0b_v97 : DevRef τ sig).ty.Contents (Elt F)) = Cert.ReferenceIdeal.Step.b46 j s := by
  unfold res_main_while0b_v97 Cert.ReferenceIdeal.Step.b46
  rw [← al_30 h, ← al_45 h]
  try rfl
set_option maxRecDepth 8192 in
/-- Value 47 of a trip, computed from a held state, is the step's. -/
theorem al_47 (h : Holds V0 s j) : (constant S_ .f32 0xFF800000#32 : (Proc.devRef .tc main_while0b_cst_25 : DevRef τ sig).ty.Contents (Elt F)) = Cert.ReferenceIdeal.Step.b47 j s := by
  unfold Cert.ReferenceIdeal.Step.b47
  rfl
set_option maxRecDepth 8192 in
/-- Value 48 of a trip, computed from a held state, is the step's. -/
theorem al_48 (h : Holds V0 s j) : (Host.reduce FloatOps.maximumf (res_main_while0b_v94 V0) (constant S_ .f32 0xFF800000#32) reducesTo_S4x4x64x64_S4x4x64_d3 h_S_ : (Proc.devRef .tc main_while0b_v98 : DevRef τ sig).ty.Contents (Elt F)) = Cert.ReferenceIdeal.Step.b48 j s := by
  unfold Cert.ReferenceIdeal.Step.b48
  rw [← al_43 h, ← al_47 h]
  try rfl
set_option maxRecDepth 8192 in
/-- Value 49 of a trip, computed from a held state, is the step's. -/
theorem al_49 (h : Holds V0 s j) : (res_main_while0b_v99 V0 : (Proc.devRef .tc main_while0b_v99 : DevRef τ sig).ty.Contents (Elt F)) = Cert.ReferenceIdeal.Step.b49 j s := by
  unfold res_main_while0b_v99 Cert.ReferenceIdeal.Step.b49
  rw [← al_46 h, ← al_48 h]
  try rfl
set_option maxRecDepth 8192 in
/-- Value 50 of a trip, computed from a held state, is the step's. -/
theorem al_50 (h : Holds V0 s j) : (broadcastInDim S4x4x64x1 ![0, 1, 2] bcast_S4x4x64_S4x4x64x1_0_1_2 (res_main_while0b_v99 V0) : (Proc.devRef .tc main_while0b_v100 : DevRef τ sig).ty.Contents (Elt F)) = Cert.ReferenceIdeal.Step.b50 j s := by
  unfold Cert.ReferenceIdeal.Step.b50
  rw [← al_49 h]
  try rfl
set_option maxRecDepth 8192 in
/-- Value 51 of a trip, computed from a held state, is the step's. -/
theorem al_51 (h : Holds V0 s j) : (broadcastInDim S4x4x64x64 ![0, 1, 2, 3] bcast_S4x4x64x1_S4x4x64x64_0_1_2_3 (broadcastInDim S4x4x64x1 ![0, 1, 2] bcast_S4x4x64_S4x4x64x1_0_1_2 (res_main_while0b_v99 V0)) : (Proc.devRef .tc main_while0b_v101 : DevRef τ sig).ty.Contents (Elt F)) = Cert.ReferenceIdeal.Step.b51 j s := by
  unfold Cert.ReferenceIdeal.Step.b51
  rw [← al_50 h]
  try rfl
set_option maxRecDepth 8192 in
/-- Value 52 of a trip, computed from a held state, is the step's. -/
theorem al_52 (h : Holds V0 s j) : (subf (res_main_while0b_v94 V0) (broadcastInDim S4x4x64x64 ![0, 1, 2, 3] bcast_S4x4x64x1_S4x4x64x64_0_1_2_3 (broadcastInDim S4x4x64x1 ![0, 1, 2] bcast_S4x4x64_S4x4x64x1_0_1_2 (res_main_while0b_v99 V0))) : (Proc.devRef .tc main_while0b_v102 : DevRef τ sig).ty.Contents (Elt F)) = Cert.ReferenceIdeal.Step.b52 j s := by
  unfold Cert.ReferenceIdeal.Step.b52
  rw [← al_43 h, ← al_51 h]
  try rfl
set_option maxRecDepth 8192 in
/-- Value 53 of a trip, computed from a held state, is the step's. -/
theorem al_53 (h : Holds V0 s j) : (Host.exp (subf (res_main_while0b_v94 V0) (broadcastInDim S4x4x64x64 ![0, 1, 2, 3] bcast_S4x4x64x1_S4x4x64x64_0_1_2_3 (broadcastInDim S4x4x64x1 ![0, 1, 2] bcast_S4x4x64_S4x4x64x1_0_1_2 (res_main_while0b_v99 V0)))) : (Proc.devRef .tc main_while0b_v103 : DevRef τ sig).ty.Contents (Elt F)) = Cert.ReferenceIdeal.Step.b53 j s := by
  unfold Cert.ReferenceIdeal.Step.b53
  rw [← al_52 h]
  try rfl
set_option maxRecDepth 8192 in
/-- Value 54 of a trip, computed from a held state, is the step's. -/
theorem al_54 (h : Holds V0 s j) : (subf (res_main_while0b_v97 V0) (res_main_while0b_v99 V0) : (Proc.devRef .tc main_while0b_v104 : DevRef τ sig).ty.Contents (Elt F)) = Cert.ReferenceIdeal.Step.b54 j s := by
  unfold Cert.ReferenceIdeal.Step.b54
  rw [← al_46 h, ← al_49 h]
  try rfl
set_option maxRecDepth 8192 in
/-- Value 55 of a trip, computed from a held state, is the step's. -/
theorem al_55 (h : Holds V0 s j) : (res_main_while0b_v105 V0 : (Proc.devRef .tc main_while0b_v105 : DevRef τ sig).ty.Contents (Elt F)) = Cert.ReferenceIdeal.Step.b55 j s := by
  unfold res_main_while0b_v105 Cert.ReferenceIdeal.Step.b55
  rw [← al_54 h]
  try rfl
set_option maxRecDepth 8192 in
/-- Value 56 of a trip, computed from a held state, is the step's. -/
theorem al_56 (h : Holds V0 s j) : (Host.dotGeneral dot_S4x4x64x256_S4x4x64x256_S4x4x64x64_3_3_2_2_01_01 none (res_main_while0b_v80 V0) (res_main_while0b_v81 V0) : (Proc.devRef .tc main_while0b_v106 : DevRef τ sig).ty.Contents (Elt F)) = Cert.ReferenceIdeal.Step.b56 j s := by
  unfold Cert.ReferenceIdeal.Step.b56
  rw [← al_5 h, ← al_11 h]
  try rfl
set_option maxRecDepth 8192 in
/-- Value 57 of a trip, computed from a held state, is the step's. -/
theorem al_57 (h : Holds V0 s j) : (res_main_while0b_v107 V0 : (Proc.devRef .tc main_while0b_v107 : DevRef τ sig).ty.Contents (Elt F)) = Cert.ReferenceIdeal.Step.b57 j s := by
  unfold res_main_while0b_v107 Cert.ReferenceIdeal.Step.b57
  rw [← al_56 h, ← al_53 h]
  try rfl
set_option maxRecDepth 8192 in
/-- Value 58 of a trip, computed from a held state, is the step's. -/
theorem al_58 (h : Holds V0 s j) : (broadcastInDim S4x4x64x1 ![0, 1, 2] bcast_S4x4x64_S4x4x64x1_0_1_2 (res_main_while0b_v105 V0) : (Proc.devRef .tc main_while0b_v108 : DevRef τ sig).ty.Contents (Elt F)) = Cert.ReferenceIdeal.Step.b58 j s := by
  unfold Cert.ReferenceIdeal.Step.b58
  rw [← al_55 h]
  try rfl
set_option maxRecDepth 8192 in
/-- Value 59 of a trip, computed from a held state, is the step's. -/
theorem al_59 (h : Holds V0 s j) : (Host.dotGeneral dot_S4x4x64x256_S4x4x256x512_S4x4x64x512_3_2_2_3_01_01 none (res_main_while0b_v80 V0) (V0 (Proc.devRef .tc main_v50_7)) : (Proc.devRef .tc main_while0b_v109 : DevRef τ sig).ty.Contents (Elt F)) = Cert.ReferenceIdeal.Step.b59 j s := by
  unfold Cert.ReferenceIdeal.Step.b59
  rw [← al_5 h, h.f_7]
  try rfl
set_option maxRecDepth 8192 in
/-- Value 60 of a trip, computed from a held state, is the step's. -/
theorem al_60 (h : Holds V0 s j) : (broadcastInDim S4x4x64x512 ![0, 1, 2, 3] bcast_S4x4x64x1_S4x4x64x512_0_1_2_3 (broadcastInDim S4x4x64x1 ![0, 1, 2] bcast_S4x4x64_S4x4x64x1_0_1_2 (res_main_while0b_v105 V0)) : (Proc.devRef .tc main_while0b_v110 : DevRef τ sig).ty.Contents (Elt F)) = Cert.ReferenceIdeal.Step.b60 j s := by
  unfold Cert.ReferenceIdeal.Step.b60
  rw [← al_58 h]
  try rfl
set_option maxRecDepth 8192 in
/-- Value 61 of a trip, computed from a held state, is the step's. -/
theorem al_61 (h : Holds V0 s j) : (mulf (broadcastInDim S4x4x64x512 ![0, 1, 2, 3] bcast_S4x4x64x1_S4x4x64x512_0_1_2_3 (broadcastInDim S4x4x64x1 ![0, 1, 2] bcast_S4x4x64_S4x4x64x1_0_1_2 (res_main_while0b_v105 V0))) (Host.dotGeneral dot_S4x4x64x256_S4x4x256x512_S4x4x64x512_3_2_2_3_01_01 none (res_main_while0b_v80 V0) (V0 (Proc.devRef .tc main_v50_7))) : (Proc.devRef .tc main_while0b_v111 : DevRef τ sig).ty.Contents (Elt F)) = Cert.ReferenceIdeal.Step.b61 j s := by
  unfold Cert.ReferenceIdeal.Step.b61
  rw [← al_60 h, ← al_59 h]
  try rfl
set_option maxRecDepth 8192 in
/-- Value 62 of a trip, computed from a held state, is the step's. -/
theorem al_62 (h : Holds V0 s j) : (Host.dotGeneral dot_S4x4x64x64_S4x4x64x512_S4x4x64x512_3_2_2_3_01_01 none (res_main_while0b_v107 V0) (res_main_while0b_v82 V0) : (Proc.devRef .tc main_while0b_v112 : DevRef τ sig).ty.Contents (Elt F)) = Cert.ReferenceIdeal.Step.b62 j s := by
  unfold Cert.ReferenceIdeal.Step.b62
  rw [← al_57 h, ← al_17 h]
  try rfl
set_option maxRecDepth 8192 in
/-- Value 63 of a trip, computed from a held state, is the step's. -/
theorem al_63 (h : Holds V0 s j) : (addf (mulf (broadcastInDim S4x4x64x512 ![0, 1, 2, 3] bcast_S4x4x64x1_S4x4x64x512_0_1_2_3 (broadcastInDim S4x4x64x1 ![0, 1, 2] bcast_S4x4x64_S4x4x64x1_0_1_2 (res_main_while0b_v105 V0))) (Host.dotGeneral dot_S4x4x64x256_S4x4x256x512_S4x4x64x512_3_2_2_3_01_01 none (res_main_while0b_v80 V0) (V0 (Proc.devRef .tc main_v50_7)))) (Host.dotGeneral dot_S4x4x64x64_S4x4x64x512_S4x4x64x512_3_2_2_3_01_01 none (res_main_while0b_v107 V0) (res_main_while0b_v82 V0)) : (Proc.devRef .tc main_while0b_v113 : DevRef τ sig).ty.Contents (Elt F)) = Cert.ReferenceIdeal.Step.b63 j s := by
  unfold Cert.ReferenceIdeal.Step.b63
  rw [← al_61 h, ← al_62 h]
  try rfl
set_option maxRecDepth 8192 in
/-- Value 64 of a trip, computed from a held state, is the step's. -/
theorem al_64 (h : Holds V0 s j) : (Host.dotGeneral dot_S4x4x64x256_S4x4x256_S4x4x64_3_2_2_n_01_01 none (res_main_while0b_v80 V0) (V0 (Proc.devRef .tc main_v50_8)) : (Proc.devRef .tc main_while0b_v114 : DevRef τ sig).ty.Contents (Elt F)) = Cert.ReferenceIdeal.Step.b64 j s := by
  unfold Cert.ReferenceIdeal.Step.b64
  rw [← al_5 h, h.f_8]
  try rfl
set_option maxRecDepth 8192 in
/-- Value 65 of a trip, computed from a held state, is the step's. -/
theorem al_65 (h : Holds V0 s j) : (mulf (res_main_while0b_v105 V0) (Host.dotGeneral dot_S4x4x64x256_S4x4x256_S4x4x64_3_2_2_n_01_01 none (res_main_while0b_v80 V0) (V0 (Proc.devRef .tc main_v50_8))) : (Proc.devRef .tc main_while0b_v115 : DevRef τ sig).ty.Contents (Elt F)) = Cert.ReferenceIdeal.Step.b65 j s := by
  unfold Cert.ReferenceIdeal.Step.b65
  rw [← al_55 h, ← al_64 h]
  try rfl
set_option maxRecDepth 8192 in
/-- Value 66 of a trip, computed from a held state, is the step's. -/
theorem al_66 (h : Holds V0 s j) : (constant S_ .f32 0x00000000#32 : (Proc.devRef .tc main_while0b_cst_26 : DevRef τ sig).ty.Contents (Elt F)) = Cert.ReferenceIdeal.Step.b66 j s := by
  unfold Cert.ReferenceIdeal.Step.b66
  rfl
set_option maxRecDepth 8192 in
/-- Value 67 of a trip, computed from a held state, is the step's. -/
theorem al_67 (h : Holds V0 s j) : (Host.reduceAdd (res_main_while0b_v107 V0) (constant S_ .f32 0x00000000#32) reducesTo_S4x4x64x64_S4x4x64_d3 h_S_ : (Proc.devRef .tc main_while0b_v116 : DevRef τ sig).ty.Contents (Elt F)) = Cert.ReferenceIdeal.Step.b67 j s := by
  unfold Cert.ReferenceIdeal.Step.b67
  rw [← al_57 h, ← al_66 h]
  try rfl
set_option maxRecDepth 8192 in
/-- Value 68 of a trip, computed from a held state, is the step's. -/
theorem al_68 (h : Holds V0 s j) : (addf (mulf (res_main_while0b_v105 V0) (Host.dotGeneral dot_S4x4x64x256_S4x4x256_S4x4x64_3_2_2_n_01_01 none (res_main_while0b_v80 V0) (V0 (Proc.devRef .tc main_v50_8)))) (Host.reduceAdd (res_main_while0b_v107 V0) (constant S_ .f32 0x00000000#32) reducesTo_S4x4x64x64_S4x4x64_d3 h_S_) : (Proc.devRef .tc main_while0b_v117 : DevRef τ sig).ty.Contents (Elt F)) = Cert.ReferenceIdeal.Step.b68 j s := by
  unfold Cert.ReferenceIdeal.Step.b68
  rw [← al_65 h, ← al_67 h]
  try rfl
set_option maxRecDepth 8192 in
/-- Value 69 of a trip, computed from a held state, is the step's. -/
theorem al_69 (h : Holds V0 s j) : (Host.absf (addf (mulf (res_main_while0b_v105 V0) (Host.dotGeneral dot_S4x4x64x256_S4x4x256_S4x4x64_3_2_2_n_01_01 none (res_main_while0b_v80 V0) (V0 (Proc.devRef .tc main_v50_8)))) (Host.reduceAdd (res_main_while0b_v107 V0) (constant S_ .f32 0x00000000#32) reducesTo_S4x4x64x64_S4x4x64_d3 h_S_)) : (Proc.devRef .tc main_while0b_v118 : DevRef τ sig).ty.Contents (Elt F)) = Cert.ReferenceIdeal.Step.b69 j s := by
  unfold Cert.ReferenceIdeal.Step.b69
  rw [← al_68 h]
  try rfl
set_option maxRecDepth 8192 in
/-- Value 70 of a trip, computed from a held state, is the step's. -/
theorem al_70 (h : Holds V0 s j) : (Host.negf (res_main_while0b_v99 V0) : (Proc.devRef .tc main_while0b_v119 : DevRef τ sig).ty.Contents (Elt F)) = Cert.ReferenceIdeal.Step.b70 j s := by
  unfold Cert.ReferenceIdeal.Step.b70
  rw [← al_49 h]
  try rfl
set_option maxRecDepth 8192 in
/-- Value 71 of a trip, computed from a held state, is the step's. -/
theorem al_71 (h : Holds V0 s j) : (Host.exp (Host.negf (res_main_while0b_v99 V0)) : (Proc.devRef .tc main_while0b_v120 : DevRef τ sig).ty.Contents (Elt F)) = Cert.ReferenceIdeal.Step.b71 j s := by
  unfold Cert.ReferenceIdeal.Step.b71
  rw [← al_70 h]
  try rfl
set_option maxRecDepth 8192 in
/-- Value 72 of a trip, computed from a held state, is the step's. -/
theorem al_72 (h : Holds V0 s j) : (maximumf (Host.absf (addf (mulf (res_main_while0b_v105 V0) (Host.dotGeneral dot_S4x4x64x256_S4x4x256_S4x4x64_3_2_2_n_01_01 none (res_main_while0b_v80 V0) (V0 (Proc.devRef .tc main_v50_8)))) (Host.reduceAdd (res_main_while0b_v107 V0) (constant S_ .f32 0x00000000#32) reducesTo_S4x4x64x64_S4x4x64_d3 h_S_))) (Host.exp (Host.negf (res_main_while0b_v99 V0))) : (Proc.devRef .tc main_while0b_v121 : DevRef τ sig).ty.Contents (Elt F)) = Cert.ReferenceIdeal.Step.b72 j s := by
  unfold Cert.ReferenceIdeal.Step.b72
  rw [← al_69 h, ← al_71 h]
  try rfl
set_option maxRecDepth 8192 in
/-- Value 73 of a trip, computed from a held state, is the step's. -/
theorem al_73 (h : Holds V0 s j) : (broadcastInDim S4x4x64x1 ![0, 1, 2] bcast_S4x4x64_S4x4x64x1_0_1_2 (maximumf (Host.absf (addf (mulf (res_main_while0b_v105 V0) (Host.dotGeneral dot_S4x4x64x256_S4x4x256_S4x4x64_3_2_2_n_01_01 none (res_main_while0b_v80 V0) (V0 (Proc.devRef .tc main_v50_8)))) (Host.reduceAdd (res_main_while0b_v107 V0) (constant S_ .f32 0x00000000#32) reducesTo_S4x4x64x64_S4x4x64_d3 h_S_))) (Host.exp (Host.negf (res_main_while0b_v99 V0)))) : (Proc.devRef .tc main_while0b_v122 : DevRef τ sig).ty.Contents (Elt F)) = Cert.ReferenceIdeal.Step.b73 j s := by
  unfold Cert.ReferenceIdeal.Step.b73
  rw [← al_72 h]
  try rfl
set_option maxRecDepth 8192 in
/-- Value 74 of a trip, computed from a held state, is the step's. -/
theorem al_74 (h : Holds V0 s j) : (broadcastInDim S4x4x64x512 ![0, 1, 2, 3] bcast_S4x4x64x1_S4x4x64x512_0_1_2_3 (broadcastInDim S4x4x64x1 ![0, 1, 2] bcast_S4x4x64_S4x4x64x1_0_1_2 (maximumf (Host.absf (addf (mulf (res_main_while0b_v105 V0) (Host.dotGeneral dot_S4x4x64x256_S4x4x256_S4x4x64_3_2_2_n_01_01 none (res_main_while0b_v80 V0) (V0 (Proc.devRef .tc main_v50_8)))) (Host.reduceAdd (res_main_while0b_v107 V0) (constant S_ .f32 0x00000000#32) reducesTo_S4x4x64x64_S4x4x64_d3 h_S_))) (Host.exp (Host.negf (res_main_while0b_v99 V0))))) : (Proc.devRef .tc main_while0b_v123 : DevRef τ sig).ty.Contents (Elt F)) = Cert.ReferenceIdeal.Step.b74 j s := by
  unfold Cert.ReferenceIdeal.Step.b74
  rw [← al_73 h]
  try rfl
set_option maxRecDepth 8192 in
/-- Value 75 of a trip, computed from a held state, is the step's. -/
theorem al_75 (h : Holds V0 s j) : (Host.divf (addf (mulf (broadcastInDim S4x4x64x512 ![0, 1, 2, 3] bcast_S4x4x64x1_S4x4x64x512_0_1_2_3 (broadcastInDim S4x4x64x1 ![0, 1, 2] bcast_S4x4x64_S4x4x64x1_0_1_2 (res_main_while0b_v105 V0))) (Host.dotGeneral dot_S4x4x64x256_S4x4x256x512_S4x4x64x512_3_2_2_3_01_01 none (res_main_while0b_v80 V0) (V0 (Proc.devRef .tc main_v50_7)))) (Host.dotGeneral dot_S4x4x64x64_S4x4x64x512_S4x4x64x512_3_2_2_3_01_01 none (res_main_while0b_v107 V0) (res_main_while0b_v82 V0))) (broadcastInDim S4x4x64x512 ![0, 1, 2, 3] bcast_S4x4x64x1_S4x4x64x512_0_1_2_3 (broadcastInDim S4x4x64x1 ![0, 1, 2] bcast_S4x4x64_S4x4x64x1_0_1_2 (maximumf (Host.absf (addf (mulf (res_main_while0b_v105 V0) (Host.dotGeneral dot_S4x4x64x256_S4x4x256_S4x4x64_3_2_2_n_01_01 none (res_main_while0b_v80 V0) (V0 (Proc.devRef .tc main_v50_8)))) (Host.reduceAdd (res_main_while0b_v107 V0) (constant S_ .f32 0x00000000#32) reducesTo_S4x4x64x64_S4x4x64_d3 h_S_))) (Host.exp (Host.negf (res_main_while0b_v99 V0)))))) : (Proc.devRef .tc main_while0b_v124 : DevRef τ sig).ty.Contents (Elt F)) = Cert.ReferenceIdeal.Step.b75 j s := by
  unfold Cert.ReferenceIdeal.Step.b75
  rw [← al_63 h, ← al_74 h]
  try rfl
set_option maxRecDepth 8192 in
/-- Value 76 of a trip, computed from a held state, is the step's. -/
theorem al_76 (h : Holds V0 s j) : (extractStridedSlice S4x4x1 ![0, 0, 63] (res_main_while0b_v85 V0) slices_S4x4x64_S4x4x1_0_0_63 : (Proc.devRef .tc main_while0b_v125 : DevRef τ sig).ty.Contents (Elt F)) = Cert.ReferenceIdeal.Step.b76 j s := by
  unfold Cert.ReferenceIdeal.Step.b76
  rw [← al_30 h]
  try rfl
set_option maxRecDepth 8192 in
/-- Value 77 of a trip, computed from a held state, is the step's. -/
theorem al_77 (h : Holds V0 s j) : (res_main_while0b_v126 V0 : (Proc.devRef .tc main_while0b_v126 : DevRef τ sig).ty.Contents (Elt F)) = Cert.ReferenceIdeal.Step.b77 j s := by
  unfold res_main_while0b_v126 Cert.ReferenceIdeal.Step.b77
  rw [← al_76 h]
  try rfl
set_option maxRecDepth 8192 in
/-- Value 78 of a trip, computed from a held state, is the step's. -/
theorem al_78 (h : Holds V0 s j) : (broadcastInDim S4x4x1 ![0, 1] bcast_S4x4_S4x4x1_0_1 (res_main_while0b_v126 V0) : (Proc.devRef .tc main_while0b_v127 : DevRef τ sig).ty.Contents (Elt F)) = Cert.ReferenceIdeal.Step.b78 j s := by
  unfold Cert.ReferenceIdeal.Step.b78
  rw [← al_77 h]
  try rfl
set_option maxRecDepth 8192 in
/-- Value 79 of a trip, computed from a held state, is the step's. -/
theorem al_79 (h : Holds V0 s j) : (broadcastInDim S4x4x64 ![0, 1, 2] bcast_S4x4x1_S4x4x64_0_1_2 (broadcastInDim S4x4x1 ![0, 1] bcast_S4x4_S4x4x1_0_1 (res_main_while0b_v126 V0)) : (Proc.devRef .tc main_while0b_v128 : DevRef τ sig).ty.Contents (Elt F)) = Cert.ReferenceIdeal.Step.b79 j s := by
  unfold Cert.ReferenceIdeal.Step.b79
  rw [← al_78 h]
  try rfl
set_option maxRecDepth 8192 in
/-- Value 80 of a trip, computed from a held state, is the step's. -/
theorem al_80 (h : Holds V0 s j) : (subf (broadcastInDim S4x4x64 ![0, 1, 2] bcast_S4x4x1_S4x4x64_0_1_2 (broadcastInDim S4x4x1 ![0, 1] bcast_S4x4_S4x4x1_0_1 (res_main_while0b_v126 V0))) (res_main_while0b_v85 V0) : (Proc.devRef .tc main_while0b_v129 : DevRef τ sig).ty.Contents (Elt F)) = Cert.ReferenceIdeal.Step.b80 j s := by
  unfold Cert.ReferenceIdeal.Step.b80
  rw [← al_79 h, ← al_30 h]
  try rfl
set_option maxRecDepth 8192 in
/-- Value 81 of a trip, computed from a held state, is the step's. -/
theorem al_81 (h : Holds V0 s j) : (res_main_while0b_v130 V0 : (Proc.devRef .tc main_while0b_v130 : DevRef τ sig).ty.Contents (Elt F)) = Cert.ReferenceIdeal.Step.b81 j s := by
  unfold res_main_while0b_v130 Cert.ReferenceIdeal.Step.b81
  rw [← al_80 h, ← al_22 h]
  try rfl
set_option maxRecDepth 8192 in
/-- Value 82 of a trip, computed from a held state, is the step's. -/
theorem al_82 (h : Holds V0 s j) : (addf (res_main_while0b_v126 V0) (V0 (Proc.devRef .tc main_v50_9)) : (Proc.devRef .tc main_while0b_v131 : DevRef τ sig).ty.Contents (Elt F)) = Cert.ReferenceIdeal.Step.b82 j s := by
  unfold Cert.ReferenceIdeal.Step.b82
  rw [← al_77 h, h.f_9]
  try rfl
set_option maxRecDepth 8192 in
/-- Value 83 of a trip, computed from a held state, is the step's. -/
theorem al_83 (h : Holds V0 s j) : (constant S_ .f32 0xFF800000#32 : (Proc.devRef .tc main_while0b_cst_27 : DevRef τ sig).ty.Contents (Elt F)) = Cert.ReferenceIdeal.Step.b83 j s := by
  unfold Cert.ReferenceIdeal.Step.b83
  rfl
set_option maxRecDepth 8192 in
/-- Value 84 of a trip, computed from a held state, is the step's. -/
theorem al_84 (h : Holds V0 s j) : (Host.reduce FloatOps.maximumf (res_main_while0b_v130 V0) (constant S_ .f32 0xFF800000#32) reducesTo_S4x4x64_S4x4_d2 h_S_ : (Proc.devRef .tc main_while0b_v132 : DevRef τ sig).ty.Contents (Elt F)) = Cert.ReferenceIdeal.Step.b84 j s := by
  unfold Cert.ReferenceIdeal.Step.b84
  rw [← al_81 h, ← al_83 h]
  try rfl
set_option maxRecDepth 8192 in
/-- Value 85 of a trip, computed from a held state, is the step's. -/
theorem al_85 (h : Holds V0 s j) : (res_main_while0b_v133 V0 : (Proc.devRef .tc main_while0b_v133 : DevRef τ sig).ty.Contents (Elt F)) = Cert.ReferenceIdeal.Step.b85 j s := by
  unfold res_main_while0b_v133 Cert.ReferenceIdeal.Step.b85
  rw [← al_82 h, ← al_84 h]
  try rfl
set_option maxRecDepth 8192 in
/-- Value 86 of a trip, computed from a held state, is the step's. -/
theorem al_86 (h : Holds V0 s j) : (broadcastInDim S4x4x1 ![0, 1] bcast_S4x4_S4x4x1_0_1 (res_main_while0b_v133 V0) : (Proc.devRef .tc main_while0b_v134 : DevRef τ sig).ty.Contents (Elt F)) = Cert.ReferenceIdeal.Step.b86 j s := by
  unfold Cert.ReferenceIdeal.Step.b86
  rw [← al_85 h]
  try rfl
set_option maxRecDepth 8192 in
/-- Value 87 of a trip, computed from a held state, is the step's. -/
theorem al_87 (h : Holds V0 s j) : (broadcastInDim S4x4x64 ![0, 1, 2] bcast_S4x4x1_S4x4x64_0_1_2 (broadcastInDim S4x4x1 ![0, 1] bcast_S4x4_S4x4x1_0_1 (res_main_while0b_v133 V0)) : (Proc.devRef .tc main_while0b_v135 : DevRef τ sig).ty.Contents (Elt F)) = Cert.ReferenceIdeal.Step.b87 j s := by
  unfold Cert.ReferenceIdeal.Step.b87
  rw [← al_86 h]
  try rfl
set_option maxRecDepth 8192 in
/-- Value 88 of a trip, computed from a held state, is the step's. -/
theorem al_88 (h : Holds V0 s j) : (subf (res_main_while0b_v130 V0) (broadcastInDim S4x4x64 ![0, 1, 2] bcast_S4x4x1_S4x4x64_0_1_2 (broadcastInDim S4x4x1 ![0, 1] bcast_S4x4_S4x4x1_0_1 (res_main_while0b_v133 V0))) : (Proc.devRef .tc main_while0b_v136 : DevRef τ sig).ty.Contents (Elt F)) = Cert.ReferenceIdeal.Step.b88 j s := by
  unfold Cert.ReferenceIdeal.Step.b88
  rw [← al_81 h, ← al_87 h]
  try rfl
set_option maxRecDepth 8192 in
/-- Value 89 of a trip, computed from a held state, is the step's. -/
theorem al_89 (h : Holds V0 s j) : (res_main_while0b_v137 V0 : (Proc.devRef .tc main_while0b_v137 : DevRef τ sig).ty.Contents (Elt F)) = Cert.ReferenceIdeal.Step.b89 j s := by
  unfold res_main_while0b_v137 Cert.ReferenceIdeal.Step.b89
  rw [← al_88 h]
  try rfl
set_option maxRecDepth 8192 in
/-- Value 90 of a trip, computed from a held state, is the step's. -/
theorem al_90 (h : Holds V0 s j) : (addf (res_main_while0b_v126 V0) (V0 (Proc.devRef .tc main_v50_9)) : (Proc.devRef .tc main_while0b_v138 : DevRef τ sig).ty.Contents (Elt F)) = Cert.ReferenceIdeal.Step.b90 j s := by
  unfold Cert.ReferenceIdeal.Step.b90
  rw [← al_77 h, h.f_9]
  try rfl
set_option maxRecDepth 8192 in
/-- Value 91 of a trip, computed from a held state, is the step's. -/
theorem al_91 (h : Holds V0 s j) : (subf (addf (res_main_while0b_v126 V0) (V0 (Proc.devRef .tc main_v50_9))) (res_main_while0b_v133 V0) : (Proc.devRef .tc main_while0b_v139 : DevRef τ sig).ty.Contents (Elt F)) = Cert.ReferenceIdeal.Step.b91 j s := by
  unfold Cert.ReferenceIdeal.Step.b91
  rw [← al_90 h, ← al_85 h]
  try rfl
set_option maxRecDepth 8192 in
/-- Value 92 of a trip, computed from a held state, is the step's. -/
theorem al_92 (h : Holds V0 s j) : (res_main_while0b_v140 V0 : (Proc.devRef .tc main_while0b_v140 : DevRef τ sig).ty.Contents (Elt F)) = Cert.ReferenceIdeal.Step.b92 j s := by
  unfold res_main_while0b_v140 Cert.ReferenceIdeal.Step.b92
  rw [← al_91 h]
  try rfl
set_option maxRecDepth 8192 in
/-- Value 93 of a trip, computed from a held state, is the step's. -/
theorem al_93 (h : Holds V0 s j) : (broadcastInDim S4x4x1x1 ![0, 1] bcast_S4x4_S4x4x1x1_0_1 (res_main_while0b_v140 V0) : (Proc.devRef .tc main_while0b_v141 : DevRef τ sig).ty.Contents (Elt F)) = Cert.ReferenceIdeal.Step.b93 j s := by
  unfold Cert.ReferenceIdeal.Step.b93
  rw [← al_92 h]
  try rfl
set_option maxRecDepth 8192 in
/-- Value 94 of a trip, computed from a held state, is the step's. -/
theorem al_94 (h : Holds V0 s j) : (broadcastInDim S4x4x256x512 ![0, 1, 2, 3] bcast_S4x4x1x1_S4x4x256x512_0_1_2_3 (broadcastInDim S4x4x1x1 ![0, 1] bcast_S4x4_S4x4x1x1_0_1 (res_main_while0b_v140 V0)) : (Proc.devRef .tc main_while0b_v142 : DevRef τ sig).ty.Contents (Elt F)) = Cert.ReferenceIdeal.Step.b94 j s := by
  unfold Cert.ReferenceIdeal.Step.b94
  rw [← al_93 h]
  try rfl
set_option maxRecDepth 8192 in
/-- Value 95 of a trip, computed from a held state, is the step's. -/
theorem al_95 (h : Holds V0 s j) : (mulf (broadcastInDim S4x4x256x512 ![0, 1, 2, 3] bcast_S4x4x1x1_S4x4x256x512_0_1_2_3 (broadcastInDim S4x4x1x1 ![0, 1] bcast_S4x4_S4x4x1x1_0_1 (res_main_while0b_v140 V0))) (V0 (Proc.devRef .tc main_v50_7)) : (Proc.devRef .tc main_while0b_v143 : DevRef τ sig).ty.Contents (Elt F)) = Cert.ReferenceIdeal.Step.b95 j s := by
  unfold Cert.ReferenceIdeal.Step.b95
  rw [← al_94 h, h.f_7]
  try rfl
set_option maxRecDepth 8192 in
/-- Value 96 of a trip, computed from a held state, is the step's. -/
theorem al_96 (h : Holds V0 s j) : (broadcastInDim S4x4x64x1 ![0, 1, 2] bcast_S4x4x64_S4x4x64x1_0_1_2 (res_main_while0b_v137 V0) : (Proc.devRef .tc main_while0b_v144 : DevRef τ sig).ty.Contents (Elt F)) = Cert.ReferenceIdeal.Step.b96 j s := by
  unfold Cert.ReferenceIdeal.Step.b96
  rw [← al_89 h]
  try rfl
set_option maxRecDepth 8192 in
/-- Value 97 of a trip, computed from a held state, is the step's. -/
theorem al_97 (h : Holds V0 s j) : (broadcastInDim S4x4x64x256 ![0, 1, 2, 3] bcast_S4x4x64x1_S4x4x64x256_0_1_2_3 (broadcastInDim S4x4x64x1 ![0, 1, 2] bcast_S4x4x64_S4x4x64x1_0_1_2 (res_main_while0b_v137 V0)) : (Proc.devRef .tc main_while0b_v145 : DevRef τ sig).ty.Contents (Elt F)) = Cert.ReferenceIdeal.Step.b97 j s := by
  unfold Cert.ReferenceIdeal.Step.b97
  rw [← al_96 h]
  try rfl
set_option maxRecDepth 8192 in
/-- Value 98 of a trip, computed from a held state, is the step's. -/
theorem al_98 (h : Holds V0 s j) : (mulf (broadcastInDim S4x4x64x256 ![0, 1, 2, 3] bcast_S4x4x64x1_S4x4x64x256_0_1_2_3 (broadcastInDim S4x4x64x1 ![0, 1, 2] bcast_S4x4x64_S4x4x64x1_0_1_2 (res_main_while0b_v137 V0))) (res_main_while0b_v81 V0) : (Proc.devRef .tc main_while0b_v146 : DevRef τ sig).ty.Contents (Elt F)) = Cert.ReferenceIdeal.Step.b98 j s := by
  unfold Cert.ReferenceIdeal.Step.b98
  rw [← al_97 h, ← al_11 h]
  try rfl
set_option maxRecDepth 8192 in
/-- Value 99 of a trip, computed from a held state, is the step's. -/
theorem al_99 (h : Holds V0 s j) : (Host.dotGeneral dot_S4x4x64x256_S4x4x64x512_S4x4x256x512_2_2_3_3_01_01 none (mulf (broadcastInDim S4x4x64x256 ![0, 1, 2, 3] bcast_S4x4x64x1_S4x4x64x256_0_1_2_3 (broadcastInDim S4x4x64x1 ![0, 1, 2] bcast_S4x4x64_S4x4x64x1_0_1_2 (res_main_while0b_v137 V0))) (res_main_while0b_v81 V0)) (res_main_while0b_v82 V0) : (Proc.devRef .tc main_while0b_v147 : DevRef τ sig).ty.Contents (Elt F)) = Cert.ReferenceIdeal.Step.b99 j s := by
  unfold Cert.ReferenceIdeal.Step.b99
  rw [← al_98 h, ← al_17 h]
  try rfl
set_option maxRecDepth 8192 in
/-- Value 100 of a trip, computed from a held state, is the step's. -/
theorem al_100 (h : Holds V0 s j) : (addf (mulf (broadcastInDim S4x4x256x512 ![0, 1, 2, 3] bcast_S4x4x1x1_S4x4x256x512_0_1_2_3 (broadcastInDim S4x4x1x1 ![0, 1] bcast_S4x4_S4x4x1x1_0_1 (res_main_while0b_v140 V0))) (V0 (Proc.devRef .tc main_v50_7))) (Host.dotGeneral dot_S4x4x64x256_S4x4x64x512_S4x4x256x512_2_2_3_3_01_01 none (mulf (broadcastInDim S4x4x64x256 ![0, 1, 2, 3] bcast_S4x4x64x1_S4x4x64x256_0_1_2_3 (broadcastInDim S4x4x64x1 ![0, 1, 2] bcast_S4x4x64_S4x4x64x1_0_1_2 (res_main_while0b_v137 V0))) (res_main_while0b_v81 V0)) (res_main_while0b_v82 V0)) : (Proc.devRef .tc main_while0b_v148 : DevRef τ sig).ty.Contents (Elt F)) = Cert.ReferenceIdeal.Step.b100 j s := by
  unfold Cert.ReferenceIdeal.Step.b100
  rw [← al_95 h, ← al_99 h]
  try rfl
set_option maxRecDepth 8192 in
/-- Value 101 of a trip, computed from a held state, is the step's. -/
theorem al_101 (h : Holds V0 s j) : (broadcastInDim S4x4x1 ![0, 1] bcast_S4x4_S4x4x1_0_1 (res_main_while0b_v140 V0) : (Proc.devRef .tc main_while0b_v149 : DevRef τ sig).ty.Contents (Elt F)) = Cert.ReferenceIdeal.Step.b101 j s := by
  unfold Cert.ReferenceIdeal.Step.b101
  rw [← al_92 h]
  try rfl
set_option maxRecDepth 8192 in
/-- Value 102 of a trip, computed from a held state, is the step's. -/
theorem al_102 (h : Holds V0 s j) : (broadcastInDim S4x4x256 ![0, 1, 2] bcast_S4x4x1_S4x4x256_0_1_2 (broadcastInDim S4x4x1 ![0, 1] bcast_S4x4_S4x4x1_0_1 (res_main_while0b_v140 V0)) : (Proc.devRef .tc main_while0b_v150 : DevRef τ sig).ty.Contents (Elt F)) = Cert.ReferenceIdeal.Step.b102 j s := by
  unfold Cert.ReferenceIdeal.Step.b102
  rw [← al_101 h]
  try rfl
set_option maxRecDepth 8192 in
/-- Value 103 of a trip, computed from a held state, is the step's. -/
theorem al_103 (h : Holds V0 s j) : (mulf (broadcastInDim S4x4x256 ![0, 1, 2] bcast_S4x4x1_S4x4x256_0_1_2 (broadcastInDim S4x4x1 ![0, 1] bcast_S4x4_S4x4x1_0_1 (res_main_while0b_v140 V0))) (V0 (Proc.devRef .tc main_v50_8)) : (Proc.devRef .tc main_while0b_v151 : DevRef τ sig).ty.Contents (Elt F)) = Cert.ReferenceIdeal.Step.b103 j s := by
  unfold Cert.ReferenceIdeal.Step.b103
  rw [← al_102 h, h.f_8]
  try rfl
set_option maxRecDepth 8192 in
/-- Value 104 of a trip, computed from a held state, is the step's. -/
theorem al_104 (h : Holds V0 s j) : (Host.dotGeneral dot_S4x4x64_S4x4x64x256_S4x4x256_2_2_n_3_01_01 none (res_main_while0b_v137 V0) (res_main_while0b_v81 V0) : (Proc.devRef .tc main_while0b_v152 : DevRef τ sig).ty.Contents (Elt F)) = Cert.ReferenceIdeal.Step.b104 j s := by
  unfold Cert.ReferenceIdeal.Step.b104
  rw [← al_89 h, ← al_11 h]
  try rfl
set_option maxRecDepth 8192 in
/-- Value 105 of a trip, computed from a held state, is the step's. -/
theorem al_105 (h : Holds V0 s j) : (addf (mulf (broadcastInDim S4x4x256 ![0, 1, 2] bcast_S4x4x1_S4x4x256_0_1_2 (broadcastInDim S4x4x1 ![0, 1] bcast_S4x4_S4x4x1_0_1 (res_main_while0b_v140 V0))) (V0 (Proc.devRef .tc main_v50_8))) (Host.dotGeneral dot_S4x4x64_S4x4x64x256_S4x4x256_2_2_n_3_01_01 none (res_main_while0b_v137 V0) (res_main_while0b_v81 V0)) : (Proc.devRef .tc main_while0b_v153 : DevRef τ sig).ty.Contents (Elt F)) = Cert.ReferenceIdeal.Step.b105 j s := by
  unfold Cert.ReferenceIdeal.Step.b105
  rw [← al_103 h, ← al_104 h]
  try rfl
set_option maxRecDepth 8192 in
/-- Value 106 of a trip, computed from a held state, is the step's. -/
theorem al_106 (h : Holds V0 s j) : (broadcastInDim S1x4x4x64x512 ![1, 2, 3, 4] bcast_S4x4x64x512_S1x4x4x64x512_1_2_3_4 (Host.divf (addf (mulf (broadcastInDim S4x4x64x512 ![0, 1, 2, 3] bcast_S4x4x64x1_S4x4x64x512_0_1_2_3 (broadcastInDim S4x4x64x1 ![0, 1, 2] bcast_S4x4x64_S4x4x64x1_0_1_2 (res_main_while0b_v105 V0))) (Host.dotGeneral dot_S4x4x64x256_S4x4x256x512_S4x4x64x512_3_2_2_3_01_01 none (res_main_while0b_v80 V0) (V0 (Proc.devRef .tc main_v50_7)))) (Host.dotGeneral dot_S4x4x64x64_S4x4x64x512_S4x4x64x512_3_2_2_3_01_01 none (res_main_while0b_v107 V0) (res_main_while0b_v82 V0))) (broadcastInDim S4x4x64x512 ![0, 1, 2, 3] bcast_S4x4x64x1_S4x4x64x512_0_1_2_3 (broadcastInDim S4x4x64x1 ![0, 1, 2] bcast_S4x4x64_S4x4x64x1_0_1_2 (maximumf (Host.absf (addf (mulf (res_main_while0b_v105 V0) (Host.dotGeneral dot_S4x4x64x256_S4x4x256_S4x4x64_3_2_2_n_01_01 none (res_main_while0b_v80 V0) (V0 (Proc.devRef .tc main_v50_8)))) (Host.reduceAdd (res_main_while0b_v107 V0) (constant S_ .f32 0x00000000#32) reducesTo_S4x4x64x64_S4x4x64_d3 h_S_))) (Host.exp (Host.negf (res_main_while0b_v99 V0))))))) : (Proc.devRef .tc main_while0b_call9_v0 : DevRef τ sig).ty.Contents (Elt F)) = Cert.ReferenceIdeal.Step.b106 j s := by
  unfold Cert.ReferenceIdeal.Step.b106
  rw [← al_75 h]
  try rfl
set_option maxRecDepth 8192 in
/-- Value 107 of a trip, computed from a held state, is the step's. -/
theorem al_107 (h : Holds V0 s j) : (constantI S_ 32 0#32 : (Proc.devRef .tc main_while0b_call9_c : DevRef τ sig).ty.Contents (Elt F)) = Cert.ReferenceIdeal.Step.b107 j s := by
  unfold Cert.ReferenceIdeal.Step.b107
  rfl
set_option maxRecDepth 8192 in
/-- Value 108 of a trip, computed from a held state, is the step's. -/
theorem al_108 (h : Holds V0 s j) : (constantI S_ 32 0#32 : (Proc.devRef .tc main_while0b_call9_c_0 : DevRef τ sig).ty.Contents (Elt F)) = Cert.ReferenceIdeal.Step.b108 j s := by
  unfold Cert.ReferenceIdeal.Step.b108
  rfl
set_option maxRecDepth 8192 in
/-- Value 109 of a trip, computed from a held state, is the step's. -/
theorem al_109 (h : Holds V0 s j) : (constantI S_ 32 0#32 : (Proc.devRef .tc main_while0b_call9_c_1 : DevRef τ sig).ty.Contents (Elt F)) = Cert.ReferenceIdeal.Step.b109 j s := by
  unfold Cert.ReferenceIdeal.Step.b109
  rfl
set_option maxRecDepth 8192 in
/-- Value 110 of a trip, computed from a held state, is the step's. -/
theorem al_110 (h : Holds V0 s j) : (constantI S_ 32 0#32 : (Proc.devRef .tc main_while0b_call9_c_2 : DevRef τ sig).ty.Contents (Elt F)) = Cert.ReferenceIdeal.Step.b110 j s := by
  unfold Cert.ReferenceIdeal.Step.b110
  rfl
set_option maxRecDepth 8192 in
/-- Value 111 of a trip, computed from a held state, is the step's. -/
theorem al_111 (h : Holds V0 s j) : (Host.dynamicUpdateSlice (V0 (Proc.devRef .tc main_v50_10)) (broadcastInDim S1x4x4x64x512 ![1, 2, 3, 4] bcast_S4x4x64x512_S1x4x4x64x512_1_2_3_4 (Host.divf (addf (mulf (broadcastInDim S4x4x64x512 ![0, 1, 2, 3] bcast_S4x4x64x1_S4x4x64x512_0_1_2_3 (broadcastInDim S4x4x64x1 ![0, 1, 2] bcast_S4x4x64_S4x4x64x1_0_1_2 (res_main_while0b_v105 V0))) (Host.dotGeneral dot_S4x4x64x256_S4x4x256x512_S4x4x64x512_3_2_2_3_01_01 none (res_main_while0b_v80 V0) (V0 (Proc.devRef .tc main_v50_7)))) (Host.dotGeneral dot_S4x4x64x64_S4x4x64x512_S4x4x64x512_3_2_2_3_01_01 none (res_main_while0b_v107 V0) (res_main_while0b_v82 V0))) (broadcastInDim S4x4x64x512 ![0, 1, 2, 3] bcast_S4x4x64x1_S4x4x64x512_0_1_2_3 (broadcastInDim S4x4x64x1 ![0, 1, 2] bcast_S4x4x64_S4x4x64x1_0_1_2 (maximumf (Host.absf (addf (mulf (res_main_while0b_v105 V0) (Host.dotGeneral dot_S4x4x64x256_S4x4x256_S4x4x64_3_2_2_n_01_01 none (res_main_while0b_v80 V0) (V0 (Proc.devRef .tc main_v50_8)))) (Host.reduceAdd (res_main_while0b_v107 V0) (constant S_ .f32 0x00000000#32) reducesTo_S4x4x64x64_S4x4x64_d3 h_S_))) (Host.exp (Host.negf (res_main_while0b_v99 V0)))))))) (fun k => (((![V0 (Proc.devRef .tc main_v50_6), constantI S_ 32 0#32, constantI S_ 32 0#32, constantI S_ 32 0#32, constantI S_ 32 0#32] : Fin 5 → (⟨S_, .i32⟩ : BufTy).Contents (Elt F))) k (Shape.Idx.first h_S_)).toInt) updateFits_S64x4x4x64x512_S1x4x4x64x512 : (Proc.devRef .tc main_while0b_v154 : DevRef τ sig).ty.Contents (Elt F)) = Cert.ReferenceIdeal.Step.b111 j s := by
  unfold Cert.ReferenceIdeal.Step.b111
  rw [← al_106 h, ← al_107 h, ← al_108 h, ← al_109 h, ← al_110 h, h.f_10, h.n_6]
  try rfl

/-! One trip's step of the carried values is `step`, field by field; a counter steps to the next number. -/

/-- A trip's new memory is the step's. -/
theorem step_7 (h : Holds V0 s j) : step_main_v50_7 V0 = (step j s).main_v50_7 := by
  unfold step_main_v50_7 Cert.ReferenceIdeal.Step.step
  show id (addf (mulf (broadcastInDim S4x4x256x512 ![0, 1, 2, 3] bcast_S4x4x1x1_S4x4x256x512_0_1_2_3 (broadcastInDim S4x4x1x1 ![0, 1] bcast_S4x4_S4x4x1x1_0_1 (res_main_while0b_v140 V0))) (V0 (Proc.devRef .tc main_v50_7))) (Host.dotGeneral dot_S4x4x64x256_S4x4x64x512_S4x4x256x512_2_2_3_3_01_01 none (mulf (broadcastInDim S4x4x64x256 ![0, 1, 2, 3] bcast_S4x4x64x1_S4x4x64x256_0_1_2_3 (broadcastInDim S4x4x64x1 ![0, 1, 2] bcast_S4x4x64_S4x4x64x1_0_1_2 (res_main_while0b_v137 V0))) (res_main_while0b_v81 V0)) (res_main_while0b_v82 V0))) = _
  rw [al_100 h]
  try rfl
/-- A trip's new normalizer is the step's. -/
theorem step_8 (h : Holds V0 s j) : step_main_v50_8 V0 = (step j s).main_v50_8 := by
  unfold step_main_v50_8 Cert.ReferenceIdeal.Step.step
  show id (addf (mulf (broadcastInDim S4x4x256 ![0, 1, 2] bcast_S4x4x1_S4x4x256_0_1_2 (broadcastInDim S4x4x1 ![0, 1] bcast_S4x4_S4x4x1_0_1 (res_main_while0b_v140 V0))) (V0 (Proc.devRef .tc main_v50_8))) (Host.dotGeneral dot_S4x4x64_S4x4x64x256_S4x4x256_2_2_n_3_01_01 none (res_main_while0b_v137 V0) (res_main_while0b_v81 V0))) = _
  rw [al_105 h]
  try rfl
/-- A trip's new stabilizer is the step's. -/
theorem step_9 (h : Holds V0 s j) : step_main_v50_9 V0 = (step j s).main_v50_9 := by
  unfold step_main_v50_9 Cert.ReferenceIdeal.Step.step
  show id (res_main_while0b_v133 V0) = _
  rw [al_85 h]
  try rfl
/-- A trip's new results are the step's. -/
theorem step_10 (h : Holds V0 s j) : step_main_v50_10 V0 = (step j s).main_v50_10 := by
  unfold step_main_v50_10 Cert.ReferenceIdeal.Step.step
  show id (Host.dynamicUpdateSlice (V0 (Proc.devRef .tc main_v50_10)) (broadcastInDim S1x4x4x64x512 ![1, 2, 3, 4] bcast_S4x4x64x512_S1x4x4x64x512_1_2_3_4 (Host.divf (addf (mulf (broadcastInDim S4x4x64x512 ![0, 1, 2, 3] bcast_S4x4x64x1_S4x4x64x512_0_1_2_3 (broadcastInDim S4x4x64x1 ![0, 1, 2] bcast_S4x4x64_S4x4x64x1_0_1_2 (res_main_while0b_v105 V0))) (Host.dotGeneral dot_S4x4x64x256_S4x4x256x512_S4x4x64x512_3_2_2_3_01_01 none (res_main_while0b_v80 V0) (V0 (Proc.devRef .tc main_v50_7)))) (Host.dotGeneral dot_S4x4x64x64_S4x4x64x512_S4x4x64x512_3_2_2_3_01_01 none (res_main_while0b_v107 V0) (res_main_while0b_v82 V0))) (broadcastInDim S4x4x64x512 ![0, 1, 2, 3] bcast_S4x4x64x1_S4x4x64x512_0_1_2_3 (broadcastInDim S4x4x64x1 ![0, 1, 2] bcast_S4x4x64_S4x4x64x1_0_1_2 (maximumf (Host.absf (addf (mulf (res_main_while0b_v105 V0) (Host.dotGeneral dot_S4x4x64x256_S4x4x256_S4x4x64_3_2_2_n_01_01 none (res_main_while0b_v80 V0) (V0 (Proc.devRef .tc main_v50_8)))) (Host.reduceAdd (res_main_while0b_v107 V0) (constant S_ .f32 0x00000000#32) reducesTo_S4x4x64x64_S4x4x64_d3 h_S_))) (Host.exp (Host.negf (res_main_while0b_v99 V0)))))))) (fun k => (((![V0 (Proc.devRef .tc main_v50_6), constantI S_ 32 0#32, constantI S_ 32 0#32, constantI S_ 32 0#32, constantI S_ 32 0#32] : Fin 5 → (⟨S_, .i32⟩ : BufTy).Contents (Elt F))) k (Shape.Idx.first h_S_)).toInt) updateFits_S64x4x4x64x512_S1x4x4x64x512) = _
  exact al_111 h
/-- A trip takes the counter to the next number. -/
theorem step_6 (h : Holds V0 s j) : step_main_v50_6 V0 = constantI S_ 32 (BitVec.ofNat 32 (j + 1)) := by
  unfold step_main_v50_6
  rw [h.n_6]
  funext i
  show BitVec.ofNat 32 j + 1#32 = BitVec.ofNat 32 (j + 1)
  simp only [BitVec.ofNat_add]

set_option maxRecDepth 8192 in
/-- The result computed from a held state after the loop is the result of that state. -/
theorem out_main_v79_holds (h : Holds V0 s j) {x_main_arg0 : (⟨S16384x10240, .bf16⟩ : BufTy).Contents (Elt F)} (h_main_arg0 : V0 (Proc.devRef .tc main_arg0) = x_main_arg0) {x_main_arg4 : (⟨S2048, .f32⟩ : BufTy).Contents (Elt F)} (h_main_arg4 : V0 (Proc.devRef .tc main_arg4) = x_main_arg4) : out_main_v79 V0 = Cert.ReferenceIdeal.Step.R_main_v79 s x_main_arg0 x_main_arg4 := by
  unfold out_main_v79 Cert.ReferenceIdeal.Step.R_main_v79
  rw [h.f_10, h_main_arg0, h_main_arg4]
  try rfl

/-- One trip keeps the valuation holding: `step` of the state, the same set-up values, the next number. -/
theorem holds_step (h : Holds V0 s j) : Holds (STEP V0) (step j s) (j + 1) where
  f_7 := (STEP_main_v50_7 V0).trans (step_7 h)
  f_8 := (STEP_main_v50_8 V0).trans (step_8 h)
  f_9 := (STEP_main_v50_9 V0).trans (step_9 h)
  f_10 := (STEP_main_v50_10 V0).trans (step_10 h)
  n_6 := (STEP_main_v50_6 V0).trans (step_6 h)
  k_5 := (STEP_main_v50_5 V0).trans h.k_5
  f_0 := (STEP_main_v50_0 V0).trans h.f_0
  f_1 := (STEP_main_v50_1 V0).trans h.f_1
  f_2 := (STEP_main_v50_2 V0).trans h.f_2
  f_3 := (STEP_main_v50_3 V0).trans h.f_3
  f_4 := (STEP_main_v50_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v79) = Cert.ReferenceIdeal.Step.R_main_v79 (it c 64) (m ((c.tc : Thread nD τ).loc main_arg0)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    have hk := holds_iter m c (it c) (h0 c) (hs c) 64
    ⟨(h c).1.trans (out_main_v79_holds hk (iter_main_arg0 m c 64) (iter_main_arg4 m c 64)), (h c).2.1, (h c).2.2.1, (h c).2.2.2.1, (h c).2.2.2.2.1, (h c).2.2.2.2.2⟩) (Value.run m ρ)

end Cert.ReferenceIdeal.TripRun

end
-- ==== Proof.RefChunk.lean ====
module
public import proofs.«01_k».proof.Proof.Gen.ReferenceIdeal.Step
public import proofs.«01_k».proof.Proof.Chunk
public import Idealize.ShloMosaic.Lib.Pointwise
@[expose] public section
set_option maxRecDepth 16384
noncomputable section
namespace Cert.Proof.RefChunk
open Idealize.ShloMosaic Cert.ReferenceIdeal Cert.ReferenceIdeal.Step

/-- A left fold of additions is the start plus the sum. -/
theorem foldl_add {ι : Type} (l : List ι) (g : ι → EReal) (r : EReal) :
    l.foldl (fun r k => r + g k) r = r + (l.map g).sum := by
  induction l generalizing r with
  | nil => simp
  | cons a l ih => rw [List.foldl_cons, ih, List.map_cons, List.sum_cons, add_assoc]

/-- A windowed sum that reaches back over the whole axis is the sum up to an element. -/
theorem cumsum_apply (x : S4x4x64.Idx → EReal) (init : S_.Idx → EReal) (hi : ∀ i, init i = 0)
    (h : S4x4x64.ReduceWindows ![1, 1, 64] ![1, 1, 1] ![0, 0, 63] ![0, 0, 0] S4x4x64) (hu : 0 < S_.numel)
    (B : Fin 4) (hd : Fin 4) (i : Fin 64) :
    Host.reduceWindow (· + ·) ![1, 1, 64] ![1, 1, 1] ![0, 0, 63] ![0, 0, 0] x init h hu (ix3 B hd i)
      = ∑ k : Fin 64, if k ≤ i then x (ix3 B hd k) else 0 := by
  unfold Host.reduceWindow
  dsimp only
  rw [hi, foldl_add, zero_add, ← Fin.sum_univ_def]
  have key : ∀ y : (⟨3, ![1, 1, 64]⟩ : Shape).Idx, ∀ n : Fin (⟨3, ![1, 1, 64]⟩ : Shape).numel,
      y = (Shape.rowMajor ⟨3, ![1, 1, 64]⟩).symm n →
      (if hin : ∀ a : Fin 3, (![0, 0, 63] : Fin 3 → ℕ) a ≤ (ix3 B hd i (a.cast h.1.symm)).val * (![1, 1, 1] : Fin 3 → ℕ) a + (y a).val
        ∧ (ix3 B hd i (a.cast h.1.symm)).val * (![1, 1, 1] : Fin 3 → ℕ) a + (y a).val - (![0, 0, 63] : Fin 3 → ℕ) a < S4x4x64.size a
      then x (fun a => ⟨(ix3 B hd i (a.cast h.1.symm)).val * (![1, 1, 1] : Fin 3 → ℕ) a + (y a).val - (![0, 0, 63] : Fin 3 → ℕ) a, (hin a).2⟩) else 0)
      = if 63 ≤ i.val + (y 2).val then x (ix3 B hd ⟨(i.val + (y 2).val - 63) % 64, Nat.mod_lt _ (by omega)⟩) else 0 := by
    intro y n _
    have hB := B.isLt
    have hh := hd.isLt
    have hiL := i.isLt
    have h0 : (y 0).val < 1 := (y 0).isLt
    have h1 : (y 1).val < 1 := (y 1).isLt
    have hn : (y 2).val < 64 := (y 2).isLt
    by_cases hc : 63 ≤ i.val + (y 2).val
    · rw [if_pos hc, dif_pos]
      · congr 1
        funext a
        fin_cases a
        · exact Fin.ext (show B.val * 1 + (y 0).val - 0 = B.val by omega)
        · exact Fin.ext (show hd.val * 1 + (y 1).val - 0 = hd.val by omega)
        · exact Fin.ext (show i.val * 1 + (y 2).val - 63 = (i.val + (y 2).val - 63) % 64 by omega)
      · intro a
        fin_cases a
        · exact (show 0 ≤ B.val * 1 + (y 0).val ∧ B.val * 1 + (y 0).val - 0 < 4 by omega)
        · exact (show 0 ≤ hd.val * 1 + (y 1).val ∧ hd.val * 1 + (y 1).val - 0 < 4 by omega)
        · exact (show 63 ≤ i.val * 1 + (y 2).val ∧ i.val * 1 + (y 2).val - 63 < 64 by omega)
    · rw [if_neg hc, dif_neg]
      intro hin
      have h2 : 63 ≤ i.val * 1 + (y 2).val := (hin 2).1
      omega
  refine (Finset.sum_congr rfl fun n _ => Eq.trans (by congr) (key _ n rfl)).trans ?_
  refine (Equiv.sum_comp (Shape.rowMajor ⟨3, ![1, 1, 64]⟩).symm (fun y : (⟨3, ![1, 1, 64]⟩ : Shape).Idx =>
    if 63 ≤ i.val + (y 2).val then x (ix3 B hd ⟨(i.val + (y 2).val - 63) % 64, Nat.mod_lt _ (by omega)⟩) else 0)).trans ?_
  rw [sum_idx3]
  simp only [Finset.univ_unique, Finset.sum_singleton]
  show ∑ n : Fin 64, (if 63 ≤ i.val + n.val then x (ix3 B hd ⟨(i.val + n.val - 63) % 64, _⟩) else 0) = _
  rw [← Finset.sum_filter, ← Finset.sum_filter]
  refine Finset.sum_nbij' (fun n => ⟨(i.val + n.val - 63) % 64, Nat.mod_lt _ (by omega)⟩)
    (fun k => ⟨(k.val + 63 - i.val) % 64, Nat.mod_lt _ (by omega)⟩) ?_ ?_ ?_ ?_ ?_
  · intro n hn
    simp only [Finset.mem_filter, Finset.mem_univ, true_and, Fin.le_def] at hn ⊢
    omega
  · intro n hn
    simp only [Finset.mem_filter, Finset.mem_univ, true_and, Fin.le_def] at hn ⊢
    omega
  · intro n hn
    simp only [Finset.mem_filter, Finset.mem_univ, true_and, Fin.le_def, Fin.ext_iff] at hn ⊢
    omega
  · intro n hn
    simp only [Finset.mem_filter, Finset.mem_univ, true_and, Fin.le_def, Fin.ext_iff] at hn ⊢
    omega
  · intro n hn; rfl

/-- A trip's number read as a signed word is itself. -/
theorem toInt_small (j : ℕ) (hj : j < 64) : (BitVec.ofNat 32 j).toInt = (j : ℤ) := by
  interval_cases j <;> rfl

/-- The chunk of queries of a trip, at one element. -/
theorem b5_apply (j : ℕ) (hj : j < 64) (s : State Ideal) (B : Fin 4) (hd : Fin 4) (i : Fin 64) (d : Fin 256) :
    b5 j s (ix4 B hd i d) = s.main_v50_0 (ix5 ⟨j, hj⟩ B hd i d) := by
  pointwise [b5, b4, b0, b1, b2, b3]
  congr 1
  refine congr (congr (congr (congr (congrArg _ (Fin.ext ?_)) (Fin.ext ?_)) (Fin.ext ?_)) (Fin.ext ?_)) (Fin.ext ?_) <;>
    simp [Host.clampedStart, constantI, toInt_small j hj]
  all_goals omega
/-- The chunk of keys of a trip, at one element. -/
theorem b11_apply (j : ℕ) (hj : j < 64) (s : State Ideal) (B : Fin 4) (hd : Fin 4) (i : Fin 64) (d : Fin 256) :
    b11 j s (ix4 B hd i d) = s.main_v50_1 (ix5 ⟨j, hj⟩ B hd i d) := by
  pointwise [b11, b10, b6, b7, b8, b9]
  congr 1
  refine congr (congr (congr (congr (congrArg _ (Fin.ext ?_)) (Fin.ext ?_)) (Fin.ext ?_)) (Fin.ext ?_)) (Fin.ext ?_) <;>
    simp [Host.clampedStart, constantI, toInt_small j hj]
  all_goals omega
/-- The chunk of values of a trip, at one element. -/
theorem b17_apply (j : ℕ) (hj : j < 64) (s : State Ideal) (B : Fin 4) (hd : Fin 4) (i : Fin 64) (d : Fin 512) :
    b17 j s (ix4 B hd i d) = s.main_v50_2 (ix5 ⟨j, hj⟩ B hd i d) := by
  pointwise [b17, b16, b12, b13, b14, b15]
  congr 1
  refine congr (congr (congr (congr (congrArg _ (Fin.ext ?_)) (Fin.ext ?_)) (Fin.ext ?_)) (Fin.ext ?_)) (Fin.ext ?_) <;>
    simp [Host.clampedStart, constantI, toInt_small j hj]
  all_goals omega
/-- The chunk of input gates of a trip, at one element. -/
theorem b22_apply (j : ℕ) (hj : j < 64) (s : State Ideal) (B : Fin 4) (hd : Fin 4) (i : Fin 64) :
    b22 j s (ix3 B hd i) = s.main_v50_3 (ix4 ⟨j, hj⟩ B hd i) := by
  pointwise [b22, b21, b18, b19, b20]
  congr 1
  refine congr (congr (congr (congrArg _ (Fin.ext ?_)) (Fin.ext ?_)) (Fin.ext ?_)) (Fin.ext ?_) <;>
    simp [Host.clampedStart, constantI, toInt_small j hj]
  all_goals omega
/-- The chunk of log forget gates of a trip, at one element. -/
theorem b27_apply (j : ℕ) (hj : j < 64) (s : State Ideal) (B : Fin 4) (hd : Fin 4) (i : Fin 64) :
    b27 j s (ix3 B hd i) = s.main_v50_4 (ix4 ⟨j, hj⟩ B hd i) := by
  pointwise [b27, b26, b23, b24, b25]
  congr 1
  refine congr (congr (congr (congrArg _ (Fin.ext ?_)) (Fin.ext ?_)) (Fin.ext ?_)) (Fin.ext ?_) <;>
    simp [Host.clampedStart, constantI, toInt_small j hj]
  all_goals omega
/-- The running sums of a trip's log forget gates, at one element. -/
theorem b30_apply (j : ℕ) (hj : j < 64) (s : State Ideal) (B : Fin 4) (hd : Fin 4) (i : Fin 64) :
    b30 j s (ix3 B hd i) = ∑ k : Fin 64, if k ≤ i then s.main_v50_4 (ix4 ⟨j, hj⟩ B hd k) else 0 := by
  simp only [← b27_apply j hj]
  refine cumsum_apply (b27 j s) (fun _ => b29 j s (Shape.Idx.first Gen.h_S_)) (fun _ => ?_)
    Gen.reduceWindows_S4x4x64_S4x4x64_w1s1p0_0_w1s1p0_0_w64s1p63_0 Gen.h_S_ B hd i
  pointwise [b29, b28]
/-- The reference's triangular mask, at one element. -/
theorem mask_apply (i k : Fin 64) : K_main_v45 (F := Ideal) (ix2 i k) = if k ≤ i then 1#1 else 0#1 := by
  revert i k
  pointwise [K_main_v45, K_main_call1_v4, K_main_v44, K_main_c, K_main_call1_v5, K_main_call1_c_0, K_main_call1_v2, K_main_call1_v3, K_main_call1_v0, K_main_call1_v1, K_main_call1_c]
  decide +kernel
/-- The log weights of a trip are the chunk's. -/
theorem b43_apply (j : ℕ)  (s : State Ideal) (B : Fin 4) (hd : Fin 4) (i k : Fin 64) :
    b43 j s (ix4 B hd i k) = Chunk.dlog (fun i => b30 j s (ix3 B hd i)) (fun i => b22 j s (ix3 B hd i)) i k := by
  pointwise [b43, b42, b41, b40, b39, b38, b37, b36, b35, b34, b33, b32, b31]
  rw [mask_apply]
  unfold Chunk.dlog
  split <;> simp [Ideal.ofBits, Ideal.ieee] <;> rfl

/-- The word of minus infinity reads as the least value. -/
theorem neg_inf : Ideal.ofBits .f32 0xFF800000#32 = ⊥ := by simp [Ideal.ofBits, Ideal.ieee]

variable (j : ℕ) (hj : j < 64) (s : State Ideal) (B hd : Fin 4)

/-- Trip `j`'s sums of one head's forget gates. -/
def bb (i : Fin 64) : EReal := ∑ k : Fin 64, if k ≤ i then s.main_v50_4 (ix4 ⟨j, hj⟩ B hd k) else 0
/-- Trip `j`'s input gates of one head. -/
def gg (i : Fin 64) : EReal := s.main_v50_3 (ix4 ⟨j, hj⟩ B hd i)

/-- The stabilizer after a trip is the chunk's. -/
theorem b85_apply : b85 j s (ix2 B hd) = Chunk.mnew (bb j hj s B hd 63) (bb j hj s B hd) (gg j hj s B hd) (s.main_v50_9 (ix2 B hd)) := by
  pointwise [b85, b82, b77, b76, b84, b83, b81, b80, b79, b78]
  simp only [neg_inf, b30_apply j hj, b22_apply j hj]
  rfl

/-- The quotients of a trip are the chunk's. -/
theorem b75_apply (i : Fin 64) (e : Fin 512) :
    b75 j s (ix4 B hd i e) = Chunk.hh (bb j hj s B hd) (gg j hj s B hd) (s.main_v50_9 (ix2 B hd))
      (fun i k => ∑ d : Fin 256, s.main_v50_0 (ix5 ⟨j, hj⟩ B hd i d) * s.main_v50_1 (ix5 ⟨j, hj⟩ B hd k d))
      (fun i d => s.main_v50_0 (ix5 ⟨j, hj⟩ B hd i d)) (fun i e => s.main_v50_2 (ix5 ⟨j, hj⟩ B hd i e))
      (fun d e => s.main_v50_7 (ix4 B hd d e)) (fun d => s.main_v50_8 (ix3 B hd d)) i e := by
  pointwise [b75, b74, b73, b72, b71, b70, b69, b68, b67, b66, b65, b64, b63, b62, b61, b60, b59, b58, b57, b56, b55, b54, b53, b52, b51, b50, b49, b48, b47, b46, b45, b44]
  simp only [neg_inf, b43_apply, b30_apply j hj, b22_apply j hj, b5_apply j hj, b11_apply j hj, b17_apply j hj]
  rfl

/-- The memory after a trip is the chunk's. -/
theorem b100_apply (d : Fin 256) (e : Fin 512) :
    b100 j s (ix4 B hd d e) = Chunk.cnew (bb j hj s B hd 63) (bb j hj s B hd) (gg j hj s B hd) (s.main_v50_9 (ix2 B hd))
      (fun i d => s.main_v50_1 (ix5 ⟨j, hj⟩ B hd i d)) (fun i e => s.main_v50_2 (ix5 ⟨j, hj⟩ B hd i e))
      (fun d e => s.main_v50_7 (ix4 B hd d e)) d e := by
  pointwise [b100, b99, b98, b97, b96, b95, b94, b93, b92, b91, b90, b89, b88, b87, b86, b81, b80, b79, b78, b77, b76]
  simp only [b85_apply j hj, b30_apply j hj, b22_apply j hj, b11_apply j hj, b17_apply j hj, mul_comm (Ideal.exp (_ - Chunk.mnew _ _ _ _)) (s.main_v50_1 _)]
  rfl

/-- The normalizer after a trip is the chunk's. -/
theorem b105_apply (d : Fin 256) :
    b105 j s (ix3 B hd d) = Chunk.nnew (bb j hj s B hd 63) (bb j hj s B hd) (gg j hj s B hd) (s.main_v50_9 (ix2 B hd))
      (fun i d => s.main_v50_1 (ix5 ⟨j, hj⟩ B hd i d)) (fun d => s.main_v50_8 (ix3 B hd d)) d := by
  pointwise [b105, b104, b103, b102, b101, b92, b91, b90, b89, b88, b87, b86, b81, b80, b79, b78, b77, b76]
  simp only [b85_apply j hj, b30_apply j hj, b22_apply j hj, b11_apply j hj, mul_comm (Ideal.exp (_ - Chunk.mnew _ _ _ _)) (s.main_v50_1 _)]
  rfl

include hj in
/-- The results after a trip: those of its chunk are new, the others as before. -/
theorem b111_apply (c : Fin 64) (i : Fin 64) (e : Fin 512) :
    b111 j s (ix5 c B hd i e) = if c.val = j then b75 j s (ix4 B hd i e) else s.main_v50_10 (ix5 c B hd i e) := by
  pointwise [b111, b106, b107, b108, b109, b110]
  have hB := B.isLt
  have hh := hd.isLt
  have hmin : (min (j : ℤ) 63).toNat = j := by omega
  by_cases hc : c.val = j
  · rw [if_pos hc, dif_pos]
    · refine congrArg (b75 j s) ?_
      refine congr (congr (congr (congrArg _ (Fin.ext ?_)) (Fin.ext ?_)) (Fin.ext ?_)) (Fin.ext ?_) <;>
        simp [Host.clampedStart, constantI]
    · simp [Host.clampedStart, constantI, toInt_small j hj, hmin, hc]
  · rw [if_neg hc, dif_neg]
    simp [Host.clampedStart, constantI, toInt_small j hj, hmin]
    omega
end Cert.Proof.RefChunk
end
-- ==== Proof.RefArgs.lean ====
/- What the mixer's looped reference reads of its arguments, and the state after each of its trips: the closed form of the
   recurrence at the trip's first token. -/
module
public import proofs.«01_k».proof.Proof.RefChunk
public import proofs.«01_k».proof.Proof.MixerStreams
@[expose] public section
set_option maxRecDepth 16384
noncomputable section
namespace Cert.Proof.RefChunk
open Idealize.ShloMosaic Cert.ReferenceIdeal Cert.ReferenceIdeal.Step MixerStreams

section
variable (a0 : FVec Ideal S16384x10240 .bf16) (a1 : FVec Ideal S16384x128 .f32) (a2 a3 : FVec Ideal S4 .f32)

/-- A sequence's row is its row of the chunk and the place in the chunk. -/
theorem row_chunk (B : Fin 4) (c i : Fin 64) {n : ℕ} (h : n < 16384) (hn : n = B.val * 4096 + (c.val * 64 + i.val)) :
    (⟨n, h⟩ : Fin 16384) = row B (64 * c.val + i.val) := by
  unfold row; apply Fin.ext; show n = (_ % _); omega

/-- The queries of chunk `c`. -/
theorem q_apply (c : Fin 64) (B hd : Fin 4) (i : Fin 64) (d : Fin 256) :
    (A_main_v14 (F := Ideal) a0 a1 a2 a3) (ix5 c B hd i d) = a0 (ix2 (row B (64 * c + i)) ⟨4096 + (hd * 256 + d), by omega⟩) := by
  pointwise [A_main_v14, A_main_v13, A_main_v2, A_main_v1, A_main_v0]
  rw [row_chunk B c i _ (by omega)]

/-- The keys of chunk `c`, scaled. -/
theorem k_apply (c : Fin 64) (B hd : Fin 4) (i : Fin 64) (d : Fin 256) :
    (A_main_v18 (F := Ideal) a0 a1 a2 a3) (ix5 c B hd i d)
      = a0 (ix2 (row B (64 * c + i)) ⟨5120 + (hd * 256 + d), by omega⟩) * ((1 / 16 : ℝ) : EReal) := by
  pointwise [A_main_v18, A_main_v16, A_main_v15, A_main_v5, A_main_v4, A_main_v3, K_main_v17, K_main_cst]
  rw [row_chunk B c i _ (by omega), lit16]

/-- The values of chunk `c`. -/
theorem v_apply (c : Fin 64) (B hd : Fin 4) (i : Fin 64) (e : Fin 512) :
    (A_main_v20 (F := Ideal) a0 a1 a2 a3) (ix5 c B hd i e) = a0 (ix2 (row B (64 * c + i)) ⟨6144 + (hd * 512 + e), by omega⟩) := by
  pointwise [A_main_v20, A_main_v19, A_main_v8, A_main_v7, A_main_v6]
  rw [row_chunk B c i _ (by omega)]

/-- The input gates of chunk `c`. -/
theorem ig_apply (c : Fin 64) (B hd : Fin 4) (i : Fin 64) :
    (A_main_v30 (F := Ideal) a0 a1 a2 a3) (ix4 c B hd i)
      = softcap (a1 (ix2 (row B (64 * c + i)) ⟨hd, by omega⟩) + a2 (ix1 hd)) := by
  pointwise [A_main_v30, A_main_v29, A_main_v28, A_main_v26, A_main_v25, A_main_v23, A_main_v22, A_main_v21, A_main_v10,
    A_main_v9, K_main_v24, K_main_v27, K_main_cst_0, K_main_cst_1]
  rw [row_chunk B c i _ (by omega)]
  rfl

/-- The logarithms of the forget gates of chunk `c`. -/
theorem lf_apply (c : Fin 64) (B hd : Fin 4) (i : Fin 64) :
    (A_main_v43 (F := Ideal) a0 a1 a2 a3) (ix4 c B hd i)
      = logsig (softcap (a1 (ix2 (row B (64 * c + i)) ⟨4 + hd, by omega⟩) + a3 (ix1 hd))) := by
  have hx : ∀ h, A_main_v38 (F := Ideal) a0 a1 a2 a3 (ix3 B ⟨c * 64 + i, h⟩ hd)
      = softcap (a1 (ix2 (row B (64 * c + i)) ⟨4 + hd, by omega⟩) + a3 (ix1 hd)) := fun h => by
    pointwise [A_main_v38, A_main_v36, A_main_v35, A_main_v33, A_main_v32, A_main_v31, A_main_v12, A_main_v11, K_main_v37,
      K_main_v34, K_main_cst_3, K_main_cst_2]
    rw [row_chunk B c i _ (by omega)]
    rfl
  pointwise [A_main_v43, A_main_v42, A_main_v41, A_main_v40, A_main_call0_v4, A_main_call0_v6, A_main_call0_v11,
    A_main_call0_v10, A_main_call0_v9, A_main_call0_v8, A_main_call0_v7, A_main_call0_v3, A_main_call0_v1, A_main_v39,
    K_main_call0_v5, K_main_call0_v0, K_main_call0_v2, K_main_call0_cst]
  rw [hx, if_neg (by simp)]
  generalize softcap (a1 (ix2 (row B (64 * c + i)) ⟨4 + hd, by omega⟩) + a3 (ix1 hd)) = x
  show -(max (-x) 0 + Ideal.log1p (Ideal.exp (-(max (-x) (- -x))))) = logsig x
  rw [neg_neg, max_comm (-x) x]; rfl

/-- The state after `n` trips is the closed form after `64 n` tokens. -/
structure Inv (n : ℕ) (s : State Ideal) : Prop where
  hq : s.main_v50_0 = A_main_v14 a0 a1 a2 a3
  hk : s.main_v50_1 = A_main_v18 a0 a1 a2 a3
  hv : s.main_v50_2 = A_main_v20 a0 a1 a2 a3
  hig : s.main_v50_3 = A_main_v30 a0 a1 a2 a3
  hlf : s.main_v50_4 = A_main_v43 a0 a1 a2 a3
  hc : ∀ B hd d e, s.main_v50_7 (ix4 B hd d e) = ((Chunk.C (S a0 a1 a2 a3 B hd) (64 * n) d e : ℝ) : EReal)
  hn : ∀ B hd d, s.main_v50_8 (ix3 B hd d) = ((Chunk.N (S a0 a1 a2 a3 B hd) (64 * n) d : ℝ) : EReal)
  hm : ∀ B hd, s.main_v50_9 (ix2 B hd) = ((Chunk.M (S a0 a1 a2 a3 B hd) (64 * n) : ℝ) : EReal)
  hh : ∀ (c : Fin 64) B hd i e, c.val < n →
    s.main_v50_10 (ix5 c B hd i e) = ((Chunk.out (S a0 a1 a2 a3 B hd) (64 * c + i.val) e : ℝ) : EReal)

/-- The invariant holds of the state before the first trip. -/
theorem inv_zero : Inv a0 a1 a2 a3 0 (init a0 a1 a2 a3) := by
  refine ⟨rfl, rfl, rfl, rfl, rfl, fun B hd d e => ?_, fun B hd d => ?_, fun B hd => ?_, fun c B hd i e h => absurd h (Nat.not_lt_zero _)⟩
  · rw [Nat.mul_zero, (Chunk.start _).2.1, EReal.coe_zero]
    show K_main_v46 (F := Ideal) (ix4 B hd d e) = _
    pointwise [K_main_v46, K_main_cst_4]
  · rw [Nat.mul_zero, (Chunk.start _).2.2, EReal.coe_zero]
    show K_main_v47 (F := Ideal) (ix3 B hd d) = _
    pointwise [K_main_v47, K_main_cst_5]
  · rw [Nat.mul_zero, (Chunk.start _).1, EReal.coe_zero]
    show K_main_v48 (F := Ideal) (ix2 B hd) = _
    pointwise [K_main_v48, K_main_cst_6]

end

variable {a0 : FVec Ideal S16384x10240 .bf16} {a1 : FVec Ideal S16384x128 .f32} {a2 a3 : FVec Ideal S4 .f32} (hf : Finite a0)

include hf in
/-- A trip keeps the invariant. -/
theorem inv_succ {n : ℕ} (hn : n < 64) {s : State Ideal} (h : Inv a0 a1 a2 a3 n s) : Inv a0 a1 a2 a3 (n + 1) (step n s) := by
  have hgg : ∀ B hd (i : Fin 64), gg n hn s B hd i = (((S a0 a1 a2 a3 B hd).ig (64 * n + i) : ℝ) : EReal) := fun B hd i => by
    unfold gg; rw [h.hig, ig_apply]; exact softcap_real _
  have hlf : ∀ B hd (i : Fin 64), s.main_v50_4 (ix4 ⟨n, hn⟩ B hd i) = (((S a0 a1 a2 a3 B hd).lf (64 * n + i) : ℝ) : EReal) :=
    fun B hd i => by
    rw [h.hlf, lf_apply, softcap_real, logsig_real, ← softcap_real]; rfl
  have hbb : ∀ B hd (i : Fin 64), bb n hn s B hd i
      = ((Chunk.G (S a0 a1 a2 a3 B hd) (64 * n + i + 1) - Chunk.G (S a0 a1 a2 a3 B hd) (64 * n) : ℝ) : EReal) := fun B hd i =>
    bcum_eq (S a0 a1 a2 a3 B hd) (64 * n) _ (hlf B hd) i
  have hq : ∀ B hd (i : Fin 64) (d : Fin 256), s.main_v50_0 (ix5 ⟨n, hn⟩ B hd i d) = (((S a0 a1 a2 a3 B hd).q (64 * n + i) d : ℝ) : EReal) :=
    fun B hd i d => by
    rw [h.hq, q_apply]; exact hf _ _ (by show 4096 ≤ 4096 + _; omega) (by show 4096 + _ < 8192; omega)
  have hk : ∀ B hd (i : Fin 64) (d : Fin 256), s.main_v50_1 (ix5 ⟨n, hn⟩ B hd i d) = (((S a0 a1 a2 a3 B hd).k (64 * n + i) d : ℝ) : EReal) :=
    fun B hd i d => by
    rw [h.hk, k_apply, hf _ _ (by show 4096 ≤ 5120 + _; omega) (by show 5120 + _ < 8192; omega), ← EReal.coe_mul]; rfl
  have hv : ∀ B hd (i : Fin 64) (e : Fin 512), s.main_v50_2 (ix5 ⟨n, hn⟩ B hd i e) = (((S a0 a1 a2 a3 B hd).v (64 * n + i) e : ℝ) : EReal) :=
    fun B hd i e => by
    rw [h.hv, v_apply]; exact hf _ _ (by show 4096 ≤ 6144 + _; omega) (by show 6144 + _ < 8192; omega)
  have h63 : ∀ B hd, bb n hn s B hd 63
      = ((Chunk.G (S a0 a1 a2 a3 B hd) (64 * n + 64) - Chunk.G (S a0 a1 a2 a3 B hd) (64 * n) : ℝ) : EReal) := fun B hd =>
    hbb B hd 63
  refine ⟨h.hq, h.hk, h.hv, h.hig, h.hlf, fun B hd d e => ?_, fun B hd d => ?_, fun B hd => ?_, fun c B hd i e hc => ?_⟩
  · rw [step_main_v50_7, b100_apply n hn]
    exact Chunk.cnew_eq _ (64 * n) (hbb B hd) (hgg B hd) (h.hm B hd) (hk B hd) (hv B hd) (h.hc B hd) (h63 B hd) d e
  · rw [step_main_v50_8, b105_apply n hn]
    exact Chunk.nnew_eq _ (64 * n) (hbb B hd) (hgg B hd) (h.hm B hd) (hk B hd) (h.hn B hd) (h63 B hd) d
  · rw [step_main_v50_9, b85_apply n hn]
    exact Chunk.mnew_eq _ (64 * n) (hbb B hd) (hgg B hd) (h.hm B hd) (h63 B hd)
  · rw [step_main_v50_10, b111_apply n hn]
    split
    · rename_i hcn
      rw [b75_apply n hn, hcn]
      refine Chunk.hh_eq _ (64 * n) (hbb B hd) (hgg B hd) (h.hm B hd) (fun i j => ?_) (hq B hd) (hv B hd) (h.hc B hd) (h.hn B hd) i e
      simp only [hq, hk, ← EReal.coe_mul, ← Chunk.coe_sum]
      rfl
    · exact h.hh c B hd i e (by omega)

include hf in
/-- The state after every trip is the closed form's. -/
theorem inv_iter (it : ℕ → State Ideal) (h0 : it 0 = init a0 a1 a2 a3) (hs : ∀ n, it (n + 1) = step n (it n)) :
    ∀ n, n ≤ 64 → Inv a0 a1 a2 a3 n (it n)
  | 0, _ => h0 ▸ inv_zero _ _ _ _
  | n + 1, hn => hs n ▸ inv_succ hf (by omega) (inv_iter it h0 hs n (by omega))

include hf in
/-- The reference's result is the closed form's. -/
theorem result_apply {s : State Ideal} (h : Inv a0 a1 a2 a3 64 s) (a4 : FVec Ideal S2048 .f32) (r : Fin 16384) (l : Fin 2048) :
    R_main_v79 s a0 a4 (ix2 r l) = mix a0 a1 a2 a3 a4 r l := by
  have hr : ∀ hd x, s.main_v50_10 (ix5 ⟨r.val % 4096 / 64, by omega⟩ ⟨r.val / 4096, by omega⟩ hd ⟨r.val % 4096 % 64, by omega⟩ x)
      = hval a0 a1 a2 a3 r hd x := fun hd x => by
    rw [h.hh _ _ _ _ _ (by show r.val % 4096 / 64 < 64; omega)]
    unfold hval
    rw [show 64 * (r.val % 4096 / 64) + r.val % 4096 % 64 = r.val % 4096 by omega]
  pointwise [R_main_v79]
  simp only [hr]
  rfl
end Cert.Proof.RefChunk
end
-- ==== Proof.Mixer.lean ====
/- The mLSTM mixer's value: the kernel's array after its run is, element by element, the reference's. -/
module

public import proofs.«01_k».proof.Proof.KernelPoint
public import proofs.«01_k».proof.Proof.TripRun
public import proofs.«01_k».proof.Proof.RefArgs
public import proofs.«01_k».proof.Defs
public import Idealize.ShloMosaic.Lib.ReduceAll

@[expose] public section

set_option maxRecDepth 16384

noncomputable section

namespace Cert.Proof.Mixer

open Idealize Idealize.ShloMosaic Idealize.ShloMosaic.TcCoe Idealize.SL.Sem Cert.KernelIdeal Cert.KernelIdeal.Gen Cert.KernelIdeal.Value
open MixerStreams KernelPieces

variable (m : (ℓ : Loc nD τ sig) → Buf (Elt Ideal) ℓ) (c : Dev nD)

/-- The five arguments. -/
abbrev proj : FVec Ideal S16384x10240 .bf16 := m ((c : Thread nD τ).loc main_arg0)
/-- The gates before their biases. -/
abbrev gates : FVec Ideal S16384x128 .f32 := m ((c : Thread nD τ).loc main_arg1)
/-- The bias of the input gates. -/
abbrev ib : FVec Ideal S4 .f32 := m ((c : Thread nD τ).loc main_arg2)
/-- The bias of the forget gates. -/
abbrev fb : FVec Ideal S4 .f32 := m ((c : Thread nD τ).loc main_arg3)
/-- The gain of the output norm. -/
abbrev og : FVec Ideal S2048 .f32 := m ((c : Thread nD τ).loc main_arg4)

/-- Where each window's tile lies at a grid point. -/
theorem index_facts : ∀ t : Fin cfg0.N,
    (win0_0.index t (0 : Fin 2) = t.val ∧ win0_0.index t (1 : Fin 2) = 4)
    ∧ (win0_1.index t (0 : Fin 2) = t.val ∧ win0_1.index t (1 : Fin 2) = 5)
    ∧ (win0_2.index t (0 : Fin 2) = t.val ∧ win0_2.index t (1 : Fin 2) = 3)
    ∧ (win0_3.index t (0 : Fin 2) = t.val ∧ win0_3.index t (1 : Fin 2) = 4)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- There are 64 grid points. -/
theorem lt64 (t : Fin cfg0.N) : t.val < 64 := lt_of_lt_of_eq t.isLt (show cfg0.N = 64 from N_0)

/-- The row of the array a tile's row is. -/
abbrev rw_ (t : Fin cfg0.N) (i : Fin 256) : Fin 16384 := ⟨256 * t.val + i.val, by have := lt64 t; omega⟩

/-- The sequence a grid point belongs to. -/
abbrev sq (t : Fin cfg0.N) : Fin 4 := ⟨t.val / 16, by have := lt64 t; omega⟩

/-- The row of a token of a point's sequence is the row of the array its tile's row is. -/
theorem row_eq (t : Fin cfg0.N) (i : Fin 256) : row (sq t) (256 * (t.val % 16) + i) = rw_ t i := by
  have := lt64 t
  apply Fin.ext
  show (t.val / 16 * 4096 + (256 * (t.val % 16) + i.val)) % 16384 = 256 * t.val + i.val
  omega

/-- The query tile. -/
theorem q_read (t : Fin cfg0.N) (i : Fin 256) (l : Fin 1024) :
    iblk m c 0 t (ix2 i l : S256x1024.Idx) = proj m c (ix2 (rw_ t i) ⟨4096 + l.val, by omega⟩) := by
  obtain ⟨⟨e0, e1⟩, -⟩ := index_facts t
  refine (congrFun (V_main_arg0 m c) (((cfg0.win 0).blk t).view.emb (ix2 i l : S256x1024.Idx))).trans (congrArg (proj m c) ?_)
  funext a; apply Fin.ext
  match a with
  | ⟨0, _⟩ => show win0_0.index t (0 : Fin 2) * 256 + 1 * i.val = 256 * t.val + i.val; omega
  | ⟨1, _⟩ => show win0_0.index t (1 : Fin 2) * 1024 + 1 * l.val = 4096 + l.val; omega

/-- The key tile. -/
theorem k_read (t : Fin cfg0.N) (i : Fin 256) (l : Fin 1024) :
    iblk m c 1 t (ix2 i l : S256x1024.Idx) = proj m c (ix2 (rw_ t i) ⟨5120 + l.val, by omega⟩) := by
  obtain ⟨-, ⟨e0, e1⟩, -⟩ := index_facts t
  refine (congrFun (V_main_arg0 m c) (((cfg0.win 1).blk t).view.emb (ix2 i l : S256x1024.Idx))).trans (congrArg (proj m c) ?_)
  funext a; apply Fin.ext
  match a with
  | ⟨0, _⟩ => show win0_1.index t (0 : Fin 2) * 256 + 1 * i.val = 256 * t.val + i.val; omega
  | ⟨1, _⟩ => show win0_1.index t (1 : Fin 2) * 1024 + 1 * l.val = 5120 + l.val; omega

/-- The value tile. -/
theorem v_read (t : Fin cfg0.N) (i : Fin 256) (l : Fin 2048) :
    iblk m c 2 t (ix2 i l : S256x2048.Idx) = proj m c (ix2 (rw_ t i) ⟨6144 + l.val, by omega⟩) := by
  obtain ⟨-, -, ⟨e0, e1⟩, -⟩ := index_facts t
  refine (congrFun (V_main_arg0 m c) (((cfg0.win 2).blk t).view.emb (ix2 i l : S256x2048.Idx))).trans (congrArg (proj m c) ?_)
  funext a; apply Fin.ext
  match a with
  | ⟨0, _⟩ => show win0_2.index t (0 : Fin 2) * 256 + 1 * i.val = 256 * t.val + i.val; omega
  | ⟨1, _⟩ => show win0_2.index t (1 : Fin 2) * 2048 + 1 * l.val = 6144 + l.val; omega

/-- The output gates' tile. -/
theorem o_read (t : Fin cfg0.N) (i : Fin 256) (l : Fin 2048) :
    iblk m c 3 t (ix2 i l : S256x2048.Idx) = proj m c (ix2 (rw_ t i) ⟨8192 + l.val, by omega⟩) := by
  obtain ⟨-, -, -, ⟨e0, e1⟩, -⟩ := index_facts t
  refine (congrFun (V_main_arg0 m c) (((cfg0.win 3).blk t).view.emb (ix2 i l : S256x2048.Idx))).trans (congrArg (proj m c) ?_)
  funext a; apply Fin.ext
  match a with
  | ⟨0, _⟩ => show win0_3.index t (0 : Fin 2) * 256 + 1 * i.val = 256 * t.val + i.val; omega
  | ⟨1, _⟩ => show win0_3.index t (1 : Fin 2) * 2048 + 1 * l.val = 8192 + l.val; omega

/-- The gates' tile. -/
theorem g_read (t : Fin cfg0.N) (i : Fin 256) (l : Fin 128) :
    iblk m c 4 t (ix2 i l : S256x128.Idx) = gates m c (ix2 (rw_ t i) l) := by
  obtain ⟨-, -, -, -, ⟨e0, e1⟩, -⟩ := index_facts t
  refine (congrFun (V_main_arg1 m c) (((cfg0.win 4).blk t).view.emb (ix2 i l : S256x128.Idx))).trans (congrArg (gates m c) ?_)
  funext a; apply Fin.ext
  match a with
  | ⟨0, _⟩ => show win0_4.index t (0 : Fin 2) * 256 + 1 * i.val = 256 * t.val + i.val; omega
  | ⟨1, _⟩ => show win0_4.index t (1 : Fin 2) * 128 + 1 * l.val = l.val; omega

/-- The biases side by side. -/
theorem V_bias : @Eq (FVec Ideal S1x128 .f32) (V m c main_v2)
    (broadcastInDim S1x128 ![1] bcast_S128_S1x128_1 (concatenate S128 0 [⟨S4, ib m c⟩, ⟨S4, fb m c⟩,
      ⟨S120, broadcastInDim S120 ![] bcast_S_S120 (constant (F := Ideal) S_ .f32 0x00000000#32)⟩] concatenates_S4_S4_S120_S128_d0)) := by
  simp only [V, hostOps0]; after_results
  dsimp only [Matrix.cons_val]
  rfl

/-- The gains as a row. -/
theorem V_gain : @Eq (FVec Ideal S1x2048 .f32) (V m c main_v3) (broadcastInDim S1x2048 ![1] bcast_S2048_S1x2048_1 (og m c)) := by
  simp only [V, hostOps0]; after_results

/-- The gains' tile. -/
theorem w_read (t : Fin cfg0.N) (l : Fin 2048) : iblk m c 6 t (ix2 0 l : S1x2048.Idx) = og m c (ix1 l) := by
  obtain ⟨-, -, -, -, -, -, ⟨e0, e1⟩⟩ := index_facts t
  have h : iblk m c 6 t (ix2 0 l : S1x2048.Idx) = V m c main_v3 (ix2 0 l : S1x2048.Idx) := by
    refine congrArg (V m c main_v3) ?_
    funext a; apply Fin.ext
    match a with
    | ⟨0, _⟩ => show win0_6.index t (0 : Fin 2) * 1 + 1 * 0 = 0; omega
    | ⟨1, _⟩ => show win0_6.index t (1 : Fin 2) * 2048 + 1 * l.val = l.val; omega
  rw [h, V_gain]
  pointwise []

/-- The biases' tile is the row of biases. -/
theorem b_read (t : Fin cfg0.N) (l : Fin 128) : iblk m c 5 t (ix2 0 l : S1x128.Idx) = V m c main_v2 (ix2 0 l : S1x128.Idx) := by
  obtain ⟨-, -, -, -, -, ⟨e0, e1⟩, -⟩ := index_facts t
  refine congrArg (V m c main_v2) ?_
  funext a; apply Fin.ext
  match a with
  | ⟨0, _⟩ => show win0_5.index t (0 : Fin 2) * 1 + 1 * 0 = 0; omega
  | ⟨1, _⟩ => show win0_5.index t (1 : Fin 2) * 128 + 1 * l.val = l.val; omega

/-- The first four lanes of the combined bias are the input gates' biases. -/
theorem ib_read (h : Fin 4) : V m c main_v2 (ix2 0 ⟨h.val, by omega⟩ : S1x128.Idx) = ib m c (ix1 h) := by
  rw [V_bias]
  fin_cases h <;> pointwise []

/-- The next four lanes of the combined bias are the forget gates' biases. -/
theorem fb_read (h : Fin 4) : V m c main_v2 (ix2 0 ⟨4 + h.val, by omega⟩ : S1x128.Idx) = fb m c (ix1 h) := by
  rw [V_bias]
  fin_cases h <;> pointwise []

/-- The heads' streams of a sequence. -/
abbrev Ss (B : Fin 4) : Fin 4 → Chunk.Streams 256 512 := fun h => S (proj m c) (gates m c) (ib m c) (fb m c) B h

variable (hf : Finite (proj m c))

include hf in
/-- A grid point's tiles hold its chunk of the heads' streams. -/
theorem block (t : Fin cfg0.N) : Block (Ss m c (sq t)) (256 * (t.val % 16)) (iblk m c 0 t) (iblk m c 1 t) (iblk m c 2 t)
    (iblk m c 4 t) (iblk m c 5 t) where
  hig i h := by
    refine (congrArg₂ (fun a b : EReal => softcap (a + b)) (g_read m c t i _) ((b_read m c t _).trans (ib_read m c h))).trans ?_
    rw [softcap_real, ← row_eq]
    rfl
  hlf i h := by
    refine (congrArg₂ (fun a b : EReal => logsig (softcap (a + b))) (g_read m c t i _) ((b_read m c t _).trans (fb_read m c h))).trans ?_
    rw [← row_eq]
    conv_lhs => rw [softcap_real, logsig_real, ← softcap_real]
    rfl
  hq i h d := by
    have hl : (⟨4096 + (256 * h.val + d.val), by omega⟩ : Fin 10240) = ⟨4096 + (h.val * 256 + d.val), by omega⟩ := Fin.ext (by show _ + _ = _ + _; omega)
    refine (q_read m c t i _).trans ?_
    rw [hl, ← row_eq, hf _ _ (by show 4096 ≤ 4096 + _; omega) (by show 4096 + _ < 8192; omega)]
    rfl
  hk i h d := by
    have hl : (⟨5120 + (256 * h.val + d.val), by omega⟩ : Fin 10240) = ⟨5120 + (h.val * 256 + d.val), by omega⟩ := Fin.ext (by show _ + _ = _ + _; omega)
    refine ⟨_, (k_read m c t i _).trans ?_, rfl⟩
    rw [hl, ← row_eq]
    exact hf _ _ (by show 4096 ≤ 5120 + _; omega) (by show 5120 + _ < 8192; omega)
  hv i h e := by
    have hl : (⟨6144 + (512 * h.val + e.val), by omega⟩ : Fin 10240) = ⟨6144 + (h.val * 512 + e.val), by omega⟩ := Fin.ext (by show _ + _ = _ + _; omega)
    refine (v_read m c t i _).trans ?_
    rw [hl, ← row_eq, hf _ _ (by show 4096 ≤ 6144 + _; omega) (by show 6144 + _ < 8192; omega)]
    rfl

/-- What a grid point leaves. -/
def leaves (t : Fin cfg0.N) : Vec Ideal S256x2048 .bf16 × Vec Ideal S4x256x512 .f32 × Vec Ideal S4x1x256 .f32 × Vec Ideal S4x8x128 .f32 :=
  (Gy (Ss m c (sq t)) (256 * (t.val % 16)) (iblk m c 3 t) (iblk m c 6 t), Gc (Ss m c (sq t)) (256 * (t.val % 16) + 256),
    Gn (Ss m c (sq t)) (256 * (t.val % 16) + 256), Gm (Ss m c (sq t)) (256 * (t.val % 16) + 256))

include hf in
/-- A sequence's first grid point. -/
theorem leaves_A (t : Fin cfg0.N) (h0 : t.val % 16 = 0) : outsAt0 m c t.val t.isLt = leaves m c t := by
  have H := block m c hf t
  have e : 256 * (t.val % 16) = 0 := by omega
  unfold leaves
  rw [e] at H ⊢
  rw [outsAt0_A m c t h0]
  exact congrArg₂ Prod.mk (yvalA _ _ _ _ _ _ _ _ _ _ _ _ _ _ _ _ _ _ _ _ _ _ _ _ _ _ _ _ _ _ _ _ H)
    (congrArg₂ Prod.mk (cvalA _ _ _ _ _ _ _ _ _ _ _ _ _ _ _ _ _ _ _ _ _ _ _ _ _ _ _ _ _ _ _ _ H)
      (congrArg₂ Prod.mk (nvalA _ _ _ _ _ _ _ _ _ _ _ _ _ _ _ _ _ _ _ _ _ _ _ _ _ _ _ _ _ _ _ _ H)
        (mvalA _ _ _ _ _ _ _ _ _ _ _ _ _ _ _ _ _ _ _ _ _ _ _ _ _ _ _ _ _ _ _ _ H)))

include hf in
/-- Every grid point leaves its chunk's rows of the result and the memories after the chunk. -/
theorem outs_eq : ∀ (n : ℕ) (hn : n < cfg0.N), outsAt0 m c n hn = leaves m c ⟨n, hn⟩
  | 0, hn => leaves_A m c hf ⟨0, hn⟩ rfl
  | n + 1, hn => by
    by_cases h0 : (n + 1) % 16 = 0
    · exact leaves_A m c hf ⟨n + 1, hn⟩ h0
    have H := block m c hf ⟨n + 1, hn⟩
    have hs : sq (⟨n, Nat.lt_of_succ_lt hn⟩ : Fin cfg0.N) = sq ⟨n + 1, hn⟩ := Fin.ext (by show n / 16 = (n + 1) / 16; omega)
    have hT : 256 * (n % 16) + 256 = 256 * ((n + 1) % 16) := by omega
    have HM : Mem (Ss m c (sq ⟨n + 1, hn⟩)) (256 * ((n + 1) % 16)) (leaves m c ⟨n, Nat.lt_of_succ_lt hn⟩).2.1
        (leaves m c ⟨n, Nat.lt_of_succ_lt hn⟩).2.2.1 (leaves m c ⟨n, Nat.lt_of_succ_lt hn⟩).2.2.2 := by
      unfold leaves
      dsimp only
      rw [hs, hT]
      exact ⟨fun _ _ _ => rfl, fun _ _ => rfl, fun _ _ _ => rfl⟩
    rw [outsAt0_succ, outs_eq n, stAt0_B m c ⟨n + 1, hn⟩ _ h0]
    exact congrArg₂ Prod.mk (yvalB _ _ _ _ _ _ _ _ _ _ _ _ _ _ _ _ _ _ _ _ _ _ _ _ _ _ _ _ _ _ _ _ _ _ _ H HM)
      (congrArg₂ Prod.mk (cvalB _ _ _ _ _ _ _ _ _ _ _ _ _ _ _ _ _ _ _ _ _ _ _ _ _ _ _ _ _ _ _ _ _ _ _ H HM)
        (congrArg₂ Prod.mk (nvalB _ _ _ _ _ _ _ _ _ _ _ _ _ _ _ _ _ _ _ _ _ _ _ _ _ _ _ _ _ _ _ _ _ _ _ H HM)
          (mvalB _ _ _ _ _ _ _ _ _ _ _ _ _ _ _ _ _ _ _ _ _ _ _ _ _ _ _ _ _ _ _ _ _ _ _ H HM)))

include hf in
/-- The kernel's array after the run is the mixer's result. -/
theorem G7_eq (r : Fin 16384) (l : Fin 2048) :
    G7 m c (ix2 r l : S16384x2048.Idx) = mix (proj m c) (gates m c) (ib m c) (fb m c) (og m c) r l := by
  have hN : cfg0.N = 64 := N_0
  have hp : pt7Of (ix2 r l) = r.val / 256 := by
    show 1 * (r.val / 256 - 0) + 1 * (l.val / 2048 - 0) = r.val / 256
    omega
  have hlt : r.val / 256 < cfg0.N := by omega
  have hG : G7 m c (ix2 r l : S16384x2048.Idx) = (leaves m c ⟨r.val / 256, hlt⟩).1 (loc7Of (ix2 r l)) := by
    unfold G7
    rw [dif_pos (by rw [hp]; exact hlt), ← outs_eq m c hf, outsAt0_sweep]
    simp only [hp]
  rw [hG]
  have hloc : loc7Of (ix2 r l) = ix2 ⟨r.val % 256, Nat.mod_lt _ (by norm_num)⟩ l := by
    funext a; apply Fin.ext
    match a with
    | ⟨0, _⟩ => rfl
    | ⟨1, _⟩ => exact Nat.mod_eq_of_lt l.isLt
  rw [hloc]
  have hB : sq (⟨r.val / 256, hlt⟩ : Fin cfg0.N) = ⟨r.val / 4096, by omega⟩ := Fin.ext (by show r.val / 256 / 16 = r.val / 4096; omega)
  have hT : 256 * (r.val / 256 % 16) + r.val % 256 = r.val % 4096 := by omega
  have hr : rw_ (⟨r.val / 256, hlt⟩ : Fin cfg0.N) ⟨r.val % 256, Nat.mod_lt _ (by norm_num)⟩ = r :=
    Fin.ext (by show 256 * (r.val / 256) + r.val % 256 = r.val; omega)
  show tail (fun x => ((Chunk.out (Ss m c (sq ⟨r.val / 256, hlt⟩) ⟨l.val / 512, _⟩) (256 * (r.val / 256 % 16) + r.val % 256) x : ℝ) : EReal)) ⟨l.val % 512, _⟩
    (iblk m c 6 ⟨r.val / 256, hlt⟩ (ix2 0 l : S1x2048.Idx)) (iblk m c 3 ⟨r.val / 256, hlt⟩ (ix2 ⟨r.val % 256, _⟩ l : S256x2048.Idx)) = _
  rw [w_read, o_read, hr, hB, hT]
  rfl

/-- An extended real whose size is less than infinity is real. -/
theorem real_of_lt {x : EReal} (h : max x (-x) < ⊤) : x = (x.toReal : EReal) := by
  refine (EReal.coe_toReal (fun e => ?_) (fun e => ?_)).symm
  · rw [e] at h; exact absurd (lt_of_le_of_lt (le_max_left _ _) h) (lt_irrefl _)
  · rw [e] at h; exact absurd (lt_of_le_of_lt (le_max_right _ _) h) (by rw [EReal.neg_bot]; exact lt_irrefl _)

/-- The precondition says the queries, keys and values are real. -/
theorem finite_of_pre [hP : Cert.Pre_qkv_finite.Facts] (a0 : FVec Ideal S16384x10240 .bf16) (a1 : FVec Ideal S16384x128 .f32) (a2 a3 : FVec Ideal S4 .f32)
    (a4 : FVec Ideal S2048 .f32) (h : Cert.Pre_qkv_finite.fn (F := Ideal) a0 a1 a2 a3 a4 = fun _ => 1#1) : Finite a0 := by
  intro r k h1 h2
  have e := congrFun h ix0
  simp only [Cert.Pre_qkv_finite.fn] at e
  have hi := Host.reduce_andi_all _ _ _ _ _ e (ix2 r ⟨k.val - 4096, by omega⟩)
  refine real_of_lt ?_
  have hk : (⟨4096 + (k.val - 4096), by omega⟩ : Fin 10240) = k := Fin.ext (by show 4096 + (k.val - 4096) = k.val; omega)
  revert hi
  pointwise []
  rw [hk]
  intro hi
  have ht : Ideal.ofBits .f32 2139095040#32 = ⊤ := by simp [Ideal.ofBits, Ideal.ieee]
  rw [ht] at hi
  by_contra hn
  have hd : decide (FloatOps.absf (F := Ideal) (φ := .f32) (a0 (ix2 r k)) < (⊤ : EReal)) = false := decide_eq_false hn
  rw [hd] at hi
  exact absurd hi (by decide)

open Cert in
/-- The kernel's and the reference's runs end with equal results. -/
theorem algebraic (hK : Cert.KernelIdeal.Facts) (hR : Cert.ReferenceIdeal.Facts) (hP : Cert.Pre_qkv_finite.Facts) :
    algebraic_KernelIdeal_ReferenceIdeal_pre_qkv_finite (hKernelIdeal := hK) (hReferenceIdeal := hR) (hPre_qkv_finite := hP) := by
  intro m g m' g' hpre hagree
  have hf : ∀ c, Finite (proj m c) := fun c => finite_of_pre _ _ _ _ _ (hpre c)
  let it : Dev nD → ℕ → Cert.ReferenceIdeal.Step.State Ideal := fun c n =>
    n.rec (Cert.ReferenceIdeal.TripRun.initState m' c) (fun k s => Cert.ReferenceIdeal.Step.step k s)
  refine ⟨fun c => G7 m c, run m g,
    (θ_run Cert.ReferenceIdeal.defs _ _).mono (fun r h c => ⟨(h c).1.trans ?_, (h c).2⟩)
      (Cert.ReferenceIdeal.TripRun.run_iter m' g' it (fun _ => rfl) (fun _ _ => rfl))⟩
  obtain ⟨h0, h1, h2, h3, h4⟩ := hagree c
  have hi := RefChunk.inv_iter (a1 := gates m c) (a2 := ib m c) (a3 := fb m c) (hf c) (it c) (by
    show Cert.ReferenceIdeal.TripRun.initState m' c = _
    unfold Cert.ReferenceIdeal.TripRun.initState
    rw [h0, h1, h2, h3]) (fun _ => rfl) 64 le_rfl
  funext y
  obtain ⟨p, q, rfl⟩ : ∃ (p : Fin 16384) (q : Fin 2048), y = ix2 p q := ⟨y 0, y 1, by funext a; fin_cases a <;> rfl⟩
  rw [h0, h4]
  exact (RefChunk.result_apply (hf c) hi (og m c) p q).trans (G7_eq m c (hf c) p q).symm

end Cert.Proof.Mixer
end
-- ==== Proof.InProjRun.lean ====
/-
  The input projection's kernel body, run once per kind of grid point at symbolic operands: where a row of blocks
  begins, the transfer of its input block is awaited, its rows are normalized strip by strip by the counted loop, the
  next block's transfer is started and the gate block is stored; at every point one block of the projection is stored.
-/
module

public import proofs.«01_k».proof.Proof.Gen.Kernel3Ideal.Skeleton
public import proofs.«01_k».proof.Proof.Gen.Kernel3Ideal.Frame
public import Idealize.ShloMosaic.Lib.Tactic
public import Idealize.ShloMosaic.Lib.Pointwise
public import Idealize.ShloMosaic.Lib.Pipeline.Kit
public import Idealize.ShloMosaic.Lib.Ring
public import Idealize.ShloMosaic.Lib.Transfers
public import Idealize.ShloMosaic.Lib.VecWindow
public import Idealize.ShloMosaic.Lib.WritesUnit

@[expose] public section

set_option maxRecDepth 16384

noncomputable section

namespace Cert.Kernel3Ideal.Own

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F] [∀ e, Nonempty (Elt F e)]

/-- The assertions the runs are stated in: the pipeline's algebra beside the transfers' counters. -/
abbrev MM (F : FTy → Type) : Type := MT nD τ sig Unit (Elt F) ℕ (UD sig nD τ) ℕ

/-- The contents of memref `M`'s buffer on core `c`. -/
abbrev Bf (c : Dev nD) {sp : Space} {S : Shape} {e : EltTy} (M : Memref sig .tc sp S e) : Type :=
  Buf (Elt F) (M.view.loc (c : Thread nD τ))
/-- Memref `M`'s buffer on core `c`, held whole at `f`. -/
abbrev pt (c : Dev nD) {sp : Space} {S : Shape} {e : EltTy} (M : Memref sig .tc sp S e) (f : Bf (F := F) c M) : sProp (MM F) :=
  M.view.loc (c : Thread nD τ) ↦{fullShare} f
/-- The elements memref `M` names on core `c`, held at `f`. -/
abbrev ptOwn (c : Dev nD) {sp : Space} {S : Shape} {e : EltTy} (M : Memref sig .tc sp S e) (f : Bf (F := F) c M) : sProp (MM F) :=
  M.view.loc (c : Thread nD τ) ↦[M.view.set]{fullShare} f

/-- The two scratch buffers: the input block and its normalized rows. -/
abbrev xb : Memref sig .tc .vmem S1024x4096 .f32 := Memref.whole cc0_scratch0
/-- The scratch that holds the normalized rows. -/
abbrev xn : Memref sig .tc .vmem S1024x4096 .bf16 := Memref.whole cc0_scratch1

/-- The normalized rows of an input block `x` under the gain `g`: each strip of 32 rows at the trip's payload. -/
def xnorm (x : Vec F S1024x4096 .f32) (g : Vec F S1x4096 .f32) : Vec F S1024x4096 .bf16 := fun i =>
  k0_pay1 (F := F) (fun y => x (ix2 ⟨32 * ((i 0).val / 32) + (y 0).val, by
      have h0 := (i 0).isLt; have h1 := (y 0).isLt
      change (i 0).val < 1024 at h0; change (y 0).val < 32 at h1; show _ < 1024; omega⟩ (y 1)))
    g (ix2 ⟨(i 0).val % 32, Nat.mod_lt _ (by decide)⟩ (i 1))

/-- The loop's invariant before trip `k`: the input block and the gain as they were, the strips before `k` normalized. -/
def tripInv (c : Dev nD) (M3 : Memref sig .tc .vmem S1x4096 .f32) (fx : Bf (F := F) c xb) (f3 : Bf (F := F) c M3) (k : ℕ) (_ : Unit) : sProp (MM F) :=
  iprop(pt c xb fx ∗ pt c M3 f3 ∗ (∃ f : Bf (F := F) c xn, pt c xn f
    ∗ ⌜∀ y : S1024x4096.Idx, (y 0).val < 32 * k → f y = xnorm fx (M3.view.read (Elt F) f3) y⌝))

omit [∀ e, Nonempty (Elt F e)] in
/-- Reading the scratch of normalized rows whole gives its contents. -/
theorem read_xn (c : Dev nD) (f : Bf (F := F) c xn) : xn.view.read (Elt F) f = f := rfl
omit [∀ e, Nonempty (Elt F e)] in
/-- Reading the scratch of the input block whole gives its contents. -/
theorem read_xb (c : Dev nD) (f : Bf (F := F) c xb) : xb.view.read (Elt F) f = f := rfl

omit [∀ e, Nonempty (Elt F e)] in
/-- The trip's payload from the strip it loads is that strip of the normalized rows. -/
theorem strip_eq (fx : Vec F S1024x4096 .f32) (g : Vec F S1x4096 .f32) (k : ℕ) (inb) (y : S1024x4096.Idx) (hlo : 32 * k ≤ (y 0).val) (hhi : (y 0).val < 32 * (k + 1)) :
    k0_pay1 (F := F) (VecWindow.window fx ![32 * k, 0] S32x4096.size inb) g (ix2 ⟨(y 0).val % 32, Nat.mod_lt _ (by decide)⟩ (y 1)) = xnorm fx g y := by
  unfold xnorm
  refine congrArg (fun X : Vec F S32x4096 .f32 => k0_pay1 (F := F) X g (ix2 ⟨(y 0).val % 32, Nat.mod_lt _ (by decide)⟩ (y 1))) ?_
  funext z
  refine congrArg fx ?_
  have hz : (z 0).val < 32 := (z 0).isLt
  funext a; apply Fin.ext
  match a with
  | ⟨0, _⟩ => show 32 * k + 1 * (z 0).val = 32 * ((y 0).val / 32) + (z 0).val; omega
  | ⟨1, _⟩ => show 0 + 1 * (z 1).val = (z 1).val; omega

omit [∀ e, Nonempty (Elt F e)] in
/-- One trip adds its strip to the normalized rows. -/
theorem trip_value (c : Dev nD) (i : grid0.Coords) (h1 : k0_cond1 i = 1#1) (M3 : Memref sig .tc .vmem S1x4096 .f32)
    (fx : Bf (F := F) c xb) (f3 : Bf (F := F) c M3) (k : Fin k0_t1_loop.trips) (f : Bf (F := F) c xn)
    (hf : ∀ y : S1024x4096.Idx, (y 0).val < 32 * k.val → f y = xnorm fx (M3.view.read (Elt F) f3) y) (y : S1024x4096.Idx) (hy : (y 0).val < 32 * (k.val + 1)) :
    xn.view.writes (Elt F) f [⟨Rect.unit (s := S1024x4096) (k0_off2 k) S32x4096.size (k0_off2_inb i k h1),
        k0_pay1 (xb.view.readAt (Elt F) (Rect.unit (s := S1024x4096) (k0_off2 k) S32x4096.size (k0_off2_inb i k h1)).toLoadRect fx)
          (M3.view.readAt (Elt F) (Rect.unit (s := S1x4096) ![0, 0] S1x4096.size inb_S1x4096_S1x4096_0_0).toLoadRect f3)⟩] y
      = xnorm fx (M3.view.read (Elt F) f3) y := by
  rw [View.readAt_full, View.readAt_unit _ _ _ (k0_off2_eq k) (by rw [← k0_off2_eq]; exact k0_off2_inb i k h1), read_xb]
  refine (congrFun (read_xn c _) y).symm.trans ?_
  by_cases hlt : (y 0).val < 32 * k.val
  · rw [View.read_writes_cons_unit_of_not_mem _ _ _ _ _ _ (k0_off2_eq k) 0 (.inl hlt)]
    exact hf y hlt
  · refine (View.read_writes_cons_unit_of_mem _ _ _ _ _ y
      (ix2 ⟨(y 0).val % 32, Nat.mod_lt _ (by decide)⟩ (y 1)) (k0_off2_eq k) (fun a => ?_)).trans ?_
    · match a with
      | ⟨0, _⟩ => show (y 0).val = 32 * k.val + (y 0).val % 32; omega
      | ⟨1, _⟩ => show (y 1).val = 0 + (y 1).val; omega
    · exact strip_eq fx _ k.val _ y (by omega) hy

/-- One trip of the loop over strips of rows: it keeps the loop's invariant. -/
theorem trip_step (c : Dev nD) (i : grid0.Coords) (h1 : k0_cond1 i = 1#1) (M2) (h2) (M3 : Memref sig .tc .vmem S1x4096 .f32) (h3 : M3.IsWhole) (M4 h4 M5 h5 M6 h6 M7 h7)
    (fx : Bf (F := F) c xb) (f3 : Bf (F := F) c M3) (k : Fin k0_t1_loop.trips) (acc : Unit) :
    tripInv c M3 fx f3 k acc ⊢ wp frame (wpE (defs₀ (F := F)) Variants.none c none) Set.univ
      (k0_t1_body (F := F) i M2 h2 M3 h3 M4 h4 M5 h5 M6 h6 M7 h7 xb (Memref.isWhole_whole _) xn (Memref.isWhole_whole _) cc0_scratch2 h1 k acc) (tripInv c M3 fx f3 (k.val + 1)) := by
  unfold tripInv k0_t1_body
  iintro ⟨HX, HG, ⟨%f, HN, %hf⟩⟩
  sl_exec
  sl_step
  isplitl [HX]; · iexact HX
  isplitl [HG]; · iexact HG
  iexists _
  isplitl [HN]; · iexact HN
  ipureintro
  exact trip_value c i h1 M3 fx f3 k f hf

/-- The loop by that invariant. -/
@[instance_reducible] def tripLoop (c : Dev nD) (i : grid0.Coords) (h1 : k0_cond1 i = 1#1) (M2) (h2) (M3 : Memref sig .tc .vmem S1x4096 .f32) (h3 : M3.IsWhole) (M4 h4 M5 h5 M6 h6 M7 h7)
    (fx : Bf (F := F) c xb) (f3 : Bf (F := F) c M3) :
    LoopInv (M := MM F) frame (wpE (defs₀ (F := F)) Variants.none c none) Set.univ k0_t1_loop.lb k0_t1_loop.ub k0_t1_loop.st (k0_t1_ok i h1) ⟨⟩
      (k0_t1_body (F := F) i M2 h2 M3 h3 M4 h4 M5 h5 M6 h6 M7 h7 xb (Memref.isWhole_whole _) xn (Memref.isWhole_whole _) cc0_scratch2 h1) where
  inv := tripInv c M3 fx f3
  step := trip_step c i h1 M2 h2 M3 h3 M4 h4 M5 h5 M6 h6 M7 h7 fx f3

/-- The kernel's body on its two scratch buffers, its semaphore and the whole input. -/
abbrev body (i : grid0.Coords) (M3 : Memref sig .tc .vmem S1x4096 .f32) (h3 : M3.IsWhole) (M4 : Memref sig .tc .vmem S512x4096 .f32) (h4 : M4.IsWhole)
    (M5 : Memref sig .tc .vmem S8x4096 .f32) (h5 : M5.IsWhole) (M6 : Memref sig .tc .vmem S1024x512 .bf16) (h6 : M6.IsWhole)
    (M7 : Memref sig .tc .vmem S1024x128 .f32) (h7 : M7.IsWhole) : Prog (TpuEff nD τ sig (Elt F) Λ₀ .tc) PUnit :=
  cc0_in_proj (F := F) i (Memref.whole main_arg0) (Memref.isWhole_whole _) M3 h3 M4 h4 M5 h5 M6 h6 M7 h7 xb (Memref.isWhole_whole _) xn (Memref.isWhole_whole _) cc0_scratch2

/-- The block of 1024 rows of the input at an offset, as the kernel names it. -/
abbrev xblk (off : Fin 2 → ℕ) (h : ∀ a, off a + S1024x4096.size a ≤ S16384x4096.size a) : Memref sig .tc .hbm S1024x4096 .f32 :=
  (Memref.whole main_arg0).slice (Rect.unit (s := S16384x4096) off S1024x4096.size h) (fun _ => rfl)

/-- The transfer of such a block into the input buffer under way: what its wait will hand back. -/
abbrev flight (c : Dev nD) (off : Fin 2 → ℕ) (h : ∀ a, off a + S1024x4096.size a ≤ S16384x4096.size a)
    (x : Bf (F := F) c (xblk off h)) (f : Bf (F := F) c xb) : sProp (MM F) :=
  Transfers.Flight (countersEmb (U := UD sig nD τ)) (c : Thread nD τ) (.dma 8) () (xb.view.amount (SemLoc.dma (sig := sig) 8))
    iprop(ptOwn c xb (xb.view.writes (Elt F) f [⟨Rect.whole _, (xblk off h).view.read (Elt F) x⟩]) ∗ ptOwn c (xblk off h) x)

/-- A store of a whole buffer leaves its payload. -/
theorem stored {κ : Kind} {sp : Space} {S : Shape} {e : EltTy} (v : View sig κ sp S e) (f : v.ty.Contents (Elt F)) {off : Fin S.rank → ℕ}
    (inb : ∀ a, off a + S.size a ≤ S.size a) (w : S.Idx → Elt F e) :
    v.read (Elt F) (v.writes (Elt F) f [⟨Rect.unit off S.size inb, w⟩]) = w := by
  funext y
  refine View.read_writes_cons_unit_of_mem v f inb w [] y y rfl fun a => ?_
  have := inb a; omega

/-- The landed block is the input buffer held whole at it. -/
theorem landed (c : Dev nD) (f : Bf (F := F) c xb) (p : Vec F S1024x4096 .f32) :
    ptOwn c xb (xb.view.writes (Elt F) f [⟨Rect.whole _, p⟩]) ⊢ pt c xb p := by
  rw [← read_xb c (xb.view.writes (Elt F) f [⟨Rect.whole _, p⟩]), View.read_writes_whole]
  exact Entails.of_eq (by simp only [ptOwn, pt, Memref.whole, View.set_whole])

/-- The same of a landed block whose transfer was started here. -/
theorem landed_whole (c : Dev nD) (f : Bf (F := F) c xb) (p : Vec F S1024x4096 .f32) :
    pt c xb (xb.view.write (Elt F) f p Finset.univ) ⊢ pt c xb p := by
  have h : xb.view.write (Elt F) f p Finset.univ = xb.view.writes (Elt F) f [⟨Rect.whole _, p⟩] := View.write_univ_eq_writes_whole xb.view f [] p
  rw [h, ← read_xb c (xb.view.writes (Elt F) f [⟨Rect.whole _, p⟩]), View.read_writes_whole]

/-- What the loop leaves: all the rows normalized. -/
instance tripExit (c : Dev nD) (i : grid0.Coords) (h1 : k0_cond1 i = 1#1) (M2) (h2) (M3 : Memref sig .tc .vmem S1x4096 .f32) (h3 : M3.IsWhole) (M4 h4 M5 h5 M6 h6 M7 h7)
    (fx : Bf (F := F) c xb) (f3 : Bf (F := F) c M3) :
    LoopExit (tripLoop (F := F) c i h1 M2 h2 M3 h3 M4 h4 M5 h5 M6 h6 M7 h7 fx f3) where
  post _ := iprop(pt c xb fx ∗ pt c M3 f3 ∗ pt c xn (xnorm fx (M3.view.read (Elt F) f3)))
  exit _ := by
    have e : Scf.trips k0_t1_loop.lb k0_t1_loop.ub k0_t1_loop.st = 32 := by decide
    rw [e]
    show tripInv c M3 fx f3 32 _ ⊢ _
    unfold tripInv
    iintro ⟨HX, H3, ⟨%f, HN, %hf⟩⟩
    obtain rfl : f = xnorm fx (M3.view.read (Elt F) f3) := funext fun y => hf y (y 0).isLt
    isplitl [HX]; · iexact HX
    isplitl [H3]; · iexact H3
    iexact HN

/-- A transfer just started into the input buffer held whole is that. -/
theorem flight_of (c : Dev nD) (off : Fin 2 → ℕ) (h : ∀ a, off a + S1024x4096.size a ≤ S16384x4096.size a)
    (x : Bf (F := F) c (xblk off h)) (f : Bf (F := F) c xb) :
    Transfers.Flight (countersEmb (U := UD sig nD τ)) (c : Thread nD τ) (.dma 8) () (xb.view.amount (SemLoc.dma (sig := sig) 8))
      iprop(pt c xb (xb.view.write (Elt F) f ((xblk off h).view.read (Elt F) x) Finset.univ) ∗ ptOwn c (xblk off h) x)
      ⊢ (flight c off h x f : sProp (MM F)) := by
  have e : (pt c xb (xb.view.write (Elt F) f ((xblk off h).view.read (Elt F) x) Finset.univ) : sProp (MM F))
      = ptOwn c xb (xb.view.writes (Elt F) f [⟨Rect.whole _, (xblk off h).view.read (Elt F) x⟩]) := by
    rw [← View.write_univ_eq_writes_whole]
    simp only [ptOwn, pt, Memref.whole, View.set_whole, View.writes_nil]
  rw [e]

section Runs
variable (c : Dev nD) (i : grid0.Coords) (M3 : Memref sig .tc .vmem S1x4096 .f32) (h3 : M3.IsWhole) (M4 : Memref sig .tc .vmem S512x4096 .f32) (h4 : M4.IsWhole)
    (M5 : Memref sig .tc .vmem S8x4096 .f32) (h5 : M5.IsWhole) (M6 : Memref sig .tc .vmem S1024x512 .bf16) (h6 : M6.IsWhole)
    (M7 : Memref sig .tc .vmem S1024x128 .f32) (h7 : M7.IsWhole)

/-- Inside a row of blocks: one block of the projection from the normalized rows. -/
theorem run_mid (hc1 : ¬ k0_cond1 i = 1#1) (fn : Bf (F := F) c xn) (f4 : Bf (F := F) c M4) (f6 : Bf (F := F) c M6) (W : Waits sig Unit) (Q : PUnit → sProp (MM F)) :
    iprop(pt c xn fn ∗ pt c M4 f4 ∗ pt c M6 f6 ∗ owes (c : Thread nD τ) 0 W
      ∗ (iprop(pt c xn fn ∗ pt c M4 f4 ∗ (∃ f : Bf (F := F) c M6, ⌜M6.view.read (Elt F) f = k0_pay3 fn (M4.view.read (Elt F) f4)⌝ ∗ pt c M6 f)
          ∗ (∃ W, owes (c : Thread nD τ) 0 W)) -∗ Q ⟨⟩))
    ⊢ wp frame (wpE (defs₀ (F := F)) Variants.none c none) Set.univ (body (F := F) i M3 h3 M4 h4 M5 h5 M6 h6 M7 h7) Q := by
  unfold body
  rw [cc0_in_proj_eq_skeleton]
  unfold cc0_in_proj_skel
  iintro ⟨HN, H4, H6, HO, Hk⟩
  sl_exec (disch := exact hc1)
  sl_step
  iapply Hk
  isplitl [HN]; · iexact HN
  isplitl [H4]; · iexact H4
  isplitl [H6]
  · iexists _
    isplitr
    swap; · iexact H6
    ipureintro
    rw [stored, View.readAt_full, View.readAt_full]; rfl
  iexists _; iexact HO

/-- At the start of a row of blocks, neither the first nor the last. -/
theorem run_row (hc1 : k0_cond1 i = 1#1) (hc2 : ¬ k0_cond2 i = 1#1) (hc3 : k0_cond3 i = 1#1)
    (x : Bf (F := F) c (Memref.whole main_arg0)) (fx : Bf (F := F) c xb) (fn : Bf (F := F) c xn) (f3 : Bf (F := F) c M3) (f4 : Bf (F := F) c M4) (f5 : Bf (F := F) c M5)
    (f6 : Bf (F := F) c M6) (f7 : Bf (F := F) c M7) (W : Waits sig Unit) (Q : PUnit → sProp (MM F)) :
    iprop(flight c (k0_off1 i) (k0_off1_inb i hc1) x fx ∗ ptOwn c (xblk (k0_off3 i) (k0_off3_inb i hc1 hc3)) x ∗ pt c xn fn
      ∗ pt c M3 f3 ∗ pt c M4 f4 ∗ pt c M5 f5 ∗ pt c M6 f6 ∗ pt c M7 f7 ∗ owes (c : Thread nD τ) 0 W
      ∗ (iprop((∃ fx, flight c (k0_off3 i) (k0_off3_inb i hc1 hc3) x fx) ∗ ptOwn c (xblk (k0_off1 i) (k0_off1_inb i hc1)) x
          ∗ pt c xn (xnorm ((xblk (k0_off1 i) (k0_off1_inb i hc1)).view.read (Elt F) x) (M3.view.read (Elt F) f3))
          ∗ pt c M3 f3 ∗ pt c M4 f4 ∗ pt c M5 f5
          ∗ (∃ f : Bf (F := F) c M6, ⌜M6.view.read (Elt F) f = k0_pay3 (xnorm ((xblk (k0_off1 i) (k0_off1_inb i hc1)).view.read (Elt F) x) (M3.view.read (Elt F) f3)) (M4.view.read (Elt F) f4)⌝ ∗ pt c M6 f)
          ∗ (∃ f : Bf (F := F) c M7, ⌜M7.view.read (Elt F) f = k0_pay2 (M5.view.read (Elt F) f5) (xnorm ((xblk (k0_off1 i) (k0_off1_inb i hc1)).view.read (Elt F) x) (M3.view.read (Elt F) f3))⌝ ∗ pt c M7 f)
          ∗ (∃ W, owes (c : Thread nD τ) 0 W)) -∗ Q ⟨⟩))
    ⊢ wp frame (wpE (defs₀ (F := F)) Variants.none c none) Set.univ (body (F := F) i M3 h3 M4 h4 M5 h5 M6 h6 M7 h7) Q := by
  unfold body
  rw [cc0_in_proj_eq_skeleton]
  unfold cc0_in_proj_skel
  iintro ⟨HF, HB, HN, H3, H4, H5, H6, H7, HO, Hk⟩
  sl_exec (disch := first | exact hc1 | exact hc2 | exact hc3)
  ihave HX := (landed c _ _) $$ HF_dst
  let L := tripLoop (F := F) c i hc1 (Memref.whole main_arg0) (Memref.isWhole_whole _) M3 h3 M4 h4 M5 h5 M6 h6 M7 h7 ((xblk (k0_off1 i) (k0_off1_inb i hc1)).view.read (Elt F) x) f3
  sl_exec (disch := first | exact hc1 | exact hc2 | exact hc3)
  sl_step
  iapply Hk
  isplitl [HF]
  · iexists _
    iapply flight_of c (k0_off3 i) (k0_off3_inb i hc1 hc3) x
    iexact HF
  isplitl [HF_src]; · iexact HF_src
  isplitl [HL2]; · iexact HL2
  isplitl [HL1]; · iexact HL1
  isplitl [H4]; · iexact H4
  isplitl [H5]; · iexact H5
  isplitl [H6]
  · iexists _
    isplitr
    swap; · iexact H6
    ipureintro
    rw [stored, View.readAt_full, View.readAt_full]; rfl
  isplitl [H7]
  · iexists _
    isplitr
    swap; · iexact H7
    ipureintro
    rw [stored, View.readAt_full, View.readAt_full]; rfl
  iexists _; iexact HO

/-- At the start of the last row of blocks: nothing more to start. -/
theorem run_last (hc1 : k0_cond1 i = 1#1) (hc2 : ¬ k0_cond2 i = 1#1) (hc3 : ¬ k0_cond3 i = 1#1)
    (x : Bf (F := F) c (Memref.whole main_arg0)) (fx : Bf (F := F) c xb) (fn : Bf (F := F) c xn) (f3 : Bf (F := F) c M3) (f4 : Bf (F := F) c M4) (f5 : Bf (F := F) c M5)
    (f6 : Bf (F := F) c M6) (f7 : Bf (F := F) c M7) (W : Waits sig Unit) (Q : PUnit → sProp (MM F)) :
    iprop(flight c (k0_off1 i) (k0_off1_inb i hc1) x fx ∗ pt c xn fn
      ∗ pt c M3 f3 ∗ pt c M4 f4 ∗ pt c M5 f5 ∗ pt c M6 f6 ∗ pt c M7 f7 ∗ owes (c : Thread nD τ) 0 W
      ∗ (iprop(semVal ((c : Thread nD τ), SemLoc.dma (sig := sig) 8) 0 ∗ (∃ fx, pt c xb fx) ∗ ptOwn c (xblk (k0_off1 i) (k0_off1_inb i hc1)) x
          ∗ pt c xn (xnorm ((xblk (k0_off1 i) (k0_off1_inb i hc1)).view.read (Elt F) x) (M3.view.read (Elt F) f3))
          ∗ pt c M3 f3 ∗ pt c M4 f4 ∗ pt c M5 f5
          ∗ (∃ f : Bf (F := F) c M6, ⌜M6.view.read (Elt F) f = k0_pay3 (xnorm ((xblk (k0_off1 i) (k0_off1_inb i hc1)).view.read (Elt F) x) (M3.view.read (Elt F) f3)) (M4.view.read (Elt F) f4)⌝ ∗ pt c M6 f)
          ∗ (∃ f : Bf (F := F) c M7, ⌜M7.view.read (Elt F) f = k0_pay2 (M5.view.read (Elt F) f5) (xnorm ((xblk (k0_off1 i) (k0_off1_inb i hc1)).view.read (Elt F) x) (M3.view.read (Elt F) f3))⌝ ∗ pt c M7 f)
          ∗ (∃ W, owes (c : Thread nD τ) 0 W)) -∗ Q ⟨⟩))
    ⊢ wp frame (wpE (defs₀ (F := F)) Variants.none c none) Set.univ (body (F := F) i M3 h3 M4 h4 M5 h5 M6 h6 M7 h7) Q := by
  unfold body
  rw [cc0_in_proj_eq_skeleton]
  unfold cc0_in_proj_skel
  iintro ⟨HF, HN, H3, H4, H5, H6, H7, HO, Hk⟩
  sl_exec (disch := first | exact hc1 | exact hc2 | exact hc3)
  ihave HX := (landed c _ _) $$ HF_dst
  let L := tripLoop (F := F) c i hc1 (Memref.whole main_arg0) (Memref.isWhole_whole _) M3 h3 M4 h4 M5 h5 M6 h6 M7 h7 ((xblk (k0_off1 i) (k0_off1_inb i hc1)).view.read (Elt F) x) f3
  sl_exec (disch := first | exact hc1 | exact hc2 | exact hc3)
  sl_step
  iapply Hk
  isplitl [HF]; · iexact HF
  isplitl [HL0]; · iexists _; iexact HL0
  isplitl [HF_src]; · iexact HF_src
  isplitl [HL2]; · iexact HL2
  isplitl [HL1]; · iexact HL1
  isplitl [H4]; · iexact H4
  isplitl [H5]; · iexact H5
  isplitl [H6]
  · iexists _
    isplitr
    swap; · iexact H6
    ipureintro
    rw [stored, View.readAt_full, View.readAt_full]; rfl
  isplitl [H7]
  · iexists _
    isplitr
    swap; · iexact H7
    ipureintro
    rw [stored, View.readAt_full, View.readAt_full]; rfl
  iexists _; iexact HO

/-- At the first point: the first block's transfer is started too. -/
theorem run_first (hc1 : k0_cond1 i = 1#1) (hc2 : k0_cond2 i = 1#1) (hc3 : k0_cond3 i = 1#1)
    (x : Bf (F := F) c (Memref.whole main_arg0)) (fx : Bf (F := F) c xb) (fn : Bf (F := F) c xn) (f3 : Bf (F := F) c M3) (f4 : Bf (F := F) c M4) (f5 : Bf (F := F) c M5)
    (f6 : Bf (F := F) c M6) (f7 : Bf (F := F) c M7) (W : Waits sig Unit) (Q : PUnit → sProp (MM F)) :
    iprop(semVal ((c : Thread nD τ), SemLoc.dma (sig := sig) 8) 0 ∗ pt c xb fx ∗ ptOwn c (xblk ![0, 0] inb_S16384x4096_S1024x4096_0_0) x ∗ ptOwn c (xblk (k0_off3 i) (k0_off3_inb i hc1 hc3)) x ∗ pt c xn fn
      ∗ pt c M3 f3 ∗ pt c M4 f4 ∗ pt c M5 f5 ∗ pt c M6 f6 ∗ pt c M7 f7 ∗ owes (c : Thread nD τ) 0 W
      ∗ (iprop((∃ fx, flight c (k0_off3 i) (k0_off3_inb i hc1 hc3) x fx) ∗ ptOwn c (xblk ![0, 0] inb_S16384x4096_S1024x4096_0_0) x
          ∗ pt c xn (xnorm ((xblk ![0, 0] inb_S16384x4096_S1024x4096_0_0).view.read (Elt F) x) (M3.view.read (Elt F) f3))
          ∗ pt c M3 f3 ∗ pt c M4 f4 ∗ pt c M5 f5
          ∗ (∃ f : Bf (F := F) c M6, ⌜M6.view.read (Elt F) f = k0_pay3 (xnorm ((xblk ![0, 0] inb_S16384x4096_S1024x4096_0_0).view.read (Elt F) x) (M3.view.read (Elt F) f3)) (M4.view.read (Elt F) f4)⌝ ∗ pt c M6 f)
          ∗ (∃ f : Bf (F := F) c M7, ⌜M7.view.read (Elt F) f = k0_pay2 (M5.view.read (Elt F) f5) (xnorm ((xblk ![0, 0] inb_S16384x4096_S1024x4096_0_0).view.read (Elt F) x) (M3.view.read (Elt F) f3))⌝ ∗ pt c M7 f)
          ∗ (∃ W, owes (c : Thread nD τ) 0 W)) -∗ Q ⟨⟩))
    ⊢ wp frame (wpE (defs₀ (F := F)) Variants.none c none) Set.univ (body (F := F) i M3 h3 M4 h4 M5 h5 M6 h6 M7 h7) Q := by
  unfold body
  rw [cc0_in_proj_eq_skeleton]
  unfold cc0_in_proj_skel
  iintro ⟨HF, HX, HA, HB, HN, H3, H4, H5, H6, H7, HO, Hk⟩
  sl_exec (disch := first | exact hc1 | exact hc2 | exact hc3)
  unfold run_first.sl.dma0
  ihave HX := (landed_whole c fx ((xblk ![0, 0] inb_S16384x4096_S1024x4096_0_0).view.read (Elt F) x)) $$ HX
  let L := tripLoop (F := F) c i hc1 (Memref.whole main_arg0) (Memref.isWhole_whole _) M3 h3 M4 h4 M5 h5 M6 h6 M7 h7 ((xblk ![0, 0] inb_S16384x4096_S1024x4096_0_0).view.read (Elt F) x) f3
  sl_exec (disch := first | exact hc1 | exact hc2 | exact hc3)
  sl_step
  iapply Hk
  isplitl [HF]
  · iexists _
    iapply flight_of c (k0_off3 i) (k0_off3_inb i hc1 hc3) x
    iexact HF
  isplitl [HA]; · iexact HA
  isplitl [HL2]; · iexact HL2
  isplitl [HL1]; · iexact HL1
  isplitl [H4]; · iexact H4
  isplitl [H5]; · iexact H5
  isplitl [H6]
  · iexists _
    isplitr
    swap; · iexact H6
    ipureintro
    rw [stored, View.readAt_full, View.readAt_full]; rfl
  isplitl [H7]
  · iexists _
    isplitr
    swap; · iexact H7
    ipureintro
    rw [stored, View.readAt_full, View.readAt_full]; rfl
  iexists _; iexact HO

end Runs

end Cert.Kernel3Ideal.Own

end
-- ==== Proof.InProjFrame.lean ====
/-
  The input projection's frame: the invariant between grid points (which block of the input is under way, which rows
  are normalized), the body obligation at each kind of point, and the launch.
-/
module

public import proofs.«01_k».proof.Proof.InProjRun
public import proofs.«01_k».proof.Proof.Gen.Kernel3Ideal.Launch
public import proofs.«01_k».proof.Proof.Gen.Kernel3Ideal.Points
public import Idealize.ShloMosaic.Lib.Pipeline.Frame
public import Idealize.ShloMosaic.Lib.Pipeline.FrameBody
public import Idealize.ShloMosaic.Lib.Pipeline.TableIdle

@[expose] public section

set_option maxRecDepth 16384

noncomputable section

namespace Cert.Kernel3Ideal.Own

open Cert.Kernel3Ideal Cert.Kernel3Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]
variable (m : (ℓ : Loc nD τ sig) → Buf (Elt F) ℓ) (ρ : Dev nD → PrngReg)

/-! ## The grid -/

/-- The two coordinates of a grid point. -/
theorem coords_eq : ∀ t : Fin cfg0.N, ((grid0.coords t) 0).val = t.val / 20 ∧ ((grid0.coords t) 1).val = t.val % 20 :=
  (by decide +kernel : ∀ t : Fin grid0.N, ((grid0.coords t) 0).val = t.val / 20 ∧ ((grid0.coords t) 1).val = t.val % 20)
/-- The first condition holds at the first point of each row of blocks. -/
theorem cond1_iff : ∀ t : Fin cfg0.N, k0_cond1 (grid0.coords t) = 1#1 ↔ t.val % 20 = 0 :=
  (by decide +kernel : ∀ t : Fin grid0.N, k0_cond1 (grid0.coords t) = 1#1 ↔ t.val % 20 = 0)
/-- The second condition holds in the first row of blocks. -/
theorem cond2_iff : ∀ t : Fin cfg0.N, k0_cond2 (grid0.coords t) = 1#1 ↔ t.val < 20 :=
  (by decide +kernel : ∀ t : Fin grid0.N, k0_cond2 (grid0.coords t) = 1#1 ↔ t.val < 20)
/-- The third condition holds at every point before the last row of blocks. -/
theorem cond3_iff : ∀ t : Fin cfg0.N, k0_cond3 (grid0.coords t) = 1#1 ↔ t.val < 300 :=
  (by decide +kernel : ∀ t : Fin grid0.N, k0_cond3 (grid0.coords t) = 1#1 ↔ t.val < 300)

/-! ## The input's sixteen blocks -/

/-- Each of the sixteen input blocks lies in the input array. -/
theorem inb (b : Fin 16) : ∀ a, (![1024 * b.val, 0] : Fin 2 → ℕ) a + S1024x4096.size a ≤ S16384x4096.size a := by
  have hb := b.isLt
  intro a
  match a with
  | ⟨0, _⟩ => show 1024 * b.val + 1024 ≤ 16384; omega
  | ⟨1, _⟩ => show 0 + 4096 ≤ 4096; omega

/-- The input as the region finds it. -/
abbrev X (c : Dev nD) : Bf (F := F) c (Memref.whole main_arg0) := V m c main_arg0

/-- Block `b` of the input, held. -/
def home (c : Dev nD) (b : Fin 16) : sProp (MM F) := ptOwn c (xblk ![1024 * b.val, 0] (inb b)) (X m c)

/-- An input block owned at an offset that is block `b`'s is block `b` at home. -/
theorem home_eq (c : Dev nD) (b : Fin 16) (off : Fin 2 → ℕ) (h) (e : off = ![1024 * b.val, 0]) :
    (ptOwn c (xblk off h) (X m c) : sProp (MM F)) = home m c b := by
  subst e; rfl

/-- The input held whole is its blocks held. -/
theorem blocks (c : Dev nD) : (((c : Thread nD τ).loc main_arg0) ↦{fullShare} V m c main_arg0 : sProp (MM F)) = bigSep Finset.univ (home m c) := by
  have hs : ∀ b : Fin 16, (xblk ![1024 * b.val, 0] (inb b)).view.set = (Rect.unit (s := S16384x4096) ![1024 * b.val, 0] S1024x4096.size (inb b)).set :=
    fun b => View.set_slice_whole _ _
  refine (Ring.pointsTo_blocks (fun b : Fin 16 => (Rect.unit (s := S16384x4096) ![1024 * b.val, 0] S1024x4096.size (inb b)).set) ?_ ?_ _).trans ?_
  · exact Ring.lead_disjoint (s := S16384x4096) 0 1024 (fun b : Fin 16 => ![1024 * b.val, 0]) S1024x4096.size inb (fun _ => rfl) rfl
  · exact Ring.lead_cover (s := S16384x4096) 0 1024 (fun b : Fin 16 => ![1024 * b.val, 0]) S1024x4096.size inb (fun _ => rfl)
      (fun b a ha => by match a with | ⟨0, _⟩ => exact absurd rfl ha | ⟨1, _⟩ => rfl) rfl
      (fun a ha => by match a with | ⟨0, _⟩ => exact absurd rfl ha | ⟨1, _⟩ => rfl) rfl
  · refine congrArg (bigSep Finset.univ) (funext fun b => ?_)
    unfold home ptOwn
    rw [hs]

/-- The transfer of block `b` under way. -/
def fly (c : Dev nD) (b : Fin 16) (f : Bf (F := F) c xb) : sProp (MM F) := flight c ![1024 * b.val, 0] (inb b) (X m c) f

/-- A transfer under way from an offset that is block `b`'s is block `b` under way. -/
theorem fly_eq (c : Dev nD) (b : Fin 16) (f : Bf (F := F) c xb) (off : Fin 2 → ℕ) (h) (e : off = ![1024 * b.val, 0]) :
    (flight c off h (X m c) f : sProp (MM F)) = fly m c b f := by
  subst e; rfl

/-! ## The invariant -/

/-- Nothing under way: the blocks, the semaphore at zero, the input buffer at something. -/
def idleSt (c : Dev nD) : sProp (MM F) :=
  iprop(bigSep Finset.univ (home m c) ∗ semVal ((c : Thread nD τ), SemLoc.dma (sig := sig) 8) 0 ∗ ∃ f, pt c xb f)
/-- Block `b` under way: the other blocks and the transfer. -/
def flySt (c : Dev nD) (b : Fin 16) : sProp (MM F) :=
  iprop(bigSep (Finset.univ.erase b) (home m c) ∗ ∃ f, fly m c b f)

/-- What is under way before point `p`. -/
def core (c : Dev nD) (p : ℕ) : sProp (MM F) :=
  if p = 0 ∨ 300 < p then idleSt m c else flySt m c ⟨(p + 19) / 20 % 16, Nat.mod_lt _ (by decide)⟩

/-- Before the first point and after the last fetch no transfer is under way. -/
theorem core_idle (c : Dev nD) (p : ℕ) (h : p = 0 ∨ 300 < p) : core m c p = idleSt m c := if_pos h
/-- Between, the block of the next row of blocks is under way. -/
theorem core_fly (c : Dev nD) (p : ℕ) (b : Fin 16) (h : 0 < p ∧ p ≤ 300) (hb : (p + 19) / 20 = b.val) : core m c p = flySt m c b := by
  unfold core
  rw [if_neg (by omega)]
  congr 1
  apply Fin.ext
  have := b.isLt
  show (p + 19) / 20 % 16 = b.val
  omega
/-- A point inside a row of blocks leaves the transfers as they are. -/
theorem core_mid (c : Dev nD) (p : ℕ) (h : p % 20 ≠ 0) : core m c (p + 1) = core m c p := by
  by_cases h3 : 300 < p
  · rw [core_idle m c p (.inr h3), core_idle m c (p + 1) (.inr (by omega))]
  · have hb : (p + 19) / 20 < 16 := by omega
    rw [core_fly m c p ⟨(p + 19) / 20, hb⟩ (by omega) rfl, core_fly m c (p + 1) ⟨(p + 19) / 20, hb⟩ (by omega) (by show (p + 1 + 19) / 20 = (p + 19) / 20; omega)]

/-- The gain, and block `b` of the input normalized under it. -/
def gain (c : Dev nD) : Vec F S1x4096 .f32 := V m c main_v0
/-- The normalized rows of the input block at an offset. -/
def rowsN (c : Dev nD) (off : Fin 2 → ℕ) (h : ∀ a, off a + S1024x4096.size a ≤ S16384x4096.size a) : Vec F S1024x4096 .bf16 :=
  xnorm ((xblk off h).view.read (Elt F) (X m c)) (gain m c)
/-- The normalized rows of input block `b`. -/
def Xn (c : Dev nD) (b : ℕ) : Vec F S1024x4096 .bf16 :=
  rowsN m c ![1024 * (b % 16), 0] (inb ⟨b % 16, Nat.mod_lt _ (by decide)⟩)

/-- The normalized rows at an offset that is block `b`'s are those of block `b`. -/
theorem Xn_eq (c : Dev nD) (b : ℕ) (hb : b < 16) (off : Fin 2 → ℕ) (h) (e : off = ![1024 * b, 0]) : rowsN m c off h = Xn m c b := by
  unfold Xn
  have e' : ![1024 * (b % 16), 0] = off := by rw [e, Nat.mod_eq_of_lt hb]
  subst e'
  rfl

/-- The normalized rows before point `p`: those of the row of blocks the point before is in. -/
def rows (c : Dev nD) (p : ℕ) : sProp (MM F) :=
  if p = 0 then iprop(∃ f, pt c xn f) else pt c xn (Xn m c ((p - 1) / 20))

/-- The invariant before point `p`. -/
def Phi (c : Dev nD) (p : ℕ) : sProp (MM F) := iprop(core m c p ∗ rows m c p ∗ ∃ r, prngReg c r)

/-! ## The proof data -/

/-- The first point. -/
abbrev pt0 : Fin cfg0.N := ⟨0, by decide⟩

/-- The gain's window stays at block zero. -/
theorem index0 : ∀ t : Fin cfg0.N, (cfg0.win 0).index t = fun _ => 0 :=
  (by decide +kernel : ∀ t : Fin grid0.N, win0_0.index t = fun _ => 0)
/-- The gate weight's window stays at one block. -/
theorem index2 : ∀ t : Fin cfg0.N, (cfg0.win 2).index t = (cfg0.win 2).index pt0 :=
  (by decide +kernel : ∀ t : Fin grid0.N, win0_2.index t = win0_2.index ⟨0, by decide⟩)
/-- The gate's weights are one block, the same at every point. -/
theorem iblk2_const (c : Dev nD) (t : Fin cfg0.N) : iblk m c 2 t = iblk m c 2 pt0 := by
  funext y
  refine congrArg (V m c main_v1) (funext fun a => Fin.ext ?_)
  show (cfg0.win 2).index t a * S8x4096.size a + 1 * (y a).val = (cfg0.win 2).index pt0 a * S8x4096.size a + 1 * (y a).val
  rw [index2 t]

/-- The gain's block is the whole gain. -/
theorem iblk0_gain (c : Dev nD) (t : Fin cfg0.N) : iblk m c 0 t = gain m c := by
  funext y
  refine congrArg (V m c main_v0) (funext fun a => Fin.ext ?_)
  show (cfg0.win 0).index t a * S1x4096.size a + 1 * (y a).val = (y a).val
  rw [index0 t]; simp

/-- What the body leaves in the two results' buffers. -/
def out3 (c : Dev nD) (t : Fin cfg0.N) : Vec F S1024x512 .bf16 := k0_pay3 (Xn m c (t.val / 20)) (X0_1 m c t)
/-- The gate block of a row of blocks. -/
def out4 (c : Dev nD) (b : ℕ) : Vec F S1024x128 .f32 := k0_pay2 (iblk m c 2 pt0) (Xn m c b)

/-- What each window holds at each point, and the invariant between points. -/
def dats (_ : Fin 1) (c : Dev nD) : Dat τ (Elt F) Unit ℕ (UD sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => out3 m c t
    | ⟨4, _⟩ => out4 m c (t.val / 20)
    | ⟨_ + 5, h⟩ => absurd h (Nat.not_lt.2 (Nat.le_add_left _ _))
  Φ t := Phi m c t.val
  q w := Pipeline.shareOf spec0 w
  owed _ := 0

/-- The arrays the region starts from. -/
theorem A_eq (c : Dev nD) (w : Fin cfg0.W) : (dats m 0 c).A w = V m c (Pipeline.arrRef spec0 w) := by
  dsimp only [dats]
/-- After a point the gain's buffer holds its block. -/
theorem after0 (c : Dev nD) (t : Fin cfg0.N) : (dats m 0 c).after 0 t = iblk m c 0 t := by dsimp only [dats]
/-- After a point the weight's buffer holds its block. -/
theorem after1 (c : Dev nD) (t : Fin cfg0.N) : (dats m 0 c).after 1 t = X0_1 m c t := by dsimp only [dats]
/-- After a point the gate weight's buffer holds its block. -/
theorem after2 (c : Dev nD) (t : Fin cfg0.N) : (dats m 0 c).after 2 t = iblk m c 2 t := by dsimp only [dats]
/-- After a point the first output's buffer holds the product block. -/
theorem after3 (c : Dev nD) (t : Fin cfg0.N) : (dats m 0 c).after 3 t = out3 m c t := by dsimp only [dats]
/-- After a point the second output's buffer holds the gate block of its row of blocks. -/
theorem after4 (c : Dev nD) (t : Fin cfg0.N) : (dats m 0 c).after 4 t = out4 m c (t.val / 20) := by dsimp only [dats]

/-- Each input's buffer holds its block when the body runs. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- Before a point the weight's buffer holds its block. -/
theorem before1 (c : Dev nD) (t : Fin cfg0.N) (d) : (dats m 0 c).before 1 t d = X0_1 m c t :=
  ((dats m 0 c).before_in_eq_fetched 1 rfl (fun _ => rfl)
      (fun t t' h => funext fun a => congrArg (fun n => Pipeline.Clip.of n ((cfg0.win 1).size a) (S10248x4096.size a)) (congrFun h a))
      (fun t => by rw [after1]; unfold X0_1; rw [Pipeline.Window.cut_fill]; unfold Dat.blockOf iblk; rw [A_eq]; try rfl) t d).trans
    (by unfold Dat.fetched X0_1; rw [fill0_1 t d dflt0_1]; unfold Dat.blockOf iblk; rw [A_eq]; try rfl)
/-- Before a point the gate weight's buffer holds its block. -/
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- The gate block's buffer is fresh exactly where a row of blocks begins. -/
theorem fresh4 : ∀ n, n ≤ cfg0.N → cfg0.fresh 4 n = (n % 20 == 0) :=
  cfg0.fresh_tab 4 (fun n => n % 20 == 0) rfl (fun t => by
    have hN : t.val < 320 := t.isLt
    have hi : cfg0.idle 4 (cfg0.grid.coords t) = !(t.val % 20 == 0) := by
      show (!(k0_cond1 (grid0.coords t) == 1#1)) = _
      rw [Bool.eq_iff_iff]; simp [cond1_iff t]
    rw [hi]
    rw [Bool.eq_iff_iff]
    simp only [Bool.or_eq_true, flush0_4 t, beq_iff_eq, Bool.and_eq_true, Bool.not_eq_true', beq_eq_false_iff_ne]
    omega)
/-- Inside a row of blocks it holds the row's gate block. -/
theorem before4 (c : Dev nD) (t : Fin cfg0.N) (h : t.val % 20 ≠ 0) (d) : (dats m 0 c).before 4 t d = out4 m c (t.val / 20) := by
  rw [(dats m 0 c).before_out_traj 4 rfl (fun _ _ => rfl) (fun t ht hi hf => by
      rw [after4, after4]
      rw [fresh4 t.val (Nat.le_of_lt t.isLt)] at hf
      have : t.val % 20 ≠ 0 := by simpa using hf
      congr 1; show t.val / 20 = (t.val - 1) / 20; omega) t.val t rfl d,
    fresh4 t.val (Nat.le_of_lt t.isLt), if_neg (by simpa using h), after4]
  congr 1; show (t.val - 1) / 20 = t.val / 20; omega

/-! ## The body at each kind of point -/

/-- What the body is called with at a point, and what it returns. -/
def bodyPre (c : Dev nD) (t : Fin cfg0.N) : sProp (MM F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
/-- What a point's body leaves. -/
def bodyPost (c : Dev nD) (t : Fin cfg0.N) : sProp (MM F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The invariant before a point. -/
theorem Phi_castSucc (c : Dev nD) (t : Fin cfg0.N) : (dats m 0 c).Φ t.castSucc = Phi m c t.val := by dsimp only [dats]; rfl
/-- The invariant after a point. -/
theorem Phi_succ (c : Dev nD) (t : Fin cfg0.N) : (dats m 0 c).Φ t.succ = Phi m c (t.val + 1) := by dsimp only [dats]; rfl

/-- One block taken out of several. -/
theorem home_split (c : Dev nD) {s : Finset (Fin 16)} {i : Fin 16} (h : i ∈ s) :
    bigSep s (home m c) = iprop(home m c i ∗ bigSep (s.erase i) (home m c)) :=
  BI.bigSep_erase h

/-- A whole buffer owned at `Y` is its points-to at contents that read so. -/
theorem owns_pt (c : Dev nD) {sp : Space} {S : Shape} {e : EltTy} {M : Memref sig .tc sp S e} (h : M.IsWhole) (Y : S.Idx → Elt F e) :
    (owns (c : Thread nD τ) M fullShare Y : sProp (MM F)) = iprop(∃ f : Bf (F := F) c M, ⌜M.view.read (Elt F) f = Y⌝ ∗ pt c M f) := by
  unfold owns pt
  simp only [h.set_eq_univ]

/-- The staging buffer of window 0 owned at a value, spelt as its contents. -/
theorem owns0 (c : Dev nD) (t : Fin cfg0.N) (Y) :
    (owns (c : Thread nD τ) (st0_0 t) fullShare Y : sProp (MM F))
      = iprop(∃ f : Bf (F := F) c (st0_0 t), ⌜(st0_0 t).view.read (Elt F) f = Y⌝ ∗ pt c (st0_0 t) f) :=
  owns_pt c (hstage0_0 ((cfg0.slots t 0).cast nbuf0_0)) Y
/-- The staging buffer of window 1 owned at a value, spelt as its contents. -/
theorem owns1 (c : Dev nD) (t : Fin cfg0.N) (Y) :
    (owns (c : Thread nD τ) (st0_1 t) fullShare Y : sProp (MM F))
      = iprop(∃ f : Bf (F := F) c (st0_1 t), ⌜(st0_1 t).view.read (Elt F) f = Y⌝ ∗ pt c (st0_1 t) f) :=
  owns_pt c (hstage0_1 ((cfg0.slots t 1).cast nbuf0_1)) Y
/-- The staging buffer of window 2 owned at a value, spelt as its contents. -/
theorem owns2 (c : Dev nD) (t : Fin cfg0.N) (Y) :
    (owns (c : Thread nD τ) (st0_2 t) fullShare Y : sProp (MM F))
      = iprop(∃ f : Bf (F := F) c (st0_2 t), ⌜(st0_2 t).view.read (Elt F) f = Y⌝ ∗ pt c (st0_2 t) f) :=
  owns_pt c (hstage0_2 ((cfg0.slots t 2).cast nbuf0_2)) Y
/-- The staging buffer of window 3 owned at a value, spelt as its contents. -/
theorem owns3 (c : Dev nD) (t : Fin cfg0.N) (Y) :
    (owns (c : Thread nD τ) (st0_3 t) fullShare Y : sProp (MM F))
      = iprop(∃ f : Bf (F := F) c (st0_3 t), ⌜(st0_3 t).view.read (Elt F) f = Y⌝ ∗ pt c (st0_3 t) f) :=
  owns_pt c (hstage0_3 ((cfg0.slots t 3).cast nbuf0_3)) Y
/-- The staging buffer of window 4 owned at a value, spelt as its contents. -/
theorem owns4 (c : Dev nD) (t : Fin cfg0.N) (Y) :
    (owns (c : Thread nD τ) (st0_4 t) fullShare Y : sProp (MM F))
      = iprop(∃ f : Bf (F := F) c (st0_4 t), ⌜(st0_4 t).view.read (Elt F) f = Y⌝ ∗ pt c (st0_4 t) f) :=
  owns_pt c (hstage0_4 ((cfg0.slots t 4).cast nbuf0_4)) Y

/-- Inside a row of blocks. -/
theorem sound_mid (c : Dev nD) (t : Fin cfg0.N) (h : t.val % 20 ≠ 0) :
    bodyPre m c t ⊢ wp frame (wpE (defs₀ (F := F)) Variants.none c none) Set.univ (bodyAt0 t) (fun _ => bodyPost m c t) := by
  unfold bodyPre bodyPost bodyAt0
  have hp : t.val ≠ 0 := fun h0 => h (by rw [h0])
  rw [Phi_castSucc, Phi_succ]
  unfold Phi rows
  rw [core_mid m c t.val h, if_neg hp, if_neg (Nat.succ_ne_zero _), show (t.val - 1) / 20 = t.val / 20 from by omega, show (t.val + 1 - 1) / 20 = t.val / 20 from by omega]
  simp only [before0, before1, before2, before4 m c t h, after0, after1, after2, after3, after4]
  unfold Dat.owesAt Pipeline.owesWithin
  rw [show (dats m 0 c).owed t.castSucc = 0 from rfl, show (dats m 0 c).owed t.succ = 0 from rfl]
  simp only [owns1, owns3]
  iintro ⟨⟨HC, HN, HP⟩, ⟨%W, %hW, HO⟩, ⟨%d0, H0⟩, ⟨%d1, %f1, %hf1, H1⟩, ⟨%d2, H2⟩, ⟨%d3, %f3, %hf3, H3⟩, ⟨%d4, H4⟩⟩
  iapply (run_mid c (grid0.coords t) _ _ _ _ _ _ _ _ _ _ (fun hc => h ((cond1_iff t).mp hc)) (Xn m c (t.val / 20)) f1 f3 W)
  isplitl [HN]; · iexact HN
  isplitl [H1]; · iexact H1
  isplitl [H3]; · iexact H3
  isplitl [HO]; · iexact HO
  iintro ⟨HN, H1, ⟨%f, %hf, H3⟩, ⟨%W', HO⟩⟩
  isplitl [HC HN HP]
  · isplitl [HC]; · iexact HC
    isplitl [HN]; · iexact HN
    iexact HP
  isplitl [HO]
  · iexists W'; isplitr; · ipureintro; exact fun _ _ => Or.inl trivial
    iexact HO
  isplitl [H0]; · iexact H0
  isplitl [H1]
  · iexists f1; isplitr; · ipureintro; exact hf1
    iexact H1
  isplitl [H2]; · iexact H2
  isplitl [H3]
  · iexists f; isplitr
    · ipureintro; rw [hf, hf1]; rfl
    iexact H3
  iexact H4

/-- The rows the point normalizes are block `b`'s. -/
theorem row_rows (c : Dev nD) (t : Fin cfg0.N) (b : ℕ) (hb : b < 16) (off : Fin 2 → ℕ) (h) (e : off = ![1024 * b, 0]) :
    xnorm ((xblk off h).view.read (Elt F) (X m c)) (iblk m c 0 t) = Xn m c b := by
  rw [iblk0_gain]
  exact Xn_eq m c b hb off h e

/-- Where a row of blocks begins, neither the first nor the last. -/
theorem sound_row (c : Dev nD) (t : Fin cfg0.N) (h : t.val % 20 = 0) (h2 : ¬ t.val < 20) (h3 : t.val < 300) :
    bodyPre m c t ⊢ wp frame (wpE (defs₀ (F := F)) Variants.none c none) Set.univ (bodyAt0 t) (fun _ => bodyPost m c t) := by
  unfold bodyPre bodyPost bodyAt0
  rw [Phi_castSucc, Phi_succ]
  unfold Phi rows
  have hb : t.val / 20 + 1 < 16 := by omega
  have hb0 : t.val / 20 < 16 := by omega
  rw [core_fly m c t.val ⟨t.val / 20, hb0⟩ (by omega) (by show (t.val + 19) / 20 = t.val / 20; omega),
    core_fly m c (t.val + 1) ⟨t.val / 20 + 1, hb⟩ (by omega) (by show (t.val + 1 + 19) / 20 = t.val / 20 + 1; omega)]
  have hne : (⟨t.val / 20 + 1, hb⟩ : Fin 16) ≠ ⟨t.val / 20, hb0⟩ := fun h => by have := congrArg Fin.val h; simp only at this; omega
  have e1 : k0_off1 (grid0.coords t) = ![1024 * (t.val / 20), 0] := by rw [k0_off1_eq, (coords_eq t).1]
  have e3 : k0_off3 (grid0.coords t) = ![1024 * (t.val / 20 + 1), 0] := by rw [k0_off3_eq, (coords_eq t).1, Nat.mul_add]
  unfold flySt
  rw [home_split m c (i := (⟨t.val / 20 + 1, hb⟩ : Fin 16)) (Finset.mem_erase.mpr ⟨hne, Finset.mem_univ _⟩),
    home_split m c (s := Finset.univ.erase (⟨t.val / 20 + 1, hb⟩ : Fin 16)) (i := (⟨t.val / 20, hb0⟩ : Fin 16)) (Finset.mem_erase.mpr ⟨hne.symm, Finset.mem_univ _⟩),
    Finset.erase_right_comm (a := (⟨t.val / 20 + 1, hb⟩ : Fin 16))]
  have hc1 := (cond1_iff t).mpr h
  have hc2 := fun hc => h2 ((cond2_iff t).mp hc)
  have hc3 := (cond3_iff t).mpr h3
  rw [← home_eq m c ⟨t.val / 20 + 1, hb⟩ _ (k0_off3_inb _ hc1 hc3) e3]
  rw [if_neg (show ¬ t.val = 0 from by omega), if_neg (Nat.succ_ne_zero _), show (t.val + 1 - 1) / 20 = t.val / 20 from by omega]
  simp only [before0, before1, before2, after0, after1, after2, after3, after4]
  unfold Dat.owesAt Pipeline.owesWithin
  rw [show (dats m 0 c).owed t.castSucc = 0 from rfl, show (dats m 0 c).owed t.succ = 0 from rfl]
  simp only [owns0, owns1, owns2, owns3, owns4]
  iintro ⟨⟨⟨⟨HB, HR⟩, ⟨%fx, HF⟩⟩, HN, HP⟩, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩⟩
  iapply (run_row c (grid0.coords t) _ _ _ _ _ _ _ _ _ _ hc1 hc2 hc3 (X m c) fx (Xn m c ((t.val - 1) / 20)) f0 f1 f2 f3 f4 W)
  isplitl [HF]; · rw [fly_eq m c ⟨t.val / 20, hb0⟩ fx _ _ e1]; iexact HF
  isplitl [HB]; · iexact HB
  isplitl [HN]; · iexact HN
  isplitl [H0]; · iexact H0
  isplitl [H1]; · iexact H1
  isplitl [H2]; · iexact H2
  isplitl [H3]; · iexact H3
  isplitl [H4]; · iexact H4
  isplitl [HO]; · iexact HO
  rw [hf0, hf1, hf2]
  rw [row_rows m c t (t.val / 20) hb0 _ _ e1]
  iintro ⟨⟨%fx', HF⟩, HA, HN, H0, H1, H2, ⟨%g3, %hg3, H3⟩, ⟨%g4, %hg4, H4⟩, ⟨%W', HO⟩⟩
  isplitl [HF HA HR HN HP]
  · isplitl [HF HA HR]
    · isplitr [HF]
      · isplitl [HA]; · iapply (Entails.of_eq (home_eq m c ⟨t.val / 20, hb0⟩ _ (k0_off1_inb _ hc1) e1)); iexact HA
        iexact HR
      · iexists fx'; iapply (Entails.of_eq (fly_eq m c ⟨t.val / 20 + 1, hb⟩ fx' _ (k0_off3_inb _ hc1 hc3) e3)); iexact HF
    isplitl [HN]; · iexact HN
    iexact HP
  isplitl [HO]
  · iexists W'; isplitr; · ipureintro; exact fun _ _ => Or.inl trivial
    iexact HO
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists g3; isplitr
    · ipureintro; exact hg3
    iexact H3
  iexists g4; isplitr
  · ipureintro; rw [hg4, iblk2_const m c t]; rfl
  iexact H4

/-- Where the last row of blocks begins. -/
theorem sound_last (c : Dev nD) (t : Fin cfg0.N) (h : t.val = 300) :
    bodyPre m c t ⊢ wp frame (wpE (defs₀ (F := F)) Variants.none c none) Set.univ (bodyAt0 t) (fun _ => bodyPost m c t) := by
  unfold bodyPre bodyPost bodyAt0
  rw [Phi_castSucc, Phi_succ]
  unfold Phi rows
  have hb0 : t.val / 20 < 16 := by omega
  rw [core_fly m c t.val ⟨t.val / 20, hb0⟩ (by omega) (by show (t.val + 19) / 20 = t.val / 20; omega),
    core_idle m c (t.val + 1) (.inr (by omega))]
  have e1 : k0_off1 (grid0.coords t) = ![1024 * (t.val / 20), 0] := by rw [k0_off1_eq, (coords_eq t).1]
  unfold flySt idleSt
  rw [home_split m c (s := Finset.univ) (i := (⟨t.val / 20, hb0⟩ : Fin 16)) (Finset.mem_univ _)]
  have hc1 := (cond1_iff t).mpr (by omega)
  have hc2 := fun hc => (show ¬ t.val < 20 from by omega) ((cond2_iff t).mp hc)
  have hc3 := fun hc => (show ¬ t.val < 300 from by omega) ((cond3_iff t).mp hc)
  rw [if_neg (show ¬ t.val = 0 from by omega), if_neg (Nat.succ_ne_zero _), show (t.val + 1 - 1) / 20 = t.val / 20 from by omega]
  simp only [before0, before1, before2, after0, after1, after2, after3, after4]
  unfold Dat.owesAt Pipeline.owesWithin
  rw [show (dats m 0 c).owed t.castSucc = 0 from rfl, show (dats m 0 c).owed t.succ = 0 from rfl]
  simp only [owns0, owns1, owns2, owns3, owns4]
  iintro ⟨⟨⟨HR, ⟨%fx, HF⟩⟩, HN, HP⟩, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩⟩
  iapply (run_last c (grid0.coords t) _ _ _ _ _ _ _ _ _ _ hc1 hc2 hc3 (X m c) fx (Xn m c ((t.val - 1) / 20)) f0 f1 f2 f3 f4 W)
  isplitl [HF]; · rw [fly_eq m c ⟨t.val / 20, hb0⟩ fx _ _ e1]; iexact HF
  isplitl [HN]; · iexact HN
  isplitl [H0]; · iexact H0
  isplitl [H1]; · iexact H1
  isplitl [H2]; · iexact H2
  isplitl [H3]; · iexact H3
  isplitl [H4]; · iexact H4
  isplitl [HO]; · iexact HO
  rw [hf0, hf1, hf2]
  rw [row_rows m c t (t.val / 20) hb0 _ _ e1]
  iintro ⟨HS, ⟨%fx', HX⟩, HA, HN, H0, H1, H2, ⟨%g3, %hg3, H3⟩, ⟨%g4, %hg4, H4⟩, ⟨%W', HO⟩⟩
  isplitl [HS HX HA HR HN HP]
  · isplitl [HS HX HA HR]
    · isplitl [HA HR]
      · isplitl [HA]; · iapply (Entails.of_eq (home_eq m c ⟨t.val / 20, hb0⟩ _ (k0_off1_inb _ hc1) e1)); iexact HA
        iexact HR
      isplitl [HS]; · iexact HS
      iexists fx'; iexact HX
    isplitl [HN]; · iexact HN
    iexact HP
  isplitl [HO]
  · iexists W'; isplitr; · ipureintro; exact fun _ _ => Or.inl trivial
    iexact HO
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists g3; isplitr
    · ipureintro; exact hg3
    iexact H3
  iexists g4; isplitr
  · ipureintro; rw [hg4, iblk2_const m c t]; rfl
  iexact H4

/-- At the first point. -/
theorem sound_first (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  rw [Phi_castSucc, Phi_succ]
  unfold Phi rows
  have hb0 : t.val / 20 < 16 := by omega
  rw [core_idle m c t.val (.inl h), core_fly m c (t.val + 1) 1 (by omega) (by show (t.val + 1 + 19) / 20 = 1; omega)]
  have e1 : (![0, 0] : Fin 2 → ℕ) = ![1024 * (t.val / 20), 0] := by rw [h]
  have e3 : k0_off3 (grid0.coords t) = ![1024 * (1 : Fin 16).val, 0] := by rw [k0_off3_eq, (coords_eq t).1, h]; rfl
  unfold flySt idleSt
  rw [home_split m c (s := Finset.univ) (i := (1 : Fin 16)) (Finset.mem_univ _),
    home_split m c (s := Finset.univ.erase (1 : Fin 16)) (i := (0 : Fin 16)) (by decide)]
  have hc1 := (cond1_iff t).mpr (by omega)
  have hc2 := (cond2_iff t).mpr (by omega)
  have hc3 := (cond3_iff t).mpr (by omega)
  rw [← home_eq m c 1 _ (k0_off3_inb _ hc1 hc3) e3, ← home_eq m c 0 ![0, 0] inb_S16384x4096_S1024x4096_0_0 rfl]
  rw [if_pos h, if_neg (Nat.succ_ne_zero _), show (t.val + 1 - 1) / 20 = t.val / 20 from by omega]
  simp only [before0, before1, before2, after0, after1, after2, after3, after4]
  unfold Dat.owesAt Pipeline.owesWithin
  rw [show (dats m 0 c).owed t.castSucc = 0 from rfl, show (dats m 0 c).owed t.succ = 0 from rfl]
  simp only [owns0, owns1, owns2, owns3, owns4]
  iintro ⟨⟨⟨⟨HB, HA, HR⟩, HS, ⟨%fx, HX⟩⟩, ⟨%fn, HN⟩, HP⟩, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩⟩
  iapply (run_first c (grid0.coords t) _ _ _ _ _ _ _ _ _ _ hc1 hc2 hc3 (X m c) fx fn f0 f1 f2 f3 f4 W)
  isplitl [HS]; · iexact HS
  isplitl [HX]; · iexact HX
  isplitl [HA]; · iexact HA
  isplitl [HB]; · iexact HB
  isplitl [HN]; · iexact HN
  isplitl [H0]; · iexact H0
  isplitl [H1]; · iexact H1
  isplitl [H2]; · iexact H2
  isplitl [H3]; · iexact H3
  isplitl [H4]; · iexact H4
  isplitl [HO]; · iexact HO
  rw [hf0, hf1, hf2]
  rw [row_rows m c t (t.val / 20) hb0 _ _ e1]
  iintro ⟨⟨%fx', HF⟩, HA, HN, H0, H1, H2, ⟨%g3, %hg3, H3⟩, ⟨%g4, %hg4, H4⟩, ⟨%W', HO⟩⟩
  isplitl [HF HA HR HN HP]
  · isplitl [HF HA HR]
    · isplitr [HF]
      · isplitl [HA]; · iexact HA
        iexact HR
      · iexists fx'; iapply (Entails.of_eq (fly_eq m c 1 fx' _ (k0_off3_inb _ hc1 hc3) e3)); iexact HF
    isplitl [HN]; · iexact HN
    iexact HP
  isplitl [HO]
  · iexists W'; isplitr; · ipureintro; exact fun _ _ => Or.inl trivial
    iexact HO
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists g3; isplitr
    · ipureintro; exact hg3
    iexact H3
  iexists g4; isplitr
  · ipureintro; rw [hg4, iblk2_const m c t]; rfl
  iexact H4

/-- The body at every point. -/
theorem sound_body (c : Dev nD) (t : Fin cfg0.N) :
    bodyPre m c t ⊢ wp frame (wpE (defs₀ (F := F)) Variants.none c none) Set.univ (bodyAt0 t) (fun _ => bodyPost m c t) := by
  have ht : t.val < 320 := t.isLt
  by_cases h : t.val % 20 = 0
  · by_cases h0 : t.val = 0
    · exact sound_first m c t h0
    · by_cases h3 : t.val < 300
      · exact sound_row m c t h (by omega) h3
      · exact sound_last m c t (by omega)
  · exact sound_mid m c t h

/-- The gate window's stage at the end of a point, in the form the pipeline asks for. -/
theorem leaves4 (c : Dev nD) (t : Fin cfg0.N) :
    (owns (c : Thread nD τ) (st0_4 t) fullShare ((dats m 0 c).after 4 t) : sProp (MM F))
      ⊢ (match cfg0.idle 4 (cfg0.grid.coords t) with
          | true =>
            match (cfg0.win 4).flush t with
            | false => iprop(∃ d, owns (c : Thread nD τ) ((cfg0.win 4).stage (cfg0.slots t 4)) fullShare ((dats m 0 c).before 4 t d))
            | true => owns (c : Thread nD τ) ((cfg0.win 4).stage (cfg0.slots t 4)) fullShare ((dats m 0 c).after 4 t)
          | false => owns (c : Thread nD τ) ((cfg0.win 4).stage (cfg0.slots t 4)) fullShare ((dats m 0 c).after 4 t)) := by
  split
  · rename_i hi
    have h : t.val % 20 ≠ 0 := by
      intro h
      have hi : (!(k0_cond1 (grid0.coords t) == 1#1)) = true := hi
      rw [(cond1_iff t).mpr h] at hi
      exact absurd hi (by decide)
    split
    · iintro H
      iexists (dats m 0 c).after 4 t
      rw [before4 m c t h, after4]
      iexact H
    · exact .rfl
  · exact .rfl

/-- The function called at a point is the body at that point. -/
theorem defs₀_row (t : Fin cfg0.N) : defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => by
    unfold bodyPost
    iintro ⟨HΦ, HO, H0, H1, H2, H3, H4⟩
    isplitl [HΦ]; · iexact HΦ
    isplitl [HO]; · iexact HO
    isplitl [H0]; · iexact H0
    isplitl [H1]; · iexact H1
    isplitl [H2]; · iexact H2
    isplitl [H3]; · iexact H3
    iapply (leaves4 m c t)
    iexact H4

/-! ## The launch -/

/-- The one semaphore the body signals itself. -/
abbrev osem : Fin 1 → SemLoc sig := fun _ => .dma 8

/-- The side conditions of the kernel's own semaphores. -/
theorem ownSemFacts : Pipeline.OwnSemFacts spec0 osem := by decide

/-- What the launch hands over, spelt out. -/
theorem given_eq (c : Dev nD) : (Pipeline.ΦD osem spec0 {main_arg0} (V m) c : sProp (MM F))
    = iprop(((∃ f, pt c xb f) ∗ (∃ f, pt c xn f)) ∗ (∃ r, prngReg c r) ∗ semVal ((c : Thread nD τ), SemLoc.dma (sig := sig) 8) 0
      ∗ bigSep Finset.univ (home m c)) := by
  rw [Pipeline.ΦD_eq, scopedRest0_eq, Pipeline.ownSems0_eq_of_list c osem [0] (by decide) (by decide), BI.bigSep_singleton, blocks]
  rfl

/-- What the launch hands over gives the invariant before the first point. -/
theorem hin (c : Dev nD) : Pipeline.ΦD osem spec0 {main_arg0} (V m) c ⊢ (dats m 0 c).Φ 0 := by
  rw [show (dats m 0 c).Φ 0 = Phi m c 0 from by dsimp only [dats]; rfl, given_eq]
  unfold Phi rows
  rw [core_idle m c 0 (.inl rfl), if_pos rfl]
  unfold idleSt
  iintro ⟨⟨HX, HN⟩, HP, HS, HB⟩
  isplitl [HX HS HB]
  · isplitl [HB]; · iexact HB
    isplitl [HS]; · iexact HS
    iexact HX
  isplitl [HN]; · iexact HN
  iexact HP

/-- The invariant after the last point gives back what the launch handed over. -/
theorem hout (c : Dev nD) : (dats m 0 c).Φ (Fin.last cfg0.N) ⊢ Pipeline.ΦD osem spec0 {main_arg0} (V m) c := by
  rw [show (dats m 0 c).Φ (Fin.last cfg0.N) = Phi m c 320 from by dsimp only [dats]; rfl, given_eq]
  unfold Phi rows
  rw [core_idle m c 320 (.inr (by decide)), if_neg (by decide)]
  unfold idleSt
  iintro ⟨⟨HB, HS, HX⟩, HN, HP⟩
  isplitl [HX HN]
  · isplitl [HX]; · iexact HX
    iexists _; iexact HN
  isplitl [HP]; · iexact HP
  isplitl [HS]; · iexact HS
  iexact HB

set_option backward.isDefEq.respectTransparency.types false in
set_option maxHeartbeats 800000 in
/-- @main up to the region. -/
theorem hmainD : Pipeline.HMain (Ix := Unit) (Name := ℕ) (U := UD sig nD τ) (Lvl := ℕ) cfgs 0 defs₀ Variants.none m (main (F := F)) (V m) :=
  Pipeline.hmain_prefix cfgs 0 defs₀ Variants.none m main hostOps0 hostOps0_sub hostOps0_fresh main_chain

variable (ρ : Dev nD → PrngReg)

set_option backward.isDefEq.respectTransparency.types false in
set_option maxHeartbeats 800000 in
/-- The launch: every run ends with the pipeline's arrays at what the proof data computes, every other unscoped buffer as
    the region found it, and every counter at zero. -/
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem defs₀ Variants.none ownSemFacts {main_arg0} (by decide) m ρ main
    (hbody := fun c => (body_obligation m c).loose) (hq := fun _ _ _ => rfl)
    (howed := fun _ _ => rfl) (V := V m) (hmain := hmainD m) (hA := A_eq m) (hin := hin m) (hout := hout m)

/-- THE FRAME: every run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Pipeline.mem_restRefs_of main_arg0 (by decide) (by decide))).trans (V_main_arg0 m c),
        ((h.1 c).2 main_arg1 (Pipeline.mem_restRefs_of main_arg1 (by decide) (by decide))).trans (V_main_arg1 m c),
        ((h.1 c).2 main_arg2 (Pipeline.mem_restRefs_of main_arg2 (by decide) (by decide))).trans (V_main_arg2 m c)⟩, h.2⟩)
    (run_main m ρ)

end Cert.Kernel3Ideal.Own

end
-- ==== Proof.InProj.lean ====
/- The input projection's value. -/
module

public import proofs.«01_k».proof.Defs
public import proofs.«01_k».proof.Proof.InProjFrame
public import proofs.«01_k».proof.Proof.Gen.Reference3Ideal.Read
public import proofs.«01_k».proof.Proof.Gen.Reference3Ideal.Run
public import Idealize.ShloMosaic.Lib.Pointwise

@[expose] public section

set_option maxRecDepth 16384

noncomputable section

namespace Cert.Proof.InProj

open Cert.Kernel3Ideal Cert.Kernel3Ideal.Gen Cert.Kernel3Ideal.Own Idealize.ShloMosaic Idealize.ShloMosaic.TcCoe Idealize.SL.Sem

variable (m : (ℓ : Loc nD τ sig) → Buf (Elt Ideal) ℓ)

/-- One row's scale, of its sum of squares. -/
def scale (s : EReal) : EReal := Ideal.rsqrt (Ideal.div s (Ideal.ofBits .f32 0x45800000#32) + Ideal.ofBits .f32 0x358637BD#32)

/-- The rows normalized under the gain. -/
def nrm (x : FVec Ideal S16384x4096 .f32) (g : FVec Ideal ⟨1, ![4096]⟩ .f32) : FVec Ideal S16384x4096 .f32 := fun i =>
  x i * scale (∑ k : Fin 4096, x (ix2 (i 0) k) * x (ix2 (i 0) k)) * g (ix1 (i 1))

/-- The normalized row strip, at one element: the input times the row's scale times the gain. -/
theorem pay1_apply (x : Vec Ideal S32x4096 .f32) (g : Vec Ideal S1x4096 .f32) (i : S32x4096.Idx) :
    k0_pay1 x g i = x i * scale (∑ k : Fin 4096, x (ix2 (i 0) k) * x (ix2 (i 0) k)) * g (ix2 0 (i 1)) := by
  unfold_payloads
  pointwise [scale]

/-- The product with a block of the weight's main columns, at one element. -/
theorem pay3_apply (x : Vec Ideal S1024x4096 .bf16) (w : Vec Ideal S512x4096 .f32) (i : S1024x512.Idx) :
    k0_pay3 x w i = ∑ k : Fin 4096, x (ix2 (i 0) k) * w (ix2 (i 1) k) := by
  unfold_payloads
  pointwise

/-- The gate product, at one element: eight columns of the weight, and zero in the other lanes. -/
theorem pay2_apply (w : Vec Ideal S8x4096 .f32) (x : Vec Ideal S1024x4096 .bf16) (i : S1024x128.Idx) :
    k0_pay2 w x i = if h : (i 1).val < 8 then ∑ k : Fin 4096, x (ix2 (i 0) k) * w (ix2 ⟨(i 1).val, h⟩ k) else 0 := by
  unfold_payloads
  pointwise
  split
  · rfl
  · simp

/-- The reference's normalized rows are `nrm`. -/
theorem ref12_eq (x : FVec Ideal S16384x4096 .f32) (g : FVec Ideal ⟨1, ![4096]⟩ .f32) : Cert.Reference3Ideal.Read.val_main_v12 (F := Ideal) x g = nrm x g := by
  funext i
  unfold Cert.Reference3Ideal.Read.val_main_v12 Cert.Reference3Ideal.Read.val_main_v9 Cert.Reference3Ideal.Read.val_main_v8 Cert.Reference3Ideal.Read.val_main_v7 Cert.Reference3Ideal.Read.val_main_v6 Cert.Reference3Ideal.Read.val_main_v5 Cert.Reference3Ideal.Read.val_main_v4 Cert.Reference3Ideal.Read.val_main_v3 Cert.Reference3Ideal.Read.val_main_v2 Cert.Reference3Ideal.Read.val_main_v1 Cert.Reference3Ideal.Read.val_main_v0 Cert.Reference3Ideal.Read.val_main_v11 Cert.Reference3Ideal.Read.val_main_v10 Cert.Reference3Ideal.Read.val_main_cst Cert.Reference3Ideal.Read.val_main_cst_0 Cert.Reference3Ideal.Read.val_main_cst_1
  pointwise [nrm, scale]

/-- The main columns of the product. -/
def Main (x : FVec Ideal S16384x4096 .f32) (g : FVec Ideal ⟨1, ![4096]⟩ .f32) (w : FVec Ideal ⟨2, ![4096, 10248]⟩ .f32) : FVec Ideal S16384x10240 .bf16 := fun i =>
  ∑ k : Fin 4096, nrm x g (ix2 (i 0) k) * w (ix2 k ⟨(i 1).val, by have h : (i 1).val < 10240 := (i 1).isLt; omega⟩)

/-- The gate columns, in lanes. -/
def Gate (x : FVec Ideal S16384x4096 .f32) (g : FVec Ideal ⟨1, ![4096]⟩ .f32) (w : FVec Ideal ⟨2, ![4096, 10248]⟩ .f32) : FVec Ideal S16384x128 .f32 := fun i =>
  if h : (i 1).val < 8 then ∑ k : Fin 4096, nrm x g (ix2 (i 0) k) * w (ix2 k ⟨10240 + (i 1).val, by omega⟩) else 0

/-- The reference's first result is `Main`. -/
theorem ref15_eq (x : FVec Ideal S16384x4096 .f32) (g : FVec Ideal ⟨1, ![4096]⟩ .f32) (w : FVec Ideal ⟨2, ![4096, 10248]⟩ .f32) :
    Cert.Reference3Ideal.Read.val_main_v15 (F := Ideal) x g w = Main x g w := by
  funext i
  unfold Cert.Reference3Ideal.Read.val_main_v15 Cert.Reference3Ideal.Read.val_main_v14 Cert.Reference3Ideal.Read.val_main_v13
  rw [ref12_eq]
  unfold Main
  generalize nrm x g = y
  pointwise

/-- The reference's second result is `Gate`. -/
theorem ref17_eq (x : FVec Ideal S16384x4096 .f32) (g : FVec Ideal ⟨1, ![4096]⟩ .f32) (w : FVec Ideal ⟨2, ![4096, 10248]⟩ .f32) :
    Cert.Reference3Ideal.Read.val_main_v17 (F := Ideal) x g w = Gate x g w := by
  funext i
  unfold Cert.Reference3Ideal.Read.val_main_v17 Cert.Reference3Ideal.Read.val_main_v16 Cert.Reference3Ideal.Read.val_main_v13 Cert.Reference3Ideal.Read.val_main_call0_v0 Cert.Reference3Ideal.Read.val_main_c
  rw [ref12_eq]
  unfold Gate
  generalize nrm x g = y
  pointwise
  have h0 : FloatOps.sitofp (F := Ideal) FTy.f32 (0#32) = (0 : EReal) := by
    show (((0#32 : BitVec 32).toInt : ℝ) : EReal) = 0
    simp
  rw [h0]

/-- The gain as the region finds it. -/
theorem gain_apply (c : Dev nD) (k : Fin 4096) : gain m c (ix2 0 k) = m ((c : Thread nD τ).loc main_arg1) (ix1 k) := by
  have h : @Eq (FVec Ideal S1x4096 .f32) (V m c main_v0)
      (broadcastInDim S1x4096 ![1] bcast_S4096_S1x4096_1 (m ((c : Thread nD τ).loc main_arg1) : FVec Ideal S4096 .f32)) := by
    simp only [V, hostOps0]; after_results
  refine (congrFun h (ix2 0 k)).trans ?_
  generalize (m ((c : Thread nD τ).loc main_arg1) : FVec Ideal S4096 .f32) = y
  pointwise

/-- The transposed weight as the region finds it. -/
theorem V_weight (c : Dev nD) (n : Fin 10248) (k : Fin 4096) : V m c main_v1 (ix2 n k) = m ((c : Thread nD τ).loc main_arg2) (ix2 k n) := by
  have h : @Eq (FVec Ideal S10248x4096 .f32) (V m c main_v1)
      (transpose S10248x4096 [1, 0] (m ((c : Thread nD τ).loc main_arg2) : FVec Ideal S4096x10248 .f32) transposes_S4096x10248_S10248x4096_1_0) := by
    simp only [V, hostOps0]; after_results
  refine (congrFun h (ix2 n k)).trans ?_
  generalize (m ((c : Thread nD τ).loc main_arg2) : FVec Ideal S4096x10248 .f32) = y
  pointwise

/-- A block's normalized rows are the rows of the whole input's. -/
theorem Xn_apply (c : Dev nD) (b : ℕ) (hb : b < 16) (r : Fin 1024) (k : Fin 4096) :
    Xn m c b (ix2 r k) = nrm (m ((c : Thread nD τ).loc main_arg0)) (m ((c : Thread nD τ).loc main_arg1))
      (ix2 ⟨1024 * b + r.val, by have := r.isLt; omega⟩ k) := by
  have hr := r.isLt
  have hi : ∀ a : ℕ, ∀ h : a < 1024, a = r.val → ∀ l : Fin 4096,
      (xblk ![1024 * b, 0] (inb ⟨b, hb⟩)).view.read (Elt Ideal) (X m c) (ix2 ⟨a, h⟩ l)
        = m ((c : Thread nD τ).loc main_arg0) (ix2 ⟨1024 * b + r.val, by omega⟩ l) := by
    intro a h e l
    subst e
    refine Eq.trans ?_ (congrFun (V_main_arg0 m c) _)
    refine congrArg (V m c main_arg0) ?_
    funext a; apply Fin.ext
    match a with
    | ⟨0, _⟩ => show 1024 * b + 1 * r.val = 1024 * b + r.val; omega
    | ⟨1, _⟩ => show 0 + 1 * l.val = l.val; omega
  rw [← Xn_eq m c b hb ![1024 * b, 0] (inb ⟨b, hb⟩) rfl]
  unfold rowsN xnorm
  generalize (xblk ![1024 * b, 0] (inb ⟨b, hb⟩)).view.read (Elt Ideal) (X m c) = y at hi
  rw [pay1_apply]
  unfold nrm
  have he : 32 * (r.val / 32) + r.val % 32 = r.val := by omega
  refine congrArg₂ (fun a b : EReal => a * b) (congrArg₂ (fun a b : EReal => a * scale b) (hi _ _ he k) ?_) (gain_apply m c k)
  exact Finset.sum_congr rfl fun l _ => congrArg₂ (fun a b : EReal => a * b) (hi _ _ he l) (hi _ _ he l)

/-- Where each window's block lies at a grid point. -/
theorem index_facts : ∀ t : Fin cfg0.N,
    win0_1.index t (0 : Fin 2) = t.val % 20 ∧ win0_1.index t (1 : Fin 2) = 0
    ∧ win0_2.index t (0 : Fin 2) = 1280 ∧ win0_2.index t (1 : Fin 2) = 0
    ∧ win0_3.index t (0 : Fin 2) = t.val / 20 ∧ win0_3.index t (1 : Fin 2) = t.val % 20
    ∧ win0_4.index t (0 : Fin 2) = t.val / 20 ∧ win0_4.index t (1 : Fin 2) = 0 :=
  (by decide +kernel : ∀ t : Fin grid0.N, _)

/-- The weight block of a grid point. -/
theorem weight_apply (c : Dev nD) (t : Fin cfg0.N) (n : Fin 512) (k : Fin 4096) :
    X0_1 m c t (ix2 n k) = m ((c : Thread nD τ).loc main_arg2)
      (ix2 k ⟨512 * (t.val % 20) + n.val, by have := n.isLt; have := Nat.mod_lt t.val (show 0 < 20 by decide); omega⟩) := by
  obtain ⟨e10, e11, -⟩ := index_facts t
  unfold X0_1 Pipeline.Window.fill
  rw [dif_pos (moved0_1 t (ix2 n k))]
  refine Eq.trans (congrArg (V m c main_v1) ?_) (V_weight m c _ k)
  funext a; apply Fin.ext
  match a with
  | ⟨0, _⟩ => show win0_1.index t (0 : Fin 2) * 512 + 1 * n.val = 512 * (t.val % 20) + n.val; omega
  | ⟨1, _⟩ => show win0_1.index t (1 : Fin 2) * 4096 + 1 * k.val = k.val; omega

/-- The gates' weight block. -/
theorem gate_weight_apply (c : Dev nD) (n : Fin 8) (k : Fin 4096) :
    iblk m c 2 pt0 (ix2 n k) = m ((c : Thread nD τ).loc main_arg2) (ix2 k ⟨10240 + n.val, by have := n.isLt; omega⟩) := by
  obtain ⟨-, -, e20, e21, -⟩ := index_facts pt0
  refine Eq.trans (congrArg (V m c main_v1) ?_) (V_weight m c _ k)
  funext a; apply Fin.ext
  match a with
  | ⟨0, _⟩ => show win0_2.index pt0 (0 : Fin 2) * 8 + 1 * n.val = 10240 + n.val; omega
  | ⟨1, _⟩ => show win0_2.index pt0 (1 : Fin 2) * 4096 + 1 * k.val = k.val; omega

/-- One of the first eight lanes of the gate result is a product with a gate column. -/
theorem gate_low (x : FVec Ideal S16384x4096 .f32) (g : FVec Ideal ⟨1, ![4096]⟩ .f32) (w : FVec Ideal ⟨2, ![4096, 10248]⟩ .f32)
    (r : Fin 16384) (n : Fin 128) (h : n.val < 8) :
    Gate x g w (ix2 r n) = ∑ k : Fin 4096, nrm x g (ix2 r k) * w (ix2 k ⟨10240 + n.val, by omega⟩) := dif_pos h
/-- Every other lane of the gate result is zero. -/
theorem gate_high (x : FVec Ideal S16384x4096 .f32) (g : FVec Ideal ⟨1, ![4096]⟩ .f32) (w : FVec Ideal ⟨2, ![4096, 10248]⟩ .f32)
    (r : Fin 16384) (n : Fin 128) (h : ¬ n.val < 8) : Gate x g w (ix2 r n) = 0 := dif_neg h
/-- Two sums equal term by term. -/
theorem sum_eq {f g : Fin 4096 → EReal} (h : ∀ k, f k = g k) : ∑ k, f k = ∑ k, g k := Finset.sum_congr rfl fun k _ => h k

/-- What a grid point writes back to the main result is its block of `Main`. -/
theorem flushed3_eq (c : Dev nD) (t : Fin cfg0.N) :
    (dats m 0 c).flushed 3 t = ((cfg0.win 3).blk t).view.read (Elt Ideal)
      (Main (m ((c : Thread nD τ).loc main_arg0)) (m ((c : Thread nD τ).loc main_arg1)) (m ((c : Thread nD τ).loc main_arg2))) := by
  obtain ⟨-, -, -, -, e30, e31, -⟩ := index_facts t
  have ht : t.val < 320 := t.isLt
  funext j
  have e : ((cfg0.win 3).blk t).view.emb j = ix2 ⟨1024 * (t.val / 20) + (j 0).val, by have h : (j 0).val < 1024 := (j 0).isLt; show _ < 16384; omega⟩
      ⟨512 * (t.val % 20) + (j 1).val, by have h : (j 1).val < 512 := (j 1).isLt; show _ < 10240; omega⟩ := by
    funext a; apply Fin.ext
    match a with
    | ⟨0, _⟩ => show win0_3.index t (0 : Fin 2) * 1024 + 1 * (j 0).val = 1024 * (t.val / 20) + (j 0).val; omega
    | ⟨1, _⟩ => show win0_3.index t (1 : Fin 2) * 512 + 1 * (j 1).val = 512 * (t.val % 20) + (j 1).val; omega
  refine Eq.trans ?_ (congrArg (Main _ _ _) e).symm
  refine Eq.trans (pay3_apply (Xn m c (t.val / 20)) (X0_1 m c t) j) ?_
  exact sum_eq fun k => congrArg₂ (fun a b : EReal => a * b) (Xn_apply m c (t.val / 20) (by omega) _ k) (weight_apply m c t _ k)

/-- What a row of blocks writes back to the gates is its block of `Gate`. -/
theorem flushed4_eq (c : Dev nD) (t : Fin cfg0.N) :
    (dats m 0 c).flushed 4 t = ((cfg0.win 4).blk t).view.read (Elt Ideal)
      (Gate (m ((c : Thread nD τ).loc main_arg0)) (m ((c : Thread nD τ).loc main_arg1)) (m ((c : Thread nD τ).loc main_arg2))) := by
  obtain ⟨-, -, -, -, -, -, e40, e41⟩ := index_facts t
  have ht : t.val < 320 := t.isLt
  funext j
  have e : ((cfg0.win 4).blk t).view.emb j = ix2 ⟨1024 * (t.val / 20) + (j 0).val, by have h : (j 0).val < 1024 := (j 0).isLt; show _ < 16384; omega⟩
      ⟨(j 1).val, (j 1).isLt⟩ := by
    funext a; apply Fin.ext
    match a with
    | ⟨0, _⟩ => show win0_4.index t (0 : Fin 2) * 1024 + 1 * (j 0).val = 1024 * (t.val / 20) + (j 0).val; omega
    | ⟨1, _⟩ => show win0_4.index t (1 : Fin 2) * 128 + 1 * (j 1).val = (j 1).val; omega
  refine Eq.trans ?_ (congrArg (Gate _ _ _) e).symm
  refine Eq.trans (pay2_apply (iblk m c 2 pt0) (Xn m c (t.val / 20)) j) ?_
  by_cases h : (j 1).val < 8
  · rw [dif_pos h]
    refine Eq.trans ?_ (gate_low _ _ _ _ _ h).symm
    exact sum_eq fun k => congrArg₂ (fun a b : EReal => a * b) (Xn_apply m c (t.val / 20) (by omega) _ k) (gate_weight_apply m c _ k)
  · rw [dif_neg h]
    exact (gate_high _ _ _ _ _ h).symm

/-- Every element of the main result lies in some grid point's block. -/
theorem covered3 (i : S16384x10240.Idx) :
    ∃ t : Fin cfg0.N, (cfg0.win 3).flush t = true ∧ i ∈ ((cfg0.win 3).blk t).view.set := by
  have h0 : (i 0).val < 16384 := (i 0).isLt
  have h1 : (i 1).val < 10240 := (i 1).isLt
  have hN : cfg0.N = 320 := by decide
  let t : Fin cfg0.N := ⟨(i 0).val / 1024 * 20 + (i 1).val / 512, by omega⟩
  have ht : t.val = (i 0).val / 1024 * 20 + (i 1).val / 512 := rfl
  refine ⟨t, flush0_3 t, ?_⟩
  obtain ⟨-, -, -, -, e0, e1, -⟩ := index_facts t
  have h := ((cfg0.win 3).blk t).view.emb_mem_set
    (ix2 (n0 := 1024) (n1 := 512) ⟨(i 0).val % 1024, Nat.mod_lt _ (by norm_num)⟩ ⟨(i 1).val % 512, Nat.mod_lt _ (by norm_num)⟩)
  have e : ((cfg0.win 3).blk t).view.emb
      (ix2 (n0 := 1024) (n1 := 512) ⟨(i 0).val % 1024, Nat.mod_lt _ (by norm_num)⟩ ⟨(i 1).val % 512, Nat.mod_lt _ (by norm_num)⟩) = i := by
    funext a; apply Fin.ext
    match a with
    | ⟨0, _⟩ => show win0_3.index t (0 : Fin 2) * 1024 + 1 * ((i 0).val % 1024) = (i 0).val; omega
    | ⟨1, _⟩ => show win0_3.index t (1 : Fin 2) * 512 + 1 * ((i 1).val % 512) = (i 1).val; omega
  rwa [e] at h

/-- Every element of the gates lies in the block of some row's last grid point. -/
theorem covered4 (i : S16384x128.Idx) :
    ∃ t : Fin cfg0.N, (cfg0.win 4).flush t = true ∧ i ∈ ((cfg0.win 4).blk t).view.set := by
  have h0 : (i 0).val < 16384 := (i 0).isLt
  have h1 : (i 1).val < 128 := (i 1).isLt
  have hN : cfg0.N = 320 := by decide
  let t : Fin cfg0.N := ⟨(i 0).val / 1024 * 20 + 19, by omega⟩
  have ht : t.val = (i 0).val / 1024 * 20 + 19 := rfl
  refine ⟨t, (flush0_4 t).mpr (by omega), ?_⟩
  obtain ⟨-, -, -, -, -, -, e0, e1⟩ := index_facts t
  have h := ((cfg0.win 4).blk t).view.emb_mem_set
    (ix2 (n0 := 1024) (n1 := 128) ⟨(i 0).val % 1024, Nat.mod_lt _ (by norm_num)⟩ ⟨(i 1).val, h1⟩)
  have e : ((cfg0.win 4).blk t).view.emb
      (ix2 (n0 := 1024) (n1 := 128) ⟨(i 0).val % 1024, Nat.mod_lt _ (by norm_num)⟩ ⟨(i 1).val, h1⟩) = i := by
    funext a; apply Fin.ext
    match a with
    | ⟨0, _⟩ => show win0_4.index t (0 : Fin 2) * 1024 + 1 * ((i 0).val % 1024) = (i 0).val; omega
    | ⟨1, _⟩ => show win0_4.index t (1 : Fin 2) * 128 + 1 * (i 1).val = (i 1).val; omega
  rwa [e] at h

/-- The main result after the run. -/
theorem final3 (c : Dev nD) : (dats m 0 c).arrAt 3 cfg0.N
    = Main (m ((c : Thread nD τ).loc main_arg0)) (m ((c : Thread nD τ).loc main_arg1)) (m ((c : Thread nD τ).loc main_arg2)) :=
  (dats m 0 c).arrAt_eq_of_cover 3 _ (fun t _ => flushed3_eq m c t) covered3

/-- The gates after the run. -/
theorem final4 (c : Dev nD) : (dats m 0 c).arrAt 4 cfg0.N
    = Gate (m ((c : Thread nD τ).loc main_arg0)) (m ((c : Thread nD τ).loc main_arg1)) (m ((c : Thread nD τ).loc main_arg2)) :=
  (dats m 0 c).arrAt_eq_of_cover 4 _ (fun t _ => flushed4_eq m c t) covered4

/-- The kernel's run: its results as functions of its arguments, which end unchanged. -/
theorem kernel_run (g : Dev nD → PrngReg) :
    θ_run defs (onTc (τ := τ) (main (F := Ideal))) ⟨m, fun _ => 0, g⟩ (fun r => ∀ c : Dev nD,
      r.2.mem ((c.tc : Thread nD τ).loc main_v2_0)
          = Main (m ((c : Thread nD τ).loc main_arg0)) (m ((c : Thread nD τ).loc main_arg1)) (m ((c : Thread nD τ).loc main_arg2))
      ∧ r.2.mem ((c.tc : Thread nD τ).loc main_v2_1)
          = Gate (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final3 m c), ((h.1 c).1 4).trans (final4 m c),
        ((h.1 c).2 main_arg0 (Pipeline.mem_restRefs_of main_arg0 (by decide) (by decide))).trans (V_main_arg0 m c),
        ((h.1 c).2 main_arg1 (Pipeline.mem_restRefs_of main_arg1 (by decide) (by decide))).trans (V_main_arg1 m c),
        ((h.1 c).2 main_arg2 (Pipeline.mem_restRefs_of main_arg2 (by decide) (by decide))).trans (V_main_arg2 m c)⟩)
    (run_main m g)

open Cert in
/-- The kernel's and the reference's runs end with equal results. -/
theorem algebraic (hK : Cert.Kernel3Ideal.Facts) (hR : Cert.Reference3Ideal.Facts) :
    algebraic_Kernel3Ideal_Reference3Ideal (hKernel3Ideal := hK) (hReference3Ideal := hR) := by
  intro m g m' g' _ hagree
  refine ⟨fun c => Main (m ((c : Thread nD τ).loc main_arg0)) (m ((c : Thread nD τ).loc main_arg1)) (m ((c : Thread nD τ).loc main_arg2)),
    fun c => Gate (m ((c : Thread nD τ).loc main_arg0)) (m ((c : Thread nD τ).loc main_arg1)) (m ((c : Thread nD τ).loc main_arg2)),
    kernel_run m g,
    (θ_run Cert.Reference3Ideal.defs _ _).mono (fun r h c => ⟨(h c).1.trans ?_, (h c).2.1.trans ?_, (h c).2.2⟩) (Cert.Reference3Ideal.Value.run m' g')⟩
  · obtain ⟨h0, h1, h2⟩ := hagree c
    rw [h0, h1, h2]
    exact (Cert.Reference3Ideal.Read.val_main_v15_eq _ _ _).trans (ref15_eq _ _ _)
  · obtain ⟨h0, h1, h2⟩ := hagree c
    rw [h0, h1, h2]
    exact (Cert.Reference3Ideal.Read.val_main_v17_eq _ _ _).trans (ref17_eq _ _ _)

end Cert.Proof.InProj

end
-- ==== Proof.GmlpCell.lean ====
/- One cell of the gMLP's output tile: 128 positions by one group's 128 channels, from the loads the kernel makes. -/
module

public import proofs.«01_k».proof.Proof.Gen.Kernel4Ideal.Skeleton
public import Idealize.ShloMosaic.Lib.Pointwise

@[expose] public section

set_option maxRecDepth 16384

noncomputable section

namespace Cert.Proof.Gmlp

open Cert.Kernel4Ideal Cert.Kernel4Ideal.Gen Idealize.ShloMosaic Idealize.ShloMosaic.TcCoe Idealize.SL.Sem

/-- The gelu of one number, in its tanh form. -/
def gelu (a : EReal) : EReal :=
  a * (Ideal.ofBits .f32 0x3F000000#32 * (Ideal.ofBits .f32 0x3F800000#32
    + Ideal.tanh (Ideal.ofBits .f32 0x3F4C422A#32 * (a + Ideal.ofBits .f32 0x3D372713#32 * (a * (a * a))))))

/-- One row's scale, of its sum of squares. -/
def scale (s : EReal) : EReal := Ideal.rsqrt (Ideal.div s (Ideal.ofBits .f32 0x45000000#32) + Ideal.ofBits .f32 0x358637BD#32)

/-- The gelu of 128 rows. -/
theorem gu_apply (a : Vec Ideal S128x2048 .bf16) (i : S128x2048.Idx) : k0_pay23 a i = gelu (a i) := by
  unfold_payloads
  pointwise [gelu]

/-- The normalized gelu of 128 rows. -/
def VN (a : Vec Ideal S128x2048 .bf16) (gv : Vec Ideal S1x2048 .f32) : FVec Ideal S128x2048 .bf16 :=
  k0_pay27 (k0_pay24 a) (k0_pay25 gv) (k0_pay26 a)

/-- The normalized gelu of 128 rows, at one element. -/
theorem vn_apply (a : Vec Ideal S128x2048 .bf16) (gv : Vec Ideal S1x2048 .f32) (i : S128x2048.Idx) :
    VN a gv i = gelu (a i) * scale (∑ k : Fin 2048, gelu (a (ix2 (i 0) k)) * gelu (a (ix2 (i 0) k))) * gv (ix2 0 (i 1)) := by
  unfold VN
  unfold_payloads
  pointwise [gelu, scale]

/-- One cell as the kernel writes it: the group's columns of the gate times the mixed, normalized rows plus the bias. -/
def cell (off : Nat) (h : S128x2048.Slices ![0, off] S128x128) (u : FVec Ideal S128x2048 .f32) (v : FVec Ideal S128x2048 .bf16)
    (w : Vec Ideal S1x128x128 .bf16) (b : Vec Ideal S128x1 .f32) : FVec Ideal S128x128 .bf16 :=
  truncf .bf16 (mulf (extractStridedSlice S128x128 ![0, off] u h)
    (addf (matmul (F := Ideal) dot_S128x128_S128x128_S128x128_1_0_0_1_n_n none (shapeCast S128x128 w shapeCasts_S1x128x128_S128x128 : FVec Ideal S128x128 .bf16)
        (extractStridedSlice S128x128 ![0, off] v h) (constant S128x128 .f32 0x00000000#32))
      (broadcastTo S128x128 (shapeCast S128x1 b shapeCasts_S128x1_S128x1 : FVec Ideal S128x1 .f32) broadcasts_S128x1_S128x128))) bitsLt_bf16_f32

/-- A cell at one element. -/
theorem cell_apply (off : Nat) (hoff : off + 128 ≤ 2048) (h : S128x2048.Slices ![0, off] S128x128) (u : FVec Ideal S128x2048 .f32) (v : FVec Ideal S128x2048 .bf16)
    (w : Vec Ideal S1x128x128 .bf16) (b : Vec Ideal S128x1 .f32) (x : S128x128.Idx) :
    cell off h u v w b x = u (ix2 (x 0) ⟨off + (x 1).val, by have h1 : (x 1).val < 128 := (x 1).isLt; omega⟩)
      * ((∑ k : Fin 128, w (ix3 0 (x 0) k) * v (ix2 k ⟨off + (x 1).val, by have h1 : (x 1).val < 128 := (x 1).isLt; omega⟩)) + b (ix2 (x 0) 0)) := by
  unfold cell
  pointwise

end Cert.Proof.Gmlp

end
-- ==== Proof.GmlpTile.lean ====
/- The gMLP's tile at a grid point: what the kernel leaves in its output and in its masked weight, cell by cell. -/
module

public import proofs.«01_k».proof.Proof.GmlpCell
public import proofs.«01_k».proof.Proof.Gen.Kernel4Ideal.Frame
public import Idealize.ShloMosaic.Lib.Pipeline.ReadBack
public import Idealize.ShloMosaic.Lib.WholeRead

@[expose] public section

set_option maxRecDepth 16384

noncomputable section

namespace Cert.Proof.Gmlp

open Cert.Kernel4Ideal Cert.Kernel4Ideal.Gen Idealize.ShloMosaic Idealize.ShloMosaic.TcCoe Idealize.SL.Sem

/-- The normalized gelu of a tile's rows. -/
def vn {n : Nat} (x1 : FVec Ideal ⟨2, ![n, 2048]⟩ .bf16) (x2 : FVec Ideal S1x2048 .f32) : FVec Ideal ⟨2, ![n, 2048]⟩ .bf16 := fun i =>
  gelu (x1 i) * scale (∑ k : Fin 2048, gelu (x1 (ix2 (i 0) k)) * gelu (x1 (ix2 (i 0) k))) * x2 (ix2 0 (i 1))

/-- The output's tile as one function of the loaded tiles and the masked weight. -/
def T (x0 x1 : Vec Ideal S512x2048 .bf16) (x2 : Vec Ideal S1x2048 .f32) (s : Vec Ideal S16x128x128 .bf16) (x4 : Vec Ideal S128x16 .f32) :
    Vec Ideal S512x2048 .bf16 := fun j =>
  gelu (x0 j) * ((∑ k : Fin 128, s (ix3 ⟨(j 1).val / 128, by have h : (j 1).val < 2048 := (j 1).isLt; omega⟩ ⟨(j 0).val % 128, Nat.mod_lt _ (by norm_num)⟩ k)
      * vn x1 x2 (ix2 ⟨(j 0).val / 128 * 128 + k.val, by have h : (j 0).val < 512 := (j 0).isLt; have := k.isLt; omega⟩ (j 1)))
    + x4 (ix2 ⟨(j 0).val % 128, Nat.mod_lt _ (by norm_num)⟩ ⟨(j 1).val / 128, by have h : (j 1).val < 2048 := (j 1).isLt; omega⟩))

/-- The causal weight: zero above the diagonal. -/
def W (x3 : Vec Ideal S16x128x128 .f32) : Vec Ideal S16x128x128 .bf16 := fun i => if (i 2).val ≤ (i 1).val then x3 i else 0

/-- A cell computed from loads that sit where they should is the tile's cell. -/
theorem piece (ci g : Nat) (hci : ci < 4) (hg : g < 16) (h : S128x2048.Slices ![0, g * 128] S128x128)
    (a b : Vec Ideal S128x2048 .bf16) (gv : Vec Ideal S1x2048 .f32) (w : Vec Ideal S1x128x128 .bf16) (z : Vec Ideal S128x1 .f32)
    (x0 x1 : Vec Ideal S512x2048 .bf16) (x2 : Vec Ideal S1x2048 .f32) (s : Vec Ideal S16x128x128 .bf16) (x4 : Vec Ideal S128x16 .f32)
    (ha : ∀ y : S128x2048.Idx, a y = x0 (ix2 ⟨ci * 128 + (y 0).val, by have h : (y 0).val < 128 := (y 0).isLt; omega⟩ (y 1)))
    (hb : ∀ y : S128x2048.Idx, b y = x1 (ix2 ⟨ci * 128 + (y 0).val, by have h : (y 0).val < 128 := (y 0).isLt; omega⟩ (y 1)))
    (hgv : ∀ y, gv y = x2 y) (hw : ∀ p q : Fin 128, w (ix3 0 p q) = s (ix3 ⟨g, hg⟩ p q)) (hz : ∀ p : Fin 128, z (ix2 p 0) = x4 (ix2 p ⟨g, hg⟩))
    (x : S128x128.Idx) (j : S512x2048.Idx) (h0 : (j 0).val = ci * 128 + (x 0).val) (h1 : (j 1).val = g * 128 + (x 1).val) :
    cell (g * 128) h (k0_pay23 a) (VN b gv) w z x = T x0 x1 x2 s x4 j := by
  have l0 : (x 0).val < 128 := (x 0).isLt
  have l1 : (x 1).val < 128 := (x 1).isLt
  obtain rfl : gv = x2 := funext hgv
  have b0 : ci * 128 + (x 0).val < 512 := by omega
  have b1 : g * 128 + (x 1).val < 2048 := by omega
  have hj : j = ix2 (n0 := 512) (n1 := 2048) ⟨ci * 128 + (x 0).val, b0⟩ ⟨g * 128 + (x 1).val, b1⟩ := by
    funext e; apply Fin.ext
    match e with
    | ⟨0, _⟩ => exact h0
    | ⟨1, _⟩ => exact h1
  subst hj
  have e0 : (ci * 128 + (x 0).val) % 128 = (x 0).val := by omega
  have e1 : (g * 128 + (x 1).val) / 128 = g := by omega
  have e2 : (ci * 128 + (x 0).val) / 128 = ci := by omega
  rw [cell_apply _ (by omega), gu_apply, ha]
  unfold T
  refine congrArg₂ (fun a b : EReal => a * b) rfl (congrArg₂ (fun a b : EReal => a + b) (Finset.sum_congr rfl fun k _ => ?_) ?_)
  · refine congrArg₂ (fun a b : EReal => a * b) ((hw _ _).trans (congrArg s ?_)) ((vn_apply _ _ _).trans ?_)
    · funext e; apply Fin.ext
      match e with
      | ⟨0, _⟩ => exact e1.symm
      | ⟨1, _⟩ => exact e0.symm
      | ⟨2, _⟩ => rfl
    · have er : ∀ q : Fin 2048, b (ix2 k q) = x1 (ix2 ⟨(ci * 128 + (x 0).val) / 128 * 128 + k.val, by have := k.isLt; omega⟩ q) := fun q =>
        (hb _).trans (congrArg x1 (by
          funext e; apply Fin.ext
          match e with
          | ⟨0, _⟩ => exact congrArg (· * 128 + k.val) e2.symm
          | ⟨1, _⟩ => rfl))
      refine congrArg₂ (fun a b : EReal => a * b) (congrArg₂ (fun a b : EReal => a * b) (congrArg gelu (er _)) (congrArg scale (Finset.sum_congr rfl fun q _ => ?_))) rfl
      exact congrArg (fun a : EReal => gelu a * gelu a) (er q)
  · refine (hz _).trans (congrArg x4 ?_)
    funext e; apply Fin.ext
    match e with
    | ⟨0, _⟩ => exact e0.symm
    | ⟨1, _⟩ => exact e1.symm

/-- A covered place of a list of pieces of one function reads that function. -/
theorem canonOf {s : Shape} {e : EltTy} (G : s.Idx → Elt Ideal e) (L : List (View.Piece (Elt Ideal) s e)) (h : View.PiecesOf G L) (y : s.Idx)
    (hc : ∃ p ∈ L, y ∈ p.1.set) : View.canon L y = G y := by
  have e := View.canon_append_of_piecesOf G [] L h y hc
  rwa [List.append_nil] at e

section
variable (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S1x2048 .f32) (harg3 : arg3.IsWhole) (arg4 : Memref sig .tc .vmem S16x128x128 .f32) (harg4 : arg4.IsWhole) (arg5 : Memref sig .tc .vmem S128x16 .f32) (harg5 : arg5.IsWhole) (arg6 : Memref sig .tc .vmem S512x2048 .bf16) (harg6 : arg6.IsWhole) (arg7 : Memref sig .tc .vmem S16x128x128 .bf16) (harg7 : arg7.IsWhole)
  (x0 : Vec Ideal S512x2048 .bf16) (x1 : Vec Ideal S512x2048 .bf16) (x2 : Vec Ideal S1x2048 .f32) (x3 : Vec Ideal S16x128x128 .f32) (x4 : Vec Ideal S128x16 .f32) (xs0 : Vec Ideal S16x128x128 .bf16)

/-- A load of 128 whole rows of a tile. -/
abbrev rowsOf (m : Memref sig .tc .vmem S512x2048 .bf16) (hm : m.IsWhole) (X : Vec Ideal S512x2048 .bf16) (o : Nat) (inb : ∀ a, (![o, 0] : Fin 2 → Nat) a + S128x2048.size a ≤ S512x2048.size a) :
    Vec Ideal S128x2048 .bf16 :=
  View.readAt (Elt Ideal) m.view (Rect.unit (s := S512x2048) ![o, 0] S128x2048.size inb).toLoadRect (hm.unread X)

/-- A load of 128 whole rows, at one element. -/
theorem rowsOf_apply (m : Memref sig .tc .vmem S512x2048 .bf16) (hm : m.IsWhole) (X : Vec Ideal S512x2048 .bf16) (o : Nat) (inb : ∀ a, (![o, 0] : Fin 2 → Nat) a + S128x2048.size a ≤ S512x2048.size a)
    (y : S128x2048.Idx) (l : o + (y 0).val < 512) : rowsOf m hm X o inb y = X (ix2 ⟨o + (y 0).val, l⟩ (y 1)) := by
  refine (hm.readAt_unread X (Rect.unit (s := S512x2048) ![o, 0] S128x2048.size inb).toLoadRect y).trans (congrArg X ?_)
  funext e; apply Fin.ext
  match e with
  | ⟨0, _⟩ => show o + 1 * (y 0).val = o + (y 0).val; omega
  | ⟨1, _⟩ => show 0 + 1 * (y 1).val = (y 1).val; omega

/-- A load of the whole gain. -/
abbrev gainOf : Vec Ideal S1x2048 .f32 :=
  View.readAt (Elt Ideal) arg3.view (Rect.unit (s := S1x2048) ![0, 0] S1x2048.size inb_S1x2048_S1x2048_0_0).toLoadRect (harg3.unread x2)

/-- The gain's load reads the gain. -/
theorem gainOf_apply (y : S1x2048.Idx) : gainOf arg3 harg3 x2 y = x2 y := by
  refine (harg3.readAt_unread x2 (Rect.unit (s := S1x2048) ![0, 0] S1x2048.size inb_S1x2048_S1x2048_0_0).toLoadRect y).trans (congrArg x2 ?_)
  funext e; apply Fin.ext
  match e with
  | ⟨0, _⟩ => show 0 + 1 * (y 0).val = (y 0).val; omega
  | ⟨1, _⟩ => show 0 + 1 * (y 1).val = (y 1).val; omega

/-- A load of one group's masked weight, carried from the point before. -/
abbrev maskOf (g : Nat) (inb : ∀ a, (![g, 0, 0] : Fin 3 → Nat) a + S1x128x128.size a ≤ S16x128x128.size a) : Vec Ideal S1x128x128 .bf16 :=
  View.readAt (Elt Ideal) arg7.view (Rect.unit (s := S16x128x128) ![g, 0, 0] S1x128x128.size inb).toLoadRect (harg7.unread xs0)

/-- The masked weight's load, at one element. -/
theorem maskOf_apply (g : Nat) (hg : g < 16) (inb : ∀ a, (![g, 0, 0] : Fin 3 → Nat) a + S1x128x128.size a ≤ S16x128x128.size a) (p q : Fin 128) :
    maskOf arg7 harg7 xs0 g inb (ix3 0 p q) = xs0 (ix3 ⟨g, hg⟩ p q) := by
  refine (harg7.readAt_unread xs0 _ _).trans (congrArg xs0 ?_)
  funext e; apply Fin.ext
  match e with
  | ⟨0, _⟩ => show g + 1 * 0 = g; omega
  | ⟨1, _⟩ => show 0 + 1 * p.val = p.val; omega
  | ⟨2, _⟩ => show 0 + 1 * q.val = q.val; omega

/-- A load of one group's bias column. -/
abbrev biasOf (g : Nat) (inb : ∀ a, (![0, g] : Fin 2 → Nat) a + S128x1.size a ≤ S128x16.size a) : Vec Ideal S128x1 .f32 :=
  View.readAt (Elt Ideal) arg5.view (Rect.unit (s := S128x16) ![0, g] S128x1.size inb).toLoadRect (harg5.unread x4)

/-- The bias column's load, at one element. -/
theorem biasOf_apply (g : Nat) (hg : g < 16) (inb : ∀ a, (![0, g] : Fin 2 → Nat) a + S128x1.size a ≤ S128x16.size a) (p : Fin 128) :
    biasOf arg5 harg5 x4 g inb (ix2 p 0) = x4 (ix2 p ⟨g, hg⟩) := by
  refine (harg5.readAt_unread x4 _ _).trans (congrArg x4 ?_)
  funext e; apply Fin.ext
  match e with
  | ⟨0, _⟩ => show 0 + 1 * p.val = p.val; omega
  | ⟨1, _⟩ => show g + 1 * 0 = g; omega

/-- A cell from the loads, at its place in the tile. -/
theorem pieceAt (ci g : Nat) (hci : ci < 4) (hg : g < 16) (h : S128x2048.Slices ![0, g * 128] S128x128)
    (inb : ∀ a, (![ci * 128, 0] : Fin 2 → Nat) a + S128x2048.size a ≤ S512x2048.size a)
    (inb5 : ∀ a, (![0, g] : Fin 2 → Nat) a + S128x1.size a ≤ S128x16.size a)
    (inb6 : ∀ a, (![ci * 128, g * 128] : Fin 2 → Nat) a + S128x128.size a ≤ S512x2048.size a)
    (w : Vec Ideal S1x128x128 .bf16) (hw : ∀ p q : Fin 128, w (ix3 0 p q) = xs0 (ix3 ⟨g, hg⟩ p q)) (x : S128x128.Idx) :
    cell (g * 128) h (k0_pay23 (rowsOf arg1 harg1 x0 (ci * 128) inb)) (VN (rowsOf arg2 harg2 x1 (ci * 128) inb) (gainOf arg3 harg3 x2)) w (biasOf arg5 harg5 x4 g inb5) x
      = T x0 x1 x2 xs0 x4 ((Rect.unit (s := S512x2048) ![ci * 128, g * 128] S128x128.size inb6).emb x) := by
  have l (y : S128x2048.Idx) : ci * 128 + (y 0).val < 512 := by have h : (y 0).val < 128 := (y 0).isLt; omega
  refine piece ci g hci hg h _ _ _ w _ x0 x1 x2 xs0 x4 (fun y => rowsOf_apply _ _ _ _ _ y (l y)) (fun y => rowsOf_apply _ _ _ _ _ y (l y))
    (gainOf_apply arg3 harg3 x2) hw (fun p => biasOf_apply arg5 harg5 x4 g hg inb5 p) x _ ?_ ?_
  · show ci * 128 + 1 * (x 0).val = ci * 128 + (x 0).val; omega
  · show g * 128 + 1 * (x 1).val = g * 128 + (x 1).val; omega

/-- What a later point leaves in the output's tile. -/
theorem pieces_B (hc0 : ¬cond0_0 i) :
    View.PiecesOf (T x0 x1 x2 xs0 x4) (kernelRun0_B c i arg1 harg1 arg2 harg2 arg3 harg3 arg4 harg4 arg5 harg5 arg6 harg6 arg7 harg7 hc0 x0 x1 x2 x3 x4 xs0).1 := by
  unfold kernelRun0_B
  dsimp only
  refine ⟨(fun x => pieceAt arg1 harg1 arg2 harg2 arg3 harg3 arg5 harg5 x0 x1 x2 x4 xs0 3 15 (by decide) (by decide) slices_S128x2048_o0_1920_S128x128 inb_S512x2048_S128x2048_384_0 inb_S128x16_S128x1_0_15 inb_S512x2048_S128x128_384_1920 (maskOf arg7 harg7 xs0 15 inb_S16x128x128_S1x128x128_15_0_0) (maskOf_apply arg7 harg7 xs0 15 (by decide) _) x), ?_⟩
  refine ⟨(fun x => pieceAt arg1 harg1 arg2 harg2 arg3 harg3 arg5 harg5 x0 x1 x2 x4 xs0 3 14 (by decide) (by decide) slices_S128x2048_o0_1792_S128x128 inb_S512x2048_S128x2048_384_0 inb_S128x16_S128x1_0_14 inb_S512x2048_S128x128_384_1792 (maskOf arg7 harg7 xs0 14 inb_S16x128x128_S1x128x128_14_0_0) (maskOf_apply arg7 harg7 xs0 14 (by decide) _) x), ?_⟩
  refine ⟨(fun x => pieceAt arg1 harg1 arg2 harg2 arg3 harg3 arg5 harg5 x0 x1 x2 x4 xs0 3 13 (by decide) (by decide) slices_S128x2048_o0_1664_S128x128 inb_S512x2048_S128x2048_384_0 inb_S128x16_S128x1_0_13 inb_S512x2048_S128x128_384_1664 (maskOf arg7 harg7 xs0 13 inb_S16x128x128_S1x128x128_13_0_0) (maskOf_apply arg7 harg7 xs0 13 (by decide) _) x), ?_⟩
  refine ⟨(fun x => pieceAt arg1 harg1 arg2 harg2 arg3 harg3 arg5 harg5 x0 x1 x2 x4 xs0 3 12 (by decide) (by decide) slices_S128x2048_o0_1536_S128x128 inb_S512x2048_S128x2048_384_0 inb_S128x16_S128x1_0_12 inb_S512x2048_S128x128_384_1536 (maskOf arg7 harg7 xs0 12 inb_S16x128x128_S1x128x128_12_0_0) (maskOf_apply arg7 harg7 xs0 12 (by decide) _) x), ?_⟩
  refine ⟨(fun x => pieceAt arg1 harg1 arg2 harg2 arg3 harg3 arg5 harg5 x0 x1 x2 x4 xs0 3 11 (by decide) (by decide) slices_S128x2048_o0_1408_S128x128 inb_S512x2048_S128x2048_384_0 inb_S128x16_S128x1_0_11 inb_S512x2048_S128x128_384_1408 (maskOf arg7 harg7 xs0 11 inb_S16x128x128_S1x128x128_11_0_0) (maskOf_apply arg7 harg7 xs0 11 (by decide) _) x), ?_⟩
  refine ⟨(fun x => pieceAt arg1 harg1 arg2 harg2 arg3 harg3 arg5 harg5 x0 x1 x2 x4 xs0 3 10 (by decide) (by decide) slices_S128x2048_o0_1280_S128x128 inb_S512x2048_S128x2048_384_0 inb_S128x16_S128x1_0_10 inb_S512x2048_S128x128_384_1280 (maskOf arg7 harg7 xs0 10 inb_S16x128x128_S1x128x128_10_0_0) (maskOf_apply arg7 harg7 xs0 10 (by decide) _) x), ?_⟩
  refine ⟨(fun x => pieceAt arg1 harg1 arg2 harg2 arg3 harg3 arg5 harg5 x0 x1 x2 x4 xs0 3 9 (by decide) (by decide) slices_S128x2048_o0_1152_S128x128 inb_S512x2048_S128x2048_384_0 inb_S128x16_S128x1_0_9 inb_S512x2048_S128x128_384_1152 (maskOf arg7 harg7 xs0 9 inb_S16x128x128_S1x128x128_9_0_0) (maskOf_apply arg7 harg7 xs0 9 (by decide) _) x), ?_⟩
  refine ⟨(fun x => pieceAt arg1 harg1 arg2 harg2 arg3 harg3 arg5 harg5 x0 x1 x2 x4 xs0 3 8 (by decide) (by decide) slices_S128x2048_o0_1024_S128x128 inb_S512x2048_S128x2048_384_0 inb_S128x16_S128x1_0_8 inb_S512x2048_S128x128_384_1024 (maskOf arg7 harg7 xs0 8 inb_S16x128x128_S1x128x128_8_0_0) (maskOf_apply arg7 harg7 xs0 8 (by decide) _) x), ?_⟩
  refine ⟨(fun x => pieceAt arg1 harg1 arg2 harg2 arg3 harg3 arg5 harg5 x0 x1 x2 x4 xs0 3 7 (by decide) (by decide) slices_S128x2048_o0_896_S128x128 inb_S512x2048_S128x2048_384_0 inb_S128x16_S128x1_0_7 inb_S512x2048_S128x128_384_896 (maskOf arg7 harg7 xs0 7 inb_S16x128x128_S1x128x128_7_0_0) (maskOf_apply arg7 harg7 xs0 7 (by decide) _) x), ?_⟩
  refine ⟨(fun x => pieceAt arg1 harg1 arg2 harg2 arg3 harg3 arg5 harg5 x0 x1 x2 x4 xs0 3 6 (by decide) (by decide) slices_S128x2048_o0_768_S128x128 inb_S512x2048_S128x2048_384_0 inb_S128x16_S128x1_0_6 inb_S512x2048_S128x128_384_768 (maskOf arg7 harg7 xs0 6 inb_S16x128x128_S1x128x128_6_0_0) (maskOf_apply arg7 harg7 xs0 6 (by decide) _) x), ?_⟩
  refine ⟨(fun x => pieceAt arg1 harg1 arg2 harg2 arg3 harg3 arg5 harg5 x0 x1 x2 x4 xs0 3 5 (by decide) (by decide) slices_S128x2048_o0_640_S128x128 inb_S512x2048_S128x2048_384_0 inb_S128x16_S128x1_0_5 inb_S512x2048_S128x128_384_640 (maskOf arg7 harg7 xs0 5 inb_S16x128x128_S1x128x128_5_0_0) (maskOf_apply arg7 harg7 xs0 5 (by decide) _) x), ?_⟩
  refine ⟨(fun x => pieceAt arg1 harg1 arg2 harg2 arg3 harg3 arg5 harg5 x0 x1 x2 x4 xs0 3 4 (by decide) (by decide) slices_S128x2048_o0_512_S128x128 inb_S512x2048_S128x2048_384_0 inb_S128x16_S128x1_0_4 inb_S512x2048_S128x128_384_512 (maskOf arg7 harg7 xs0 4 inb_S16x128x128_S1x128x128_4_0_0) (maskOf_apply arg7 harg7 xs0 4 (by decide) _) x), ?_⟩
  refine ⟨(fun x => pieceAt arg1 harg1 arg2 harg2 arg3 harg3 arg5 harg5 x0 x1 x2 x4 xs0 3 3 (by decide) (by decide) slices_S128x2048_o0_384_S128x128 inb_S512x2048_S128x2048_384_0 inb_S128x16_S128x1_0_3 inb_S512x2048_S128x128_384_384 (maskOf arg7 harg7 xs0 3 inb_S16x128x128_S1x128x128_3_0_0) (maskOf_apply arg7 harg7 xs0 3 (by decide) _) x), ?_⟩
  refine ⟨(fun x => pieceAt arg1 harg1 arg2 harg2 arg3 harg3 arg5 harg5 x0 x1 x2 x4 xs0 3 2 (by decide) (by decide) slices_S128x2048_o0_256_S128x128 inb_S512x2048_S128x2048_384_0 inb_S128x16_S128x1_0_2 inb_S512x2048_S128x128_384_256 (maskOf arg7 harg7 xs0 2 inb_S16x128x128_S1x128x128_2_0_0) (maskOf_apply arg7 harg7 xs0 2 (by decide) _) x), ?_⟩
  refine ⟨(fun x => pieceAt arg1 harg1 arg2 harg2 arg3 harg3 arg5 harg5 x0 x1 x2 x4 xs0 3 1 (by decide) (by decide) slices_S128x2048_o0_128_S128x128 inb_S512x2048_S128x2048_384_0 inb_S128x16_S128x1_0_1 inb_S512x2048_S128x128_384_128 (maskOf arg7 harg7 xs0 1 inb_S16x128x128_S1x128x128_1_0_0) (maskOf_apply arg7 harg7 xs0 1 (by decide) _) x), ?_⟩
  refine ⟨(fun x => pieceAt arg1 harg1 arg2 harg2 arg3 harg3 arg5 harg5 x0 x1 x2 x4 xs0 3 0 (by decide) (by decide) slices_S128x2048_o0_0_S128x128 inb_S512x2048_S128x2048_384_0 inb_S128x16_S128x1_0_0 inb_S512x2048_S128x128_384_0 (maskOf arg7 harg7 xs0 0 inb_S16x128x128_S1x128x128_0_0_0) (maskOf_apply arg7 harg7 xs0 0 (by decide) _) x), ?_⟩
  refine ⟨(fun x => pieceAt arg1 harg1 arg2 harg2 arg3 harg3 arg5 harg5 x0 x1 x2 x4 xs0 2 15 (by decide) (by decide) slices_S128x2048_o0_1920_S128x128 inb_S512x2048_S128x2048_256_0 inb_S128x16_S128x1_0_15 inb_S512x2048_S128x128_256_1920 (maskOf arg7 harg7 xs0 15 inb_S16x128x128_S1x128x128_15_0_0) (maskOf_apply arg7 harg7 xs0 15 (by decide) _) x), ?_⟩
  refine ⟨(fun x => pieceAt arg1 harg1 arg2 harg2 arg3 harg3 arg5 harg5 x0 x1 x2 x4 xs0 2 14 (by decide) (by decide) slices_S128x2048_o0_1792_S128x128 inb_S512x2048_S128x2048_256_0 inb_S128x16_S128x1_0_14 inb_S512x2048_S128x128_256_1792 (maskOf arg7 harg7 xs0 14 inb_S16x128x128_S1x128x128_14_0_0) (maskOf_apply arg7 harg7 xs0 14 (by decide) _) x), ?_⟩
  refine ⟨(fun x => pieceAt arg1 harg1 arg2 harg2 arg3 harg3 arg5 harg5 x0 x1 x2 x4 xs0 2 13 (by decide) (by decide) slices_S128x2048_o0_1664_S128x128 inb_S512x2048_S128x2048_256_0 inb_S128x16_S128x1_0_13 inb_S512x2048_S128x128_256_1664 (maskOf arg7 harg7 xs0 13 inb_S16x128x128_S1x128x128_13_0_0) (maskOf_apply arg7 harg7 xs0 13 (by decide) _) x), ?_⟩
  refine ⟨(fun x => pieceAt arg1 harg1 arg2 harg2 arg3 harg3 arg5 harg5 x0 x1 x2 x4 xs0 2 12 (by decide) (by decide) slices_S128x2048_o0_1536_S128x128 inb_S512x2048_S128x2048_256_0 inb_S128x16_S128x1_0_12 inb_S512x2048_S128x128_256_1536 (maskOf arg7 harg7 xs0 12 inb_S16x128x128_S1x128x128_12_0_0) (maskOf_apply arg7 harg7 xs0 12 (by decide) _) x), ?_⟩
  refine ⟨(fun x => pieceAt arg1 harg1 arg2 harg2 arg3 harg3 arg5 harg5 x0 x1 x2 x4 xs0 2 11 (by decide) (by decide) slices_S128x2048_o0_1408_S128x128 inb_S512x2048_S128x2048_256_0 inb_S128x16_S128x1_0_11 inb_S512x2048_S128x128_256_1408 (maskOf arg7 harg7 xs0 11 inb_S16x128x128_S1x128x128_11_0_0) (maskOf_apply arg7 harg7 xs0 11 (by decide) _) x), ?_⟩
  refine ⟨(fun x => pieceAt arg1 harg1 arg2 harg2 arg3 harg3 arg5 harg5 x0 x1 x2 x4 xs0 2 10 (by decide) (by decide) slices_S128x2048_o0_1280_S128x128 inb_S512x2048_S128x2048_256_0 inb_S128x16_S128x1_0_10 inb_S512x2048_S128x128_256_1280 (maskOf arg7 harg7 xs0 10 inb_S16x128x128_S1x128x128_10_0_0) (maskOf_apply arg7 harg7 xs0 10 (by decide) _) x), ?_⟩
  refine ⟨(fun x => pieceAt arg1 harg1 arg2 harg2 arg3 harg3 arg5 harg5 x0 x1 x2 x4 xs0 2 9 (by decide) (by decide) slices_S128x2048_o0_1152_S128x128 inb_S512x2048_S128x2048_256_0 inb_S128x16_S128x1_0_9 inb_S512x2048_S128x128_256_1152 (maskOf arg7 harg7 xs0 9 inb_S16x128x128_S1x128x128_9_0_0) (maskOf_apply arg7 harg7 xs0 9 (by decide) _) x), ?_⟩
  refine ⟨(fun x => pieceAt arg1 harg1 arg2 harg2 arg3 harg3 arg5 harg5 x0 x1 x2 x4 xs0 2 8 (by decide) (by decide) slices_S128x2048_o0_1024_S128x128 inb_S512x2048_S128x2048_256_0 inb_S128x16_S128x1_0_8 inb_S512x2048_S128x128_256_1024 (maskOf arg7 harg7 xs0 8 inb_S16x128x128_S1x128x128_8_0_0) (maskOf_apply arg7 harg7 xs0 8 (by decide) _) x), ?_⟩
  refine ⟨(fun x => pieceAt arg1 harg1 arg2 harg2 arg3 harg3 arg5 harg5 x0 x1 x2 x4 xs0 2 7 (by decide) (by decide) slices_S128x2048_o0_896_S128x128 inb_S512x2048_S128x2048_256_0 inb_S128x16_S128x1_0_7 inb_S512x2048_S128x128_256_896 (maskOf arg7 harg7 xs0 7 inb_S16x128x128_S1x128x128_7_0_0) (maskOf_apply arg7 harg7 xs0 7 (by decide) _) x), ?_⟩
  refine ⟨(fun x => pieceAt arg1 harg1 arg2 harg2 arg3 harg3 arg5 harg5 x0 x1 x2 x4 xs0 2 6 (by decide) (by decide) slices_S128x2048_o0_768_S128x128 inb_S512x2048_S128x2048_256_0 inb_S128x16_S128x1_0_6 inb_S512x2048_S128x128_256_768 (maskOf arg7 harg7 xs0 6 inb_S16x128x128_S1x128x128_6_0_0) (maskOf_apply arg7 harg7 xs0 6 (by decide) _) x), ?_⟩
  refine ⟨(fun x => pieceAt arg1 harg1 arg2 harg2 arg3 harg3 arg5 harg5 x0 x1 x2 x4 xs0 2 5 (by decide) (by decide) slices_S128x2048_o0_640_S128x128 inb_S512x2048_S128x2048_256_0 inb_S128x16_S128x1_0_5 inb_S512x2048_S128x128_256_640 (maskOf arg7 harg7 xs0 5 inb_S16x128x128_S1x128x128_5_0_0) (maskOf_apply arg7 harg7 xs0 5 (by decide) _) x), ?_⟩
  refine ⟨(fun x => pieceAt arg1 harg1 arg2 harg2 arg3 harg3 arg5 harg5 x0 x1 x2 x4 xs0 2 4 (by decide) (by decide) slices_S128x2048_o0_512_S128x128 inb_S512x2048_S128x2048_256_0 inb_S128x16_S128x1_0_4 inb_S512x2048_S128x128_256_512 (maskOf arg7 harg7 xs0 4 inb_S16x128x128_S1x128x128_4_0_0) (maskOf_apply arg7 harg7 xs0 4 (by decide) _) x), ?_⟩
  refine ⟨(fun x => pieceAt arg1 harg1 arg2 harg2 arg3 harg3 arg5 harg5 x0 x1 x2 x4 xs0 2 3 (by decide) (by decide) slices_S128x2048_o0_384_S128x128 inb_S512x2048_S128x2048_256_0 inb_S128x16_S128x1_0_3 inb_S512x2048_S128x128_256_384 (maskOf arg7 harg7 xs0 3 inb_S16x128x128_S1x128x128_3_0_0) (maskOf_apply arg7 harg7 xs0 3 (by decide) _) x), ?_⟩
  refine ⟨(fun x => pieceAt arg1 harg1 arg2 harg2 arg3 harg3 arg5 harg5 x0 x1 x2 x4 xs0 2 2 (by decide) (by decide) slices_S128x2048_o0_256_S128x128 inb_S512x2048_S128x2048_256_0 inb_S128x16_S128x1_0_2 inb_S512x2048_S128x128_256_256 (maskOf arg7 harg7 xs0 2 inb_S16x128x128_S1x128x128_2_0_0) (maskOf_apply arg7 harg7 xs0 2 (by decide) _) x), ?_⟩
  refine ⟨(fun x => pieceAt arg1 harg1 arg2 harg2 arg3 harg3 arg5 harg5 x0 x1 x2 x4 xs0 2 1 (by decide) (by decide) slices_S128x2048_o0_128_S128x128 inb_S512x2048_S128x2048_256_0 inb_S128x16_S128x1_0_1 inb_S512x2048_S128x128_256_128 (maskOf arg7 harg7 xs0 1 inb_S16x128x128_S1x128x128_1_0_0) (maskOf_apply arg7 harg7 xs0 1 (by decide) _) x), ?_⟩
  refine ⟨(fun x => pieceAt arg1 harg1 arg2 harg2 arg3 harg3 arg5 harg5 x0 x1 x2 x4 xs0 2 0 (by decide) (by decide) slices_S128x2048_o0_0_S128x128 inb_S512x2048_S128x2048_256_0 inb_S128x16_S128x1_0_0 inb_S512x2048_S128x128_256_0 (maskOf arg7 harg7 xs0 0 inb_S16x128x128_S1x128x128_0_0_0) (maskOf_apply arg7 harg7 xs0 0 (by decide) _) x), ?_⟩
  refine ⟨(fun x => pieceAt arg1 harg1 arg2 harg2 arg3 harg3 arg5 harg5 x0 x1 x2 x4 xs0 1 15 (by decide) (by decide) slices_S128x2048_o0_1920_S128x128 inb_S512x2048_S128x2048_128_0 inb_S128x16_S128x1_0_15 inb_S512x2048_S128x128_128_1920 (maskOf arg7 harg7 xs0 15 inb_S16x128x128_S1x128x128_15_0_0) (maskOf_apply arg7 harg7 xs0 15 (by decide) _) x), ?_⟩
  refine ⟨(fun x => pieceAt arg1 harg1 arg2 harg2 arg3 harg3 arg5 harg5 x0 x1 x2 x4 xs0 1 14 (by decide) (by decide) slices_S128x2048_o0_1792_S128x128 inb_S512x2048_S128x2048_128_0 inb_S128x16_S128x1_0_14 inb_S512x2048_S128x128_128_1792 (maskOf arg7 harg7 xs0 14 inb_S16x128x128_S1x128x128_14_0_0) (maskOf_apply arg7 harg7 xs0 14 (by decide) _) x), ?_⟩
  refine ⟨(fun x => pieceAt arg1 harg1 arg2 harg2 arg3 harg3 arg5 harg5 x0 x1 x2 x4 xs0 1 13 (by decide) (by decide) slices_S128x2048_o0_1664_S128x128 inb_S512x2048_S128x2048_128_0 inb_S128x16_S128x1_0_13 inb_S512x2048_S128x128_128_1664 (maskOf arg7 harg7 xs0 13 inb_S16x128x128_S1x128x128_13_0_0) (maskOf_apply arg7 harg7 xs0 13 (by decide) _) x), ?_⟩
  refine ⟨(fun x => pieceAt arg1 harg1 arg2 harg2 arg3 harg3 arg5 harg5 x0 x1 x2 x4 xs0 1 12 (by decide) (by decide) slices_S128x2048_o0_1536_S128x128 inb_S512x2048_S128x2048_128_0 inb_S128x16_S128x1_0_12 inb_S512x2048_S128x128_128_1536 (maskOf arg7 harg7 xs0 12 inb_S16x128x128_S1x128x128_12_0_0) (maskOf_apply arg7 harg7 xs0 12 (by decide) _) x), ?_⟩
  refine ⟨(fun x => pieceAt arg1 harg1 arg2 harg2 arg3 harg3 arg5 harg5 x0 x1 x2 x4 xs0 1 11 (by decide) (by decide) slices_S128x2048_o0_1408_S128x128 inb_S512x2048_S128x2048_128_0 inb_S128x16_S128x1_0_11 inb_S512x2048_S128x128_128_1408 (maskOf arg7 harg7 xs0 11 inb_S16x128x128_S1x128x128_11_0_0) (maskOf_apply arg7 harg7 xs0 11 (by decide) _) x), ?_⟩
  refine ⟨(fun x => pieceAt arg1 harg1 arg2 harg2 arg3 harg3 arg5 harg5 x0 x1 x2 x4 xs0 1 10 (by decide) (by decide) slices_S128x2048_o0_1280_S128x128 inb_S512x2048_S128x2048_128_0 inb_S128x16_S128x1_0_10 inb_S512x2048_S128x128_128_1280 (maskOf arg7 harg7 xs0 10 inb_S16x128x128_S1x128x128_10_0_0) (maskOf_apply arg7 harg7 xs0 10 (by decide) _) x), ?_⟩
  refine ⟨(fun x => pieceAt arg1 harg1 arg2 harg2 arg3 harg3 arg5 harg5 x0 x1 x2 x4 xs0 1 9 (by decide) (by decide) slices_S128x2048_o0_1152_S128x128 inb_S512x2048_S128x2048_128_0 inb_S128x16_S128x1_0_9 inb_S512x2048_S128x128_128_1152 (maskOf arg7 harg7 xs0 9 inb_S16x128x128_S1x128x128_9_0_0) (maskOf_apply arg7 harg7 xs0 9 (by decide) _) x), ?_⟩
  refine ⟨(fun x => pieceAt arg1 harg1 arg2 harg2 arg3 harg3 arg5 harg5 x0 x1 x2 x4 xs0 1 8 (by decide) (by decide) slices_S128x2048_o0_1024_S128x128 inb_S512x2048_S128x2048_128_0 inb_S128x16_S128x1_0_8 inb_S512x2048_S128x128_128_1024 (maskOf arg7 harg7 xs0 8 inb_S16x128x128_S1x128x128_8_0_0) (maskOf_apply arg7 harg7 xs0 8 (by decide) _) x), ?_⟩
  refine ⟨(fun x => pieceAt arg1 harg1 arg2 harg2 arg3 harg3 arg5 harg5 x0 x1 x2 x4 xs0 1 7 (by decide) (by decide) slices_S128x2048_o0_896_S128x128 inb_S512x2048_S128x2048_128_0 inb_S128x16_S128x1_0_7 inb_S512x2048_S128x128_128_896 (maskOf arg7 harg7 xs0 7 inb_S16x128x128_S1x128x128_7_0_0) (maskOf_apply arg7 harg7 xs0 7 (by decide) _) x), ?_⟩
  refine ⟨(fun x => pieceAt arg1 harg1 arg2 harg2 arg3 harg3 arg5 harg5 x0 x1 x2 x4 xs0 1 6 (by decide) (by decide) slices_S128x2048_o0_768_S128x128 inb_S512x2048_S128x2048_128_0 inb_S128x16_S128x1_0_6 inb_S512x2048_S128x128_128_768 (maskOf arg7 harg7 xs0 6 inb_S16x128x128_S1x128x128_6_0_0) (maskOf_apply arg7 harg7 xs0 6 (by decide) _) x), ?_⟩
  refine ⟨(fun x => pieceAt arg1 harg1 arg2 harg2 arg3 harg3 arg5 harg5 x0 x1 x2 x4 xs0 1 5 (by decide) (by decide) slices_S128x2048_o0_640_S128x128 inb_S512x2048_S128x2048_128_0 inb_S128x16_S128x1_0_5 inb_S512x2048_S128x128_128_640 (maskOf arg7 harg7 xs0 5 inb_S16x128x128_S1x128x128_5_0_0) (maskOf_apply arg7 harg7 xs0 5 (by decide) _) x), ?_⟩
  refine ⟨(fun x => pieceAt arg1 harg1 arg2 harg2 arg3 harg3 arg5 harg5 x0 x1 x2 x4 xs0 1 4 (by decide) (by decide) slices_S128x2048_o0_512_S128x128 inb_S512x2048_S128x2048_128_0 inb_S128x16_S128x1_0_4 inb_S512x2048_S128x128_128_512 (maskOf arg7 harg7 xs0 4 inb_S16x128x128_S1x128x128_4_0_0) (maskOf_apply arg7 harg7 xs0 4 (by decide) _) x), ?_⟩
  refine ⟨(fun x => pieceAt arg1 harg1 arg2 harg2 arg3 harg3 arg5 harg5 x0 x1 x2 x4 xs0 1 3 (by decide) (by decide) slices_S128x2048_o0_384_S128x128 inb_S512x2048_S128x2048_128_0 inb_S128x16_S128x1_0_3 inb_S512x2048_S128x128_128_384 (maskOf arg7 harg7 xs0 3 inb_S16x128x128_S1x128x128_3_0_0) (maskOf_apply arg7 harg7 xs0 3 (by decide) _) x), ?_⟩
  refine ⟨(fun x => pieceAt arg1 harg1 arg2 harg2 arg3 harg3 arg5 harg5 x0 x1 x2 x4 xs0 1 2 (by decide) (by decide) slices_S128x2048_o0_256_S128x128 inb_S512x2048_S128x2048_128_0 inb_S128x16_S128x1_0_2 inb_S512x2048_S128x128_128_256 (maskOf arg7 harg7 xs0 2 inb_S16x128x128_S1x128x128_2_0_0) (maskOf_apply arg7 harg7 xs0 2 (by decide) _) x), ?_⟩
  refine ⟨(fun x => pieceAt arg1 harg1 arg2 harg2 arg3 harg3 arg5 harg5 x0 x1 x2 x4 xs0 1 1 (by decide) (by decide) slices_S128x2048_o0_128_S128x128 inb_S512x2048_S128x2048_128_0 inb_S128x16_S128x1_0_1 inb_S512x2048_S128x128_128_128 (maskOf arg7 harg7 xs0 1 inb_S16x128x128_S1x128x128_1_0_0) (maskOf_apply arg7 harg7 xs0 1 (by decide) _) x), ?_⟩
  refine ⟨(fun x => pieceAt arg1 harg1 arg2 harg2 arg3 harg3 arg5 harg5 x0 x1 x2 x4 xs0 1 0 (by decide) (by decide) slices_S128x2048_o0_0_S128x128 inb_S512x2048_S128x2048_128_0 inb_S128x16_S128x1_0_0 inb_S512x2048_S128x128_128_0 (maskOf arg7 harg7 xs0 0 inb_S16x128x128_S1x128x128_0_0_0) (maskOf_apply arg7 harg7 xs0 0 (by decide) _) x), ?_⟩
  refine ⟨(fun x => pieceAt arg1 harg1 arg2 harg2 arg3 harg3 arg5 harg5 x0 x1 x2 x4 xs0 0 15 (by decide) (by decide) slices_S128x2048_o0_1920_S128x128 inb_S512x2048_S128x2048_0_0 inb_S128x16_S128x1_0_15 inb_S512x2048_S128x128_0_1920 (maskOf arg7 harg7 xs0 15 inb_S16x128x128_S1x128x128_15_0_0) (maskOf_apply arg7 harg7 xs0 15 (by decide) _) x), ?_⟩
  refine ⟨(fun x => pieceAt arg1 harg1 arg2 harg2 arg3 harg3 arg5 harg5 x0 x1 x2 x4 xs0 0 14 (by decide) (by decide) slices_S128x2048_o0_1792_S128x128 inb_S512x2048_S128x2048_0_0 inb_S128x16_S128x1_0_14 inb_S512x2048_S128x128_0_1792 (maskOf arg7 harg7 xs0 14 inb_S16x128x128_S1x128x128_14_0_0) (maskOf_apply arg7 harg7 xs0 14 (by decide) _) x), ?_⟩
  refine ⟨(fun x => pieceAt arg1 harg1 arg2 harg2 arg3 harg3 arg5 harg5 x0 x1 x2 x4 xs0 0 13 (by decide) (by decide) slices_S128x2048_o0_1664_S128x128 inb_S512x2048_S128x2048_0_0 inb_S128x16_S128x1_0_13 inb_S512x2048_S128x128_0_1664 (maskOf arg7 harg7 xs0 13 inb_S16x128x128_S1x128x128_13_0_0) (maskOf_apply arg7 harg7 xs0 13 (by decide) _) x), ?_⟩
  refine ⟨(fun x => pieceAt arg1 harg1 arg2 harg2 arg3 harg3 arg5 harg5 x0 x1 x2 x4 xs0 0 12 (by decide) (by decide) slices_S128x2048_o0_1536_S128x128 inb_S512x2048_S128x2048_0_0 inb_S128x16_S128x1_0_12 inb_S512x2048_S128x128_0_1536 (maskOf arg7 harg7 xs0 12 inb_S16x128x128_S1x128x128_12_0_0) (maskOf_apply arg7 harg7 xs0 12 (by decide) _) x), ?_⟩
  refine ⟨(fun x => pieceAt arg1 harg1 arg2 harg2 arg3 harg3 arg5 harg5 x0 x1 x2 x4 xs0 0 11 (by decide) (by decide) slices_S128x2048_o0_1408_S128x128 inb_S512x2048_S128x2048_0_0 inb_S128x16_S128x1_0_11 inb_S512x2048_S128x128_0_1408 (maskOf arg7 harg7 xs0 11 inb_S16x128x128_S1x128x128_11_0_0) (maskOf_apply arg7 harg7 xs0 11 (by decide) _) x), ?_⟩
  refine ⟨(fun x => pieceAt arg1 harg1 arg2 harg2 arg3 harg3 arg5 harg5 x0 x1 x2 x4 xs0 0 10 (by decide) (by decide) slices_S128x2048_o0_1280_S128x128 inb_S512x2048_S128x2048_0_0 inb_S128x16_S128x1_0_10 inb_S512x2048_S128x128_0_1280 (maskOf arg7 harg7 xs0 10 inb_S16x128x128_S1x128x128_10_0_0) (maskOf_apply arg7 harg7 xs0 10 (by decide) _) x), ?_⟩
  refine ⟨(fun x => pieceAt arg1 harg1 arg2 harg2 arg3 harg3 arg5 harg5 x0 x1 x2 x4 xs0 0 9 (by decide) (by decide) slices_S128x2048_o0_1152_S128x128 inb_S512x2048_S128x2048_0_0 inb_S128x16_S128x1_0_9 inb_S512x2048_S128x128_0_1152 (maskOf arg7 harg7 xs0 9 inb_S16x128x128_S1x128x128_9_0_0) (maskOf_apply arg7 harg7 xs0 9 (by decide) _) x), ?_⟩
  refine ⟨(fun x => pieceAt arg1 harg1 arg2 harg2 arg3 harg3 arg5 harg5 x0 x1 x2 x4 xs0 0 8 (by decide) (by decide) slices_S128x2048_o0_1024_S128x128 inb_S512x2048_S128x2048_0_0 inb_S128x16_S128x1_0_8 inb_S512x2048_S128x128_0_1024 (maskOf arg7 harg7 xs0 8 inb_S16x128x128_S1x128x128_8_0_0) (maskOf_apply arg7 harg7 xs0 8 (by decide) _) x), ?_⟩
  refine ⟨(fun x => pieceAt arg1 harg1 arg2 harg2 arg3 harg3 arg5 harg5 x0 x1 x2 x4 xs0 0 7 (by decide) (by decide) slices_S128x2048_o0_896_S128x128 inb_S512x2048_S128x2048_0_0 inb_S128x16_S128x1_0_7 inb_S512x2048_S128x128_0_896 (maskOf arg7 harg7 xs0 7 inb_S16x128x128_S1x128x128_7_0_0) (maskOf_apply arg7 harg7 xs0 7 (by decide) _) x), ?_⟩
  refine ⟨(fun x => pieceAt arg1 harg1 arg2 harg2 arg3 harg3 arg5 harg5 x0 x1 x2 x4 xs0 0 6 (by decide) (by decide) slices_S128x2048_o0_768_S128x128 inb_S512x2048_S128x2048_0_0 inb_S128x16_S128x1_0_6 inb_S512x2048_S128x128_0_768 (maskOf arg7 harg7 xs0 6 inb_S16x128x128_S1x128x128_6_0_0) (maskOf_apply arg7 harg7 xs0 6 (by decide) _) x), ?_⟩
  refine ⟨(fun x => pieceAt arg1 harg1 arg2 harg2 arg3 harg3 arg5 harg5 x0 x1 x2 x4 xs0 0 5 (by decide) (by decide) slices_S128x2048_o0_640_S128x128 inb_S512x2048_S128x2048_0_0 inb_S128x16_S128x1_0_5 inb_S512x2048_S128x128_0_640 (maskOf arg7 harg7 xs0 5 inb_S16x128x128_S1x128x128_5_0_0) (maskOf_apply arg7 harg7 xs0 5 (by decide) _) x), ?_⟩
  refine ⟨(fun x => pieceAt arg1 harg1 arg2 harg2 arg3 harg3 arg5 harg5 x0 x1 x2 x4 xs0 0 4 (by decide) (by decide) slices_S128x2048_o0_512_S128x128 inb_S512x2048_S128x2048_0_0 inb_S128x16_S128x1_0_4 inb_S512x2048_S128x128_0_512 (maskOf arg7 harg7 xs0 4 inb_S16x128x128_S1x128x128_4_0_0) (maskOf_apply arg7 harg7 xs0 4 (by decide) _) x), ?_⟩
  refine ⟨(fun x => pieceAt arg1 harg1 arg2 harg2 arg3 harg3 arg5 harg5 x0 x1 x2 x4 xs0 0 3 (by decide) (by decide) slices_S128x2048_o0_384_S128x128 inb_S512x2048_S128x2048_0_0 inb_S128x16_S128x1_0_3 inb_S512x2048_S128x128_0_384 (maskOf arg7 harg7 xs0 3 inb_S16x128x128_S1x128x128_3_0_0) (maskOf_apply arg7 harg7 xs0 3 (by decide) _) x), ?_⟩
  refine ⟨(fun x => pieceAt arg1 harg1 arg2 harg2 arg3 harg3 arg5 harg5 x0 x1 x2 x4 xs0 0 2 (by decide) (by decide) slices_S128x2048_o0_256_S128x128 inb_S512x2048_S128x2048_0_0 inb_S128x16_S128x1_0_2 inb_S512x2048_S128x128_0_256 (maskOf arg7 harg7 xs0 2 inb_S16x128x128_S1x128x128_2_0_0) (maskOf_apply arg7 harg7 xs0 2 (by decide) _) x), ?_⟩
  refine ⟨(fun x => pieceAt arg1 harg1 arg2 harg2 arg3 harg3 arg5 harg5 x0 x1 x2 x4 xs0 0 1 (by decide) (by decide) slices_S128x2048_o0_128_S128x128 inb_S512x2048_S128x2048_0_0 inb_S128x16_S128x1_0_1 inb_S512x2048_S128x128_0_128 (maskOf arg7 harg7 xs0 1 inb_S16x128x128_S1x128x128_1_0_0) (maskOf_apply arg7 harg7 xs0 1 (by decide) _) x), ?_⟩
  refine ⟨(fun x => pieceAt arg1 harg1 arg2 harg2 arg3 harg3 arg5 harg5 x0 x1 x2 x4 xs0 0 0 (by decide) (by decide) slices_S128x2048_o0_0_S128x128 inb_S512x2048_S128x2048_0_0 inb_S128x16_S128x1_0_0 inb_S512x2048_S128x128_0_0 (maskOf arg7 harg7 xs0 0 inb_S16x128x128_S1x128x128_0_0_0) (maskOf_apply arg7 harg7 xs0 0 (by decide) _) x), ?_⟩
  trivial

/-- One group's masked weight, as the first point stores it. -/
theorem maskPiece (g : Nat) (hg : g < 16) (inb : ∀ a, (![g, 0, 0] : Fin 3 → Nat) a + S1x128x128.size a ≤ S16x128x128.size a)
    (x : S1x128x128.Idx) :
    k0_pay2 (View.readAt (Elt Ideal) arg4.view (Rect.unit (s := S16x128x128) ![g, 0, 0] S1x128x128.size inb).toLoadRect (harg4.unread x3)) x
      = W x3 ((Rect.unit (s := S16x128x128) ![g, 0, 0] S1x128x128.size inb).emb x) := by
  have e : ∀ y, View.readAt (Elt Ideal) arg4.view (Rect.unit (s := S16x128x128) ![g, 0, 0] S1x128x128.size inb).toLoadRect (harg4.unread x3) y
      = x3 ((Rect.unit (s := S16x128x128) ![g, 0, 0] S1x128x128.size inb).emb y) := fun y => harg4.readAt_unread x3 _ y
  generalize View.readAt (Elt Ideal) arg4.view (Rect.unit (s := S16x128x128) ![g, 0, 0] S1x128x128.size inb).toLoadRect (harg4.unread x3) = y at e
  have e1 : (((Rect.unit (s := S16x128x128) ![g, 0, 0] S1x128x128.size inb).emb x) 1).val = (x 1).val := by show 0 + 1 * (x 1).val = (x 1).val; omega
  have e2 : (((Rect.unit (s := S16x128x128) ![g, 0, 0] S1x128x128.size inb).emb x) 2).val = (x 2).val := by show 0 + 1 * (x 2).val = (x 2).val; omega
  unfold W
  rw [e1, e2, ← e]
  unfold_payloads
  pointwise
  have l1 : (x 1).val < 128 := (x 1).isLt
  have l2 : (x 2).val < 128 := (x 2).isLt
  rw [WordCmp.cmpi_sle_ofNat (by omega) (by omega)]
  by_cases h : (x 2).val ≤ (x 1).val
  · rw [if_pos h, decide_eq_true h]; rfl
  · rw [if_neg h, decide_eq_false h]; rfl

/-- What the first point stores of the masked weight. -/
theorem masks_A (hc0 : cond0_0 i) :
    View.PiecesOf (W x3) (kernelRun0_A c i arg1 harg1 arg2 harg2 arg3 harg3 arg4 harg4 arg5 harg5 arg6 harg6 arg7 harg7 hc0 x0 x1 x2 x3 x4).2.1 := by
  unfold kernelRun0_A
  dsimp only
  refine ⟨fun x => maskPiece arg4 harg4 x3 15 (by decide) inb_S16x128x128_S1x128x128_15_0_0 x, ?_⟩
  refine ⟨fun x => maskPiece arg4 harg4 x3 14 (by decide) inb_S16x128x128_S1x128x128_14_0_0 x, ?_⟩
  refine ⟨fun x => maskPiece arg4 harg4 x3 13 (by decide) inb_S16x128x128_S1x128x128_13_0_0 x, ?_⟩
  refine ⟨fun x => maskPiece arg4 harg4 x3 12 (by decide) inb_S16x128x128_S1x128x128_12_0_0 x, ?_⟩
  refine ⟨fun x => maskPiece arg4 harg4 x3 11 (by decide) inb_S16x128x128_S1x128x128_11_0_0 x, ?_⟩
  refine ⟨fun x => maskPiece arg4 harg4 x3 10 (by decide) inb_S16x128x128_S1x128x128_10_0_0 x, ?_⟩
  refine ⟨fun x => maskPiece arg4 harg4 x3 9 (by decide) inb_S16x128x128_S1x128x128_9_0_0 x, ?_⟩
  refine ⟨fun x => maskPiece arg4 harg4 x3 8 (by decide) inb_S16x128x128_S1x128x128_8_0_0 x, ?_⟩
  refine ⟨fun x => maskPiece arg4 harg4 x3 7 (by decide) inb_S16x128x128_S1x128x128_7_0_0 x, ?_⟩
  refine ⟨fun x => maskPiece arg4 harg4 x3 6 (by decide) inb_S16x128x128_S1x128x128_6_0_0 x, ?_⟩
  refine ⟨fun x => maskPiece arg4 harg4 x3 5 (by decide) inb_S16x128x128_S1x128x128_5_0_0 x, ?_⟩
  refine ⟨fun x => maskPiece arg4 harg4 x3 4 (by decide) inb_S16x128x128_S1x128x128_4_0_0 x, ?_⟩
  refine ⟨fun x => maskPiece arg4 harg4 x3 3 (by decide) inb_S16x128x128_S1x128x128_3_0_0 x, ?_⟩
  refine ⟨fun x => maskPiece arg4 harg4 x3 2 (by decide) inb_S16x128x128_S1x128x128_2_0_0 x, ?_⟩
  refine ⟨fun x => maskPiece arg4 harg4 x3 1 (by decide) inb_S16x128x128_S1x128x128_1_0_0 x, ?_⟩
  refine ⟨fun x => maskPiece arg4 harg4 x3 0 (by decide) inb_S16x128x128_S1x128x128_0_0_0 x, ?_⟩
  trivial

include i harg1 harg2 harg3 harg5 harg6 harg7 x0 x1 x2 x4 in
/-- What the first point reads back of the masked weight it stored. -/
theorem maskCov_apply (hc0 : cond0_0 i) (g : Nat) (hg : g < 16) (inb : ∀ a, (![g, 0, 0] : Fin 3 → Nat) a + S1x128x128.size a ≤ S16x128x128.size a) (p q : Fin 128) :
    arg7.view.readCov (kernelRun0_A.sl.HS0_16 (F := Ideal) c arg4 harg4 x3) (Rect.unit (s := S16x128x128) ![g, 0, 0] S1x128x128.size inb).toLoadRect (ix3 0 p q)
      = W x3 (ix3 ⟨g, hg⟩ p q) := by
  rw [View.readCov_eq_canon']
  refine (canonOf (W x3) (kernelRun0_A.sl.HS0_16 (F := Ideal) c arg4 harg4 x3)
    (masks_A c i arg1 harg1 arg2 harg2 arg3 harg3 arg4 harg4 arg5 harg5 arg6 harg6 arg7 harg7 x0 x1 x2 x3 x4 hc0) _
    (scover0_A_0 c i arg1 harg1 arg2 harg2 arg3 harg3 arg4 harg4 arg5 harg5 arg6 harg6 arg7 harg7 hc0 x0 x1 x2 x3 x4 _)).trans (congrArg (W x3) ?_)
  funext e; apply Fin.ext
  match e with
  | ⟨0, _⟩ => show g + 1 * 0 = g; omega
  | ⟨1, _⟩ => show 0 + 1 * p.val = p.val; omega
  | ⟨2, _⟩ => show 0 + 1 * q.val = q.val; omega

/-- What the first point leaves in the output's tile. -/
theorem pieces_A (hc0 : cond0_0 i) :
    View.PiecesOf (T x0 x1 x2 (W x3) x4) (kernelRun0_A c i arg1 harg1 arg2 harg2 arg3 harg3 arg4 harg4 arg5 harg5 arg6 harg6 arg7 harg7 hc0 x0 x1 x2 x3 x4).1 := by
  have hw := maskCov_apply c i arg1 harg1 arg2 harg2 arg3 harg3 arg4 harg4 arg5 harg5 arg6 harg6 arg7 harg7 x0 x1 x2 x3 x4 hc0
  unfold kernelRun0_A
  dsimp only
  refine ⟨(fun x => pieceAt arg1 harg1 arg2 harg2 arg3 harg3 arg5 harg5 x0 x1 x2 x4 (W x3) 3 15 (by decide) (by decide) slices_S128x2048_o0_1920_S128x128 inb_S512x2048_S128x2048_384_0 inb_S128x16_S128x1_0_15 inb_S512x2048_S128x128_384_1920 (arg7.view.readCov (kernelRun0_A.sl.HS0_16 (F := Ideal) c arg4 harg4 x3) (Rect.unit (s := S16x128x128) ![15, 0, 0] S1x128x128.size inb_S16x128x128_S1x128x128_15_0_0).toLoadRect) (hw 15 (by decide) _) x), ?_⟩
  refine ⟨(fun x => pieceAt arg1 harg1 arg2 harg2 arg3 harg3 arg5 harg5 x0 x1 x2 x4 (W x3) 3 14 (by decide) (by decide) slices_S128x2048_o0_1792_S128x128 inb_S512x2048_S128x2048_384_0 inb_S128x16_S128x1_0_14 inb_S512x2048_S128x128_384_1792 (arg7.view.readCov (kernelRun0_A.sl.HS0_16 (F := Ideal) c arg4 harg4 x3) (Rect.unit (s := S16x128x128) ![14, 0, 0] S1x128x128.size inb_S16x128x128_S1x128x128_14_0_0).toLoadRect) (hw 14 (by decide) _) x), ?_⟩
  refine ⟨(fun x => pieceAt arg1 harg1 arg2 harg2 arg3 harg3 arg5 harg5 x0 x1 x2 x4 (W x3) 3 13 (by decide) (by decide) slices_S128x2048_o0_1664_S128x128 inb_S512x2048_S128x2048_384_0 inb_S128x16_S128x1_0_13 inb_S512x2048_S128x128_384_1664 (arg7.view.readCov (kernelRun0_A.sl.HS0_16 (F := Ideal) c arg4 harg4 x3) (Rect.unit (s := S16x128x128) ![13, 0, 0] S1x128x128.size inb_S16x128x128_S1x128x128_13_0_0).toLoadRect) (hw 13 (by decide) _) x), ?_⟩
  refine ⟨(fun x => pieceAt arg1 harg1 arg2 harg2 arg3 harg3 arg5 harg5 x0 x1 x2 x4 (W x3) 3 12 (by decide) (by decide) slices_S128x2048_o0_1536_S128x128 inb_S512x2048_S128x2048_384_0 inb_S128x16_S128x1_0_12 inb_S512x2048_S128x128_384_1536 (arg7.view.readCov (kernelRun0_A.sl.HS0_16 (F := Ideal) c arg4 harg4 x3) (Rect.unit (s := S16x128x128) ![12, 0, 0] S1x128x128.size inb_S16x128x128_S1x128x128_12_0_0).toLoadRect) (hw 12 (by decide) _) x), ?_⟩
  refine ⟨(fun x => pieceAt arg1 harg1 arg2 harg2 arg3 harg3 arg5 harg5 x0 x1 x2 x4 (W x3) 3 11 (by decide) (by decide) slices_S128x2048_o0_1408_S128x128 inb_S512x2048_S128x2048_384_0 inb_S128x16_S128x1_0_11 inb_S512x2048_S128x128_384_1408 (arg7.view.readCov (kernelRun0_A.sl.HS0_16 (F := Ideal) c arg4 harg4 x3) (Rect.unit (s := S16x128x128) ![11, 0, 0] S1x128x128.size inb_S16x128x128_S1x128x128_11_0_0).toLoadRect) (hw 11 (by decide) _) x), ?_⟩
  refine ⟨(fun x => pieceAt arg1 harg1 arg2 harg2 arg3 harg3 arg5 harg5 x0 x1 x2 x4 (W x3) 3 10 (by decide) (by decide) slices_S128x2048_o0_1280_S128x128 inb_S512x2048_S128x2048_384_0 inb_S128x16_S128x1_0_10 inb_S512x2048_S128x128_384_1280 (arg7.view.readCov (kernelRun0_A.sl.HS0_16 (F := Ideal) c arg4 harg4 x3) (Rect.unit (s := S16x128x128) ![10, 0, 0] S1x128x128.size inb_S16x128x128_S1x128x128_10_0_0).toLoadRect) (hw 10 (by decide) _) x), ?_⟩
  refine ⟨(fun x => pieceAt arg1 harg1 arg2 harg2 arg3 harg3 arg5 harg5 x0 x1 x2 x4 (W x3) 3 9 (by decide) (by decide) slices_S128x2048_o0_1152_S128x128 inb_S512x2048_S128x2048_384_0 inb_S128x16_S128x1_0_9 inb_S512x2048_S128x128_384_1152 (arg7.view.readCov (kernelRun0_A.sl.HS0_16 (F := Ideal) c arg4 harg4 x3) (Rect.unit (s := S16x128x128) ![9, 0, 0] S1x128x128.size inb_S16x128x128_S1x128x128_9_0_0).toLoadRect) (hw 9 (by decide) _) x), ?_⟩
  refine ⟨(fun x => pieceAt arg1 harg1 arg2 harg2 arg3 harg3 arg5 harg5 x0 x1 x2 x4 (W x3) 3 8 (by decide) (by decide) slices_S128x2048_o0_1024_S128x128 inb_S512x2048_S128x2048_384_0 inb_S128x16_S128x1_0_8 inb_S512x2048_S128x128_384_1024 (arg7.view.readCov (kernelRun0_A.sl.HS0_16 (F := Ideal) c arg4 harg4 x3) (Rect.unit (s := S16x128x128) ![8, 0, 0] S1x128x128.size inb_S16x128x128_S1x128x128_8_0_0).toLoadRect) (hw 8 (by decide) _) x), ?_⟩
  refine ⟨(fun x => pieceAt arg1 harg1 arg2 harg2 arg3 harg3 arg5 harg5 x0 x1 x2 x4 (W x3) 3 7 (by decide) (by decide) slices_S128x2048_o0_896_S128x128 inb_S512x2048_S128x2048_384_0 inb_S128x16_S128x1_0_7 inb_S512x2048_S128x128_384_896 (arg7.view.readCov (kernelRun0_A.sl.HS0_16 (F := Ideal) c arg4 harg4 x3) (Rect.unit (s := S16x128x128) ![7, 0, 0] S1x128x128.size inb_S16x128x128_S1x128x128_7_0_0).toLoadRect) (hw 7 (by decide) _) x), ?_⟩
  refine ⟨(fun x => pieceAt arg1 harg1 arg2 harg2 arg3 harg3 arg5 harg5 x0 x1 x2 x4 (W x3) 3 6 (by decide) (by decide) slices_S128x2048_o0_768_S128x128 inb_S512x2048_S128x2048_384_0 inb_S128x16_S128x1_0_6 inb_S512x2048_S128x128_384_768 (arg7.view.readCov (kernelRun0_A.sl.HS0_16 (F := Ideal) c arg4 harg4 x3) (Rect.unit (s := S16x128x128) ![6, 0, 0] S1x128x128.size inb_S16x128x128_S1x128x128_6_0_0).toLoadRect) (hw 6 (by decide) _) x), ?_⟩
  refine ⟨(fun x => pieceAt arg1 harg1 arg2 harg2 arg3 harg3 arg5 harg5 x0 x1 x2 x4 (W x3) 3 5 (by decide) (by decide) slices_S128x2048_o0_640_S128x128 inb_S512x2048_S128x2048_384_0 inb_S128x16_S128x1_0_5 inb_S512x2048_S128x128_384_640 (arg7.view.readCov (kernelRun0_A.sl.HS0_16 (F := Ideal) c arg4 harg4 x3) (Rect.unit (s := S16x128x128) ![5, 0, 0] S1x128x128.size inb_S16x128x128_S1x128x128_5_0_0).toLoadRect) (hw 5 (by decide) _) x), ?_⟩
  refine ⟨(fun x => pieceAt arg1 harg1 arg2 harg2 arg3 harg3 arg5 harg5 x0 x1 x2 x4 (W x3) 3 4 (by decide) (by decide) slices_S128x2048_o0_512_S128x128 inb_S512x2048_S128x2048_384_0 inb_S128x16_S128x1_0_4 inb_S512x2048_S128x128_384_512 (arg7.view.readCov (kernelRun0_A.sl.HS0_16 (F := Ideal) c arg4 harg4 x3) (Rect.unit (s := S16x128x128) ![4, 0, 0] S1x128x128.size inb_S16x128x128_S1x128x128_4_0_0).toLoadRect) (hw 4 (by decide) _) x), ?_⟩
  refine ⟨(fun x => pieceAt arg1 harg1 arg2 harg2 arg3 harg3 arg5 harg5 x0 x1 x2 x4 (W x3) 3 3 (by decide) (by decide) slices_S128x2048_o0_384_S128x128 inb_S512x2048_S128x2048_384_0 inb_S128x16_S128x1_0_3 inb_S512x2048_S128x128_384_384 (arg7.view.readCov (kernelRun0_A.sl.HS0_16 (F := Ideal) c arg4 harg4 x3) (Rect.unit (s := S16x128x128) ![3, 0, 0] S1x128x128.size inb_S16x128x128_S1x128x128_3_0_0).toLoadRect) (hw 3 (by decide) _) x), ?_⟩
  refine ⟨(fun x => pieceAt arg1 harg1 arg2 harg2 arg3 harg3 arg5 harg5 x0 x1 x2 x4 (W x3) 3 2 (by decide) (by decide) slices_S128x2048_o0_256_S128x128 inb_S512x2048_S128x2048_384_0 inb_S128x16_S128x1_0_2 inb_S512x2048_S128x128_384_256 (arg7.view.readCov (kernelRun0_A.sl.HS0_16 (F := Ideal) c arg4 harg4 x3) (Rect.unit (s := S16x128x128) ![2, 0, 0] S1x128x128.size inb_S16x128x128_S1x128x128_2_0_0).toLoadRect) (hw 2 (by decide) _) x), ?_⟩
  refine ⟨(fun x => pieceAt arg1 harg1 arg2 harg2 arg3 harg3 arg5 harg5 x0 x1 x2 x4 (W x3) 3 1 (by decide) (by decide) slices_S128x2048_o0_128_S128x128 inb_S512x2048_S128x2048_384_0 inb_S128x16_S128x1_0_1 inb_S512x2048_S128x128_384_128 (arg7.view.readCov (kernelRun0_A.sl.HS0_16 (F := Ideal) c arg4 harg4 x3) (Rect.unit (s := S16x128x128) ![1, 0, 0] S1x128x128.size inb_S16x128x128_S1x128x128_1_0_0).toLoadRect) (hw 1 (by decide) _) x), ?_⟩
  refine ⟨(fun x => pieceAt arg1 harg1 arg2 harg2 arg3 harg3 arg5 harg5 x0 x1 x2 x4 (W x3) 3 0 (by decide) (by decide) slices_S128x2048_o0_0_S128x128 inb_S512x2048_S128x2048_384_0 inb_S128x16_S128x1_0_0 inb_S512x2048_S128x128_384_0 (arg7.view.readCov (kernelRun0_A.sl.HS0_16 (F := Ideal) c arg4 harg4 x3) (Rect.unit (s := S16x128x128) ![0, 0, 0] S1x128x128.size inb_S16x128x128_S1x128x128_0_0_0).toLoadRect) (hw 0 (by decide) _) x), ?_⟩
  refine ⟨(fun x => pieceAt arg1 harg1 arg2 harg2 arg3 harg3 arg5 harg5 x0 x1 x2 x4 (W x3) 2 15 (by decide) (by decide) slices_S128x2048_o0_1920_S128x128 inb_S512x2048_S128x2048_256_0 inb_S128x16_S128x1_0_15 inb_S512x2048_S128x128_256_1920 (arg7.view.readCov (kernelRun0_A.sl.HS0_16 (F := Ideal) c arg4 harg4 x3) (Rect.unit (s := S16x128x128) ![15, 0, 0] S1x128x128.size inb_S16x128x128_S1x128x128_15_0_0).toLoadRect) (hw 15 (by decide) _) x), ?_⟩
  refine ⟨(fun x => pieceAt arg1 harg1 arg2 harg2 arg3 harg3 arg5 harg5 x0 x1 x2 x4 (W x3) 2 14 (by decide) (by decide) slices_S128x2048_o0_1792_S128x128 inb_S512x2048_S128x2048_256_0 inb_S128x16_S128x1_0_14 inb_S512x2048_S128x128_256_1792 (arg7.view.readCov (kernelRun0_A.sl.HS0_16 (F := Ideal) c arg4 harg4 x3) (Rect.unit (s := S16x128x128) ![14, 0, 0] S1x128x128.size inb_S16x128x128_S1x128x128_14_0_0).toLoadRect) (hw 14 (by decide) _) x), ?_⟩
  refine ⟨(fun x => pieceAt arg1 harg1 arg2 harg2 arg3 harg3 arg5 harg5 x0 x1 x2 x4 (W x3) 2 13 (by decide) (by decide) slices_S128x2048_o0_1664_S128x128 inb_S512x2048_S128x2048_256_0 inb_S128x16_S128x1_0_13 inb_S512x2048_S128x128_256_1664 (arg7.view.readCov (kernelRun0_A.sl.HS0_16 (F := Ideal) c arg4 harg4 x3) (Rect.unit (s := S16x128x128) ![13, 0, 0] S1x128x128.size inb_S16x128x128_S1x128x128_13_0_0).toLoadRect) (hw 13 (by decide) _) x), ?_⟩
  refine ⟨(fun x => pieceAt arg1 harg1 arg2 harg2 arg3 harg3 arg5 harg5 x0 x1 x2 x4 (W x3) 2 12 (by decide) (by decide) slices_S128x2048_o0_1536_S128x128 inb_S512x2048_S128x2048_256_0 inb_S128x16_S128x1_0_12 inb_S512x2048_S128x128_256_1536 (arg7.view.readCov (kernelRun0_A.sl.HS0_16 (F := Ideal) c arg4 harg4 x3) (Rect.unit (s := S16x128x128) ![12, 0, 0] S1x128x128.size inb_S16x128x128_S1x128x128_12_0_0).toLoadRect) (hw 12 (by decide) _) x), ?_⟩
  refine ⟨(fun x => pieceAt arg1 harg1 arg2 harg2 arg3 harg3 arg5 harg5 x0 x1 x2 x4 (W x3) 2 11 (by decide) (by decide) slices_S128x2048_o0_1408_S128x128 inb_S512x2048_S128x2048_256_0 inb_S128x16_S128x1_0_11 inb_S512x2048_S128x128_256_1408 (arg7.view.readCov (kernelRun0_A.sl.HS0_16 (F := Ideal) c arg4 harg4 x3) (Rect.unit (s := S16x128x128) ![11, 0, 0] S1x128x128.size inb_S16x128x128_S1x128x128_11_0_0).toLoadRect) (hw 11 (by decide) _) x), ?_⟩
  refine ⟨(fun x => pieceAt arg1 harg1 arg2 harg2 arg3 harg3 arg5 harg5 x0 x1 x2 x4 (W x3) 2 10 (by decide) (by decide) slices_S128x2048_o0_1280_S128x128 inb_S512x2048_S128x2048_256_0 inb_S128x16_S128x1_0_10 inb_S512x2048_S128x128_256_1280 (arg7.view.readCov (kernelRun0_A.sl.HS0_16 (F := Ideal) c arg4 harg4 x3) (Rect.unit (s := S16x128x128) ![10, 0, 0] S1x128x128.size inb_S16x128x128_S1x128x128_10_0_0).toLoadRect) (hw 10 (by decide) _) x), ?_⟩
  refine ⟨(fun x => pieceAt arg1 harg1 arg2 harg2 arg3 harg3 arg5 harg5 x0 x1 x2 x4 (W x3) 2 9 (by decide) (by decide) slices_S128x2048_o0_1152_S128x128 inb_S512x2048_S128x2048_256_0 inb_S128x16_S128x1_0_9 inb_S512x2048_S128x128_256_1152 (arg7.view.readCov (kernelRun0_A.sl.HS0_16 (F := Ideal) c arg4 harg4 x3) (Rect.unit (s := S16x128x128) ![9, 0, 0] S1x128x128.size inb_S16x128x128_S1x128x128_9_0_0).toLoadRect) (hw 9 (by decide) _) x), ?_⟩
  refine ⟨(fun x => pieceAt arg1 harg1 arg2 harg2 arg3 harg3 arg5 harg5 x0 x1 x2 x4 (W x3) 2 8 (by decide) (by decide) slices_S128x2048_o0_1024_S128x128 inb_S512x2048_S128x2048_256_0 inb_S128x16_S128x1_0_8 inb_S512x2048_S128x128_256_1024 (arg7.view.readCov (kernelRun0_A.sl.HS0_16 (F := Ideal) c arg4 harg4 x3) (Rect.unit (s := S16x128x128) ![8, 0, 0] S1x128x128.size inb_S16x128x128_S1x128x128_8_0_0).toLoadRect) (hw 8 (by decide) _) x), ?_⟩
  refine ⟨(fun x => pieceAt arg1 harg1 arg2 harg2 arg3 harg3 arg5 harg5 x0 x1 x2 x4 (W x3) 2 7 (by decide) (by decide) slices_S128x2048_o0_896_S128x128 inb_S512x2048_S128x2048_256_0 inb_S128x16_S128x1_0_7 inb_S512x2048_S128x128_256_896 (arg7.view.readCov (kernelRun0_A.sl.HS0_16 (F := Ideal) c arg4 harg4 x3) (Rect.unit (s := S16x128x128) ![7, 0, 0] S1x128x128.size inb_S16x128x128_S1x128x128_7_0_0).toLoadRect) (hw 7 (by decide) _) x), ?_⟩
  refine ⟨(fun x => pieceAt arg1 harg1 arg2 harg2 arg3 harg3 arg5 harg5 x0 x1 x2 x4 (W x3) 2 6 (by decide) (by decide) slices_S128x2048_o0_768_S128x128 inb_S512x2048_S128x2048_256_0 inb_S128x16_S128x1_0_6 inb_S512x2048_S128x128_256_768 (arg7.view.readCov (kernelRun0_A.sl.HS0_16 (F := Ideal) c arg4 harg4 x3) (Rect.unit (s := S16x128x128) ![6, 0, 0] S1x128x128.size inb_S16x128x128_S1x128x128_6_0_0).toLoadRect) (hw 6 (by decide) _) x), ?_⟩
  refine ⟨(fun x => pieceAt arg1 harg1 arg2 harg2 arg3 harg3 arg5 harg5 x0 x1 x2 x4 (W x3) 2 5 (by decide) (by decide) slices_S128x2048_o0_640_S128x128 inb_S512x2048_S128x2048_256_0 inb_S128x16_S128x1_0_5 inb_S512x2048_S128x128_256_640 (arg7.view.readCov (kernelRun0_A.sl.HS0_16 (F := Ideal) c arg4 harg4 x3) (Rect.unit (s := S16x128x128) ![5, 0, 0] S1x128x128.size inb_S16x128x128_S1x128x128_5_0_0).toLoadRect) (hw 5 (by decide) _) x), ?_⟩
  refine ⟨(fun x => pieceAt arg1 harg1 arg2 harg2 arg3 harg3 arg5 harg5 x0 x1 x2 x4 (W x3) 2 4 (by decide) (by decide) slices_S128x2048_o0_512_S128x128 inb_S512x2048_S128x2048_256_0 inb_S128x16_S128x1_0_4 inb_S512x2048_S128x128_256_512 (arg7.view.readCov (kernelRun0_A.sl.HS0_16 (F := Ideal) c arg4 harg4 x3) (Rect.unit (s := S16x128x128) ![4, 0, 0] S1x128x128.size inb_S16x128x128_S1x128x128_4_0_0).toLoadRect) (hw 4 (by decide) _) x), ?_⟩
  refine ⟨(fun x => pieceAt arg1 harg1 arg2 harg2 arg3 harg3 arg5 harg5 x0 x1 x2 x4 (W x3) 2 3 (by decide) (by decide) slices_S128x2048_o0_384_S128x128 inb_S512x2048_S128x2048_256_0 inb_S128x16_S128x1_0_3 inb_S512x2048_S128x128_256_384 (arg7.view.readCov (kernelRun0_A.sl.HS0_16 (F := Ideal) c arg4 harg4 x3) (Rect.unit (s := S16x128x128) ![3, 0, 0] S1x128x128.size inb_S16x128x128_S1x128x128_3_0_0).toLoadRect) (hw 3 (by decide) _) x), ?_⟩
  refine ⟨(fun x => pieceAt arg1 harg1 arg2 harg2 arg3 harg3 arg5 harg5 x0 x1 x2 x4 (W x3) 2 2 (by decide) (by decide) slices_S128x2048_o0_256_S128x128 inb_S512x2048_S128x2048_256_0 inb_S128x16_S128x1_0_2 inb_S512x2048_S128x128_256_256 (arg7.view.readCov (kernelRun0_A.sl.HS0_16 (F := Ideal) c arg4 harg4 x3) (Rect.unit (s := S16x128x128) ![2, 0, 0] S1x128x128.size inb_S16x128x128_S1x128x128_2_0_0).toLoadRect) (hw 2 (by decide) _) x), ?_⟩
  refine ⟨(fun x => pieceAt arg1 harg1 arg2 harg2 arg3 harg3 arg5 harg5 x0 x1 x2 x4 (W x3) 2 1 (by decide) (by decide) slices_S128x2048_o0_128_S128x128 inb_S512x2048_S128x2048_256_0 inb_S128x16_S128x1_0_1 inb_S512x2048_S128x128_256_128 (arg7.view.readCov (kernelRun0_A.sl.HS0_16 (F := Ideal) c arg4 harg4 x3) (Rect.unit (s := S16x128x128) ![1, 0, 0] S1x128x128.size inb_S16x128x128_S1x128x128_1_0_0).toLoadRect) (hw 1 (by decide) _) x), ?_⟩
  refine ⟨(fun x => pieceAt arg1 harg1 arg2 harg2 arg3 harg3 arg5 harg5 x0 x1 x2 x4 (W x3) 2 0 (by decide) (by decide) slices_S128x2048_o0_0_S128x128 inb_S512x2048_S128x2048_256_0 inb_S128x16_S128x1_0_0 inb_S512x2048_S128x128_256_0 (arg7.view.readCov (kernelRun0_A.sl.HS0_16 (F := Ideal) c arg4 harg4 x3) (Rect.unit (s := S16x128x128) ![0, 0, 0] S1x128x128.size inb_S16x128x128_S1x128x128_0_0_0).toLoadRect) (hw 0 (by decide) _) x), ?_⟩
  refine ⟨(fun x => pieceAt arg1 harg1 arg2 harg2 arg3 harg3 arg5 harg5 x0 x1 x2 x4 (W x3) 1 15 (by decide) (by decide) slices_S128x2048_o0_1920_S128x128 inb_S512x2048_S128x2048_128_0 inb_S128x16_S128x1_0_15 inb_S512x2048_S128x128_128_1920 (arg7.view.readCov (kernelRun0_A.sl.HS0_16 (F := Ideal) c arg4 harg4 x3) (Rect.unit (s := S16x128x128) ![15, 0, 0] S1x128x128.size inb_S16x128x128_S1x128x128_15_0_0).toLoadRect) (hw 15 (by decide) _) x), ?_⟩
  refine ⟨(fun x => pieceAt arg1 harg1 arg2 harg2 arg3 harg3 arg5 harg5 x0 x1 x2 x4 (W x3) 1 14 (by decide) (by decide) slices_S128x2048_o0_1792_S128x128 inb_S512x2048_S128x2048_128_0 inb_S128x16_S128x1_0_14 inb_S512x2048_S128x128_128_1792 (arg7.view.readCov (kernelRun0_A.sl.HS0_16 (F := Ideal) c arg4 harg4 x3) (Rect.unit (s := S16x128x128) ![14, 0, 0] S1x128x128.size inb_S16x128x128_S1x128x128_14_0_0).toLoadRect) (hw 14 (by decide) _) x), ?_⟩
  refine ⟨(fun x => pieceAt arg1 harg1 arg2 harg2 arg3 harg3 arg5 harg5 x0 x1 x2 x4 (W x3) 1 13 (by decide) (by decide) slices_S128x2048_o0_1664_S128x128 inb_S512x2048_S128x2048_128_0 inb_S128x16_S128x1_0_13 inb_S512x2048_S128x128_128_1664 (arg7.view.readCov (kernelRun0_A.sl.HS0_16 (F := Ideal) c arg4 harg4 x3) (Rect.unit (s := S16x128x128) ![13, 0, 0] S1x128x128.size inb_S16x128x128_S1x128x128_13_0_0).toLoadRect) (hw 13 (by decide) _) x), ?_⟩
  refine ⟨(fun x => pieceAt arg1 harg1 arg2 harg2 arg3 harg3 arg5 harg5 x0 x1 x2 x4 (W x3) 1 12 (by decide) (by decide) slices_S128x2048_o0_1536_S128x128 inb_S512x2048_S128x2048_128_0 inb_S128x16_S128x1_0_12 inb_S512x2048_S128x128_128_1536 (arg7.view.readCov (kernelRun0_A.sl.HS0_16 (F := Ideal) c arg4 harg4 x3) (Rect.unit (s := S16x128x128) ![12, 0, 0] S1x128x128.size inb_S16x128x128_S1x128x128_12_0_0).toLoadRect) (hw 12 (by decide) _) x), ?_⟩
  refine ⟨(fun x => pieceAt arg1 harg1 arg2 harg2 arg3 harg3 arg5 harg5 x0 x1 x2 x4 (W x3) 1 11 (by decide) (by decide) slices_S128x2048_o0_1408_S128x128 inb_S512x2048_S128x2048_128_0 inb_S128x16_S128x1_0_11 inb_S512x2048_S128x128_128_1408 (arg7.view.readCov (kernelRun0_A.sl.HS0_16 (F := Ideal) c arg4 harg4 x3) (Rect.unit (s := S16x128x128) ![11, 0, 0] S1x128x128.size inb_S16x128x128_S1x128x128_11_0_0).toLoadRect) (hw 11 (by decide) _) x), ?_⟩
  refine ⟨(fun x => pieceAt arg1 harg1 arg2 harg2 arg3 harg3 arg5 harg5 x0 x1 x2 x4 (W x3) 1 10 (by decide) (by decide) slices_S128x2048_o0_1280_S128x128 inb_S512x2048_S128x2048_128_0 inb_S128x16_S128x1_0_10 inb_S512x2048_S128x128_128_1280 (arg7.view.readCov (kernelRun0_A.sl.HS0_16 (F := Ideal) c arg4 harg4 x3) (Rect.unit (s := S16x128x128) ![10, 0, 0] S1x128x128.size inb_S16x128x128_S1x128x128_10_0_0).toLoadRect) (hw 10 (by decide) _) x), ?_⟩
  refine ⟨(fun x => pieceAt arg1 harg1 arg2 harg2 arg3 harg3 arg5 harg5 x0 x1 x2 x4 (W x3) 1 9 (by decide) (by decide) slices_S128x2048_o0_1152_S128x128 inb_S512x2048_S128x2048_128_0 inb_S128x16_S128x1_0_9 inb_S512x2048_S128x128_128_1152 (arg7.view.readCov (kernelRun0_A.sl.HS0_16 (F := Ideal) c arg4 harg4 x3) (Rect.unit (s := S16x128x128) ![9, 0, 0] S1x128x128.size inb_S16x128x128_S1x128x128_9_0_0).toLoadRect) (hw 9 (by decide) _) x), ?_⟩
  refine ⟨(fun x => pieceAt arg1 harg1 arg2 harg2 arg3 harg3 arg5 harg5 x0 x1 x2 x4 (W x3) 1 8 (by decide) (by decide) slices_S128x2048_o0_1024_S128x128 inb_S512x2048_S128x2048_128_0 inb_S128x16_S128x1_0_8 inb_S512x2048_S128x128_128_1024 (arg7.view.readCov (kernelRun0_A.sl.HS0_16 (F := Ideal) c arg4 harg4 x3) (Rect.unit (s := S16x128x128) ![8, 0, 0] S1x128x128.size inb_S16x128x128_S1x128x128_8_0_0).toLoadRect) (hw 8 (by decide) _) x), ?_⟩
  refine ⟨(fun x => pieceAt arg1 harg1 arg2 harg2 arg3 harg3 arg5 harg5 x0 x1 x2 x4 (W x3) 1 7 (by decide) (by decide) slices_S128x2048_o0_896_S128x128 inb_S512x2048_S128x2048_128_0 inb_S128x16_S128x1_0_7 inb_S512x2048_S128x128_128_896 (arg7.view.readCov (kernelRun0_A.sl.HS0_16 (F := Ideal) c arg4 harg4 x3) (Rect.unit (s := S16x128x128) ![7, 0, 0] S1x128x128.size inb_S16x128x128_S1x128x128_7_0_0).toLoadRect) (hw 7 (by decide) _) x), ?_⟩
  refine ⟨(fun x => pieceAt arg1 harg1 arg2 harg2 arg3 harg3 arg5 harg5 x0 x1 x2 x4 (W x3) 1 6 (by decide) (by decide) slices_S128x2048_o0_768_S128x128 inb_S512x2048_S128x2048_128_0 inb_S128x16_S128x1_0_6 inb_S512x2048_S128x128_128_768 (arg7.view.readCov (kernelRun0_A.sl.HS0_16 (F := Ideal) c arg4 harg4 x3) (Rect.unit (s := S16x128x128) ![6, 0, 0] S1x128x128.size inb_S16x128x128_S1x128x128_6_0_0).toLoadRect) (hw 6 (by decide) _) x), ?_⟩
  refine ⟨(fun x => pieceAt arg1 harg1 arg2 harg2 arg3 harg3 arg5 harg5 x0 x1 x2 x4 (W x3) 1 5 (by decide) (by decide) slices_S128x2048_o0_640_S128x128 inb_S512x2048_S128x2048_128_0 inb_S128x16_S128x1_0_5 inb_S512x2048_S128x128_128_640 (arg7.view.readCov (kernelRun0_A.sl.HS0_16 (F := Ideal) c arg4 harg4 x3) (Rect.unit (s := S16x128x128) ![5, 0, 0] S1x128x128.size inb_S16x128x128_S1x128x128_5_0_0).toLoadRect) (hw 5 (by decide) _) x), ?_⟩
  refine ⟨(fun x => pieceAt arg1 harg1 arg2 harg2 arg3 harg3 arg5 harg5 x0 x1 x2 x4 (W x3) 1 4 (by decide) (by decide) slices_S128x2048_o0_512_S128x128 inb_S512x2048_S128x2048_128_0 inb_S128x16_S128x1_0_4 inb_S512x2048_S128x128_128_512 (arg7.view.readCov (kernelRun0_A.sl.HS0_16 (F := Ideal) c arg4 harg4 x3) (Rect.unit (s := S16x128x128) ![4, 0, 0] S1x128x128.size inb_S16x128x128_S1x128x128_4_0_0).toLoadRect) (hw 4 (by decide) _) x), ?_⟩
  refine ⟨(fun x => pieceAt arg1 harg1 arg2 harg2 arg3 harg3 arg5 harg5 x0 x1 x2 x4 (W x3) 1 3 (by decide) (by decide) slices_S128x2048_o0_384_S128x128 inb_S512x2048_S128x2048_128_0 inb_S128x16_S128x1_0_3 inb_S512x2048_S128x128_128_384 (arg7.view.readCov (kernelRun0_A.sl.HS0_16 (F := Ideal) c arg4 harg4 x3) (Rect.unit (s := S16x128x128) ![3, 0, 0] S1x128x128.size inb_S16x128x128_S1x128x128_3_0_0).toLoadRect) (hw 3 (by decide) _) x), ?_⟩
  refine ⟨(fun x => pieceAt arg1 harg1 arg2 harg2 arg3 harg3 arg5 harg5 x0 x1 x2 x4 (W x3) 1 2 (by decide) (by decide) slices_S128x2048_o0_256_S128x128 inb_S512x2048_S128x2048_128_0 inb_S128x16_S128x1_0_2 inb_S512x2048_S128x128_128_256 (arg7.view.readCov (kernelRun0_A.sl.HS0_16 (F := Ideal) c arg4 harg4 x3) (Rect.unit (s := S16x128x128) ![2, 0, 0] S1x128x128.size inb_S16x128x128_S1x128x128_2_0_0).toLoadRect) (hw 2 (by decide) _) x), ?_⟩
  refine ⟨(fun x => pieceAt arg1 harg1 arg2 harg2 arg3 harg3 arg5 harg5 x0 x1 x2 x4 (W x3) 1 1 (by decide) (by decide) slices_S128x2048_o0_128_S128x128 inb_S512x2048_S128x2048_128_0 inb_S128x16_S128x1_0_1 inb_S512x2048_S128x128_128_128 (arg7.view.readCov (kernelRun0_A.sl.HS0_16 (F := Ideal) c arg4 harg4 x3) (Rect.unit (s := S16x128x128) ![1, 0, 0] S1x128x128.size inb_S16x128x128_S1x128x128_1_0_0).toLoadRect) (hw 1 (by decide) _) x), ?_⟩
  refine ⟨(fun x => pieceAt arg1 harg1 arg2 harg2 arg3 harg3 arg5 harg5 x0 x1 x2 x4 (W x3) 1 0 (by decide) (by decide) slices_S128x2048_o0_0_S128x128 inb_S512x2048_S128x2048_128_0 inb_S128x16_S128x1_0_0 inb_S512x2048_S128x128_128_0 (arg7.view.readCov (kernelRun0_A.sl.HS0_16 (F := Ideal) c arg4 harg4 x3) (Rect.unit (s := S16x128x128) ![0, 0, 0] S1x128x128.size inb_S16x128x128_S1x128x128_0_0_0).toLoadRect) (hw 0 (by decide) _) x), ?_⟩
  refine ⟨(fun x => pieceAt arg1 harg1 arg2 harg2 arg3 harg3 arg5 harg5 x0 x1 x2 x4 (W x3) 0 15 (by decide) (by decide) slices_S128x2048_o0_1920_S128x128 inb_S512x2048_S128x2048_0_0 inb_S128x16_S128x1_0_15 inb_S512x2048_S128x128_0_1920 (arg7.view.readCov (kernelRun0_A.sl.HS0_16 (F := Ideal) c arg4 harg4 x3) (Rect.unit (s := S16x128x128) ![15, 0, 0] S1x128x128.size inb_S16x128x128_S1x128x128_15_0_0).toLoadRect) (hw 15 (by decide) _) x), ?_⟩
  refine ⟨(fun x => pieceAt arg1 harg1 arg2 harg2 arg3 harg3 arg5 harg5 x0 x1 x2 x4 (W x3) 0 14 (by decide) (by decide) slices_S128x2048_o0_1792_S128x128 inb_S512x2048_S128x2048_0_0 inb_S128x16_S128x1_0_14 inb_S512x2048_S128x128_0_1792 (arg7.view.readCov (kernelRun0_A.sl.HS0_16 (F := Ideal) c arg4 harg4 x3) (Rect.unit (s := S16x128x128) ![14, 0, 0] S1x128x128.size inb_S16x128x128_S1x128x128_14_0_0).toLoadRect) (hw 14 (by decide) _) x), ?_⟩
  refine ⟨(fun x => pieceAt arg1 harg1 arg2 harg2 arg3 harg3 arg5 harg5 x0 x1 x2 x4 (W x3) 0 13 (by decide) (by decide) slices_S128x2048_o0_1664_S128x128 inb_S512x2048_S128x2048_0_0 inb_S128x16_S128x1_0_13 inb_S512x2048_S128x128_0_1664 (arg7.view.readCov (kernelRun0_A.sl.HS0_16 (F := Ideal) c arg4 harg4 x3) (Rect.unit (s := S16x128x128) ![13, 0, 0] S1x128x128.size inb_S16x128x128_S1x128x128_13_0_0).toLoadRect) (hw 13 (by decide) _) x), ?_⟩
  refine ⟨(fun x => pieceAt arg1 harg1 arg2 harg2 arg3 harg3 arg5 harg5 x0 x1 x2 x4 (W x3) 0 12 (by decide) (by decide) slices_S128x2048_o0_1536_S128x128 inb_S512x2048_S128x2048_0_0 inb_S128x16_S128x1_0_12 inb_S512x2048_S128x128_0_1536 (arg7.view.readCov (kernelRun0_A.sl.HS0_16 (F := Ideal) c arg4 harg4 x3) (Rect.unit (s := S16x128x128) ![12, 0, 0] S1x128x128.size inb_S16x128x128_S1x128x128_12_0_0).toLoadRect) (hw 12 (by decide) _) x), ?_⟩
  refine ⟨(fun x => pieceAt arg1 harg1 arg2 harg2 arg3 harg3 arg5 harg5 x0 x1 x2 x4 (W x3) 0 11 (by decide) (by decide) slices_S128x2048_o0_1408_S128x128 inb_S512x2048_S128x2048_0_0 inb_S128x16_S128x1_0_11 inb_S512x2048_S128x128_0_1408 (arg7.view.readCov (kernelRun0_A.sl.HS0_16 (F := Ideal) c arg4 harg4 x3) (Rect.unit (s := S16x128x128) ![11, 0, 0] S1x128x128.size inb_S16x128x128_S1x128x128_11_0_0).toLoadRect) (hw 11 (by decide) _) x), ?_⟩
  refine ⟨(fun x => pieceAt arg1 harg1 arg2 harg2 arg3 harg3 arg5 harg5 x0 x1 x2 x4 (W x3) 0 10 (by decide) (by decide) slices_S128x2048_o0_1280_S128x128 inb_S512x2048_S128x2048_0_0 inb_S128x16_S128x1_0_10 inb_S512x2048_S128x128_0_1280 (arg7.view.readCov (kernelRun0_A.sl.HS0_16 (F := Ideal) c arg4 harg4 x3) (Rect.unit (s := S16x128x128) ![10, 0, 0] S1x128x128.size inb_S16x128x128_S1x128x128_10_0_0).toLoadRect) (hw 10 (by decide) _) x), ?_⟩
  refine ⟨(fun x => pieceAt arg1 harg1 arg2 harg2 arg3 harg3 arg5 harg5 x0 x1 x2 x4 (W x3) 0 9 (by decide) (by decide) slices_S128x2048_o0_1152_S128x128 inb_S512x2048_S128x2048_0_0 inb_S128x16_S128x1_0_9 inb_S512x2048_S128x128_0_1152 (arg7.view.readCov (kernelRun0_A.sl.HS0_16 (F := Ideal) c arg4 harg4 x3) (Rect.unit (s := S16x128x128) ![9, 0, 0] S1x128x128.size inb_S16x128x128_S1x128x128_9_0_0).toLoadRect) (hw 9 (by decide) _) x), ?_⟩
  refine ⟨(fun x => pieceAt arg1 harg1 arg2 harg2 arg3 harg3 arg5 harg5 x0 x1 x2 x4 (W x3) 0 8 (by decide) (by decide) slices_S128x2048_o0_1024_S128x128 inb_S512x2048_S128x2048_0_0 inb_S128x16_S128x1_0_8 inb_S512x2048_S128x128_0_1024 (arg7.view.readCov (kernelRun0_A.sl.HS0_16 (F := Ideal) c arg4 harg4 x3) (Rect.unit (s := S16x128x128) ![8, 0, 0] S1x128x128.size inb_S16x128x128_S1x128x128_8_0_0).toLoadRect) (hw 8 (by decide) _) x), ?_⟩
  refine ⟨(fun x => pieceAt arg1 harg1 arg2 harg2 arg3 harg3 arg5 harg5 x0 x1 x2 x4 (W x3) 0 7 (by decide) (by decide) slices_S128x2048_o0_896_S128x128 inb_S512x2048_S128x2048_0_0 inb_S128x16_S128x1_0_7 inb_S512x2048_S128x128_0_896 (arg7.view.readCov (kernelRun0_A.sl.HS0_16 (F := Ideal) c arg4 harg4 x3) (Rect.unit (s := S16x128x128) ![7, 0, 0] S1x128x128.size inb_S16x128x128_S1x128x128_7_0_0).toLoadRect) (hw 7 (by decide) _) x), ?_⟩
  refine ⟨(fun x => pieceAt arg1 harg1 arg2 harg2 arg3 harg3 arg5 harg5 x0 x1 x2 x4 (W x3) 0 6 (by decide) (by decide) slices_S128x2048_o0_768_S128x128 inb_S512x2048_S128x2048_0_0 inb_S128x16_S128x1_0_6 inb_S512x2048_S128x128_0_768 (arg7.view.readCov (kernelRun0_A.sl.HS0_16 (F := Ideal) c arg4 harg4 x3) (Rect.unit (s := S16x128x128) ![6, 0, 0] S1x128x128.size inb_S16x128x128_S1x128x128_6_0_0).toLoadRect) (hw 6 (by decide) _) x), ?_⟩
  refine ⟨(fun x => pieceAt arg1 harg1 arg2 harg2 arg3 harg3 arg5 harg5 x0 x1 x2 x4 (W x3) 0 5 (by decide) (by decide) slices_S128x2048_o0_640_S128x128 inb_S512x2048_S128x2048_0_0 inb_S128x16_S128x1_0_5 inb_S512x2048_S128x128_0_640 (arg7.view.readCov (kernelRun0_A.sl.HS0_16 (F := Ideal) c arg4 harg4 x3) (Rect.unit (s := S16x128x128) ![5, 0, 0] S1x128x128.size inb_S16x128x128_S1x128x128_5_0_0).toLoadRect) (hw 5 (by decide) _) x), ?_⟩
  refine ⟨(fun x => pieceAt arg1 harg1 arg2 harg2 arg3 harg3 arg5 harg5 x0 x1 x2 x4 (W x3) 0 4 (by decide) (by decide) slices_S128x2048_o0_512_S128x128 inb_S512x2048_S128x2048_0_0 inb_S128x16_S128x1_0_4 inb_S512x2048_S128x128_0_512 (arg7.view.readCov (kernelRun0_A.sl.HS0_16 (F := Ideal) c arg4 harg4 x3) (Rect.unit (s := S16x128x128) ![4, 0, 0] S1x128x128.size inb_S16x128x128_S1x128x128_4_0_0).toLoadRect) (hw 4 (by decide) _) x), ?_⟩
  refine ⟨(fun x => pieceAt arg1 harg1 arg2 harg2 arg3 harg3 arg5 harg5 x0 x1 x2 x4 (W x3) 0 3 (by decide) (by decide) slices_S128x2048_o0_384_S128x128 inb_S512x2048_S128x2048_0_0 inb_S128x16_S128x1_0_3 inb_S512x2048_S128x128_0_384 (arg7.view.readCov (kernelRun0_A.sl.HS0_16 (F := Ideal) c arg4 harg4 x3) (Rect.unit (s := S16x128x128) ![3, 0, 0] S1x128x128.size inb_S16x128x128_S1x128x128_3_0_0).toLoadRect) (hw 3 (by decide) _) x), ?_⟩
  refine ⟨(fun x => pieceAt arg1 harg1 arg2 harg2 arg3 harg3 arg5 harg5 x0 x1 x2 x4 (W x3) 0 2 (by decide) (by decide) slices_S128x2048_o0_256_S128x128 inb_S512x2048_S128x2048_0_0 inb_S128x16_S128x1_0_2 inb_S512x2048_S128x128_0_256 (arg7.view.readCov (kernelRun0_A.sl.HS0_16 (F := Ideal) c arg4 harg4 x3) (Rect.unit (s := S16x128x128) ![2, 0, 0] S1x128x128.size inb_S16x128x128_S1x128x128_2_0_0).toLoadRect) (hw 2 (by decide) _) x), ?_⟩
  refine ⟨(fun x => pieceAt arg1 harg1 arg2 harg2 arg3 harg3 arg5 harg5 x0 x1 x2 x4 (W x3) 0 1 (by decide) (by decide) slices_S128x2048_o0_128_S128x128 inb_S512x2048_S128x2048_0_0 inb_S128x16_S128x1_0_1 inb_S512x2048_S128x128_0_128 (arg7.view.readCov (kernelRun0_A.sl.HS0_16 (F := Ideal) c arg4 harg4 x3) (Rect.unit (s := S16x128x128) ![1, 0, 0] S1x128x128.size inb_S16x128x128_S1x128x128_1_0_0).toLoadRect) (hw 1 (by decide) _) x), ?_⟩
  refine ⟨(fun x => pieceAt arg1 harg1 arg2 harg2 arg3 harg3 arg5 harg5 x0 x1 x2 x4 (W x3) 0 0 (by decide) (by decide) slices_S128x2048_o0_0_S128x128 inb_S512x2048_S128x2048_0_0 inb_S128x16_S128x1_0_0 inb_S512x2048_S128x128_0_0 (arg7.view.readCov (kernelRun0_A.sl.HS0_16 (F := Ideal) c arg4 harg4 x3) (Rect.unit (s := S16x128x128) ![0, 0, 0] S1x128x128.size inb_S16x128x128_S1x128x128_0_0_0).toLoadRect) (hw 0 (by decide) _) x), ?_⟩
  trivial

/-- The first point's tile. -/
theorem out_A (hc0 : cond0_0 i) : out0_A_5 c i arg1 harg1 arg2 harg2 arg3 harg3 arg4 harg4 arg5 harg5 arg6 harg6 arg7 harg7 hc0 x0 x1 x2 x3 x4 = T x0 x1 x2 (W x3) x4 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  funext y
  have e := View.canon_append_of_piecesOf _ [] _ (pieces_A c i arg1 harg1 arg2 harg2 arg3 harg3 arg4 harg4 arg5 harg5 arg6 harg6 arg7 harg7 x0 x1 x2 x3 x4 hc0) y
    (cover0_A_5 c i arg1 harg1 arg2 harg2 arg3 harg3 arg4 harg4 arg5 harg5 arg6 harg6 arg7 harg7 hc0 x0 x1 x2 x3 x4 y)
  rwa [List.append_nil] at e

/-- The masked weight after the first point. -/
theorem sout_A (hc0 : cond0_0 i) : sout0_A_0 c i arg1 harg1 arg2 harg2 arg3 harg3 arg4 harg4 arg5 harg5 arg6 harg6 arg7 harg7 hc0 x0 x1 x2 x3 x4 = W x3 := by
  unfold sout0_A_0
  rw [View.read_writes_eq_canon _ _ _ (scover0_A_0 c i arg1 harg1 arg2 harg2 arg3 harg3 arg4 harg4 arg5 harg5 arg6 harg6 arg7 harg7 hc0 x0 x1 x2 x3 x4)]
  funext y
  have e := View.canon_append_of_piecesOf _ [] _ (masks_A c i arg1 harg1 arg2 harg2 arg3 harg3 arg4 harg4 arg5 harg5 arg6 harg6 arg7 harg7 x0 x1 x2 x3 x4 hc0) y
    (scover0_A_0 c i arg1 harg1 arg2 harg2 arg3 harg3 arg4 harg4 arg5 harg5 arg6 harg6 arg7 harg7 hc0 x0 x1 x2 x3 x4 y)
  rwa [List.append_nil] at e

/-- A later point's tile. -/
theorem out_B (hc0 : ¬cond0_0 i) : out0_B_5 c i arg1 harg1 arg2 harg2 arg3 harg3 arg4 harg4 arg5 harg5 arg6 harg6 arg7 harg7 hc0 x0 x1 x2 x3 x4 xs0 = T x0 x1 x2 xs0 x4 := by
  unfold out0_B_5
  rw [View.read_writes_eq_canon _ _ _ (cover0_B_5 c i arg1 harg1 arg2 harg2 arg3 harg3 arg4 harg4 arg5 harg5 arg6 harg6 arg7 harg7 hc0 x0 x1 x2 x3 x4 xs0)]
  funext y
  have e := View.canon_append_of_piecesOf _ [] _ (pieces_B c i arg1 harg1 arg2 harg2 arg3 harg3 arg4 harg4 arg5 harg5 arg6 harg6 arg7 harg7 x0 x1 x2 x3 x4 xs0 hc0) y
    (cover0_B_5 c i arg1 harg1 arg2 harg2 arg3 harg3 arg4 harg4 arg5 harg5 arg6 harg6 arg7 harg7 hc0 x0 x1 x2 x3 x4 xs0 y)
  rwa [List.append_nil] at e

end

end Cert.Proof.Gmlp

end
-- ==== Proof.GmlpRef.lean ====
/- The gMLP's reference at one element: the printed program's result is the gated product of the causal mix. -/
module

public import proofs.«01_k».proof.Proof.GmlpTile
public import proofs.«01_k».proof.Proof.Gen.Reference4Ideal.Read

@[expose] public section

set_option maxRecDepth 16384

noncomputable section

namespace Cert.Proof.Gmlp

open Cert.Reference4Ideal Cert.Reference4Ideal.Gen Cert.Reference4Ideal.Read Idealize.ShloMosaic Idealize.ShloMosaic.TcCoe Idealize.SL.Sem

/-- The normalized gelu of one row of the projection's second part. -/
def vrow (p : FVec Ideal S16384x10240 .bf16) (gain : FVec Ideal S2048 .f32) (r : Fin 16384) (c : Fin 2048) : EReal :=
  gelu (p (ix2 r ⟨2048 + c.val, by have := c.isLt; omega⟩))
    * scale (∑ k : Fin 2048, gelu (p (ix2 r ⟨2048 + k.val, by have := k.isLt; omega⟩)) * gelu (p (ix2 r ⟨2048 + k.val, by have := k.isLt; omega⟩)))
    * gain (ix1 c)

/-- The result array as one function of the projection `p`, the gain, the spatial weight `w` and the spatial bias `b`. -/
def G (p : FVec Ideal S16384x10240 .bf16) (gain : FVec Ideal S2048 .f32) (w : FVec Ideal S16x128x128 .f32) (b : FVec Ideal S16x128 .f32) :
    FVec Ideal S16384x2048 .bf16 := fun i =>
  gelu (p (ix2 (i 0) ⟨(i 1).val, by have h : (i 1).val < 2048 := (i 1).isLt; omega⟩))
    * ((∑ k : Fin 128, W w (ix3 ⟨(i 1).val / 128, by have h : (i 1).val < 2048 := (i 1).isLt; omega⟩ ⟨(i 0).val % 128, Nat.mod_lt _ (by norm_num)⟩ k)
        * vrow p gain ⟨(i 0).val / 128 * 128 + k.val, by have h : (i 0).val < 16384 := (i 0).isLt; have := k.isLt; omega⟩ (i 1))
      + b (ix2 ⟨(i 1).val / 128, by have h : (i 1).val < 2048 := (i 1).isLt; omega⟩ ⟨(i 0).val % 128, Nat.mod_lt _ (by norm_num)⟩))

/-- The reference's gelu of the first part. -/
theorem ref_u (p : FVec Ideal S16384x10240 .bf16) (i : S4x4096x2048.Idx) (j) (h : idx_main_v0 (idx_main_v2 i) = j) :
    val_main_v15 (F := Ideal) p i = gelu (p j) := by
  simp only [val_main_v15_apply, val_main_v14_apply, val_main_v13_apply, val_main_cst_2_apply, val_main_v12_apply, val_main_v11_apply, val_main_cst_1_apply, val_main_v10_apply, val_main_v9_apply, val_main_v8_apply, val_main_cst_0_apply, val_main_v7_apply, val_main_v6_apply, val_main_v5_apply, val_main_cst_apply, val_main_v4_apply, val_main_v3_apply, val_main_v2_apply, val_main_v1_apply, val_main_v0_apply, h]
  unfold gelu
  rw [← mul_comm (p j * p j) (p j)]
  rfl

/-- The reference's gelu of the second part. -/
theorem ref_v (p : FVec Ideal S16384x10240 .bf16) (i : S4x4096x2048.Idx) (j) (h : idx_main_v16 (idx_main_v18 i) = j) :
    val_main_v31 (F := Ideal) p i = gelu (p j) := by
  simp only [val_main_v31_apply, val_main_v30_apply, val_main_v29_apply, val_main_cst_6_apply, val_main_v28_apply, val_main_v27_apply, val_main_cst_5_apply, val_main_v26_apply, val_main_v25_apply, val_main_v24_apply, val_main_cst_4_apply, val_main_v23_apply, val_main_v22_apply, val_main_v21_apply, val_main_cst_3_apply, val_main_v20_apply, val_main_v19_apply, val_main_v18_apply, val_main_v17_apply, val_main_v16_apply, h]
  unfold gelu
  rw [← mul_comm (p j * p j) (p j)]
  rfl

/-- The second part's element at a batch's row. -/
theorem at_v (i : S4x4096x2048.Idx) (r : Fin 16384) (c : Fin 2048) (hr : r.val = (i 0).val * 4096 + (i 1).val) (hc : c.val = (i 2).val) :
    idx_main_v16 (idx_main_v18 i) = ix2 r ⟨2048 + c.val, by have := c.isLt; omega⟩ := by
  have h0 : (i 0).val < 4 := (i 0).isLt
  have h1 : (i 1).val < 4096 := (i 1).isLt
  have h2 : (i 2).val < 2048 := (i 2).isLt
  funext a; apply Fin.ext
  match a with
  | ⟨0, _⟩ => show (((i 0).val * 4096 + (i 1).val) * 2048 + (i 2).val) / 2048 = r.val; omega
  | ⟨1, _⟩ => show 2048 + (((i 0).val * 4096 + (i 1).val) * 2048 + (i 2).val) % 2048 = 2048 + c.val; omega

/-- The reference's normalized gelu of the second part. -/
theorem ref_vn (p : FVec Ideal S16384x10240 .bf16) (gain : FVec Ideal S2048 .f32) (i : S4x4096x2048.Idx) (r : Fin 16384) (c : Fin 2048)
    (hr : r.val = (i 0).val * 4096 + (i 1).val) (hc : c.val = (i 2).val) :
    val_main_v44 (F := Ideal) p gain i = vrow p gain r c := by
  have hg : val_main_v43 (F := Ideal) gain i = gain (ix1 c) := by
    rw [val_main_v43_apply, val_main_v42_apply]
    refine congrArg gain (funext fun a => Fin.ext ?_)
    match a with
    | ⟨0, _⟩ => exact hc.symm
  have hs : ∀ q : S4x4096.Idx, (q 0).val = (i 0).val → (q 1).val = (i 1).val →
      val_main_v33 (F := Ideal) p q = ∑ k : Fin 2048, gelu (p (ix2 r ⟨2048 + k.val, by have := k.isLt; omega⟩)) * gelu (p (ix2 r ⟨2048 + k.val, by have := k.isLt; omega⟩)) := by
    intro q q0 q1
    rw [val_main_v33_apply, val_main_cst_7_apply]
    refine (congrArg₂ (fun a b : EReal => a + b) (Ideal.ofBits_zero .f32) (Finset.sum_congr rfl fun k _ => ?_)).trans (zero_add _)
    rw [val_main_v32_apply, ref_v p _ _ (at_v _ r k (by show r.val = (q 0).val * 4096 + (q 1).val; omega) rfl)]
    rfl
  rw [val_main_v44_apply, val_main_v41_apply, hg, ref_v p i _ (at_v i r c hr hc), val_main_v40_apply, val_main_v39_apply, val_main_v38_apply, val_main_v37_apply,
    val_main_cst_9_apply, val_main_v36_apply, val_main_v35_apply, val_main_cst_8_apply, val_main_v34_apply, hs _ rfl rfl]
  rfl

/-- The reference's masked weight. -/
theorem ref_w (w : FVec Ideal S16x128x128 .f32) (i : S16x128x128.Idx) : val_main_v49 (F := Ideal) w i = W w i := by
  have l1 : (i 1).val < 128 := (i 1).isLt
  have l2 : (i 2).val < 128 := (i 2).isLt
  have hc : val_main_call1_v1 (F := Ideal) i = BitVec.ofBool (decide ((i 2).val ≤ (i 1).val)) := by
    rw [val_main_call1_v1_apply, val_main_v48_apply, val_main_v47_apply, val_main_call0_v4_apply, val_main_call0_v2_apply, val_main_call0_v0_apply,
      val_main_call0_v1_apply, val_main_call0_c_apply, val_main_call0_v3_apply, val_main_v46_apply, val_main_c_apply, val_main_call0_v5_apply, val_main_call0_c_0_apply]
    have e : IntOp.cmpi .sge (IntOp.addi (BitVec.ofNat 32 (i 1).val) 0#32) (BitVec.ofNat 32 (i 2).val) = BitVec.ofBool (decide ((i 2).val ≤ (i 1).val)) := by
      rw [show IntOp.addi (BitVec.ofNat 32 (i 1).val) 0#32 = BitVec.ofNat 32 (i 1).val from BitVec.add_zero _, WordCmp.cmpi_sge_ofNat (by omega) (by omega)]
    refine (congrArg (fun z => Scalar.select z 1#1 0#1) e).trans ?_
    cases decide ((i 2).val ≤ (i 1).val) <;> rfl
  have hz : val_main_call1_v2 (F := Ideal) i = (0 : EReal) := by
    rw [val_main_call1_v2_apply, val_main_call1_v0_apply, val_main_c_10_apply]
    show (((0#32 : BitVec 32).toInt : ℝ) : EReal) = 0
    simp
  rw [val_main_v49_apply, hc, hz]
  unfold W
  by_cases h : (i 2).val ≤ (i 1).val
  · rw [if_pos h, decide_eq_true h]; rfl
  · rw [if_neg h, decide_eq_false h]; rfl

/-- The reference's result at one element. -/
theorem ref_apply (p : FVec Ideal S16384x10240 .bf16) (gain : FVec Ideal S2048 .f32) (w : FVec Ideal S16x128x128 .f32) (b : FVec Ideal S16x128 .f32)
    (i : S16384x2048.Idx) : val_main_v59 (F := Ideal) p gain w b i = G p gain w b i := by
  have l0 : (i 0).val < 16384 := (i 0).isLt
  have l1 : (i 1).val < 2048 := (i 1).isLt
  have j0 : (idx_main_v59 i 0).val = (i 0).val / 4096 := by show ((i 0).val * 2048 + (i 1).val) / 8388608 = _; omega
  have j1 : (idx_main_v59 i 1).val = (i 0).val % 4096 := by show ((i 0).val * 2048 + (i 1).val) / 2048 % 4096 = _; omega
  have j2 : (idx_main_v59 i 2).val = (i 1).val := by show ((i 0).val * 2048 + (i 1).val) % 2048 = _; omega
  rw [val_main_v59_apply, val_main_v58_apply, val_main_v57_apply]
  generalize idx_main_v59 i = j at j0 j1 j2
  have k0 : (idx_main_v56 j 0).val = (i 0).val / 4096 := by
    show (((j 0).val * 4096 + (j 1).val) * 2048 + (j 2).val) / 8388608 = _; omega
  have k1 : (idx_main_v56 j 1).val = (i 0).val % 4096 / 128 := by
    show (((j 0).val * 4096 + (j 1).val) * 2048 + (j 2).val) / 262144 % 32 = _; omega
  have k2 : (idx_main_v56 j 2).val = (i 0).val % 128 := by
    show (((j 0).val * 4096 + (j 1).val) * 2048 + (j 2).val) / 2048 % 128 = _; omega
  have k3 : (idx_main_v56 j 3).val = (i 1).val / 128 := by
    show (((j 0).val * 4096 + (j 1).val) * 2048 + (j 2).val) / 128 % 16 = _; omega
  have k4 : (idx_main_v56 j 4).val = (i 1).val % 128 := by
    show (((j 0).val * 4096 + (j 1).val) * 2048 + (j 2).val) % 128 = _; omega
  rw [val_main_v56_apply, val_main_v55_apply]
  generalize idx_main_v56 j = q at k0 k1 k2 k3 k4
  unfold G
  refine congrArg₂ (fun a b : EReal => a * b) (ref_u p j _ ?_) (congrArg₂ (fun a b : EReal => a + b) ?_ ?_)
  · funext a; apply Fin.ext
    match a with
    | ⟨0, _⟩ => show (((j 0).val * 4096 + (j 1).val) * 2048 + (j 2).val) / 2048 = (i 0).val; omega
    | ⟨1, _⟩ => show (((j 0).val * 4096 + (j 1).val) * 2048 + (j 2).val) % 2048 = (i 1).val; omega
  · rw [val_main_v51_apply, val_main_v50_apply]
    refine Finset.sum_congr rfl fun k _ => ?_
    have lk := k.isLt
    rw [mul_comm, ref_w, val_main_v45_apply]
    refine congrArg₂ (fun a b : EReal => a * b) (congrArg (W w) ?_) (ref_vn p gain _ _ _ ?_ ?_)
    · funext a; apply Fin.ext
      match a with
      | ⟨0, _⟩ => exact k3
      | ⟨1, _⟩ => exact k2
      | ⟨2, _⟩ => rfl
    · show (i 0).val / 128 * 128 + k.val = (((((q 0).val * 32 + (q 1).val) * 128 + k.val) * 16 + (q 3).val) * 128 + (q 4).val) / 8388608 * 4096
        + (((((q 0).val * 32 + (q 1).val) * 128 + k.val) * 16 + (q 3).val) * 128 + (q 4).val) / 2048 % 4096
      omega
    · show (i 1).val = (((((q 0).val * 32 + (q 1).val) * 128 + k.val) * 16 + (q 3).val) * 128 + (q 4).val) % 2048
      omega
  · rw [val_main_v54_apply, val_main_v53_apply, val_main_v52_apply]
    refine congrArg b (funext fun a => Fin.ext ?_)
    match a with
    | ⟨0, _⟩ => exact k3
    | ⟨1, _⟩ => exact k2

end Cert.Proof.Gmlp

end
-- ==== Proof.Gmlp.lean ====
/- The gMLP's value: over the reals the kernel's tiles, the masked weight kept from the first grid point on, are the gated
   product the reference computes. -/
module

public import proofs.«01_k».proof.Defs
public import proofs.«01_k».proof.Proof.GmlpRef
public import proofs.«01_k».proof.Proof.Gen.Kernel4Ideal.Value
public import proofs.«01_k».proof.Proof.Gen.Reference4Ideal.Run

@[expose] public section

set_option maxRecDepth 16384

noncomputable section

namespace Cert.Proof.Gmlp

open Cert.Kernel4Ideal Cert.Kernel4Ideal.Gen Cert.Kernel4Ideal.Value Idealize.ShloMosaic Idealize.ShloMosaic.TcCoe Idealize.SL.Sem

variable (m : (ℓ : Loc nD τ sig) → Buf (Elt Ideal) ℓ)

/-- Where each window's tile lies at a grid point. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 1
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The gain as the region finds it, at one element. -/
theorem V_gain (c : Dev nD) (q : Fin 2048) :
    (V m c main_v0 : FVec Ideal S1x2048 .f32) (ix2 0 q) = (m ((c : Thread nD τ).loc main_arg1) : FVec Ideal S2048 .f32) (ix1 q) := by
  have h : @Eq (FVec Ideal S1x2048 .f32) (V m c main_v0)
      (broadcastInDim S1x2048 ![1] bcast_S2048_S1x2048_1 (m ((c : Thread nD τ).loc main_arg1) : FVec Ideal S2048 .f32)) := by
    simp only [V, hostOps0]; after_results
  rw [h]
  generalize (m ((c : Thread nD τ).loc main_arg1) : FVec Ideal S2048 .f32) = y
  pointwise

/-- The bias as the region finds it, at one element. -/
theorem V_bias (c : Dev nD) (p : Fin 128) (g : Fin 16) :
    (V m c main_v1 : FVec Ideal S128x16 .f32) (ix2 p g) = (m ((c : Thread nD τ).loc main_arg3) : FVec Ideal S16x128 .f32) (ix2 g p) := by
  have h : @Eq (FVec Ideal S128x16 .f32) (V m c main_v1)
      (transpose S128x16 [1, 0] (m ((c : Thread nD τ).loc main_arg3) : FVec Ideal S16x128 .f32) transposes_S16x128_S128x16_1_0) := by
    simp only [V, hostOps0]; after_results
  rw [h]
  generalize (m ((c : Thread nD τ).loc main_arg3) : FVec Ideal S16x128 .f32) = y
  pointwise

/-- The first part's tile. -/
theorem blk0 (c : Dev nD) (t : Fin cfg0.N) (y : S512x2048.Idx) (r : Fin 16384) (q : Fin 10240) (hr : r.val = t.val * 512 + (y 0).val) (hq : q.val = (y 1).val) :
    (iblk m c 0 t : FVec Ideal S512x2048 .bf16) y = (m ((c : Thread nD τ).loc main_arg0) : FVec Ideal S16384x10240 .bf16) (ix2 r q) := by
  obtain ⟨e00, e01, e10, e11, e20, e21, e30, e31, e32, e40, e41, e50, e51⟩ := index_facts t
  rw [← V_main_arg0 m c]
  refine congrArg (V m c main_arg0 : FVec Ideal S16384x10240 .bf16) (?_ : ((cfg0.win 0).blk t).view.emb y = _)
  funext a; apply Fin.ext
  match a with
  | ⟨0, _⟩ => show win0_0.index t (0 : Fin 2) * 512 + 1 * (y 0).val = r.val; omega
  | ⟨1, _⟩ => show win0_0.index t (1 : Fin 2) * 2048 + 1 * (y 1).val = q.val; omega

/-- The second part's tile. -/
theorem blk1 (c : Dev nD) (t : Fin cfg0.N) (y : S512x2048.Idx) (r : Fin 16384) (q : Fin 10240) (hr : r.val = t.val * 512 + (y 0).val) (hq : q.val = 2048 + (y 1).val) :
    (iblk m c 1 t : FVec Ideal S512x2048 .bf16) y = (m ((c : Thread nD τ).loc main_arg0) : FVec Ideal S16384x10240 .bf16) (ix2 r q) := by
  obtain ⟨e00, e01, e10, e11, e20, e21, e30, e31, e32, e40, e41, e50, e51⟩ := index_facts t
  rw [← V_main_arg0 m c]
  refine congrArg (V m c main_arg0 : FVec Ideal S16384x10240 .bf16) (?_ : ((cfg0.win 1).blk t).view.emb y = _)
  funext a; apply Fin.ext
  match a with
  | ⟨0, _⟩ => show win0_1.index t (0 : Fin 2) * 512 + 1 * (y 0).val = r.val; omega
  | ⟨1, _⟩ => show win0_1.index t (1 : Fin 2) * 2048 + 1 * (y 1).val = q.val; omega

/-- The gain's tile. -/
theorem blk2 (c : Dev nD) (t : Fin cfg0.N) (q : Fin 2048) :
    (iblk m c 2 t : FVec Ideal S1x2048 .f32) (ix2 0 q) = (m ((c : Thread nD τ).loc main_arg1) : FVec Ideal S2048 .f32) (ix1 q) := by
  obtain ⟨e00, e01, e10, e11, e20, e21, e30, e31, e32, e40, e41, e50, e51⟩ := index_facts t
  rw [← V_gain m c]
  refine congrArg (V m c main_v0 : FVec Ideal S1x2048 .f32) (?_ : ((cfg0.win 2).blk t).view.emb (ix2 (n0 := 1) (n1 := 2048) 0 q) = _)
  funext a; apply Fin.ext
  match a with
  | ⟨0, _⟩ => show win0_2.index t (0 : Fin 2) * 1 + 1 * 0 = 0; omega
  | ⟨1, _⟩ => show win0_2.index t (1 : Fin 2) * 2048 + 1 * q.val = q.val; omega

/-- The spatial weight's tile. -/
theorem blk3 (c : Dev nD) (t : Fin cfg0.N) :
    (iblk m c 3 t : FVec Ideal S16x128x128 .f32) = (m ((c : Thread nD τ).loc main_arg2) : FVec Ideal S16x128x128 .f32) := by
  obtain ⟨e00, e01, e10, e11, e20, e21, e30, e31, e32, e40, e41, e50, e51⟩ := index_facts t
  rw [← V_main_arg2 m c]
  funext y
  refine congrArg (V m c main_arg2 : FVec Ideal S16x128x128 .f32) (?_ : ((cfg0.win 3).blk t).view.emb y = y)
  funext a; apply Fin.ext
  match a with
  | ⟨0, _⟩ => show win0_3.index t (0 : Fin 3) * 16 + 1 * (y 0).val = (y 0).val; omega
  | ⟨1, _⟩ => show win0_3.index t (1 : Fin 3) * 128 + 1 * (y 1).val = (y 1).val; omega
  | ⟨2, _⟩ => show win0_3.index t (2 : Fin 3) * 128 + 1 * (y 2).val = (y 2).val; omega

/-- The bias's tile. -/
theorem blk4 (c : Dev nD) (t : Fin cfg0.N) (p : Fin 128) (g : Fin 16) :
    (iblk m c 4 t : FVec Ideal S128x16 .f32) (ix2 p g) = (m ((c : Thread nD τ).loc main_arg3) : FVec Ideal S16x128 .f32) (ix2 g p) := by
  obtain ⟨e00, e01, e10, e11, e20, e21, e30, e31, e32, e40, e41, e50, e51⟩ := index_facts t
  rw [← V_bias m c]
  refine congrArg (V m c main_v1 : FVec Ideal S128x16 .f32) (?_ : ((cfg0.win 4).blk t).view.emb (ix2 (n0 := 128) (n1 := 16) p g) = _)
  funext a; apply Fin.ext
  match a with
  | ⟨0, _⟩ => show win0_4.index t (0 : Fin 2) * 128 + 1 * p.val = p.val; omega
  | ⟨1, _⟩ => show win0_4.index t (1 : Fin 2) * 16 + 1 * g.val = g.val; omega

/-- Every point after the first, and the first itself, leaves the masked weight in the scratch. -/
theorem scratch_eq (c : Dev nD) : ∀ (n : Nat) (hn : n < cfg0.N),
    (outsAt0 m c n hn).2 = W (m ((c : Thread nD τ).loc main_arg2) : FVec Ideal S16x128x128 .f32)
  | 0, hn => by
    rw [outsAt0_A m c ⟨0, hn⟩ (Nat.zero_mod _)]
    dsimp only
    rw [sout_A, blk3]
  | n + 1, hn => by
    have hN : cfg0.N = 32 := N_0
    rw [outsAt0_B m c ⟨n + 1, hn⟩ (by show ¬(n + 1) % 32 = 0; omega)]
    dsimp only
    exact scratch_eq c n _

/-- What a grid point leaves in the output's tile. -/
theorem outs_eq (c : Dev nD) (t : Fin cfg0.N) :
    (outsAt0 m c t.val t.isLt).1 = T (iblk m c 0 t) (iblk m c 1 t) (iblk m c 2 t)
      (W (m ((c : Thread nD τ).loc main_arg2) : FVec Ideal S16x128x128 .f32)) (iblk m c 4 t) := by
  by_cases h0 : t.val % 32 = 0
  · rw [outsAt0_A m c t h0]
    dsimp only
    rw [out_A, blk3]
  · rw [outsAt0_B m c t h0]
    dsimp only
    rw [out_B, scratch_eq]

/-- The tile of a grid point is its part of the result array. -/
theorem tile_eq (t : Nat) (ht : t < 32) (p : FVec Ideal S16384x10240 .bf16) (gain : FVec Ideal S2048 .f32) (w : FVec Ideal S16x128x128 .f32) (b : FVec Ideal S16x128 .f32)
    (x0 x1 : FVec Ideal S512x2048 .bf16) (x2 : FVec Ideal S1x2048 .f32) (x4 : FVec Ideal S128x16 .f32)
    (h0 : ∀ (y : S512x2048.Idx) (r : Fin 16384) (q : Fin 10240), r.val = t * 512 + (y 0).val → q.val = (y 1).val → x0 y = p (ix2 r q))
    (h1 : ∀ (y : S512x2048.Idx) (r : Fin 16384) (q : Fin 10240), r.val = t * 512 + (y 0).val → q.val = 2048 + (y 1).val → x1 y = p (ix2 r q))
    (h2 : ∀ q : Fin 2048, x2 (ix2 0 q) = gain (ix1 q)) (h4 : ∀ (p : Fin 128) (g : Fin 16), x4 (ix2 p g) = b (ix2 g p))
    (j : S512x2048.Idx) (i : S16384x2048.Idx) (e0 : (i 0).val = t * 512 + (j 0).val) (e1 : (i 1).val = (j 1).val) :
    T x0 x1 x2 (W w) x4 j = G p gain w b i := by
  have l0 : (j 0).val < 512 := (j 0).isLt
  have l1 : (j 1).val < 2048 := (j 1).isLt
  have em : (j 0).val % 128 = (i 0).val % 128 := by omega
  have ed : (j 1).val / 128 = (i 1).val / 128 := by omega
  unfold T G
  refine congrArg₂ (fun a b : EReal => a * b) (congrArg gelu (h0 j _ _ e0 e1)) (congrArg₂ (fun a b : EReal => a + b) (Finset.sum_congr rfl fun k _ => ?_) ?_)
  · have lk := k.isLt
    refine congrArg₂ (fun a b : EReal => a * b) (congrArg (W w) ?_) ?_
    · funext a; apply Fin.ext
      match a with
      | ⟨0, _⟩ => exact ed
      | ⟨1, _⟩ => exact em
      | ⟨2, _⟩ => rfl
    · unfold vn vrow
      have er : (i 0).val / 128 * 128 + k.val = t * 512 + ((j 0).val / 128 * 128 + k.val) := by omega
      refine congrArg₂ (fun a b : EReal => a * b) (congrArg₂ (fun a b : EReal => a * b) (congrArg gelu (h1 _ _ _ er (congrArg (2048 + ·) e1)))
        (congrArg scale (Finset.sum_congr rfl fun q _ => ?_))) ((h2 _).trans (congrArg gain ?_))
      · exact congrArg (fun a : EReal => gelu a * gelu a) (h1 _ _ _ er rfl)
      · funext a; apply Fin.ext
        match a with
        | ⟨0, _⟩ => exact e1.symm
  · refine (h4 _ _).trans (congrArg b ?_)
    funext a; apply Fin.ext
    match a with
    | ⟨0, _⟩ => exact ed
    | ⟨1, _⟩ => exact em

/-- What a grid point writes back is its tile of `G` of the arguments. -/
theorem flushed5_eq (c : Dev nD) (t : Fin cfg0.N) :
    (dats m 0 c).flushed 5 t = ((cfg0.win 5).blk t).view.read (Elt Ideal)
      (G (m ((c : Thread nD τ).loc main_arg0)) (m ((c : Thread nD τ).loc main_arg1))
        (m ((c : Thread nD τ).loc main_arg2)) (m ((c : Thread nD τ).loc main_arg3))) := by
  rw [flushed5, outs_eq]
  obtain ⟨e00, e01, e10, e11, e20, e21, e30, e31, e32, e40, e41, e50, e51⟩ := index_facts t
  have hN : cfg0.N = 32 := N_0
  have hlt := t.isLt
  funext j
  refine tile_eq t.val (by omega) _ _ _ _ (iblk m c 0 t) (iblk m c 1 t) (iblk m c 2 t) (iblk m c 4 t) (blk0 m c t) (blk1 m c t) (blk2 m c t) (blk4 m c t)
    j (((cfg0.win 5).blk t).view.emb j) ?_ ?_
  · show win0_5.index t (0 : Fin 2) * 512 + 1 * (j 0).val = t.val * 512 + (j 0).val; omega
  · show win0_5.index t (1 : Fin 2) * 2048 + 1 * (j 1).val = (j 1).val; omega

/-- Every element of the result lies in some grid point's tile. -/
theorem covered5 (i : S16384x2048.Idx) :
    ∃ t : Fin cfg0.N, (cfg0.win 5).flush t = true ∧ i ∈ ((cfg0.win 5).blk t).view.set := by
  have h0 : (i 0).val < 16384 := (i 0).isLt
  have hN : cfg0.N = 32 := N_0
  let t : Fin cfg0.N := ⟨(i 0).val / 512, by omega⟩
  have ht : t.val = (i 0).val / 512 := rfl
  refine ⟨t, flush0_5 t, ?_⟩
  obtain ⟨-, -, -, -, -, -, -, -, -, -, -, e0, e1⟩ := index_facts t
  have h := ((cfg0.win 5).blk t).view.emb_mem_set (ix2 (n0 := 512) (n1 := 2048) ⟨(i 0).val % 512, Nat.mod_lt _ (by norm_num)⟩ (i 1))
  have e : ((cfg0.win 5).blk t).view.emb (ix2 (n0 := 512) (n1 := 2048) ⟨(i 0).val % 512, Nat.mod_lt _ (by norm_num)⟩ (i 1)) = i := by
    funext a; apply Fin.ext
    match a with
    | ⟨0, _⟩ => show win0_5.index t (0 : Fin 2) * 512 + 1 * ((i 0).val % 512) = (i 0).val; omega
    | ⟨1, _⟩ => show win0_5.index t (1 : Fin 2) * 2048 + 1 * (i 1).val = (i 1).val; omega
  rwa [e] at h

/-- The result array after the run. -/
theorem final5 (c : Dev nD) : (dats m 0 c).arrAt 5 cfg0.N
    = G (m ((c : Thread nD τ).loc main_arg0)) (m ((c : Thread nD τ).loc main_arg1))
        (m ((c : Thread nD τ).loc main_arg2)) (m ((c : Thread nD τ).loc main_arg3)) :=
  (dats m 0 c).arrAt_eq_of_cover 5 _ (fun t _ => flushed5_eq m c t) covered5

open Cert in
/-- The kernel's and the reference's runs end with equal results. -/
theorem algebraic (hK : Cert.Kernel4Ideal.Facts) (hR : Cert.Reference4Ideal.Facts) :
    algebraic_Kernel4Ideal_Reference4Ideal (hKernel4Ideal := hK) (hReference4Ideal := hR) := by
  intro m g m' g' _ hagree
  refine ⟨fun c => G (m ((c : Thread nD τ).loc main_arg0)) (m ((c : Thread nD τ).loc main_arg1))
        (m ((c : Thread nD τ).loc main_arg2)) (m ((c : Thread nD τ).loc main_arg3)),
    (θ_run defs _ _).mono (fun r h c => ⟨(h c).1.trans (final5 m c), (h c).2⟩) (run_blocks m g),
    (θ_run Cert.Reference4Ideal.defs _ _).mono (fun r h c => ⟨(h c).1.trans ((Cert.Reference4Ideal.Read.val_main_v59_eq m' c).trans ?_), (h c).2⟩) (Cert.Reference4Ideal.Value.run m' g')⟩
  obtain ⟨h0, h1, h2, h3⟩ := hagree c
  rw [h0, h1, h2, h3]
  exact funext (ref_apply _ _ _ _)

end Cert.Proof.Gmlp

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel4.Frame
public import proofs.«01_k».proof.Proof.Gen.Kernel4Ideal.Frame
public import proofs.«01_k».proof.Proof.Gen.Kernel5.Frame
public import proofs.«01_k».proof.Proof.Gen.Reference4Ideal.Run
public import proofs.«01_k».proof.Proof.OutProj
public import proofs.«01_k».proof.Proof.Mixer
public import proofs.«01_k».proof.Proof.InProj
public import proofs.«01_k».proof.Proof.Gmlp
public import proofs.«01_k».proof.Proof.InProjFrameBits
public import proofs.«01_k».proof.Proof.Gen.Kernel3Ideal.Frame
public import proofs.«01_k».proof.Proof.Gen.Reference3Ideal.Read
public import proofs.«01_k».proof.Proof.Gen.Kernel3.Frame
public import proofs.«01_k».proof.Proof.Gen.Kernel4Ideal.Value
public import proofs.«01_k».proof.Proof.Gen.Reference4Ideal.Read
public import proofs.«01_k».proof.Proof.Gen.Pre_qkv_finite
public import Idealize.ShloMosaic.Adequacy
public import Idealize.ShloMosaic.Init

@[expose] public section

noncomputable section

namespace Cert.Proof

open Idealize.ShloMosaic Idealize.SL.Sem

/-- The mixer's reference runs, its arguments end unchanged, and it has no semaphore to leave nonzero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The output projection's reference runs, its arguments end unchanged, and it has no semaphore to leave nonzero. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The input projection's reference runs, its arguments end unchanged, and it has no semaphore to leave nonzero. -/
theorem frame_reference3 : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The gMLP's reference runs, its arguments end unchanged, and it has no semaphore to leave nonzero. -/
theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- Everything claimed of the programs: they run, leave their arguments unchanged and every semaphore at zero; the
    idealized forms of the four calls with a reference are theirs; and the results of the mixer, the two projections and the gMLP are their references'. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Pre_qkv_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Own.frame m ρ, fun m ρ _ => Cert.Kernel3Ideal.Own.frame m ρ, frame_reference3,
  fun m ρ _ => Cert.Kernel4.Gen.frame m ρ, fun m ρ _ => Cert.Kernel4Ideal.Gen.frame m ρ, frame_reference4,
  fun m ρ _ => Cert.Kernel5.Gen.frame m ρ,
  trivial, Mixer.algebraic _ _ _, trivial, OutProj.algebraic _ _, trivial, InProj.algebraic _ _, trivial, Gmlp.algebraic _ _⟩

end Cert.Proof

end
